-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v31)) (v1 : (c : Dev Cert.Kernel2Ideal.nD) → Buf (Elt Ideal) ((c.tc : Thread Cert.Kernel2Ideal.nD Cert.Kernel2Ideal.τ).loc Cert.Kernel2Ideal.main_v54)) (v2 : (c : Dev Cert.Kernel2Ideal.nD) → Buf (Elt Ideal) ((c.tc : Thread Cert.Kernel2Ideal.nD Cert.Kernel2Ideal.τ).loc Cert.Kernel2Ideal.main_v77)) (v3 : (c : Dev Cert.Kernel2Ideal.nD) → Buf (Elt Ideal) ((c.tc : Thread Cert.Kernel2Ideal.nD Cert.Kernel2Ideal.τ).loc Cert.Kernel2Ideal.main_v86)) (v4 : (c : Dev Cert.Kernel2Ideal.nD) → Buf (Elt Ideal) ((c.tc : Thread Cert.Kernel2Ideal.nD Cert.Kernel2Ideal.τ).loc Cert.Kernel2Ideal.main_v85)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_v54) = v1 c
          ∧ r.2.mem ((c.tc : Thread Cert.Kernel2Ideal.nD Cert.Kernel2Ideal.τ).loc Cert.Kernel2Ideal.main_v77) = v2 c
          ∧ r.2.mem ((c.tc : Thread Cert.Kernel2Ideal.nD Cert.Kernel2Ideal.τ).loc Cert.Kernel2Ideal.main_v86) = v3 c
          ∧ r.2.mem ((c.tc : Thread Cert.Kernel2Ideal.nD Cert.Kernel2Ideal.τ).loc Cert.Kernel2Ideal.main_v85) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v52)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v104)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v104) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v165) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v63)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v63) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v31)) (v1 : (c : Dev Cert.Kernel8Ideal.nD) → Buf (Elt Ideal) ((c.tc : Thread Cert.Kernel8Ideal.nD Cert.Kernel8Ideal.τ).loc Cert.Kernel8Ideal.main_v54)) (v2 : (c : Dev Cert.Kernel8Ideal.nD) → Buf (Elt Ideal) ((c.tc : Thread Cert.Kernel8Ideal.nD Cert.Kernel8Ideal.τ).loc Cert.Kernel8Ideal.main_v77)) (v3 : (c : Dev Cert.Kernel8Ideal.nD) → Buf (Elt Ideal) ((c.tc : Thread Cert.Kernel8Ideal.nD Cert.Kernel8Ideal.τ).loc Cert.Kernel8Ideal.main_v86)) (v4 : (c : Dev Cert.Kernel8Ideal.nD) → Buf (Elt Ideal) ((c.tc : Thread Cert.Kernel8Ideal.nD Cert.Kernel8Ideal.τ).loc Cert.Kernel8Ideal.main_v85)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v31) = v0 c
          ∧ r.2.mem ((c.tc : Thread Cert.Kernel8Ideal.nD Cert.Kernel8Ideal.τ).loc Cert.Kernel8Ideal.main_v54) = v1 c
          ∧ r.2.mem ((c.tc : Thread Cert.Kernel8Ideal.nD Cert.Kernel8Ideal.τ).loc Cert.Kernel8Ideal.main_v77) = v2 c
          ∧ r.2.mem ((c.tc : Thread Cert.Kernel8Ideal.nD Cert.Kernel8Ideal.τ).loc Cert.Kernel8Ideal.main_v86) = v3 c
          ∧ r.2.mem ((c.tc : Thread Cert.Kernel8Ideal.nD Cert.Kernel8Ideal.τ).loc Cert.Kernel8Ideal.main_v85) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_v30) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v31)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v52)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v52) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x4096x3072 : Shape := ⟨3, ![4, 4096, 3072]⟩
abbrev S4x4096x416 : Shape := ⟨3, ![4, 4096, 416]⟩
abbrev S2x1024 : Shape := ⟨2, ![2, 1024]⟩
abbrev S2x64x1024 : Shape := ⟨3, ![2, 64, 1024]⟩
abbrev S1024 : Shape := ⟨1, ![1024]⟩
abbrev S2x16x64 : Shape := ⟨3, ![2, 16, 64]⟩
abbrev S_ : Shape := ⟨0, ![]⟩

class Facts : Prop where
  bcast_S_S4x4096x3072 : S_.BroadcastsInDim S4x4096x3072 (![] : Fin 0 → Fin S4x4096x3072.rank)
  bcast_S_S1024 : S_.BroadcastsInDim S1024 (![] : Fin 0 → Fin S1024.rank)

variable [Facts]

def fn {F : FTy → Type} [FloatOps F] (main_arg0 : FVec F S4x4096x3072 .f32) (main_arg1 : FVec F S4x4096x416 .f32) (main_arg2 : FVec F S2x1024 .f32) (main_arg3 : FVec F S2x64x1024 .f32) (main_arg4 : FVec F S2x1024 .f32) (main_arg5 : FVec F S2x64x1024 .f32) (main_arg6 : FVec F S1024 .f32) (main_arg7 : FVec F S1024 .f32) (main_arg8 : FVec F S2x16x64 .f32) (main_arg9 : FVec F S1024 .f32) (main_arg10 : FVec F S1024 .f32) : IVec S4x4096x3072 1 × IVec S1024 1 :=
  let main_v0 : FVec F S4x4096x3072 .f32 := Host.absf main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  let main_v3 : FVec F S1024 .f32 := Host.absf main_arg7
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S4x4096x2048 : Shape := ⟨3, ![4, 4096, 2048]⟩
abbrev S2048x16 : Shape := ⟨2, ![2048, 16]⟩
abbrev S16x2048x4096 : Shape := ⟨3, ![16, 2048, 4096]⟩
abbrev S16x4096x2048 : Shape := ⟨3, ![16, 4096, 2048]⟩
abbrev S2048 : Shape := ⟨1, ![2048]⟩
abbrev S16384x2048 : Shape := ⟨2, ![16384, 2048]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S32768 : Shape := ⟨1, ![32768]⟩
abbrev S32768x2048 : Shape := ⟨2, ![32768, 2048]⟩
abbrev S32768x1 : Shape := ⟨2, ![32768, 1]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 87
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S16x2048x4096, .f32⟩
  | .hbm, ⟨3, _⟩ => ⟨S16x2048x4096, .f32⟩
  | .hbm, ⟨4, _⟩ => ⟨S16x4096x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x16, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16, .f32⟩
  | .hbm, ⟨22, _⟩ => ⟨S16384x16, .f32⟩
  | .hbm, ⟨23, _⟩ => ⟨S16x16384, .f32⟩
  | .hbm, ⟨24, _⟩ => ⟨S16x2048, .f32⟩
  | .hbm, ⟨25, _⟩ => ⟨S16x2048, .i32⟩
  | .hbm, ⟨26, _⟩ => ⟨S16384x2048, .bf16⟩
  | .hbm, ⟨27, _⟩ => ⟨S_, .i32⟩
  | .hbm, ⟨28, _⟩ => ⟨S16x2048, .i32⟩
  | .hbm, ⟨29, _⟩ => ⟨S16x2048, .i1⟩
  | .hbm, ⟨30, _⟩ => ⟨S_, .i32⟩
  | .hbm, ⟨31, _⟩ => ⟨S16x2048, .i32⟩
  | .hbm, ⟨32, _⟩ => ⟨S16x2048, .i32⟩
  | .hbm, ⟨33, _⟩ => ⟨S16x2048, .i32⟩
  | .hbm, ⟨34, _⟩ => ⟨S16x2048x1, .i32⟩
  | .hbm, ⟨35, _⟩ => ⟨S16x2048x2048, .bf16⟩
  | .hbm, ⟨36, _⟩ => ⟨S16x2048x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16384x2048, .f32⟩
  | .hbm, ⟨42, _⟩ => ⟨S32768, .i32⟩
  | .hbm, ⟨43, _⟩ => ⟨S32768x2048, .f32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S16384x2048, .f32⟩
  | .hbm, ⟨53, _⟩ => ⟨S4x4096x2048, .f32⟩
  | .hbm, ⟨54, _⟩ => ⟨S_, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x2048, .f32⟩
  | .hbm, ⟨74, _⟩ => ⟨S4x4096x2048, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x2048, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | .hbm, ⟨84, _⟩ => ⟨S1x1x2048, .f32⟩
  | .hbm, ⟨85, _⟩ => ⟨S4x4096x2048, .f32⟩
  | .hbm, ⟨86, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
abbrev S4x4096x2048 : Shape := ⟨3, ![4, 4096, 2048]⟩
abbrev S2048x16 : Shape := ⟨2, ![2048, 16]⟩
abbrev S16x2048x4096 : Shape := ⟨3, ![16, 2048, 4096]⟩
abbrev S16x4096x2048 : Shape := ⟨3, ![16, 4096, 2048]⟩
abbrev S2048 : Shape := ⟨1, ![2048]⟩
abbrev S16384x2048 : Shape := ⟨2, ![16384, 2048]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S32768 : Shape := ⟨1, ![32768]⟩
abbrev S32768x2048 : Shape := ⟨2, ![32768, 2048]⟩
abbrev S32768x1 : Shape := ⟨2, ![32768, 1]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 87
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S16x2048x4096, .f32⟩
  | .hbm, ⟨3, _⟩ => ⟨S16x2048x4096, .f32⟩
  | .hbm, ⟨4, _⟩ => ⟨S16x4096x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x16, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16, .f32⟩
  | .hbm, ⟨22, _⟩ => ⟨S16384x16, .f32⟩
  | .hbm, ⟨23, _⟩ => ⟨S16x16384, .f32⟩
  | .hbm, ⟨24, _⟩ => ⟨S16x2048, .f32⟩
  | .hbm, ⟨25, _⟩ => ⟨S16x2048, .i32⟩
  | .hbm, ⟨26, _⟩ => ⟨S16384x2048, .bf16⟩
  | .hbm, ⟨27, _⟩ => ⟨S_, .i32⟩
  | .hbm, ⟨28, _⟩ => ⟨S16x2048, .i32⟩
  | .hbm, ⟨29, _⟩ => ⟨S16x2048, .i1⟩
  | .hbm, ⟨30, _⟩ => ⟨S_, .i32⟩
  | .hbm, ⟨31, _⟩ => ⟨S16x2048, .i32⟩
  | .hbm, ⟨32, _⟩ => ⟨S16x2048, .i32⟩
  | .hbm, ⟨33, _⟩ => ⟨S16x2048, .i32⟩
  | .hbm, ⟨34, _⟩ => ⟨S16x2048x1, .i32⟩
  | .hbm, ⟨35, _⟩ => ⟨S16x2048x2048, .bf16⟩
  | .hbm, ⟨36, _⟩ => ⟨S16x2048x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16384x2048, .f32⟩
  | .hbm, ⟨42, _⟩ => ⟨S32768, .i32⟩
  | .hbm, ⟨43, _⟩ => ⟨S32768x2048, .f32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S16384x2048, .f32⟩
  | .hbm, ⟨53, _⟩ => ⟨S4x4096x2048, .f32⟩
  | .hbm, ⟨54, _⟩ => ⟨S_, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x2048, .f32⟩
  | .hbm, ⟨74, _⟩ => ⟨S4x4096x2048, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x2048, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | .hbm, ⟨84, _⟩ => ⟨S1x1x2048, .f32⟩
  | .hbm, ⟨85, _⟩ => ⟨S4x4096x2048, .f32⟩
  | .hbm, ⟨86, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S4x4096x2048 : Shape := ⟨3, ![4, 4096, 2048]⟩
abbrev S2048x16 : Shape := ⟨2, ![2048, 16]⟩
abbrev S16x2048x4096 : Shape := ⟨3, ![16, 2048, 4096]⟩
abbrev S16x4096x2048 : Shape := ⟨3, ![16, 4096, 2048]⟩
abbrev S2048 : Shape := ⟨1, ![2048]⟩
abbrev S16384x2048 : Shape := ⟨2, ![16384, 2048]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S32768 : Shape := ⟨1, ![32768]⟩
abbrev S32768x2048 : Shape := ⟨2, ![32768, 2048]⟩
abbrev S32768x1 : Shape := ⟨2, ![32768, 1]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S16x2048x4096, .f32⟩
  | .hbm, ⟨3, _⟩ => ⟨S16x2048x4096, .f32⟩
  | .hbm, ⟨4, _⟩ => ⟨S16x4096x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x16, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16, .f32⟩
  | .hbm, ⟨22, _⟩ => ⟨S16384x16, .f32⟩
  | .hbm, ⟨23, _⟩ => ⟨S16x16384, .f32⟩
  | .hbm, ⟨24, _⟩ => ⟨S16x2048, .f32⟩
  | .hbm, ⟨25, _⟩ => ⟨S16x2048, .i32⟩
  | .hbm, ⟨26, _⟩ => ⟨S_, .i32⟩
  | .hbm, ⟨27, _⟩ => ⟨S16x2048, .i32⟩
  | .hbm, ⟨28, _⟩ => ⟨S16x2048, .i1⟩
  | .hbm, ⟨29, _⟩ => ⟨S_, .i32⟩
  | .hbm, ⟨30, _⟩ => ⟨S16x2048, .i32⟩
  | .hbm, ⟨31, _⟩ => ⟨S16x2048, .i32⟩
  | .hbm, ⟨32, _⟩ => ⟨S16x2048, .i32⟩
  | .hbm, ⟨33, _⟩ => ⟨S16x2048x1, .i32⟩
  | .hbm, ⟨34, _⟩ => ⟨S16x2048x2048, .f32⟩
  | .hbm, ⟨35, _⟩ => ⟨S16x2048x4096, .f32⟩
  | .hbm, ⟨36, _⟩ => ⟨S16x2048x4096, .f32⟩
  | .hbm, ⟨37, _⟩ => ⟨S16x2048x4096, .f32⟩
  | .hbm, ⟨38, _⟩ => ⟨S_, .f32⟩
  | .hbm, ⟨39, _⟩ => ⟨S16x2048x4096, .f32⟩
  | .hbm, ⟨40, _⟩ => ⟨S16x2048x4096, .f32⟩
  | .hbm, ⟨41, _⟩ => ⟨S_, .f32⟩
  | .hbm, ⟨42, _⟩ => ⟨S16x2048x4096, .f32⟩
  | .hbm, ⟨43, _⟩ => ⟨S16x2048x4096, .f32⟩
  | .hbm, ⟨44, _⟩ => ⟨S16x2048x4096, .f32⟩
  | .hbm, ⟨45, _⟩ => ⟨S16x2048x4096, .f32⟩
  | .hbm, ⟨46, _⟩ => ⟨S16x2048x4096, .f32⟩
  | .hbm, ⟨47, _⟩ => ⟨S16x2048x2048, .f32⟩
  | .hbm, ⟨48, _⟩ => ⟨S16x2048x1, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16384x2048, .f32⟩
  | .hbm, ⟨53, _⟩ => ⟨S32768, .i32⟩
  | .hbm, ⟨54, _⟩ => ⟨S32768x2048, .f32⟩
  | .hbm, ⟨55, _⟩ => ⟨S_, .i32⟩
  | .hbm, ⟨56, _⟩ => ⟨S32768, .i32⟩
  | .hbm, ⟨57, _⟩ => ⟨S32768, .i1⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768, .i32⟩
  | .hbm, ⟨62, _⟩ => ⟨S32768x1, .i32⟩
  | .hbm, ⟨63, _⟩ => ⟨S16384x2048, .f32⟩
  | .hbm, ⟨64, _⟩ => ⟨S4x4096x2048, .f32⟩
  | .hbm, ⟨65, _⟩ => ⟨S_, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x2048, .f32⟩
  | .hbm, ⟨85, _⟩ => ⟨S4x4096x2048, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x2048, .f32⟩
  | .hbm, ⟨91, _⟩ => ⟨S4x4096x2048, .f32⟩
  | .hbm, ⟨92, _⟩ => ⟨S1x1x2048, .f32⟩
  | .hbm, ⟨93, _⟩ => ⟨S4x4096x2048, .f32⟩
  | .hbm, ⟨94, _⟩ => ⟨S4x4096x2048, .f32⟩
  | .hbm, ⟨95, _⟩ => ⟨S1x1x2048, .f32⟩
  | .hbm, ⟨96, _⟩ => ⟨S4x4096x2048, .f32⟩
  | .hbm, ⟨97, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x13728 : Shape := ⟨2, ![2048, 13728]⟩
abbrev S3x6560 : Shape := ⟨2, ![3, 6560]⟩
abbrev S2048x6560 : Shape := ⟨2, ![2048, 6560]⟩
abbrev S_ : Shape := ⟨0, ![]⟩
abbrev S2048x96 : Shape := ⟨2, ![2048, 96]⟩
abbrev S2048x7168 : Shape := ⟨2, ![2048, 7168]⟩
abbrev S2048x13824 : Shape := ⟨2, ![2048, 13824]⟩
abbrev S16384x2048 : Shape := ⟨2, ![16384, 2048]⟩
abbrev S16384x13824 : Shape := ⟨2, ![16384, 13824]⟩
abbrev S1024x2048 : Shape := ⟨2, ![1024, 2048]⟩
abbrev S2048x512 : Shape := ⟨2, ![2048, 512]⟩
abbrev S1024x512 : Shape := ⟨2, ![1024, 512]⟩
abbrev S4x4096x13824 : Shape := ⟨3, ![4, 4096, 13824]⟩
abbrev S4x4096x3072 : Shape := ⟨3, ![4, 4096, 3072]⟩
abbrev S3x3072 : Shape := ⟨2, ![3, 3072]⟩
abbrev S4x4098x3072 : Shape := ⟨3, ![4, 4098, 3072]⟩
abbrev S1x3072 : Shape := ⟨2, ![1, 3072]⟩
abbrev S3072 : Shape := ⟨1, ![3072]⟩
abbrev S1x1x3072 : Shape := ⟨3, ![1, 1, 3072]⟩
abbrev S4x4096x416 : Shape := ⟨3, ![4, 4096, 416]⟩
abbrev S3x416 : Shape := ⟨2, ![3, 416]⟩
abbrev S4x4098x416 : Shape := ⟨3, ![4, 4098, 416]⟩
abbrev S1x416 : Shape := ⟨2, ![1, 416]⟩
abbrev S416 : Shape := ⟨1, ![416]⟩
abbrev S1x1x416 : Shape := ⟨3, ![1, 1, 416]⟩
abbrev S4x4096x6144 : Shape := ⟨3, ![4, 4096, 6144]⟩
abbrev S4x4096x3x2048 : Shape := ⟨4, ![4, 4096, 3, 2048]⟩
abbrev S4x4096x1024 : Shape := ⟨3, ![4, 4096, 1024]⟩

abbrev nBuf : Space → Nat
  | .hbm => 99
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x13728, .f32⟩
  | .hbm, ⟨2, _⟩ => ⟨S3x6560, .f32⟩
  | .hbm, ⟨3, _⟩ => ⟨S2048x6560, .f32⟩
  | .hbm, ⟨4, _⟩ => ⟨S_, .f32⟩
  | .hbm, ⟨5, _⟩ => ⟨S2048x96, .f32⟩
  | .hbm, ⟨6, _⟩ => ⟨S2048x7168, .f32⟩
  | .hbm, ⟨7, _⟩ => ⟨S2048x13824, .f32⟩
  | .hbm, ⟨8, _⟩ => ⟨S2048x13824, .bf16⟩
  | .hbm, ⟨9, _⟩ => ⟨S16384x2048, .f32⟩
  | .hbm, ⟨10, _⟩ => ⟨S16384x2048, .bf16⟩
  | .hbm, ⟨11, _⟩ => ⟨S16384x13824, .f32⟩
  | .hbm, ⟨12, _⟩ => ⟨S4x4096x13824, .f32⟩
  | .hbm, ⟨13, _⟩ => ⟨S4x4096x3072, .f32⟩
  | .hbm, ⟨14, _⟩ => ⟨S3x3072, .f32⟩
  | .hbm, ⟨15, _⟩ => ⟨S_, .i32⟩
  | .hbm, ⟨16, _⟩ => ⟨S_, .f32⟩
  | .hbm, ⟨17, _⟩ => ⟨S4x4098x3072, .f32⟩
  | .hbm, ⟨18, _⟩ => ⟨S1x3072, .f32⟩
  | .hbm, ⟨19, _⟩ => ⟨S3072, .f32⟩
  | .hbm, ⟨20, _⟩ => ⟨S4x4096x3072, .f32⟩
  | .hbm, ⟨21, _⟩ => ⟨S1x1x3072, .f32⟩
  | .hbm, ⟨22, _⟩ => ⟨S4x4096x3072, .f32⟩
  | .hbm, ⟨23, _⟩ => ⟨S4x4096x3072, .f32⟩
  | .hbm, ⟨24, _⟩ => ⟨S1x3072, .f32⟩
  | .hbm, ⟨25, _⟩ => ⟨S3072, .f32⟩
  | .hbm, ⟨26, _⟩ => ⟨S4x4096x3072, .f32⟩
  | .hbm, ⟨27, _⟩ => ⟨S1x1x3072, .f32⟩
  | .hbm, ⟨28, _⟩ => ⟨S4x4096x3072, .f32⟩
  | .hbm, ⟨29, _⟩ => ⟨S4x4096x3072, .f32⟩
  | .hbm, ⟨30, _⟩ => ⟨S4x4096x3072, .f32⟩
  | .hbm, ⟨31, _⟩ => ⟨S1x3072, .f32⟩
  | .hbm, ⟨32, _⟩ => ⟨S3072, .f32⟩
  | .hbm, ⟨33, _⟩ => ⟨S4x4096x3072, .f32⟩
  | .hbm, ⟨34, _⟩ => ⟨S1x1x3072, .f32⟩
  | .hbm, ⟨35, _⟩ => ⟨S4x4096x3072, .f32⟩
  | .hbm, ⟨36, _⟩ => ⟨S4x4096x3072, .f32⟩
  | .hbm, ⟨37, _⟩ => ⟨S4x4096x3072, .f32⟩
  | .hbm, ⟨38, _⟩ => ⟨S4x4096x3072, .f32⟩
  | .hbm, ⟨39, _⟩ => ⟨S3x3072, .f32⟩
  | .hbm, ⟨40, _⟩ => ⟨S_, .i32⟩
  | .hbm, ⟨41, _⟩ => ⟨S_, .f32⟩
  | .hbm, ⟨42, _⟩ => ⟨S4x4098x3072, .f32⟩
  | .hbm, ⟨43, _⟩ => ⟨S1x3072, .f32⟩
  | .hbm, ⟨44, _⟩ => ⟨S3072, .f32⟩
  | .hbm, ⟨45, _⟩ => ⟨S4x4096x3072, .f32⟩
  | .hbm, ⟨46, _⟩ => ⟨S1x1x3072, .f32⟩
  | .hbm, ⟨47, _⟩ => ⟨S4x4096x3072, .f32⟩
  | .hbm, ⟨48, _⟩ => ⟨S4x4096x3072, .f32⟩
  | .hbm, ⟨49, _⟩ => ⟨S1x3072, .f32⟩
  | .hbm, ⟨50, _⟩ => ⟨S3072, .f32⟩
  | .hbm, ⟨51, _⟩ => ⟨S4x4096x3072, .f32⟩
  | .hbm, ⟨52, _⟩ => ⟨S1x1x3072, .f32⟩
  | .hbm, ⟨53, _⟩ => ⟨S4x4096x3072, .f32⟩
  | .hbm, ⟨54, _⟩ => ⟨S4x4096x3072, .f32⟩
  | .hbm, ⟨55, _⟩ => ⟨S4x4096x3072, .f32⟩
  | .hbm, ⟨56, _⟩ => ⟨S1x3072, .f32⟩
  | .hbm, ⟨57, _⟩ => ⟨S3072, .f32⟩
  | .hbm, ⟨58, _⟩ => ⟨S4x4096x3072, .f32⟩
  | .hbm, ⟨59, _⟩ => ⟨S1x1x3072, .f32⟩
  | .hbm, ⟨60, _⟩ => ⟨S4x4096x3072, .f32⟩
  | .hbm, ⟨61, _⟩ => ⟨S4x4096x3072, .f32⟩
  | .hbm, ⟨62, _⟩ => ⟨S4x4096x3072, .f32⟩
  | .hbm, ⟨63, _⟩ => ⟨S4x4096x416, .f32⟩
  | .hbm, ⟨64, _⟩ => ⟨S3x416, .f32⟩
  | .hbm, ⟨65, _⟩ => ⟨S_, .i32⟩
  | .hbm, ⟨66, _⟩ => ⟨S_, .f32⟩
  | .hbm, ⟨67, _⟩ => ⟨S4x4098x416, .f32⟩
  | .hbm, ⟨68, _⟩ => ⟨S1x416, .f32⟩
  | .hbm, ⟨69, _⟩ => ⟨S416, .f32⟩
  | .hbm, ⟨70, _⟩ => ⟨S4x4096x416, .f32⟩
  | .hbm, ⟨71, _⟩ => ⟨S1x1x416, .f32⟩
  | .hbm, ⟨72, _⟩ => ⟨S4x4096x416, .f32⟩
  | .hbm, ⟨73, _⟩ => ⟨S4x4096x416, .f32⟩
  | .hbm, ⟨74, _⟩ => ⟨S1x416, .f32⟩
  | .hbm, ⟨75, _⟩ => ⟨S416, .f32⟩
  | .hbm, ⟨76, _⟩ => ⟨S4x4096x416, .f32⟩
  | .hbm, ⟨77, _⟩ => ⟨S1x1x416, .f32⟩
  | .hbm, ⟨78, _⟩ => ⟨S4x4096x416, .f32⟩
  | .hbm, ⟨79, _⟩ => ⟨S4x4096x416, .f32⟩
  | .hbm, ⟨80, _⟩ => ⟨S4x4096x416, .f32⟩
  | .hbm, ⟨81, _⟩ => ⟨S1x416, .f32⟩
  | .hbm, ⟨82, _⟩ => ⟨S416, .f32⟩
  | .hbm, ⟨83, _⟩ => ⟨S4x4096x416, .f32⟩
  | .hbm, ⟨84, _⟩ => ⟨S1x1x416, .f32⟩
  | .hbm, ⟨85, _⟩ => ⟨S4x4096x416, .f32⟩
  | .hbm, ⟨86, _⟩ => ⟨S4x4096x416, .f32⟩
  | .hbm, ⟨87, _⟩ => ⟨S4x4096x416, .f32⟩
  | .hbm, ⟨88, _⟩ => ⟨S4x4096x6144, .f32⟩
  | .hbm, ⟨89, _⟩ => ⟨S4x4096x6144, .f32⟩
  | .hbm, ⟨90, _⟩ => ⟨S4x4096x6144, .f32⟩
  | .hbm, ⟨91, _⟩ => ⟨S_, .f32⟩
  | .hbm, ⟨92, _⟩ => ⟨S4x4096x6144, .f32⟩
  | .hbm, ⟨93, _⟩ => ⟨S4x4096x6144, .f32⟩
  | .hbm, ⟨94, _⟩ => ⟨S_, .f32⟩
  | .hbm, ⟨95, _⟩ => ⟨S4x4096x6144, .f32⟩
  | .hbm, ⟨96, _⟩ => ⟨S4x4096x6144, .f32⟩
  | .hbm, ⟨97, _⟩ => ⟨S4x4096x3x2048, .f32⟩
  | .hbm, ⟨98, _⟩ => ⟨S4x4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_0 : Ref sig .tc := ⟨.hbm, 40, rfl⟩
abbrev main_call1_v0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_c_1 : Ref sig .tc := ⟨.hbm, 65, rfl⟩
abbrev main_call2_v0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_cst_3 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S4x4096x2048 : Shape := ⟨3, ![4, 4096, 2048]⟩
abbrev S2048x13728 : Shape := ⟨2, ![2048, 13728]⟩
abbrev S3x6560 : Shape := ⟨2, ![3, 6560]⟩
abbrev S2048x6560 : Shape := ⟨2, ![2048, 6560]⟩
abbrev S_ : Shape := ⟨0, ![]⟩
abbrev S2048x96 : Shape := ⟨2, ![2048, 96]⟩
abbrev S2048x7168 : Shape := ⟨2, ![2048, 7168]⟩
abbrev S2048x13824 : Shape := ⟨2, ![2048, 13824]⟩
abbrev S16384x2048 : Shape := ⟨2, ![16384, 2048]⟩
abbrev S16384x13824 : Shape := ⟨2, ![16384, 13824]⟩
abbrev S1024x2048 : Shape := ⟨2, ![1024, 2048]⟩
abbrev S2048x512 : Shape := ⟨2, ![2048, 512]⟩
abbrev S1024x512 : Shape := ⟨2, ![1024, 512]⟩
abbrev S4x4096x13824 : Shape := ⟨3, ![4, 4096, 13824]⟩
abbrev S4x4096x3072 : Shape := ⟨3, ![4, 4096, 3072]⟩
abbrev S3x3072 : Shape := ⟨2, ![3, 3072]⟩
abbrev S4x4098x3072 : Shape := ⟨3, ![4, 4098, 3072]⟩
abbrev S1x3072 : Shape := ⟨2, ![1, 3072]⟩
abbrev S3072 : Shape := ⟨1, ![3072]⟩
abbrev S1x1x3072 : Shape := ⟨3, ![1, 1, 3072]⟩
abbrev S4x4096x416 : Shape := ⟨3, ![4, 4096, 416]⟩
abbrev S3x416 : Shape := ⟨2, ![3, 416]⟩
abbrev S4x4098x416 : Shape := ⟨3, ![4, 4098, 416]⟩
abbrev S1x416 : Shape := ⟨2, ![1, 416]⟩
abbrev S416 : Shape := ⟨1, ![416]⟩
abbrev S1x1x416 : Shape := ⟨3, ![1, 1, 416]⟩
abbrev S4x4096x6144 : Shape := ⟨3, ![4, 4096, 6144]⟩
abbrev S4x4096x3x2048 : Shape := ⟨4, ![4, 4096, 3, 2048]⟩
abbrev S4x4096x1024 : Shape := ⟨3, ![4, 4096, 1024]⟩

abbrev nBuf : Space → Nat
  | .hbm => 99
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x13728, .f32⟩
  | .hbm, ⟨2, _⟩ => ⟨S3x6560, .f32⟩
  | .hbm, ⟨3, _⟩ => ⟨S2048x6560, .f32⟩
  | .hbm, ⟨4, _⟩ => ⟨S_, .f32⟩
  | .hbm, ⟨5, _⟩ => ⟨S2048x96, .f32⟩
  | .hbm, ⟨6, _⟩ => ⟨S2048x7168, .f32⟩
  | .hbm, ⟨7, _⟩ => ⟨S2048x13824, .f32⟩
  | .hbm, ⟨8, _⟩ => ⟨S2048x13824, .bf16⟩
  | .hbm, ⟨9, _⟩ => ⟨S16384x2048, .f32⟩
  | .hbm, ⟨10, _⟩ => ⟨S16384x2048, .bf16⟩
  | .hbm, ⟨11, _⟩ => ⟨S16384x13824, .f32⟩
  | .hbm, ⟨12, _⟩ => ⟨S4x4096x13824, .f32⟩
  | .hbm, ⟨13, _⟩ => ⟨S4x4096x3072, .f32⟩
  | .hbm, ⟨14, _⟩ => ⟨S3x3072, .f32⟩
  | .hbm, ⟨15, _⟩ => ⟨S_, .i32⟩
  | .hbm, ⟨16, _⟩ => ⟨S_, .f32⟩
  | .hbm, ⟨17, _⟩ => ⟨S4x4098x3072, .f32⟩
  | .hbm, ⟨18, _⟩ => ⟨S1x3072, .f32⟩
  | .hbm, ⟨19, _⟩ => ⟨S3072, .f32⟩
  | .hbm, ⟨20, _⟩ => ⟨S4x4096x3072, .f32⟩
  | .hbm, ⟨21, _⟩ => ⟨S1x1x3072, .f32⟩
  | .hbm, ⟨22, _⟩ => ⟨S4x4096x3072, .f32⟩
  | .hbm, ⟨23, _⟩ => ⟨S4x4096x3072, .f32⟩
  | .hbm, ⟨24, _⟩ => ⟨S1x3072, .f32⟩
  | .hbm, ⟨25, _⟩ => ⟨S3072, .f32⟩
  | .hbm, ⟨26, _⟩ => ⟨S4x4096x3072, .f32⟩
  | .hbm, ⟨27, _⟩ => ⟨S1x1x3072, .f32⟩
  | .hbm, ⟨28, _⟩ => ⟨S4x4096x3072, .f32⟩
  | .hbm, ⟨29, _⟩ => ⟨S4x4096x3072, .f32⟩
  | .hbm, ⟨30, _⟩ => ⟨S4x4096x3072, .f32⟩
  | .hbm, ⟨31, _⟩ => ⟨S1x3072, .f32⟩
  | .hbm, ⟨32, _⟩ => ⟨S3072, .f32⟩
  | .hbm, ⟨33, _⟩ => ⟨S4x4096x3072, .f32⟩
  | .hbm, ⟨34, _⟩ => ⟨S1x1x3072, .f32⟩
  | .hbm, ⟨35, _⟩ => ⟨S4x4096x3072, .f32⟩
  | .hbm, ⟨36, _⟩ => ⟨S4x4096x3072, .f32⟩
  | .hbm, ⟨37, _⟩ => ⟨S4x4096x3072, .f32⟩
  | .hbm, ⟨38, _⟩ => ⟨S4x4096x3072, .f32⟩
  | .hbm, ⟨39, _⟩ => ⟨S3x3072, .f32⟩
  | .hbm, ⟨40, _⟩ => ⟨S_, .i32⟩
  | .hbm, ⟨41, _⟩ => ⟨S_, .f32⟩
  | .hbm, ⟨42, _⟩ => ⟨S4x4098x3072, .f32⟩
  | .hbm, ⟨43, _⟩ => ⟨S1x3072, .f32⟩
  | .hbm, ⟨44, _⟩ => ⟨S3072, .f32⟩
  | .hbm, ⟨45, _⟩ => ⟨S4x4096x3072, .f32⟩
  | .hbm, ⟨46, _⟩ => ⟨S1x1x3072, .f32⟩
  | .hbm, ⟨47, _⟩ => ⟨S4x4096x3072, .f32⟩
  | .hbm, ⟨48, _⟩ => ⟨S4x4096x3072, .f32⟩
  | .hbm, ⟨49, _⟩ => ⟨S1x3072, .f32⟩
  | .hbm, ⟨50, _⟩ => ⟨S3072, .f32⟩
  | .hbm, ⟨51, _⟩ => ⟨S4x4096x3072, .f32⟩
  | .hbm, ⟨52, _⟩ => ⟨S1x1x3072, .f32⟩
  | .hbm, ⟨53, _⟩ => ⟨S4x4096x3072, .f32⟩
  | .hbm, ⟨54, _⟩ => ⟨S4x4096x3072, .f32⟩
  | .hbm, ⟨55, _⟩ => ⟨S4x4096x3072, .f32⟩
  | .hbm, ⟨56, _⟩ => ⟨S1x3072, .f32⟩
  | .hbm, ⟨57, _⟩ => ⟨S3072, .f32⟩
  | .hbm, ⟨58, _⟩ => ⟨S4x4096x3072, .f32⟩
  | .hbm, ⟨59, _⟩ => ⟨S1x1x3072, .f32⟩
  | .hbm, ⟨60, _⟩ => ⟨S4x4096x3072, .f32⟩
  | .hbm, ⟨61, _⟩ => ⟨S4x4096x3072, .f32⟩
  | .hbm, ⟨62, _⟩ => ⟨S4x4096x3072, .f32⟩
  | .hbm, ⟨63, _⟩ => ⟨S4x4096x416, .f32⟩
  | .hbm, ⟨64, _⟩ => ⟨S3x416, .f32⟩
  | .hbm, ⟨65, _⟩ => ⟨S_, .i32⟩
  | .hbm, ⟨66, _⟩ => ⟨S_, .f32⟩
  | .hbm, ⟨67, _⟩ => ⟨S4x4098x416, .f32⟩
  | .hbm, ⟨68, _⟩ => ⟨S1x416, .f32⟩
  | .hbm, ⟨69, _⟩ => ⟨S416, .f32⟩
  | .hbm, ⟨70, _⟩ => ⟨S4x4096x416, .f32⟩
  | .hbm, ⟨71, _⟩ => ⟨S1x1x416, .f32⟩
  | .hbm, ⟨72, _⟩ => ⟨S4x4096x416, .f32⟩
  | .hbm, ⟨73, _⟩ => ⟨S4x4096x416, .f32⟩
  | .hbm, ⟨74, _⟩ => ⟨S1x416, .f32⟩
  | .hbm, ⟨75, _⟩ => ⟨S416, .f32⟩
  | .hbm, ⟨76, _⟩ => ⟨S4x4096x416, .f32⟩
  | .hbm, ⟨77, _⟩ => ⟨S1x1x416, .f32⟩
  | .hbm, ⟨78, _⟩ => ⟨S4x4096x416, .f32⟩
  | .hbm, ⟨79, _⟩ => ⟨S4x4096x416, .f32⟩
  | .hbm, ⟨80, _⟩ => ⟨S4x4096x416, .f32⟩
  | .hbm, ⟨81, _⟩ => ⟨S1x416, .f32⟩
  | .hbm, ⟨82, _⟩ => ⟨S416, .f32⟩
  | .hbm, ⟨83, _⟩ => ⟨S4x4096x416, .f32⟩
  | .hbm, ⟨84, _⟩ => ⟨S1x1x416, .f32⟩
  | .hbm, ⟨85, _⟩ => ⟨S4x4096x416, .f32⟩
  | .hbm, ⟨86, _⟩ => ⟨S4x4096x416, .f32⟩
  | .hbm, ⟨87, _⟩ => ⟨S4x4096x416, .f32⟩
  | .hbm, ⟨88, _⟩ => ⟨S4x4096x6144, .f32⟩
  | .hbm, ⟨89, _⟩ => ⟨S4x4096x6144, .f32⟩
  | .hbm, ⟨90, _⟩ => ⟨S4x4096x6144, .f32⟩
  | .hbm, ⟨91, _⟩ => ⟨S_, .f32⟩
  | .hbm, ⟨92, _⟩ => ⟨S4x4096x6144, .f32⟩
  | .hbm, ⟨93, _⟩ => ⟨S4x4096x6144, .f32⟩
  | .hbm, ⟨94, _⟩ => ⟨S_, .f32⟩
  | .hbm, ⟨95, _⟩ => ⟨S4x4096x6144, .f32⟩
  | .hbm, ⟨96, _⟩ => ⟨S4x4096x6144, .f32⟩
  | .hbm, ⟨97, _⟩ => ⟨S4x4096x3x2048, .f32⟩
  | .hbm, ⟨98, _⟩ => ⟨S4x4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_0 : Ref sig .tc := ⟨.hbm, 40, rfl⟩
abbrev main_call1_v0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_c_1 : Ref sig .tc := ⟨.hbm, 65, rfl⟩
abbrev main_call2_v0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_cst_3 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4096x2048 : Shape := ⟨3, ![4, 4096, 2048]⟩
abbrev S2048x13728 : Shape := ⟨2, ![2048, 13728]⟩
abbrev S3x6560 : Shape := ⟨2, ![3, 6560]⟩
abbrev S4x4096x13728 : Shape := ⟨3, ![4, 4096, 13728]⟩
abbrev S4x4096x6560 : Shape := ⟨3, ![4, 4096, 6560]⟩
abbrev S_ : Shape := ⟨0, ![]⟩
abbrev S4x4098x6560 : Shape := ⟨3, ![4, 4098, 6560]⟩
abbrev S1x6560 : Shape := ⟨2, ![1, 6560]⟩
abbrev S6560 : Shape := ⟨1, ![6560]⟩
abbrev S1x1x6560 : Shape := ⟨3, ![1, 1, 6560]⟩
abbrev S4x4096x6144 : Shape := ⟨3, ![4, 4096, 6144]⟩
abbrev S4x4096x3x2048 : Shape := ⟨4, ![4, 4096, 3, 2048]⟩
abbrev S4x4096x3072 : Shape := ⟨3, ![4, 4096, 3072]⟩
abbrev S4x4096x416 : Shape := ⟨3, ![4, 4096, 416]⟩
abbrev S4x4096x1024 : Shape := ⟨3, ![4, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x13728, .f32⟩
  | .hbm, ⟨2, _⟩ => ⟨S3x6560, .f32⟩
  | .hbm, ⟨3, _⟩ => ⟨S4x4096x13728, .f32⟩
  | .hbm, ⟨4, _⟩ => ⟨S4x4096x6560, .f32⟩
  | .hbm, ⟨5, _⟩ => ⟨S_, .i32⟩
  | .hbm, ⟨6, _⟩ => ⟨S_, .f32⟩
  | .hbm, ⟨7, _⟩ => ⟨S4x4098x6560, .f32⟩
  | .hbm, ⟨8, _⟩ => ⟨S1x6560, .f32⟩
  | .hbm, ⟨9, _⟩ => ⟨S6560, .f32⟩
  | .hbm, ⟨10, _⟩ => ⟨S4x4096x6560, .f32⟩
  | .hbm, ⟨11, _⟩ => ⟨S1x1x6560, .f32⟩
  | .hbm, ⟨12, _⟩ => ⟨S4x4096x6560, .f32⟩
  | .hbm, ⟨13, _⟩ => ⟨S4x4096x6560, .f32⟩
  | .hbm, ⟨14, _⟩ => ⟨S1x6560, .f32⟩
  | .hbm, ⟨15, _⟩ => ⟨S6560, .f32⟩
  | .hbm, ⟨16, _⟩ => ⟨S4x4096x6560, .f32⟩
  | .hbm, ⟨17, _⟩ => ⟨S1x1x6560, .f32⟩
  | .hbm, ⟨18, _⟩ => ⟨S4x4096x6560, .f32⟩
  | .hbm, ⟨19, _⟩ => ⟨S4x4096x6560, .f32⟩
  | .hbm, ⟨20, _⟩ => ⟨S4x4096x6560, .f32⟩
  | .hbm, ⟨21, _⟩ => ⟨S1x6560, .f32⟩
  | .hbm, ⟨22, _⟩ => ⟨S6560, .f32⟩
  | .hbm, ⟨23, _⟩ => ⟨S4x4096x6560, .f32⟩
  | .hbm, ⟨24, _⟩ => ⟨S1x1x6560, .f32⟩
  | .hbm, ⟨25, _⟩ => ⟨S4x4096x6560, .f32⟩
  | .hbm, ⟨26, _⟩ => ⟨S4x4096x6560, .f32⟩
  | .hbm, ⟨27, _⟩ => ⟨S4x4096x6560, .f32⟩
  | .hbm, ⟨28, _⟩ => ⟨S4x4096x6144, .f32⟩
  | .hbm, ⟨29, _⟩ => ⟨S4x4096x6144, .f32⟩
  | .hbm, ⟨30, _⟩ => ⟨S4x4096x6144, .f32⟩
  | .hbm, ⟨31, _⟩ => ⟨S_, .f32⟩
  | .hbm, ⟨32, _⟩ => ⟨S4x4096x6144, .f32⟩
  | .hbm, ⟨33, _⟩ => ⟨S4x4096x6144, .f32⟩
  | .hbm, ⟨34, _⟩ => ⟨S_, .f32⟩
  | .hbm, ⟨35, _⟩ => ⟨S4x4096x6144, .f32⟩
  | .hbm, ⟨36, _⟩ => ⟨S4x4096x6144, .f32⟩
  | .hbm, ⟨37, _⟩ => ⟨S4x4096x3x2048, .f32⟩
  | .hbm, ⟨38, _⟩ => ⟨S4x4096x3072, .f32⟩
  | .hbm, ⟨39, _⟩ => ⟨S4x4096x3072, .f32⟩
  | .hbm, ⟨40, _⟩ => ⟨S4x4096x416, .f32⟩
  | .hbm, ⟨41, _⟩ => ⟨S4x4096x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x2048 : Shape := ⟨3, ![4, 256, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x1024 : Shape := ⟨2, ![16384, 1024]⟩
abbrev S16384x2048 : Shape := ⟨2, ![16384, 2048]⟩
abbrev S1024x1024 : Shape := ⟨2, ![1024, 1024]⟩
abbrev S4x4096x2048 : Shape := ⟨3, ![4, 4096, 2048]⟩

abbrev nBuf : Space → Nat
  | .hbm => 40
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S2048x2048, .f32⟩
  | .hbm, ⟨3, _⟩ => ⟨S1024x2048, .f32⟩
  | .hbm, ⟨4, _⟩ => ⟨S2048x2048, .bf16⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S4x256x2048, .f32⟩
  | .hbm, ⟨9, _⟩ => ⟨S4x256x1024, .f32⟩
  | .hbm, ⟨10, _⟩ => ⟨S4x256x4x256, .f32⟩
  | .hbm, ⟨11, _⟩ => ⟨S4x256x1024, .f32⟩
  | .hbm, ⟨12, _⟩ => ⟨S4x256x4x256, .f32⟩
  | .hbm, ⟨13, _⟩ => ⟨S4x4096x4x256, .f32⟩
  | .hbm, ⟨14, _⟩ => ⟨S4x4x4096x256, .f32⟩
  | .hbm, ⟨15, _⟩ => ⟨S_, .f32⟩
  | .hbm, ⟨16, _⟩ => ⟨S4x4x4096x256, .f32⟩
  | .hbm, ⟨17, _⟩ => ⟨S4x4x4096x256, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S4x4x4096x1, .f32⟩
  | .hbm, ⟨24, _⟩ => ⟨S4x4x4096x256, .f32⟩
  | .hbm, ⟨25, _⟩ => ⟨S4x4x4096x256, .f32⟩
  | .hbm, ⟨26, _⟩ => ⟨S4x4x4096x256, .f32⟩
  | .hbm, ⟨27, _⟩ => ⟨S_, .f32⟩
  | .hbm, ⟨28, _⟩ => ⟨S4x4x4096, .f32⟩
  | .hbm, ⟨29, _⟩ => ⟨S4x4x4096x1, .f32⟩
  | .hbm, ⟨30, _⟩ => ⟨S4x4x4096x256, .f32⟩
  | .hbm, ⟨31, _⟩ => ⟨S4x4x4096x256, .f32⟩
  | .hbm, ⟨32, _⟩ => ⟨S4x4x256x4096, .f32⟩
  | .hbm, ⟨33, _⟩ => ⟨S4x4096x4x256, .f32⟩
  | .hbm, ⟨34, _⟩ => ⟨S4x4096x1024, .f32⟩
  | .hbm, ⟨35, _⟩ => ⟨S1024x2048, .bf16⟩
  | .hbm, ⟨36, _⟩ => ⟨S16384x1024, .f32⟩
  | .hbm, ⟨37, _⟩ => ⟨S16384x1024, .bf16⟩
  | .hbm, ⟨38, _⟩ => ⟨S16384x2048, .f32⟩
  | .hbm, ⟨39, _⟩ => ⟨S4x4096x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Kernel3Ideal.lean ====
abbrev S4x4096x1024 : Shape := ⟨3, ![4, 4096, 1024]⟩
abbrev S4x256x2048 : Shape := ⟨3, ![4, 256, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x1024 : Shape := ⟨2, ![16384, 1024]⟩
abbrev S16384x2048 : Shape := ⟨2, ![16384, 2048]⟩
abbrev S1024x1024 : Shape := ⟨2, ![1024, 1024]⟩
abbrev S4x4096x2048 : Shape := ⟨3, ![4, 4096, 2048]⟩

abbrev nBuf : Space → Nat
  | .hbm => 40
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S2048x2048, .f32⟩
  | .hbm, ⟨3, _⟩ => ⟨S1024x2048, .f32⟩
  | .hbm, ⟨4, _⟩ => ⟨S2048x2048, .bf16⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S4x256x2048, .f32⟩
  | .hbm, ⟨9, _⟩ => ⟨S4x256x1024, .f32⟩
  | .hbm, ⟨10, _⟩ => ⟨S4x256x4x256, .f32⟩
  | .hbm, ⟨11, _⟩ => ⟨S4x256x1024, .f32⟩
  | .hbm, ⟨12, _⟩ => ⟨S4x256x4x256, .f32⟩
  | .hbm, ⟨13, _⟩ => ⟨S4x4096x4x256, .f32⟩
  | .hbm, ⟨14, _⟩ => ⟨S4x4x4096x256, .f32⟩
  | .hbm, ⟨15, _⟩ => ⟨S_, .f32⟩
  | .hbm, ⟨16, _⟩ => ⟨S4x4x4096x256, .f32⟩
  | .hbm, ⟨17, _⟩ => ⟨S4x4x4096x256, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S4x4x4096x1, .f32⟩
  | .hbm, ⟨24, _⟩ => ⟨S4x4x4096x256, .f32⟩
  | .hbm, ⟨25, _⟩ => ⟨S4x4x4096x256, .f32⟩
  | .hbm, ⟨26, _⟩ => ⟨S4x4x4096x256, .f32⟩
  | .hbm, ⟨27, _⟩ => ⟨S_, .f32⟩
  | .hbm, ⟨28, _⟩ => ⟨S4x4x4096, .f32⟩
  | .hbm, ⟨29, _⟩ => ⟨S4x4x4096x1, .f32⟩
  | .hbm, ⟨30, _⟩ => ⟨S4x4x4096x256, .f32⟩
  | .hbm, ⟨31, _⟩ => ⟨S4x4x4096x256, .f32⟩
  | .hbm, ⟨32, _⟩ => ⟨S4x4x256x4096, .f32⟩
  | .hbm, ⟨33, _⟩ => ⟨S4x4096x4x256, .f32⟩
  | .hbm, ⟨34, _⟩ => ⟨S4x4096x1024, .f32⟩
  | .hbm, ⟨35, _⟩ => ⟨S1024x2048, .bf16⟩
  | .hbm, ⟨36, _⟩ => ⟨S16384x1024, .f32⟩
  | .hbm, ⟨37, _⟩ => ⟨S16384x1024, .bf16⟩
  | .hbm, ⟨38, _⟩ => ⟨S16384x2048, .f32⟩
  | .hbm, ⟨39, _⟩ => ⟨S4x4096x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference3Ideal.lean ====
abbrev S4x4096x1024 : Shape := ⟨3, ![4, 4096, 1024]⟩
abbrev S4x256x2048 : Shape := ⟨3, ![4, 256, 2048]⟩
abbrev S2048x2048 : Shape := ⟨2, ![2048, 2048]⟩
abbrev S1024x2048 : Shape := ⟨2, ![1024, 2048]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S4x4096x2048 : Shape := ⟨3, ![4, 4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S2048x2048, .f32⟩
  | .hbm, ⟨3, _⟩ => ⟨S1024x2048, .f32⟩
  | .hbm, ⟨4, _⟩ => ⟨S4x256x2048, .f32⟩
  | .hbm, ⟨5, _⟩ => ⟨S4x256x1024, .f32⟩
  | .hbm, ⟨6, _⟩ => ⟨S4x256x4x256, .f32⟩
  | .hbm, ⟨7, _⟩ => ⟨S4x256x1024, .f32⟩
  | .hbm, ⟨8, _⟩ => ⟨S4x256x4x256, .f32⟩
  | .hbm, ⟨9, _⟩ => ⟨S4x4096x4x256, .f32⟩
  | .hbm, ⟨10, _⟩ => ⟨S4x4x4096x256, .f32⟩
  | .hbm, ⟨11, _⟩ => ⟨S_, .f32⟩
  | .hbm, ⟨12, _⟩ => ⟨S4x4x4096x256, .f32⟩
  | .hbm, ⟨13, _⟩ => ⟨S4x4x4096x256, .f32⟩
  | .hbm, ⟨14, _⟩ => ⟨S_, .f32⟩
  | .hbm, ⟨15, _⟩ => ⟨S4x4x4096, .f32⟩
  | .hbm, ⟨16, _⟩ => ⟨S_, .f32⟩
  | .hbm, ⟨17, _⟩ => ⟨S4x4x4096, .f32⟩
  | .hbm, ⟨18, _⟩ => ⟨S4x4x4096, .f32⟩
  | .hbm, ⟨19, _⟩ => ⟨S4x4x4096x1, .f32⟩
  | .hbm, ⟨20, _⟩ => ⟨S4x4x4096x256, .f32⟩
  | .hbm, ⟨21, _⟩ => ⟨S4x4x4096x256, .f32⟩
  | .hbm, ⟨22, _⟩ => ⟨S4x4x4096x256, .f32⟩
  | .hbm, ⟨23, _⟩ => ⟨S_, .f32⟩
  | .hbm, ⟨24, _⟩ => ⟨S4x4x4096, .f32⟩
  | .hbm, ⟨25, _⟩ => ⟨S4x4x4096x1, .f32⟩
  | .hbm, ⟨26, _⟩ => ⟨S4x4x4096x256, .f32⟩
  | .hbm, ⟨27, _⟩ => ⟨S4x4x4096x256, .f32⟩
  | .hbm, ⟨28, _⟩ => ⟨S4x4x256x4096, .f32⟩
  | .hbm, ⟨29, _⟩ => ⟨S4x4096x4x256, .f32⟩
  | .hbm, ⟨30, _⟩ => ⟨S4x4096x1024, .f32⟩
  | .hbm, ⟨31, _⟩ => ⟨S4x4096x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x4096x1024 : Shape := ⟨3, ![4, 4096, 1024]⟩
abbrev S4x4096x3x2048 : Shape := ⟨4, ![4, 4096, 3, 2048]⟩
abbrev S1024x2048 : Shape := ⟨2, ![1024, 2048]⟩
abbrev S2048x2048 : Shape := ⟨2, ![2048, 2048]⟩
abbrev S2048 : Shape := ⟨1, ![2048]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩
abbrev S4x4096x1x2048 : Shape := ⟨4, ![4, 4096, 1, 2048]⟩
abbrev S_ : Shape := ⟨0, ![]⟩
abbrev S2048x512 : Shape := ⟨2, ![2048, 512]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 69
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S4x4096x3x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S1024x2048, .bf16⟩
  | .hbm, ⟨11, _⟩ => ⟨S16384x1024, .f32⟩
  | .hbm, ⟨12, _⟩ => ⟨S16384x1024, .bf16⟩
  | .hbm, ⟨13, _⟩ => ⟨S16384x2048, .f32⟩
  | .hbm, ⟨14, _⟩ => ⟨S4x4096x2048, .f32⟩
  | .hbm, ⟨15, _⟩ => ⟨S1024x2048, .bf16⟩
  | .hbm, ⟨16, _⟩ => ⟨S16384x1024, .f32⟩
  | .hbm, ⟨17, _⟩ => ⟨S16384x1024, .bf16⟩
  | .hbm, ⟨18, _⟩ => ⟨S16384x2048, .f32⟩
  | .hbm, ⟨19, _⟩ => ⟨S4x4096x2048, .f32⟩
  | .hbm, ⟨20, _⟩ => ⟨S4x4096x1x2048, .f32⟩
  | .hbm, ⟨21, _⟩ => ⟨S4x4096x2048, .f32⟩
  | .hbm, ⟨22, _⟩ => ⟨S4x4096x2048, .f32⟩
  | .hbm, ⟨23, _⟩ => ⟨S4x4096x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S2048x2048, .bf16⟩
  | .hbm, ⟨35, _⟩ => ⟨S16384x2048, .f32⟩
  | .hbm, ⟨36, _⟩ => ⟨S16384x2048, .bf16⟩
  | .hbm, ⟨37, _⟩ => ⟨S16384x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x2048, .f32⟩
  | .hbm, ⟨62, _⟩ => ⟨S4x4096x2048, .f32⟩
  | .hbm, ⟨63, _⟩ => ⟨S1x1x2048, .f32⟩
  | .hbm, ⟨64, _⟩ => ⟨S4x4096x2048, .f32⟩
  | .hbm, ⟨65, _⟩ => ⟨S4x4096x2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | .local _ .vmem, ⟨13, _⟩ => ⟨S1024x2048, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .f32⟩
  | .local _ .vmem, ⟨17, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Kernel4Ideal.lean ====
abbrev S4x4096x2048 : Shape := ⟨3, ![4, 4096, 2048]⟩
abbrev S4x4096x1024 : Shape := ⟨3, ![4, 4096, 1024]⟩
abbrev S4x4096x3x2048 : Shape := ⟨4, ![4, 4096, 3, 2048]⟩
abbrev S1024x2048 : Shape := ⟨2, ![1024, 2048]⟩
abbrev S2048x2048 : Shape := ⟨2, ![2048, 2048]⟩
abbrev S2048 : Shape := ⟨1, ![2048]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩
abbrev S4x4096x1x2048 : Shape := ⟨4, ![4, 4096, 1, 2048]⟩
abbrev S_ : Shape := ⟨0, ![]⟩
abbrev S2048x512 : Shape := ⟨2, ![2048, 512]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 69
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S4x4096x3x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S1024x2048, .bf16⟩
  | .hbm, ⟨11, _⟩ => ⟨S16384x1024, .f32⟩
  | .hbm, ⟨12, _⟩ => ⟨S16384x1024, .bf16⟩
  | .hbm, ⟨13, _⟩ => ⟨S16384x2048, .f32⟩
  | .hbm, ⟨14, _⟩ => ⟨S4x4096x2048, .f32⟩
  | .hbm, ⟨15, _⟩ => ⟨S1024x2048, .bf16⟩
  | .hbm, ⟨16, _⟩ => ⟨S16384x1024, .f32⟩
  | .hbm, ⟨17, _⟩ => ⟨S16384x1024, .bf16⟩
  | .hbm, ⟨18, _⟩ => ⟨S16384x2048, .f32⟩
  | .hbm, ⟨19, _⟩ => ⟨S4x4096x2048, .f32⟩
  | .hbm, ⟨20, _⟩ => ⟨S4x4096x1x2048, .f32⟩
  | .hbm, ⟨21, _⟩ => ⟨S4x4096x2048, .f32⟩
  | .hbm, ⟨22, _⟩ => ⟨S4x4096x2048, .f32⟩
  | .hbm, ⟨23, _⟩ => ⟨S4x4096x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S2048x2048, .bf16⟩
  | .hbm, ⟨35, _⟩ => ⟨S16384x2048, .f32⟩
  | .hbm, ⟨36, _⟩ => ⟨S16384x2048, .bf16⟩
  | .hbm, ⟨37, _⟩ => ⟨S16384x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x2048, .f32⟩
  | .hbm, ⟨62, _⟩ => ⟨S4x4096x2048, .f32⟩
  | .hbm, ⟨63, _⟩ => ⟨S1x1x2048, .f32⟩
  | .hbm, ⟨64, _⟩ => ⟨S4x4096x2048, .f32⟩
  | .hbm, ⟨65, _⟩ => ⟨S4x4096x2048, .f32⟩
  | .hbm, ⟨66, _⟩ => ⟨S1x1x2048, .f32⟩
  | .hbm, ⟨67, _⟩ => ⟨S4x4096x2048, .f32⟩
  | .hbm, ⟨68, _⟩ => ⟨S4x4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | .local _ .vmem, ⟨13, _⟩ => ⟨S1024x2048, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .f32⟩
  | .local _ .vmem, ⟨17, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S4x4096x2048 : Shape := ⟨3, ![4, 4096, 2048]⟩
abbrev S4x4096x1024 : Shape := ⟨3, ![4, 4096, 1024]⟩
abbrev S4x4096x3x2048 : Shape := ⟨4, ![4, 4096, 3, 2048]⟩
abbrev S1024x2048 : Shape := ⟨2, ![1024, 2048]⟩
abbrev S2048x2048 : Shape := ⟨2, ![2048, 2048]⟩
abbrev S2048 : Shape := ⟨1, ![2048]⟩
abbrev S4x4096x1x2048 : Shape := ⟨4, ![4, 4096, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S4x4096x3x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S4x4096x2048, .f32⟩
  | .hbm, ⟨11, _⟩ => ⟨S4x4096x2048, .f32⟩
  | .hbm, ⟨12, _⟩ => ⟨S4x4096x1x2048, .f32⟩
  | .hbm, ⟨13, _⟩ => ⟨S4x4096x2048, .f32⟩
  | .hbm, ⟨14, _⟩ => ⟨S4x4096x2048, .f32⟩
  | .hbm, ⟨15, _⟩ => ⟨S4x4096x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x1x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel5.lean ====
abbrev S4x4096x3072 : Shape := ⟨3, ![4, 4096, 3072]⟩
abbrev S4x4096x416 : Shape := ⟨3, ![4, 4096, 416]⟩
abbrev S2x1024 : Shape := ⟨2, ![2, 1024]⟩
abbrev S2x64x1024 : Shape := ⟨3, ![2, 64, 1024]⟩
abbrev S1024 : Shape := ⟨1, ![1024]⟩
abbrev S2x16x64 : Shape := ⟨3, ![2, 16, 64]⟩
abbrev S4x4096x1024 : Shape := ⟨3, ![4, 4096, 1024]⟩
abbrev S4x4096x128 : Shape := ⟨3, ![4, 4096, 128]⟩
abbrev S4x4096x2x64 : Shape := ⟨4, ![4, 4096, 2, 64]⟩
abbrev S2x1x1x1024 : Shape := ⟨4, ![2, 1, 1, 1024]⟩
abbrev S2x4x4096x1024 : Shape := ⟨4, ![2, 4, 4096, 1024]⟩
abbrev S_ : Shape := ⟨0, ![]⟩
abbrev S1x1x1024 : Shape := ⟨3, ![1, 1, 1024]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x4x4096x1024 : Shape := ⟨4, ![1, 4, 4096, 1024]⟩
abbrev S1x1x1x1024 : Shape := ⟨4, ![1, 1, 1, 1024]⟩
abbrev S1x64x1024 : Shape := ⟨3, ![1, 64, 1024]⟩
abbrev S1x1x64x1024 : Shape := ⟨4, ![1, 1, 64, 1024]⟩
abbrev S8x128x128 : Shape := ⟨3, ![8, 128, 128]⟩
abbrev S1x64x128 : Shape := ⟨3, ![1, 64, 128]⟩
abbrev S64x128 : Shape := ⟨2, ![64, 128]⟩
abbrev S1x1x64x128 : Shape := ⟨4, ![1, 1, 64, 128]⟩
abbrev S1x128x128 : Shape := ⟨3, ![1, 128, 128]⟩
abbrev S128x128 : Shape := ⟨2, ![128, 128]⟩
abbrev S64x64 : Shape := ⟨2, ![64, 64]⟩
abbrev S128 : Shape := ⟨1, ![128]⟩
abbrev S1x128 : Shape := ⟨2, ![1, 128]⟩
abbrev S1x4x4096x16x64 : Shape := ⟨5, ![1, 4, 4096, 16, 64]⟩
abbrev S2x4x4096x16x64 : Shape := ⟨5, ![2, 4, 4096, 16, 64]⟩
abbrev S2x1x1x16x64 : Shape := ⟨5, ![2, 1, 1, 16, 64]⟩
abbrev S2x4x4096x16 : Shape := ⟨4, ![2, 4, 4096, 16]⟩
abbrev S2x4x4096x16x1 : Shape := ⟨5, ![2, 4, 4096, 16, 1]⟩

abbrev nBuf : Space → Nat
  | .hbm => 143
  | .vmem => 15
  | .smem => 0
  | _ => 0

abbrev hbmTy0_0 (i : Nat) : BufTy := match i % 128 with
  | 0 => ⟨S4x4096x3072, .f32⟩
  | 1 => ⟨S4x4096x416, .f32⟩
  | 2 => ⟨S2x1024, .f32⟩
  | 3 => ⟨S2x64x1024, .f32⟩
  | 4 => ⟨S2x1024, .f32⟩
  | 5 => ⟨S2x64x1024, .f32⟩
  | 6 => ⟨S1024, .f32⟩
  | 7 => ⟨S1024, .f32⟩
  | 8 => ⟨S2x16x64, .f32⟩
  | 9 => ⟨S1024, .f32⟩
  | 10 => ⟨S1024, .f32⟩
  | 11 => ⟨S4x4096x1024, .f32⟩
  | 12 => ⟨S4x4096x1024, .f32⟩
  | 13 => ⟨S4x4096x1024, .f32⟩
  | 14 => ⟨S4x4096x128, .f32⟩
  | 15 => ⟨S4x4096x2x64, .f32⟩
  | 16 => ⟨S4x4096x128, .f32⟩
  | 17 => ⟨S4x4096x2x64, .f32⟩
  | 18 => ⟨S2x1x1x1024, .f32⟩
  | 19 => ⟨S4x4096x2x64, .f32⟩
  | 20 => ⟨S2x4x4096x1024, .f32⟩
  | 21 => ⟨S2x4x4096x1024, .f32⟩
  | 22 => ⟨S2x4x4096x1024, .f32⟩
  | 23 => ⟨S2x4x4096x1024, .f32⟩
  | 24 => ⟨S_, .f32⟩
  | 25 => ⟨S2x4x4096x1024, .f32⟩
  | 26 => ⟨S2x4x4096x1024, .f32⟩
  | 27 => ⟨S2x4x4096x1024, .f32⟩
  | 28 => ⟨S2x4x4096x1024, .f32⟩
  | 29 => ⟨S2x4x4096x1024, .i1⟩
  | 30 => ⟨S2x4x4096x1024, .f32⟩
  | 31 => ⟨S2x4x4096x1024, .f32⟩
  | 32 => ⟨S2x4x4096x1024, .f32⟩
  | 33 => ⟨S2x4x4096x1024, .f32⟩
  | 34 => ⟨S2x4x4096x1024, .f32⟩
  | 35 => ⟨S2x4x4096x1024, .f32⟩
  | 36 => ⟨S2x4x4096x1024, .f32⟩
  | 37 => ⟨S2x4x4096x1024, .f32⟩
  | 38 => ⟨S2x4x4096x1024, .f32⟩
  | 39 => ⟨S_, .f32⟩
  | 40 => ⟨S2x4x4096x1024, .f32⟩
  | 41 => ⟨S2x4x4096x1024, .f32⟩
  | 42 => ⟨S2x4x4096x1024, .f32⟩
  | 43 => ⟨S2x4x4096x1024, .f32⟩
  | 44 => ⟨S2x1x1x1024, .f32⟩
  | 45 => ⟨S2x4x4096x1024, .f32⟩
  | 46 => ⟨S2x4x4096x1024, .f32⟩
  | 47 => ⟨S2x4x4096x1024, .f32⟩
  | 48 => ⟨S2x4x4096x1024, .f32⟩
  | 49 => ⟨S2x4x4096x1024, .f32⟩
  | 50 => ⟨S_, .f32⟩
  | 51 => ⟨S2x4x4096x1024, .f32⟩
  | 52 => ⟨S2x4x4096x1024, .f32⟩
  | 53 => ⟨S_, .f32⟩
  | 54 => ⟨S2x4x4096x1024, .f32⟩
  | 55 => ⟨S2x4x4096x1024, .f32⟩
  | 56 => ⟨S1x1x1024, .f32⟩
  | 57 => ⟨S4x4096x1024, .f32⟩
  | 58 => ⟨S4x4096x1024, .f32⟩
  | 59 => ⟨S4x4096x16x64, .f32⟩
  | 60 => ⟨S4x4096x16x64, .f32⟩
  | 61 => ⟨S_, .f32⟩
  | 62 => ⟨S4x4096x16, .f32⟩
  | 63 => ⟨S4x4096x16x1, .f32⟩
  | 64 => ⟨S4x4096x16x1, .f32⟩
  | 65 => ⟨S_, .f32⟩
  | 66 => ⟨S4x4096x16x1, .f32⟩
  | 67 => ⟨S4x4096x16x1, .f32⟩
  | 68 => ⟨S4x4096x16x64, .f32⟩
  | 69 => ⟨S4x4096x16x64, .f32⟩
  | 70 => ⟨S4x4096x1024, .f32⟩
  | 71 => ⟨S1x4x4096x1024, .f32⟩
  | 72 => ⟨S_, .f32⟩
  | 73 => ⟨S2x4x4096x1024, .f32⟩
  | 74 => ⟨S2x4x4096x1024, .f32⟩
  | 75 => ⟨S1x1x1x1024, .f32⟩
  | 76 => ⟨S2x4x4096x1024, .f32⟩
  | 77 => ⟨S2x4x4096x1024, .f32⟩
  | 78 => ⟨S_, .f32⟩
  | 79 => ⟨S2x4x4096x1024, .f32⟩
  | 80 => ⟨S2x4x4096x1024, .f32⟩
  | 81 => ⟨S2x4x4096x1024, .f32⟩
  | 82 => ⟨S2x4x4096x1024, .f32⟩
  | 83 => ⟨S1x4x4096x1024, .f32⟩
  | 84 => ⟨S2x4x4096x1024, .f32⟩
  | 85 => ⟨S2x4x4096x1024, .f32⟩
  | 86 => ⟨S2x4x4096x1024, .f32⟩
  | 87 => ⟨S1x4x4096x1024, .f32⟩
  | 88 => ⟨S4x4096x1024, .f32⟩
  | 89 => ⟨S1x4x4096x1024, .f32⟩
  | 90 => ⟨S4x4096x1024, .f32⟩
  | 91 => ⟨S4x4096x1024, .f32⟩
  | 92 => ⟨S4x4096x16x64, .f32⟩
  | 93 => ⟨S_, .f32⟩
  | 94 => ⟨S4x4096x16, .f32⟩
  | 95 => ⟨S4x4096x16x1, .f32⟩
  | 96 => ⟨S_, .f32⟩
  | 97 => ⟨S4x4096x16x1, .f32⟩
  | 98 => ⟨S4x4096x16x1, .f32⟩
  | 99 => ⟨S4x4096x16x64, .f32⟩
  | 100 => ⟨S4x4096x16x64, .f32⟩
  | 101 => ⟨S4x4096x16x64, .f32⟩
  | 102 => ⟨S_, .f32⟩
  | 103 => ⟨S4x4096x16, .f32⟩
  | 104 => ⟨S4x4096x16x1, .f32⟩
  | 105 => ⟨S_, .f32⟩
  | 106 => ⟨S4x4096x16x1, .f32⟩
  | 107 => ⟨S4x4096x16x1, .f32⟩
  | 108 => ⟨S4x4096x16x64, .f32⟩
  | 109 => ⟨S4x4096x16x64, .f32⟩
  | 110 => ⟨S_, .f32⟩
  | 111 => ⟨S4x4096x16x1, .f32⟩
  | 112 => ⟨S4x4096x16x1, .f32⟩
  | 113 => ⟨S4x4096x16x1, .f32⟩
  | 114 => ⟨S4x4096x16x64, .f32⟩
  | 115 => ⟨S4x4096x16x64, .f32⟩
  | 116 => ⟨S4x4096x1024, .f32⟩
  | 117 => ⟨S1x1x1024, .f32⟩
  | 118 => ⟨S4x4096x1024, .f32⟩
  | 119 => ⟨S4x4096x1024, .f32⟩
  | 120 => ⟨S1x1x1024, .f32⟩
  | 121 => ⟨S4x4096x1024, .f32⟩
  | 122 => ⟨S4x4096x1024, .f32⟩
  | 123 => ⟨S4x4096x16x64, .f32⟩
  | 124 => ⟨S4x4096x16x64, .f32⟩
  | 125 => ⟨S1x4x4096x16x64, .f32⟩
  | 126 => ⟨S2x4x4096x16x64, .f32⟩
  | 127 => ⟨S2x4x4096x16x64, .f32⟩
  | _ => ⟨S4x4096x3072, .f32⟩

abbrev hbmTy0_1 (i : Nat) : BufTy := match i % 128 with
  | 0 => ⟨S2x4x4096x16x64, .f32⟩
  | 1 => ⟨S2x1x1x16x64, .f32⟩
  | 2 => ⟨S2x4x4096x16x64, .f32⟩
  | 3 => ⟨S2x4x4096x16x64, .f32⟩
  | 4 => ⟨S_, .f32⟩
  | 5 => ⟨S2x4x4096x16, .f32⟩
  | 6 => ⟨S2x4x4096x16x1, .f32⟩
  | 7 => ⟨S1x4x4096x16x64, .f32⟩
  | 8 => ⟨S2x4x4096x16x64, .f32⟩
  | 9 => ⟨S2x4x4096x16x64, .f32⟩
  | 10 => ⟨S2x4x4096x16x64, .f32⟩
  | 11 => ⟨S_, .f32⟩
  | 12 => ⟨S4x4096x16x64, .f32⟩
  | 13 => ⟨S4x4096x1024, .f32⟩
  | 14 => ⟨S4x4096x1024, .f32⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1x64x1024, .f32⟩
  | .local _ .vmem, ⟨7, _⟩ => ⟨S1x1x64x1024, .f32⟩
  | .local _ .vmem, ⟨8, _⟩ => ⟨S1x1x64x1024, .f32⟩
  | .local _ .vmem, ⟨9, _⟩ => ⟨S1x1x64x1024, .f32⟩
  | .local _ .vmem, ⟨10, _⟩ => ⟨S1x1x64x1024, .f32⟩
  | .local _ .vmem, ⟨11, _⟩ => ⟨S1x1x64x1024, .f32⟩
  | .local _ .vmem, ⟨12, _⟩ => ⟨S1x1x64x1024, .f32⟩
  | .local _ .vmem, ⟨13, _⟩ => ⟨S1x1x64x1024, .f32⟩
  | .local _ .vmem, ⟨14, _⟩ => ⟨S8x128x128, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_0 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_6 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_10 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_11 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_12 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 4, 1, 64], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg1.toNat, v3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg1.toNat, v3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg1.toNat, v3.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg0.toNat, arg1.toNat, v3.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg0.toNat, arg1.toNat, v3.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg0.toNat, arg1.toNat, v3.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c63_i32 : BitVec 32 := 63#32
  let v1 : BitVec 32 := Scalar.subi c63_i32 v0
  let v2 : BitVec 32 := Scalar.muli arg0 v1
  let v3 : BitVec 32 := Scalar.addi arg3 v2
  let c0_i32 : BitVec 32 := 0#32
  ![arg0.toNat, arg1.toNat, v3.toNat, arg2.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== Reference5Ideal.lean ====
abbrev S4x4096x3072 : Shape := ⟨3, ![4, 4096, 3072]⟩
abbrev S4x4096x416 : Shape := ⟨3, ![4, 4096, 416]⟩
abbrev S2x1024 : Shape := ⟨2, ![2, 1024]⟩
abbrev S2x64x1024 : Shape := ⟨3, ![2, 64, 1024]⟩
abbrev S1024 : Shape := ⟨1, ![1024]⟩
abbrev S2x16x64 : Shape := ⟨3, ![2, 16, 64]⟩
abbrev S4x4096x1024 : Shape := ⟨3, ![4, 4096, 1024]⟩
abbrev S4x4096x128 : Shape := ⟨3, ![4, 4096, 128]⟩
abbrev S4x4096x2x64 : Shape := ⟨4, ![4, 4096, 2, 64]⟩
abbrev S2x1x1x1024 : Shape := ⟨4, ![2, 1, 1, 1024]⟩
abbrev S2x4x4096x1024 : Shape := ⟨4, ![2, 4, 4096, 1024]⟩
abbrev S_ : Shape := ⟨0, ![]⟩
abbrev S1x1x1024 : Shape := ⟨3, ![1, 1, 1024]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x4x4096x1024 : Shape := ⟨4, ![1, 4, 4096, 1024]⟩
abbrev S1x1x1x1024 : Shape := ⟨4, ![1, 1, 1, 1024]⟩
abbrev S2x4x4096x16x64 : Shape := ⟨5, ![2, 4, 4096, 16, 64]⟩
abbrev S4096x2x4x16x64 : Shape := ⟨5, ![4096, 2, 4, 16, 64]⟩
abbrev S2x4x16x64x64 : Shape := ⟨5, ![2, 4, 16, 64, 64]⟩
abbrev S1x2x4x16x64 : Shape := ⟨5, ![1, 2, 4, 16, 64]⟩
abbrev S2x4x16x64 : Shape := ⟨4, ![2, 4, 16, 64]⟩
abbrev S2x4x16x1x64 : Shape := ⟨5, ![2, 4, 16, 1, 64]⟩
abbrev S2x4x16x64x1 : Shape := ⟨5, ![2, 4, 16, 64, 1]⟩
abbrev S1x4x4096x16x64 : Shape := ⟨5, ![1, 4, 4096, 16, 64]⟩
abbrev S2x1x1x16x64 : Shape := ⟨5, ![2, 1, 1, 16, 64]⟩
abbrev S2x4x4096x16 : Shape := ⟨4, ![2, 4, 4096, 16]⟩
abbrev S2x4x4096x16x1 : Shape := ⟨5, ![2, 4, 4096, 16, 1]⟩

abbrev nBuf : Space → Nat
  | .hbm => 278
  | .vmem => 0
  | .smem => 0
  | _ => 0

abbrev hbmTy0_0 (i : Nat) : BufTy := match i % 128 with
  | 0 => ⟨S4x4096x3072, .f32⟩
  | 1 => ⟨S4x4096x416, .f32⟩
  | 2 => ⟨S2x1024, .f32⟩
  | 3 => ⟨S2x64x1024, .f32⟩
  | 4 => ⟨S2x1024, .f32⟩
  | 5 => ⟨S2x64x1024, .f32⟩
  | 6 => ⟨S1024, .f32⟩
  | 7 => ⟨S1024, .f32⟩
  | 8 => ⟨S2x16x64, .f32⟩
  | 9 => ⟨S1024, .f32⟩
  | 10 => ⟨S1024, .f32⟩
  | 11 => ⟨S4x4096x1024, .f32⟩
  | 12 => ⟨S4x4096x1024, .f32⟩
  | 13 => ⟨S4x4096x1024, .f32⟩
  | 14 => ⟨S4x4096x128, .f32⟩
  | 15 => ⟨S4x4096x2x64, .f32⟩
  | 16 => ⟨S4x4096x128, .f32⟩
  | 17 => ⟨S4x4096x2x64, .f32⟩
  | 18 => ⟨S2x1x1x1024, .f32⟩
  | 19 => ⟨S4x4096x2x64, .f32⟩
  | 20 => ⟨S2x4x4096x1024, .f32⟩
  | 21 => ⟨S2x4x4096x1024, .f32⟩
  | 22 => ⟨S2x4x4096x1024, .f32⟩
  | 23 => ⟨S2x4x4096x1024, .f32⟩
  | 24 => ⟨S_, .f32⟩
  | 25 => ⟨S2x4x4096x1024, .f32⟩
  | 26 => ⟨S2x4x4096x1024, .f32⟩
  | 27 => ⟨S2x4x4096x1024, .f32⟩
  | 28 => ⟨S2x4x4096x1024, .f32⟩
  | 29 => ⟨S2x4x4096x1024, .i1⟩
  | 30 => ⟨S2x4x4096x1024, .f32⟩
  | 31 => ⟨S2x4x4096x1024, .f32⟩
  | 32 => ⟨S2x4x4096x1024, .f32⟩
  | 33 => ⟨S2x4x4096x1024, .f32⟩
  | 34 => ⟨S2x4x4096x1024, .f32⟩
  | 35 => ⟨S2x4x4096x1024, .f32⟩
  | 36 => ⟨S2x4x4096x1024, .f32⟩
  | 37 => ⟨S2x4x4096x1024, .f32⟩
  | 38 => ⟨S2x4x4096x1024, .f32⟩
  | 39 => ⟨S_, .f32⟩
  | 40 => ⟨S2x4x4096x1024, .f32⟩
  | 41 => ⟨S2x4x4096x1024, .f32⟩
  | 42 => ⟨S2x4x4096x1024, .f32⟩
  | 43 => ⟨S2x4x4096x1024, .f32⟩
  | 44 => ⟨S2x4x4096x1024, .f32⟩
  | 45 => ⟨S2x1x1x1024, .f32⟩
  | 46 => ⟨S2x4x4096x1024, .f32⟩
  | 47 => ⟨S2x4x4096x1024, .f32⟩
  | 48 => ⟨S2x4x4096x1024, .f32⟩
  | 49 => ⟨S2x4x4096x1024, .f32⟩
  | 50 => ⟨S2x4x4096x1024, .f32⟩
  | 51 => ⟨S_, .f32⟩
  | 52 => ⟨S2x4x4096x1024, .f32⟩
  | 53 => ⟨S2x4x4096x1024, .f32⟩
  | 54 => ⟨S_, .f32⟩
  | 55 => ⟨S2x4x4096x1024, .f32⟩
  | 56 => ⟨S2x4x4096x1024, .f32⟩
  | 57 => ⟨S1x1x1024, .f32⟩
  | 58 => ⟨S4x4096x1024, .f32⟩
  | 59 => ⟨S4x4096x1024, .f32⟩
  | 60 => ⟨S4x4096x16x64, .f32⟩
  | 61 => ⟨S4x4096x16x64, .f32⟩
  | 62 => ⟨S_, .f32⟩
  | 63 => ⟨S4x4096x16, .f32⟩
  | 64 => ⟨S4x4096x16x1, .f32⟩
  | 65 => ⟨S4x4096x16x1, .f32⟩
  | 66 => ⟨S_, .f32⟩
  | 67 => ⟨S4x4096x16x1, .f32⟩
  | 68 => ⟨S4x4096x16x1, .f32⟩
  | 69 => ⟨S4x4096x16x64, .f32⟩
  | 70 => ⟨S4x4096x16x64, .f32⟩
  | 71 => ⟨S4x4096x1024, .f32⟩
  | 72 => ⟨S1x4x4096x1024, .f32⟩
  | 73 => ⟨S_, .f32⟩
  | 74 => ⟨S2x4x4096x1024, .f32⟩
  | 75 => ⟨S2x4x4096x1024, .f32⟩
  | 76 => ⟨S1x1x1x1024, .f32⟩
  | 77 => ⟨S2x4x4096x1024, .f32⟩
  | 78 => ⟨S2x4x4096x1024, .f32⟩
  | 79 => ⟨S_, .f32⟩
  | 80 => ⟨S2x4x4096x1024, .f32⟩
  | 81 => ⟨S2x4x4096x1024, .f32⟩
  | 82 => ⟨S2x4x4096x1024, .f32⟩
  | 83 => ⟨S2x4x4096x1024, .f32⟩
  | 84 => ⟨S1x4x4096x1024, .f32⟩
  | 85 => ⟨S2x4x4096x1024, .f32⟩
  | 86 => ⟨S2x4x4096x1024, .f32⟩
  | 87 => ⟨S4x4096x1024, .f32⟩
  | 88 => ⟨S1x4x4096x1024, .f32⟩
  | 89 => ⟨S1x4x4096x1024, .f32⟩
  | 90 => ⟨S2x4x4096x1024, .f32⟩
  | 91 => ⟨S2x4x4096x16x64, .f32⟩
  | 92 => ⟨S4096x2x4x16x64, .f32⟩
  | 93 => ⟨S1x4x4096x1024, .f32⟩
  | 94 => ⟨S4x4096x1024, .f32⟩
  | 95 => ⟨S1x4x4096x1024, .f32⟩
  | 96 => ⟨S4x4096x1024, .f32⟩
  | 97 => ⟨S4x4096x1024, .f32⟩
  | 98 => ⟨S1x4x4096x1024, .f32⟩
  | 99 => ⟨S1x4x4096x1024, .f32⟩
  | 100 => ⟨S2x4x4096x1024, .f32⟩
  | 101 => ⟨S2x4x4096x16x64, .f32⟩
  | 102 => ⟨S4096x2x4x16x64, .f32⟩
  | 103 => ⟨S1x4x4096x1024, .f32⟩
  | 104 => ⟨S4x4096x1024, .f32⟩
  | 105 => ⟨S1x4x4096x1024, .f32⟩
  | 106 => ⟨S4x4096x1024, .f32⟩
  | 107 => ⟨S4x4096x1024, .f32⟩
  | 108 => ⟨S1x4x4096x1024, .f32⟩
  | 109 => ⟨S1x4x4096x1024, .f32⟩
  | 110 => ⟨S2x4x4096x1024, .f32⟩
  | 111 => ⟨S2x4x4096x16x64, .f32⟩
  | 112 => ⟨S4096x2x4x16x64, .f32⟩
  | 113 => ⟨S4x4096x1024, .f32⟩
  | 114 => ⟨S1x4x4096x1024, .f32⟩
  | 115 => ⟨S1x4x4096x1024, .f32⟩
  | 116 => ⟨S2x4x4096x1024, .f32⟩
  | 117 => ⟨S2x4x4096x16x64, .f32⟩
  | 118 => ⟨S4096x2x4x16x64, .f32⟩
  | 119 => ⟨S4x4096x1024, .f32⟩
  | 120 => ⟨S1x4x4096x1024, .f32⟩
  | 121 => ⟨S1x4x4096x1024, .f32⟩
  | 122 => ⟨S2x4x4096x1024, .f32⟩
  | 123 => ⟨S2x4x4096x16x64, .f32⟩
  | 124 => ⟨S4096x2x4x16x64, .f32⟩
  | 125 => ⟨S1x4x4096x1024, .f32⟩
  | 126 => ⟨S4x4096x1024, .f32⟩
  | 127 => ⟨S1x4x4096x1024, .f32⟩
  | _ => ⟨S4x4096x3072, .f32⟩

abbrev hbmTy0_1 (i : Nat) : BufTy := match i % 128 with
  | 0 => ⟨S4x4096x1024, .f32⟩
  | 1 => ⟨S4x4096x1024, .f32⟩
  | 2 => ⟨S1x4x4096x1024, .f32⟩
  | 3 => ⟨S1x4x4096x1024, .f32⟩
  | 4 => ⟨S2x4x4096x1024, .f32⟩
  | 5 => ⟨S2x4x4096x16x64, .f32⟩
  | 6 => ⟨S4096x2x4x16x64, .f32⟩
  | 7 => ⟨S_, .f32⟩
  | 8 => ⟨S2x4x16x64x64, .f32⟩
  | 9 => ⟨S_, .f32⟩
  | 10 => ⟨S4096x2x4x16x64, .f32⟩
  | 11 => ⟨S_, .i32⟩
  | 12 => ⟨S4096x2x4x16x64, .f32⟩
  | 13 => ⟨S4096x2x4x16x64, .f32⟩
  | 14 => ⟨S4096x2x4x16x64, .f32⟩
  | 15 => ⟨S4096x2x4x16x64, .f32⟩
  | 16 => ⟨S4096x2x4x16x64, .f32⟩
  | 17 => ⟨S4096x2x4x16x64, .f32⟩
  | 18 => ⟨S_, .i32⟩
  | 19 => ⟨S2x4x16x64x64, .f32⟩
  | 20 => ⟨S4096x2x4x16x64, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x2x4x16x64, .f32⟩
  | 28 => ⟨S2x4x16x64, .f32⟩
  | 29 => ⟨S_, .i32⟩
  | 30 => ⟨S_, .i32⟩
  | 31 => ⟨S_, .i32⟩
  | 32 => ⟨S_, .i32⟩
  | 33 => ⟨S1x2x4x16x64, .f32⟩
  | 34 => ⟨S2x4x16x64, .f32⟩
  | 35 => ⟨S_, .i32⟩
  | 36 => ⟨S_, .i32⟩
  | 37 => ⟨S_, .i32⟩
  | 38 => ⟨S_, .i32⟩
  | 39 => ⟨S1x2x4x16x64, .f32⟩
  | 40 => ⟨S2x4x16x64, .f32⟩
  | 41 => ⟨S_, .i32⟩
  | 42 => ⟨S_, .i32⟩
  | 43 => ⟨S_, .i32⟩
  | 44 => ⟨S_, .i32⟩
  | 45 => ⟨S1x2x4x16x64, .f32⟩
  | 46 => ⟨S2x4x16x64, .f32⟩
  | 47 => ⟨S_, .i32⟩
  | 48 => ⟨S_, .i32⟩
  | 49 => ⟨S_, .i32⟩
  | 50 => ⟨S_, .i32⟩
  | 51 => ⟨S1x2x4x16x64, .f32⟩
  | 52 => ⟨S2x4x16x64, .f32⟩
  | 53 => ⟨S_, .i32⟩
  | 54 => ⟨S_, .i32⟩
  | 55 => ⟨S_, .i32⟩
  | 56 => ⟨S_, .i32⟩
  | 57 => ⟨S1x2x4x16x64, .f32⟩
  | 58 => ⟨S2x4x16x64, .f32⟩
  | 59 => ⟨S2x4x16x64, .f32⟩
  | 60 => ⟨S2x4x16x1x64, .f32⟩
  | 61 => ⟨S2x4x16x64x64, .f32⟩
  | 62 => ⟨S2x4x16x64x64, .f32⟩
  | 63 => ⟨S2x4x16x64x1, .f32⟩
  | 64 => ⟨S2x4x16x1x64, .f32⟩
  | 65 => ⟨S2x4x16x64x64, .f32⟩
  | 66 => ⟨S2x4x16x64x64, .f32⟩
  | 67 => ⟨S2x4x16x64x64, .f32⟩
  | 68 => ⟨S2x4x16x64x64, .f32⟩
  | 69 => ⟨S2x4x16x64x1, .f32⟩
  | 70 => ⟨S2x4x16x1x64, .f32⟩
  | 71 => ⟨S2x4x16x64x64, .f32⟩
  | 72 => ⟨S2x4x16x64x64, .f32⟩
  | 73 => ⟨S2x4x16x64x64, .f32⟩
  | 74 => ⟨S2x4x16x64x64, .f32⟩
  | 75 => ⟨S2x4x16x64, .f32⟩
  | 76 => ⟨S1x2x4x16x64, .f32⟩
  | 77 => ⟨S_, .i32⟩
  | 78 => ⟨S_, .i32⟩
  | 79 => ⟨S_, .i32⟩
  | 80 => ⟨S_, .i32⟩
  | 81 => ⟨S4096x2x4x16x64, .f32⟩
  | 82 => ⟨S_, .i32⟩
  | 83 => ⟨S_, .i32⟩
  | 84 => ⟨S2x4x4096x16x64, .f32⟩
  | 85 => ⟨S2x4x4096x1024, .f32⟩
  | 86 => ⟨S1x4x4096x1024, .f32⟩
  | 87 => ⟨S4x4096x1024, .f32⟩
  | 88 => ⟨S1x4x4096x1024, .f32⟩
  | 89 => ⟨S4x4096x1024, .f32⟩
  | 90 => ⟨S4x4096x1024, .f32⟩
  | 91 => ⟨S1x4x4096x1024, .f32⟩
  | 92 => ⟨S1x4x4096x1024, .f32⟩
  | 93 => ⟨S2x4x4096x1024, .f32⟩
  | 94 => ⟨S1x4x4096x1024, .f32⟩
  | 95 => ⟨S4x4096x1024, .f32⟩
  | 96 => ⟨S1x4x4096x1024, .f32⟩
  | 97 => ⟨S4x4096x1024, .f32⟩
  | 98 => ⟨S4x4096x1024, .f32⟩
  | 99 => ⟨S4x4096x16x64, .f32⟩
  | 100 => ⟨S_, .f32⟩
  | 101 => ⟨S4x4096x16, .f32⟩
  | 102 => ⟨S4x4096x16x1, .f32⟩
  | 103 => ⟨S_, .f32⟩
  | 104 => ⟨S4x4096x16x1, .f32⟩
  | 105 => ⟨S4x4096x16x1, .f32⟩
  | 106 => ⟨S4x4096x16x64, .f32⟩
  | 107 => ⟨S4x4096x16x64, .f32⟩
  | 108 => ⟨S4x4096x16x64, .f32⟩
  | 109 => ⟨S_, .f32⟩
  | 110 => ⟨S4x4096x16, .f32⟩
  | 111 => ⟨S4x4096x16x1, .f32⟩
  | 112 => ⟨S_, .f32⟩
  | 113 => ⟨S4x4096x16x1, .f32⟩
  | 114 => ⟨S4x4096x16x1, .f32⟩
  | 115 => ⟨S4x4096x16x64, .f32⟩
  | 116 => ⟨S4x4096x16x64, .f32⟩
  | 117 => ⟨S_, .f32⟩
  | 118 => ⟨S4x4096x16x1, .f32⟩
  | 119 => ⟨S4x4096x16x1, .f32⟩
  | 120 => ⟨S4x4096x16x1, .f32⟩
  | 121 => ⟨S4x4096x16x64, .f32⟩
  | 122 => ⟨S4x4096x16x64, .f32⟩
  | 123 => ⟨S4x4096x1024, .f32⟩
  | 124 => ⟨S1x1x1024, .f32⟩
  | 125 => ⟨S4x4096x1024, .f32⟩
  | 126 => ⟨S4x4096x1024, .f32⟩
  | 127 => ⟨S1x1x1024, .f32⟩
  | _ => ⟨S4x4096x3072, .f32⟩

abbrev hbmTy0_2 (i : Nat) : BufTy := match i % 128 with
  | 0 => ⟨S4x4096x1024, .f32⟩
  | 1 => ⟨S4x4096x1024, .f32⟩
  | 2 => ⟨S4x4096x16x64, .f32⟩
  | 3 => ⟨S4x4096x16x64, .f32⟩
  | 4 => ⟨S1x4x4096x16x64, .f32⟩
  | 5 => ⟨S2x4x4096x16x64, .f32⟩
  | 6 => ⟨S2x4x4096x16x64, .f32⟩
  | 7 => ⟨S2x4x4096x16x64, .f32⟩
  | 8 => ⟨S2x1x1x16x64, .f32⟩
  | 9 => ⟨S2x4x4096x16x64, .f32⟩
  | 10 => ⟨S2x4x4096x16x64, .f32⟩
  | 11 => ⟨S_, .f32⟩
  | 12 => ⟨S2x4x4096x16, .f32⟩
  | 13 => ⟨S2x4x4096x16x1, .f32⟩
  | 14 => ⟨S1x4x4096x16x64, .f32⟩
  | 15 => ⟨S2x4x4096x16x64, .f32⟩
  | 16 => ⟨S2x4x4096x16x64, .f32⟩
  | 17 => ⟨S2x4x4096x16x64, .f32⟩
  | 18 => ⟨S_, .f32⟩
  | 19 => ⟨S4x4096x16x64, .f32⟩
  | 20 => ⟨S4x4096x1024, .f32⟩
  | 21 => ⟨S4x4096x1024, .f32⟩
  | _ => ⟨S4x4096x3072, .f32⟩

abbrev hbmTy (i : Nat) : BufTy := match i / 128 with
  | 0 => hbmTy0_0 i
  | 1 => hbmTy0_1 i
  | 2 => hbmTy0_2 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_0 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_4 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_6 : Ref sig .tc := ⟨.hbm, 135, rfl⟩
abbrev main_v104 : Ref sig .tc := ⟨.hbm, 136, rfl⟩
abbrev main_cst_7 : Ref sig .tc := ⟨.hbm, 137, rfl⟩
abbrev main_v105 : Ref sig .tc := ⟨.hbm, 138, rfl⟩
abbrev main_c : Ref sig .tc := ⟨.hbm, 139, rfl⟩
abbrev main_v106_0 : Ref sig .tc := ⟨.hbm, 140, rfl⟩
abbrev main_v106_1 : Ref sig .tc := ⟨.hbm, 141, rfl⟩
abbrev main_v106_2 : Ref sig .tc := ⟨.hbm, 142, rfl⟩
abbrev main_v106_3 : Ref sig .tc := ⟨.hbm, 143, rfl⟩
abbrev main_v106_4 : Ref sig .tc := ⟨.hbm, 144, rfl⟩
abbrev main_v106_5 : Ref sig .tc := ⟨.hbm, 145, rfl⟩
abbrev main_v106_6 : Ref sig .tc := ⟨.hbm, 146, rfl⟩
abbrev main_v106_7 : Ref sig .tc := ⟨.hbm, 147, rfl⟩
abbrev main_v106_8 : Ref sig .tc := ⟨.hbm, 148, rfl⟩
abbrev main_while0c_c_23 : Ref sig .tc := ⟨.hbm, 149, rfl⟩
abbrev main_while0c_v166 : Ref sig .tc := ⟨.hbm, 150, rfl⟩
abbrev main_while0b_call1_c : Ref sig .tc := ⟨.hbm, 151, rfl⟩
abbrev main_while0b_call1_c_0 : Ref sig .tc := ⟨.hbm, 152, rfl⟩
abbrev main_while0b_call1_c_1 : Ref sig .tc := ⟨.hbm, 153, rfl⟩
abbrev main_while0b_call1_c_2 : Ref sig .tc := ⟨.hbm, 154, rfl⟩
abbrev main_while0b_call1_v0 : Ref sig .tc := ⟨.hbm, 155, rfl⟩
abbrev main_while0b_v166 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_c_1 : Ref sig .tc := ⟨.hbm, 159, rfl⟩
abbrev main_while0b_call2_c_2 : Ref sig .tc := ⟨.hbm, 160, rfl⟩
abbrev main_while0b_call2_v0 : Ref sig .tc := ⟨.hbm, 161, rfl⟩
abbrev main_while0b_v167 : Ref sig .tc := ⟨.hbm, 162, rfl⟩
abbrev main_while0b_call3_c : Ref sig .tc := ⟨.hbm, 163, rfl⟩
abbrev main_while0b_call3_c_0 : Ref sig .tc := ⟨.hbm, 164, rfl⟩
abbrev main_while0b_call3_c_1 : Ref sig .tc := ⟨.hbm, 165, rfl⟩
abbrev main_while0b_call3_c_2 : Ref sig .tc := ⟨.hbm, 166, rfl⟩
abbrev main_while0b_call3_v0 : Ref sig .tc := ⟨.hbm, 167, rfl⟩
abbrev main_while0b_v168 : Ref sig .tc := ⟨.hbm, 168, rfl⟩
abbrev main_while0b_call4_c : Ref sig .tc := ⟨.hbm, 169, rfl⟩
abbrev main_while0b_call4_c_0 : Ref sig .tc := ⟨.hbm, 170, rfl⟩
abbrev main_while0b_call4_c_1 : Ref sig .tc := ⟨.hbm, 171, rfl⟩
abbrev main_while0b_call4_c_2 : Ref sig .tc := ⟨.hbm, 172, rfl⟩
abbrev main_while0b_call4_v0 : Ref sig .tc := ⟨.hbm, 173, rfl⟩
abbrev main_while0b_v169 : Ref sig .tc := ⟨.hbm, 174, rfl⟩
abbrev main_while0b_call5_c : Ref sig .tc := ⟨.hbm, 175, rfl⟩
abbrev main_while0b_call5_c_0 : Ref sig .tc := ⟨.hbm, 176, rfl⟩
abbrev main_while0b_call5_c_1 : Ref sig .tc := ⟨.hbm, 177, rfl⟩
abbrev main_while0b_call5_c_2 : Ref sig .tc := ⟨.hbm, 178, rfl⟩
abbrev main_while0b_call5_v0 : Ref sig .tc := ⟨.hbm, 179, rfl⟩
abbrev main_while0b_v170 : Ref sig .tc := ⟨.hbm, 180, rfl⟩
abbrev main_while0b_call6_c : Ref sig .tc := ⟨.hbm, 181, rfl⟩
abbrev main_while0b_call6_c_0 : Ref sig .tc := ⟨.hbm, 182, rfl⟩
abbrev main_while0b_call6_c_1 : Ref sig .tc := ⟨.hbm, 183, rfl⟩
abbrev main_while0b_call6_c_2 : Ref sig .tc := ⟨.hbm, 184, rfl⟩
abbrev main_while0b_call6_v0 : Ref sig .tc := ⟨.hbm, 185, rfl⟩
abbrev main_while0b_v171 : Ref sig .tc := ⟨.hbm, 186, rfl⟩
abbrev main_while0b_v172 : Ref sig .tc := ⟨.hbm, 187, rfl⟩
abbrev main_while0b_v173 : Ref sig .tc := ⟨.hbm, 188, rfl⟩
abbrev main_while0b_v174 : Ref sig .tc := ⟨.hbm, 189, rfl⟩
abbrev main_while0b_v175 : Ref sig .tc := ⟨.hbm, 190, rfl⟩
abbrev main_while0b_v176 : Ref sig .tc := ⟨.hbm, 191, rfl⟩
abbrev main_while0b_v177 : Ref sig .tc := ⟨.hbm, 192, rfl⟩
abbrev main_while0b_v178 : Ref sig .tc := ⟨.hbm, 193, rfl⟩
abbrev main_while0b_v179 : Ref sig .tc := ⟨.hbm, 194, rfl⟩
abbrev main_while0b_v180 : Ref sig .tc := ⟨.hbm, 195, rfl⟩
abbrev main_while0b_v181 : Ref sig .tc := ⟨.hbm, 196, rfl⟩
abbrev main_while0b_v182 : Ref sig .tc := ⟨.hbm, 197, rfl⟩
abbrev main_while0b_v183 : Ref sig .tc := ⟨.hbm, 198, rfl⟩
abbrev main_while0b_v184 : Ref sig .tc := ⟨.hbm, 199, rfl⟩
abbrev main_while0b_v185 : Ref sig .tc := ⟨.hbm, 200, rfl⟩
abbrev main_while0b_v186 : Ref sig .tc := ⟨.hbm, 201, rfl⟩
abbrev main_while0b_v187 : Ref sig .tc := ⟨.hbm, 202, rfl⟩
abbrev main_while0b_v188 : Ref sig .tc := ⟨.hbm, 203, rfl⟩
abbrev main_while0b_call7_v0 : Ref sig .tc := ⟨.hbm, 204, rfl⟩
abbrev main_while0b_call7_c : Ref sig .tc := ⟨.hbm, 205, rfl⟩
abbrev main_while0b_call7_c_0 : Ref sig .tc := ⟨.hbm, 206, rfl⟩
abbrev main_while0b_call7_c_1 : Ref sig .tc := ⟨.hbm, 207, rfl⟩
abbrev main_while0b_call7_c_2 : Ref sig .tc := ⟨.hbm, 208, rfl⟩
abbrev main_while0b_v189 : Ref sig .tc := ⟨.hbm, 209, rfl⟩
abbrev main_while0b_c_23 : Ref sig .tc := ⟨.hbm, 210, rfl⟩
abbrev main_while0b_v190 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_cst_8 : Ref sig .tc := ⟨.hbm, 228, rfl⟩
abbrev main_v123 : Ref sig .tc := ⟨.hbm, 229, rfl⟩
abbrev main_v124 : Ref sig .tc := ⟨.hbm, 230, rfl⟩
abbrev main_cst_9 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_cst_10 : Ref sig .tc := ⟨.hbm, 237, rfl⟩
abbrev main_v130 : Ref sig .tc := ⟨.hbm, 238, rfl⟩
abbrev main_v131 : Ref sig .tc := ⟨.hbm, 239, rfl⟩
abbrev main_cst_11 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_cst_12 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_cst_13 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_cst_14 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩

abbrev nD : Nat := 1
abbrev τ : Topo := Topo.v7x

variable {F : FTy → Type} [FloatOps F]

abbrev main_while0_count : Scf.Loop 32 := ⟨0#32, 4096#32, 1#32⟩
-- ==== Kernel6.lean ====
abbrev S4x4096x1024 : Shape := ⟨3, ![4, 4096, 1024]⟩
abbrev S4x4096x416 : Shape := ⟨3, ![4, 4096, 416]⟩
abbrev S160x1024 : Shape := ⟨2, ![160, 1024]⟩
abbrev S4x4096x160 : Shape := ⟨3, ![4, 4096, 160]⟩
abbrev S_ : Shape := ⟨0, ![]⟩
abbrev S16384x160 : Shape := ⟨2, ![16384, 160]⟩
abbrev S16384x1024 : Shape := ⟨2, ![16384, 1024]⟩
abbrev S1024x160 : Shape := ⟨2, ![1024, 160]⟩
abbrev S160x512 : Shape := ⟨2, ![160, 512]⟩
abbrev S1024x512 : Shape := ⟨2, ![1024, 512]⟩

abbrev nBuf : Space → Nat
  | .hbm => 18
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4x4096x416, .f32⟩
  | .hbm, ⟨2, _⟩ => ⟨S160x1024, .f32⟩
  | .hbm, ⟨3, _⟩ => ⟨S4x4096x160, .f32⟩
  | .hbm, ⟨4, _⟩ => ⟨S4x4096x160, .f32⟩
  | .hbm, ⟨5, _⟩ => ⟨S4x4096x160, .f32⟩
  | .hbm, ⟨6, _⟩ => ⟨S_, .f32⟩
  | .hbm, ⟨7, _⟩ => ⟨S4x4096x160, .f32⟩
  | .hbm, ⟨8, _⟩ => ⟨S4x4096x160, .f32⟩
  | .hbm, ⟨9, _⟩ => ⟨S_, .f32⟩
  | .hbm, ⟨10, _⟩ => ⟨S4x4096x160, .f32⟩
  | .hbm, ⟨11, _⟩ => ⟨S4x4096x160, .f32⟩
  | .hbm, ⟨12, _⟩ => ⟨S160x1024, .bf16⟩
  | .hbm, ⟨13, _⟩ => ⟨S16384x160, .f32⟩
  | .hbm, ⟨14, _⟩ => ⟨S16384x160, .bf16⟩
  | .hbm, ⟨15, _⟩ => ⟨S16384x1024, .f32⟩
  | .hbm, ⟨16, _⟩ => ⟨S4x4096x1024, .f32⟩
  | .hbm, ⟨17, _⟩ => ⟨S4x4096x1024, .f32⟩
  | .local _ .vmem, ⟨0, _⟩ => ⟨S1024x160, .bf16⟩
  | .local _ .vmem, ⟨1, _⟩ => ⟨S1024x160, .bf16⟩
  | .local _ .vmem, ⟨2, _⟩ => ⟨S160x512, .bf16⟩
  | .local _ .vmem, ⟨3, _⟩ => ⟨S160x512, .bf16⟩
  | .local _ .vmem, ⟨4, _⟩ => ⟨S1024x512, .f32⟩
  | .local _ .vmem, ⟨5, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
abbrev S4x4096x1024 : Shape := ⟨3, ![4, 4096, 1024]⟩
abbrev S4x4096x416 : Shape := ⟨3, ![4, 4096, 416]⟩
abbrev S160x1024 : Shape := ⟨2, ![160, 1024]⟩
abbrev S4x4096x160 : Shape := ⟨3, ![4, 4096, 160]⟩
abbrev S_ : Shape := ⟨0, ![]⟩
abbrev S16384x160 : Shape := ⟨2, ![16384, 160]⟩
abbrev S16384x1024 : Shape := ⟨2, ![16384, 1024]⟩
abbrev S1024x160 : Shape := ⟨2, ![1024, 160]⟩
abbrev S160x512 : Shape := ⟨2, ![160, 512]⟩
abbrev S1024x512 : Shape := ⟨2, ![1024, 512]⟩

abbrev nBuf : Space → Nat
  | .hbm => 18
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4x4096x416, .f32⟩
  | .hbm, ⟨2, _⟩ => ⟨S160x1024, .f32⟩
  | .hbm, ⟨3, _⟩ => ⟨S4x4096x160, .f32⟩
  | .hbm, ⟨4, _⟩ => ⟨S4x4096x160, .f32⟩
  | .hbm, ⟨5, _⟩ => ⟨S4x4096x160, .f32⟩
  | .hbm, ⟨6, _⟩ => ⟨S_, .f32⟩
  | .hbm, ⟨7, _⟩ => ⟨S4x4096x160, .f32⟩
  | .hbm, ⟨8, _⟩ => ⟨S4x4096x160, .f32⟩
  | .hbm, ⟨9, _⟩ => ⟨S_, .f32⟩
  | .hbm, ⟨10, _⟩ => ⟨S4x4096x160, .f32⟩
  | .hbm, ⟨11, _⟩ => ⟨S4x4096x160, .f32⟩
  | .hbm, ⟨12, _⟩ => ⟨S160x1024, .bf16⟩
  | .hbm, ⟨13, _⟩ => ⟨S16384x160, .f32⟩
  | .hbm, ⟨14, _⟩ => ⟨S16384x160, .bf16⟩
  | .hbm, ⟨15, _⟩ => ⟨S16384x1024, .f32⟩
  | .hbm, ⟨16, _⟩ => ⟨S4x4096x1024, .f32⟩
  | .hbm, ⟨17, _⟩ => ⟨S4x4096x1024, .f32⟩
  | .local _ .vmem, ⟨0, _⟩ => ⟨S1024x160, .bf16⟩
  | .local _ .vmem, ⟨1, _⟩ => ⟨S1024x160, .bf16⟩
  | .local _ .vmem, ⟨2, _⟩ => ⟨S160x512, .bf16⟩
  | .local _ .vmem, ⟨3, _⟩ => ⟨S160x512, .bf16⟩
  | .local _ .vmem, ⟨4, _⟩ => ⟨S1024x512, .f32⟩
  | .local _ .vmem, ⟨5, _⟩ => ⟨S1024x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x1024 : Shape := ⟨3, ![4, 4096, 1024]⟩
abbrev S4x4096x416 : Shape := ⟨3, ![4, 4096, 416]⟩
abbrev S160x1024 : Shape := ⟨2, ![160, 1024]⟩
abbrev S4x4096x160 : Shape := ⟨3, ![4, 4096, 160]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x416, .f32⟩
  | .hbm, ⟨2, _⟩ => ⟨S160x1024, .f32⟩
  | .hbm, ⟨3, _⟩ => ⟨S4x4096x160, .f32⟩
  | .hbm, ⟨4, _⟩ => ⟨S4x4096x160, .f32⟩
  | .hbm, ⟨5, _⟩ => ⟨S4x4096x160, .f32⟩
  | .hbm, ⟨6, _⟩ => ⟨S_, .f32⟩
  | .hbm, ⟨7, _⟩ => ⟨S4x4096x160, .f32⟩
  | .hbm, ⟨8, _⟩ => ⟨S4x4096x160, .f32⟩
  | .hbm, ⟨9, _⟩ => ⟨S_, .f32⟩
  | .hbm, ⟨10, _⟩ => ⟨S4x4096x160, .f32⟩
  | .hbm, ⟨11, _⟩ => ⟨S4x4096x160, .f32⟩
  | .hbm, ⟨12, _⟩ => ⟨S4x4096x1024, .f32⟩
  | .hbm, ⟨13, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S16x2048x2048 : Shape := ⟨3, ![16, 2048, 2048]⟩
abbrev S2048x16 : Shape := ⟨2, ![2048, 16]⟩
abbrev S16x2048x4096 : Shape := ⟨3, ![16, 2048, 4096]⟩
abbrev S16x4096x2048 : Shape := ⟨3, ![16, 4096, 2048]⟩
abbrev S2048 : Shape := ⟨1, ![2048]⟩
abbrev S32768x2048 : Shape := ⟨2, ![32768, 2048]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S16x32768 : Shape := ⟨2, ![16, 32768]⟩
abbrev S16x4096 : Shape := ⟨2, ![16, 4096]⟩
abbrev S16x4096x1 : Shape := ⟨3, ![16, 4096, 1]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S65536 : Shape := ⟨1, ![65536]⟩
abbrev S65536x2048 : Shape := ⟨2, ![65536, 2048]⟩
abbrev S65536x1 : Shape := ⟨2, ![65536, 1]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 87
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S2048x16, .f32⟩
  | .hbm, ⟨2, _⟩ => ⟨S16x2048x4096, .f32⟩
  | .hbm, ⟨3, _⟩ => ⟨S16x2048x4096, .f32⟩
  | .hbm, ⟨4, _⟩ => ⟨S16x4096x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x16, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x16, .f32⟩
  | .hbm, ⟨16, _⟩ => ⟨S32768x16, .f32⟩
  | .hbm, ⟨17, _⟩ => ⟨S32768x16, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x16, .f32⟩
  | .hbm, ⟨22, _⟩ => ⟨S32768x16, .f32⟩
  | .hbm, ⟨23, _⟩ => ⟨S16x32768, .f32⟩
  | .hbm, ⟨24, _⟩ => ⟨S16x4096, .f32⟩
  | .hbm, ⟨25, _⟩ => ⟨S16x4096, .i32⟩
  | .hbm, ⟨26, _⟩ => ⟨S32768x2048, .bf16⟩
  | .hbm, ⟨27, _⟩ => ⟨S_, .i32⟩
  | .hbm, ⟨28, _⟩ => ⟨S16x4096, .i32⟩
  | .hbm, ⟨29, _⟩ => ⟨S16x4096, .i1⟩
  | .hbm, ⟨30, _⟩ => ⟨S_, .i32⟩
  | .hbm, ⟨31, _⟩ => ⟨S16x4096, .i32⟩
  | .hbm, ⟨32, _⟩ => ⟨S16x4096, .i32⟩
  | .hbm, ⟨33, _⟩ => ⟨S16x4096, .i32⟩
  | .hbm, ⟨34, _⟩ => ⟨S16x4096x1, .i32⟩
  | .hbm, ⟨35, _⟩ => ⟨S16x4096x2048, .bf16⟩
  | .hbm, ⟨36, _⟩ => ⟨S16x4096x2048, .f32⟩
  | .hbm, ⟨37, _⟩ => ⟨S16x4096x1, .f32⟩
  | .hbm, ⟨38, _⟩ => ⟨S16x4096x2048, .f32⟩
  | .hbm, ⟨39, _⟩ => ⟨S16x4096x2048, .f32⟩
  | .hbm, ⟨40, _⟩ => ⟨S_, .f32⟩
  | .hbm, ⟨41, _⟩ => ⟨S32768x2048, .f32⟩
  | .hbm, ⟨42, _⟩ => ⟨S65536, .i32⟩
  | .hbm, ⟨43, _⟩ => ⟨S65536x2048, .f32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S65536x1, .i32⟩
  | .hbm, ⟨52, _⟩ => ⟨S32768x2048, .f32⟩
  | .hbm, ⟨53, _⟩ => ⟨S16x2048x2048, .f32⟩
  | .hbm, ⟨54, _⟩ => ⟨S_, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1, .f32⟩
  | .hbm, ⟨79, _⟩ => ⟨S16x2048x2048, .f32⟩
  | .hbm, ⟨80, _⟩ => ⟨S16x2048x2048, .f32⟩
  | .hbm, ⟨81, _⟩ => ⟨S1x1x2048, .f32⟩
  | .hbm, ⟨82, _⟩ => ⟨S16x2048x2048, .f32⟩
  | .hbm, ⟨83, _⟩ => ⟨S16x2048x2048, .f32⟩
  | .hbm, ⟨84, _⟩ => ⟨S1x1x2048, .f32⟩
  | .hbm, ⟨85, _⟩ => ⟨S16x2048x2048, .f32⟩
  | .hbm, ⟨86, _⟩ => ⟨S16x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S16x2048x2048 : Shape := ⟨3, ![16, 2048, 2048]⟩
abbrev S2048x16 : Shape := ⟨2, ![2048, 16]⟩
abbrev S16x2048x4096 : Shape := ⟨3, ![16, 2048, 4096]⟩
abbrev S16x4096x2048 : Shape := ⟨3, ![16, 4096, 2048]⟩
abbrev S2048 : Shape := ⟨1, ![2048]⟩
abbrev S32768x2048 : Shape := ⟨2, ![32768, 2048]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S16x32768 : Shape := ⟨2, ![16, 32768]⟩
abbrev S16x4096 : Shape := ⟨2, ![16, 4096]⟩
abbrev S16x4096x1 : Shape := ⟨3, ![16, 4096, 1]⟩
abbrev S16x4096x4096 : Shape := ⟨3, ![16, 4096, 4096]⟩
abbrev S65536 : Shape := ⟨1, ![65536]⟩
abbrev S65536x2048 : Shape := ⟨2, ![65536, 2048]⟩
abbrev S65536x1 : Shape := ⟨2, ![65536, 1]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x16, .f32⟩
  | .hbm, ⟨2, _⟩ => ⟨S16x2048x4096, .f32⟩
  | .hbm, ⟨3, _⟩ => ⟨S16x2048x4096, .f32⟩
  | .hbm, ⟨4, _⟩ => ⟨S16x4096x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x16, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x16, .f32⟩
  | .hbm, ⟨16, _⟩ => ⟨S32768x16, .f32⟩
  | .hbm, ⟨17, _⟩ => ⟨S32768x16, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x16, .f32⟩
  | .hbm, ⟨22, _⟩ => ⟨S32768x16, .f32⟩
  | .hbm, ⟨23, _⟩ => ⟨S16x32768, .f32⟩
  | .hbm, ⟨24, _⟩ => ⟨S16x4096, .f32⟩
  | .hbm, ⟨25, _⟩ => ⟨S16x4096, .i32⟩
  | .hbm, ⟨26, _⟩ => ⟨S_, .i32⟩
  | .hbm, ⟨27, _⟩ => ⟨S16x4096, .i32⟩
  | .hbm, ⟨28, _⟩ => ⟨S16x4096, .i1⟩
  | .hbm, ⟨29, _⟩ => ⟨S_, .i32⟩
  | .hbm, ⟨30, _⟩ => ⟨S16x4096, .i32⟩
  | .hbm, ⟨31, _⟩ => ⟨S16x4096, .i32⟩
  | .hbm, ⟨32, _⟩ => ⟨S16x4096, .i32⟩
  | .hbm, ⟨33, _⟩ => ⟨S16x4096x1, .i32⟩
  | .hbm, ⟨34, _⟩ => ⟨S16x4096x2048, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S16x4096x2048, .f32⟩
  | .hbm, ⟨48, _⟩ => ⟨S16x4096x1, .f32⟩
  | .hbm, ⟨49, _⟩ => ⟨S16x4096x2048, .f32⟩
  | .hbm, ⟨50, _⟩ => ⟨S16x4096x2048, .f32⟩
  | .hbm, ⟨51, _⟩ => ⟨S_, .f32⟩
  | .hbm, ⟨52, _⟩ => ⟨S32768x2048, .f32⟩
  | .hbm, ⟨53, _⟩ => ⟨S65536, .i32⟩
  | .hbm, ⟨54, _⟩ => ⟨S65536x2048, .f32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S32768x2048, .f32⟩
  | .hbm, ⟨64, _⟩ => ⟨S16x2048x2048, .f32⟩
  | .hbm, ⟨65, _⟩ => ⟨S_, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x2048, .f32⟩
  | .hbm, ⟨76, _⟩ => ⟨S16x2048x2048, .f32⟩
  | .hbm, ⟨77, _⟩ => ⟨S16x2048x2048, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x2048, .f32⟩
  | .hbm, ⟨85, _⟩ => ⟨S16x2048x2048, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x2048, .f32⟩
  | .hbm, ⟨91, _⟩ => ⟨S16x2048x2048, .f32⟩
  | .hbm, ⟨92, _⟩ => ⟨S1x1x2048, .f32⟩
  | .hbm, ⟨93, _⟩ => ⟨S16x2048x2048, .f32⟩
  | .hbm, ⟨94, _⟩ => ⟨S16x2048x2048, .f32⟩
  | .hbm, ⟨95, _⟩ => ⟨S1x1x2048, .f32⟩
  | .hbm, ⟨96, _⟩ => ⟨S16x2048x2048, .f32⟩
  | .hbm, ⟨97, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Kernel8.lean ====
abbrev S16x2048x2048 : Shape := ⟨3, ![16, 2048, 2048]⟩
abbrev S2048x13728 : Shape := ⟨2, ![2048, 13728]⟩
abbrev S3x6560 : Shape := ⟨2, ![3, 6560]⟩
abbrev S2048x6560 : Shape := ⟨2, ![2048, 6560]⟩
abbrev S_ : Shape := ⟨0, ![]⟩
abbrev S2048x96 : Shape := ⟨2, ![2048, 96]⟩
abbrev S2048x7168 : Shape := ⟨2, ![2048, 7168]⟩
abbrev S2048x13824 : Shape := ⟨2, ![2048, 13824]⟩
abbrev S32768x2048 : Shape := ⟨2, ![32768, 2048]⟩
abbrev S32768x13824 : Shape := ⟨2, ![32768, 13824]⟩
abbrev S1024x2048 : Shape := ⟨2, ![1024, 2048]⟩
abbrev S2048x512 : Shape := ⟨2, ![2048, 512]⟩
abbrev S1024x512 : Shape := ⟨2, ![1024, 512]⟩
abbrev S16x2048x13824 : Shape := ⟨3, ![16, 2048, 13824]⟩
abbrev S16x2048x3072 : Shape := ⟨3, ![16, 2048, 3072]⟩
abbrev S3x3072 : Shape := ⟨2, ![3, 3072]⟩
abbrev S16x2050x3072 : Shape := ⟨3, ![16, 2050, 3072]⟩
abbrev S1x3072 : Shape := ⟨2, ![1, 3072]⟩
abbrev S3072 : Shape := ⟨1, ![3072]⟩
abbrev S1x1x3072 : Shape := ⟨3, ![1, 1, 3072]⟩
abbrev S16x2048x416 : Shape := ⟨3, ![16, 2048, 416]⟩
abbrev S3x416 : Shape := ⟨2, ![3, 416]⟩
abbrev S16x2050x416 : Shape := ⟨3, ![16, 2050, 416]⟩
abbrev S1x416 : Shape := ⟨2, ![1, 416]⟩
abbrev S416 : Shape := ⟨1, ![416]⟩
abbrev S1x1x416 : Shape := ⟨3, ![1, 1, 416]⟩
abbrev S16x2048x6144 : Shape := ⟨3, ![16, 2048, 6144]⟩
abbrev S16x2048x3x2048 : Shape := ⟨4, ![16, 2048, 3, 2048]⟩
abbrev S16x2048x1024 : Shape := ⟨3, ![16, 2048, 1024]⟩

abbrev nBuf : Space → Nat
  | .hbm => 99
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x13728, .f32⟩
  | .hbm, ⟨2, _⟩ => ⟨S3x6560, .f32⟩
  | .hbm, ⟨3, _⟩ => ⟨S2048x6560, .f32⟩
  | .hbm, ⟨4, _⟩ => ⟨S_, .f32⟩
  | .hbm, ⟨5, _⟩ => ⟨S2048x96, .f32⟩
  | .hbm, ⟨6, _⟩ => ⟨S2048x7168, .f32⟩
  | .hbm, ⟨7, _⟩ => ⟨S2048x13824, .f32⟩
  | .hbm, ⟨8, _⟩ => ⟨S2048x13824, .bf16⟩
  | .hbm, ⟨9, _⟩ => ⟨S32768x2048, .f32⟩
  | .hbm, ⟨10, _⟩ => ⟨S32768x2048, .bf16⟩
  | .hbm, ⟨11, _⟩ => ⟨S32768x13824, .f32⟩
  | .hbm, ⟨12, _⟩ => ⟨S16x2048x13824, .f32⟩
  | .hbm, ⟨13, _⟩ => ⟨S16x2048x3072, .f32⟩
  | .hbm, ⟨14, _⟩ => ⟨S3x3072, .f32⟩
  | .hbm, ⟨15, _⟩ => ⟨S_, .i32⟩
  | .hbm, ⟨16, _⟩ => ⟨S_, .f32⟩
  | .hbm, ⟨17, _⟩ => ⟨S16x2050x3072, .f32⟩
  | .hbm, ⟨18, _⟩ => ⟨S1x3072, .f32⟩
  | .hbm, ⟨19, _⟩ => ⟨S3072, .f32⟩
  | .hbm, ⟨20, _⟩ => ⟨S16x2048x3072, .f32⟩
  | .hbm, ⟨21, _⟩ => ⟨S1x1x3072, .f32⟩
  | .hbm, ⟨22, _⟩ => ⟨S16x2048x3072, .f32⟩
  | .hbm, ⟨23, _⟩ => ⟨S16x2048x3072, .f32⟩
  | .hbm, ⟨24, _⟩ => ⟨S1x3072, .f32⟩
  | .hbm, ⟨25, _⟩ => ⟨S3072, .f32⟩
  | .hbm, ⟨26, _⟩ => ⟨S16x2048x3072, .f32⟩
  | .hbm, ⟨27, _⟩ => ⟨S1x1x3072, .f32⟩
  | .hbm, ⟨28, _⟩ => ⟨S16x2048x3072, .f32⟩
  | .hbm, ⟨29, _⟩ => ⟨S16x2048x3072, .f32⟩
  | .hbm, ⟨30, _⟩ => ⟨S16x2048x3072, .f32⟩
  | .hbm, ⟨31, _⟩ => ⟨S1x3072, .f32⟩
  | .hbm, ⟨32, _⟩ => ⟨S3072, .f32⟩
  | .hbm, ⟨33, _⟩ => ⟨S16x2048x3072, .f32⟩
  | .hbm, ⟨34, _⟩ => ⟨S1x1x3072, .f32⟩
  | .hbm, ⟨35, _⟩ => ⟨S16x2048x3072, .f32⟩
  | .hbm, ⟨36, _⟩ => ⟨S16x2048x3072, .f32⟩
  | .hbm, ⟨37, _⟩ => ⟨S16x2048x3072, .f32⟩
  | .hbm, ⟨38, _⟩ => ⟨S16x2048x3072, .f32⟩
  | .hbm, ⟨39, _⟩ => ⟨S3x3072, .f32⟩
  | .hbm, ⟨40, _⟩ => ⟨S_, .i32⟩
  | .hbm, ⟨41, _⟩ => ⟨S_, .f32⟩
  | .hbm, ⟨42, _⟩ => ⟨S16x2050x3072, .f32⟩
  | .hbm, ⟨43, _⟩ => ⟨S1x3072, .f32⟩
  | .hbm, ⟨44, _⟩ => ⟨S3072, .f32⟩
  | .hbm, ⟨45, _⟩ => ⟨S16x2048x3072, .f32⟩
  | .hbm, ⟨46, _⟩ => ⟨S1x1x3072, .f32⟩
  | .hbm, ⟨47, _⟩ => ⟨S16x2048x3072, .f32⟩
  | .hbm, ⟨48, _⟩ => ⟨S16x2048x3072, .f32⟩
  | .hbm, ⟨49, _⟩ => ⟨S1x3072, .f32⟩
  | .hbm, ⟨50, _⟩ => ⟨S3072, .f32⟩
  | .hbm, ⟨51, _⟩ => ⟨S16x2048x3072, .f32⟩
  | .hbm, ⟨52, _⟩ => ⟨S1x1x3072, .f32⟩
  | .hbm, ⟨53, _⟩ => ⟨S16x2048x3072, .f32⟩
  | .hbm, ⟨54, _⟩ => ⟨S16x2048x3072, .f32⟩
  | .hbm, ⟨55, _⟩ => ⟨S16x2048x3072, .f32⟩
  | .hbm, ⟨56, _⟩ => ⟨S1x3072, .f32⟩
  | .hbm, ⟨57, _⟩ => ⟨S3072, .f32⟩
  | .hbm, ⟨58, _⟩ => ⟨S16x2048x3072, .f32⟩
  | .hbm, ⟨59, _⟩ => ⟨S1x1x3072, .f32⟩
  | .hbm, ⟨60, _⟩ => ⟨S16x2048x3072, .f32⟩
  | .hbm, ⟨61, _⟩ => ⟨S16x2048x3072, .f32⟩
  | .hbm, ⟨62, _⟩ => ⟨S16x2048x3072, .f32⟩
  | .hbm, ⟨63, _⟩ => ⟨S16x2048x416, .f32⟩
  | .hbm, ⟨64, _⟩ => ⟨S3x416, .f32⟩
  | .hbm, ⟨65, _⟩ => ⟨S_, .i32⟩
  | .hbm, ⟨66, _⟩ => ⟨S_, .f32⟩
  | .hbm, ⟨67, _⟩ => ⟨S16x2050x416, .f32⟩
  | .hbm, ⟨68, _⟩ => ⟨S1x416, .f32⟩
  | .hbm, ⟨69, _⟩ => ⟨S416, .f32⟩
  | .hbm, ⟨70, _⟩ => ⟨S16x2048x416, .f32⟩
  | .hbm, ⟨71, _⟩ => ⟨S1x1x416, .f32⟩
  | .hbm, ⟨72, _⟩ => ⟨S16x2048x416, .f32⟩
  | .hbm, ⟨73, _⟩ => ⟨S16x2048x416, .f32⟩
  | .hbm, ⟨74, _⟩ => ⟨S1x416, .f32⟩
  | .hbm, ⟨75, _⟩ => ⟨S416, .f32⟩
  | .hbm, ⟨76, _⟩ => ⟨S16x2048x416, .f32⟩
  | .hbm, ⟨77, _⟩ => ⟨S1x1x416, .f32⟩
  | .hbm, ⟨78, _⟩ => ⟨S16x2048x416, .f32⟩
  | .hbm, ⟨79, _⟩ => ⟨S16x2048x416, .f32⟩
  | .hbm, ⟨80, _⟩ => ⟨S16x2048x416, .f32⟩
  | .hbm, ⟨81, _⟩ => ⟨S1x416, .f32⟩
  | .hbm, ⟨82, _⟩ => ⟨S416, .f32⟩
  | .hbm, ⟨83, _⟩ => ⟨S16x2048x416, .f32⟩
  | .hbm, ⟨84, _⟩ => ⟨S1x1x416, .f32⟩
  | .hbm, ⟨85, _⟩ => ⟨S16x2048x416, .f32⟩
  | .hbm, ⟨86, _⟩ => ⟨S16x2048x416, .f32⟩
  | .hbm, ⟨87, _⟩ => ⟨S16x2048x416, .f32⟩
  | .hbm, ⟨88, _⟩ => ⟨S16x2048x6144, .f32⟩
  | .hbm, ⟨89, _⟩ => ⟨S16x2048x6144, .f32⟩
  | .hbm, ⟨90, _⟩ => ⟨S16x2048x6144, .f32⟩
  | .hbm, ⟨91, _⟩ => ⟨S_, .f32⟩
  | .hbm, ⟨92, _⟩ => ⟨S16x2048x6144, .f32⟩
  | .hbm, ⟨93, _⟩ => ⟨S16x2048x6144, .f32⟩
  | .hbm, ⟨94, _⟩ => ⟨S_, .f32⟩
  | .hbm, ⟨95, _⟩ => ⟨S16x2048x6144, .f32⟩
  | .hbm, ⟨96, _⟩ => ⟨S16x2048x6144, .f32⟩
  | .hbm, ⟨97, _⟩ => ⟨S16x2048x3x2048, .f32⟩
  | .hbm, ⟨98, _⟩ => ⟨S16x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_0 : Ref sig .tc := ⟨.hbm, 40, rfl⟩
abbrev main_call1_v0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_c_1 : Ref sig .tc := ⟨.hbm, 65, rfl⟩
abbrev main_call2_v0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_2 : Ref sig .tc := ⟨.hbm, 91, rfl⟩
abbrev main_v81 : Ref sig .tc := ⟨.hbm, 92, rfl⟩
abbrev main_v82 : Ref sig .tc := ⟨.hbm, 93, rfl⟩
abbrev main_cst_3 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16x2048x2048 : Shape := ⟨3, ![16, 2048, 2048]⟩
abbrev S2048x13728 : Shape := ⟨2, ![2048, 13728]⟩
abbrev S3x6560 : Shape := ⟨2, ![3, 6560]⟩
abbrev S16x2048x13728 : Shape := ⟨3, ![16, 2048, 13728]⟩
abbrev S16x2048x6560 : Shape := ⟨3, ![16, 2048, 6560]⟩
abbrev S_ : Shape := ⟨0, ![]⟩
abbrev S16x2050x6560 : Shape := ⟨3, ![16, 2050, 6560]⟩
abbrev S1x6560 : Shape := ⟨2, ![1, 6560]⟩
abbrev S6560 : Shape := ⟨1, ![6560]⟩
abbrev S1x1x6560 : Shape := ⟨3, ![1, 1, 6560]⟩
abbrev S16x2048x6144 : Shape := ⟨3, ![16, 2048, 6144]⟩
abbrev S16x2048x3x2048 : Shape := ⟨4, ![16, 2048, 3, 2048]⟩
abbrev S16x2048x3072 : Shape := ⟨3, ![16, 2048, 3072]⟩
abbrev S16x2048x416 : Shape := ⟨3, ![16, 2048, 416]⟩
abbrev S16x2048x1024 : Shape := ⟨3, ![16, 2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x13728, .f32⟩
  | .hbm, ⟨2, _⟩ => ⟨S3x6560, .f32⟩
  | .hbm, ⟨3, _⟩ => ⟨S16x2048x13728, .f32⟩
  | .hbm, ⟨4, _⟩ => ⟨S16x2048x6560, .f32⟩
  | .hbm, ⟨5, _⟩ => ⟨S_, .i32⟩
  | .hbm, ⟨6, _⟩ => ⟨S_, .f32⟩
  | .hbm, ⟨7, _⟩ => ⟨S16x2050x6560, .f32⟩
  | .hbm, ⟨8, _⟩ => ⟨S1x6560, .f32⟩
  | .hbm, ⟨9, _⟩ => ⟨S6560, .f32⟩
  | .hbm, ⟨10, _⟩ => ⟨S16x2048x6560, .f32⟩
  | .hbm, ⟨11, _⟩ => ⟨S1x1x6560, .f32⟩
  | .hbm, ⟨12, _⟩ => ⟨S16x2048x6560, .f32⟩
  | .hbm, ⟨13, _⟩ => ⟨S16x2048x6560, .f32⟩
  | .hbm, ⟨14, _⟩ => ⟨S1x6560, .f32⟩
  | .hbm, ⟨15, _⟩ => ⟨S6560, .f32⟩
  | .hbm, ⟨16, _⟩ => ⟨S16x2048x6560, .f32⟩
  | .hbm, ⟨17, _⟩ => ⟨S1x1x6560, .f32⟩
  | .hbm, ⟨18, _⟩ => ⟨S16x2048x6560, .f32⟩
  | .hbm, ⟨19, _⟩ => ⟨S16x2048x6560, .f32⟩
  | .hbm, ⟨20, _⟩ => ⟨S16x2048x6560, .f32⟩
  | .hbm, ⟨21, _⟩ => ⟨S1x6560, .f32⟩
  | .hbm, ⟨22, _⟩ => ⟨S6560, .f32⟩
  | .hbm, ⟨23, _⟩ => ⟨S16x2048x6560, .f32⟩
  | .hbm, ⟨24, _⟩ => ⟨S1x1x6560, .f32⟩
  | .hbm, ⟨25, _⟩ => ⟨S16x2048x6560, .f32⟩
  | .hbm, ⟨26, _⟩ => ⟨S16x2048x6560, .f32⟩
  | .hbm, ⟨27, _⟩ => ⟨S16x2048x6560, .f32⟩
  | .hbm, ⟨28, _⟩ => ⟨S16x2048x6144, .f32⟩
  | .hbm, ⟨29, _⟩ => ⟨S16x2048x6144, .f32⟩
  | .hbm, ⟨30, _⟩ => ⟨S16x2048x6144, .f32⟩
  | .hbm, ⟨31, _⟩ => ⟨S_, .f32⟩
  | .hbm, ⟨32, _⟩ => ⟨S16x2048x6144, .f32⟩
  | .hbm, ⟨33, _⟩ => ⟨S16x2048x6144, .f32⟩
  | .hbm, ⟨34, _⟩ => ⟨S_, .f32⟩
  | .hbm, ⟨35, _⟩ => ⟨S16x2048x6144, .f32⟩
  | .hbm, ⟨36, _⟩ => ⟨S16x2048x6144, .f32⟩
  | .hbm, ⟨37, _⟩ => ⟨S16x2048x3x2048, .f32⟩
  | .hbm, ⟨38, _⟩ => ⟨S16x2048x3072, .f32⟩
  | .hbm, ⟨39, _⟩ => ⟨S16x2048x3072, .f32⟩
  | .hbm, ⟨40, _⟩ => ⟨S16x2048x416, .f32⟩
  | .hbm, ⟨41, _⟩ => ⟨S16x2048x1024, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel9.lean ====
abbrev S16x2048x1024 : Shape := ⟨3, ![16, 2048, 1024]⟩
abbrev S16x256x2048 : Shape := ⟨3, ![16, 256, 2048]⟩
abbrev S2048x2048 : Shape := ⟨2, ![2048, 2048]⟩
abbrev S1024x2048 : Shape := ⟨2, ![1024, 2048]⟩
abbrev S4096x2048 : Shape := ⟨2, ![4096, 2048]⟩
abbrev S2048x512 : Shape := ⟨2, ![2048, 512]⟩
abbrev S1024x512 : Shape := ⟨2, ![1024, 512]⟩
abbrev S16x256x1024 : Shape := ⟨3, ![16, 256, 1024]⟩
abbrev S16x256x4x256 : Shape := ⟨4, ![16, 256, 4, 256]⟩
abbrev S16x2048x4x256 : Shape := ⟨4, ![16, 2048, 4, 256]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S32768x1024 : Shape := ⟨2, ![32768, 1024]⟩
abbrev S32768x2048 : Shape := ⟨2, ![32768, 2048]⟩
abbrev S1024x1024 : Shape := ⟨2, ![1024, 1024]⟩
abbrev S16x2048x2048 : Shape := ⟨3, ![16, 2048, 2048]⟩

abbrev nBuf : Space → Nat
  | .hbm => 40
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x256x2048, .f32⟩
  | .hbm, ⟨2, _⟩ => ⟨S2048x2048, .f32⟩
  | .hbm, ⟨3, _⟩ => ⟨S1024x2048, .f32⟩
  | .hbm, ⟨4, _⟩ => ⟨S2048x2048, .bf16⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S16x256x2048, .f32⟩
  | .hbm, ⟨9, _⟩ => ⟨S16x256x1024, .f32⟩
  | .hbm, ⟨10, _⟩ => ⟨S16x256x4x256, .f32⟩
  | .hbm, ⟨11, _⟩ => ⟨S16x256x1024, .f32⟩
  | .hbm, ⟨12, _⟩ => ⟨S16x256x4x256, .f32⟩
  | .hbm, ⟨13, _⟩ => ⟨S16x2048x4x256, .f32⟩
  | .hbm, ⟨14, _⟩ => ⟨S16x4x2048x256, .f32⟩
  | .hbm, ⟨15, _⟩ => ⟨S_, .f32⟩
  | .hbm, ⟨16, _⟩ => ⟨S16x4x2048x256, .f32⟩
  | .hbm, ⟨17, _⟩ => ⟨S16x4x2048x256, .f32⟩
  | .hbm, ⟨18, _⟩ => ⟨S_, .f32⟩
  | .hbm, ⟨19, _⟩ => ⟨S16x4x2048, .f32⟩
  | .hbm, ⟨20, _⟩ => ⟨S_, .f32⟩
  | .hbm, ⟨21, _⟩ => ⟨S16x4x2048, .f32⟩
  | .hbm, ⟨22, _⟩ => ⟨S16x4x2048, .f32⟩
  | .hbm, ⟨23, _⟩ => ⟨S16x4x2048x1, .f32⟩
  | .hbm, ⟨24, _⟩ => ⟨S16x4x2048x256, .f32⟩
  | .hbm, ⟨25, _⟩ => ⟨S16x4x2048x256, .f32⟩
  | .hbm, ⟨26, _⟩ => ⟨S16x4x2048x256, .f32⟩
  | .hbm, ⟨27, _⟩ => ⟨S_, .f32⟩
  | .hbm, ⟨28, _⟩ => ⟨S16x4x2048, .f32⟩
  | .hbm, ⟨29, _⟩ => ⟨S16x4x2048x1, .f32⟩
  | .hbm, ⟨30, _⟩ => ⟨S16x4x2048x256, .f32⟩
  | .hbm, ⟨31, _⟩ => ⟨S16x4x2048x256, .f32⟩
  | .hbm, ⟨32, _⟩ => ⟨S16x4x256x2048, .f32⟩
  | .hbm, ⟨33, _⟩ => ⟨S16x2048x4x256, .f32⟩
  | .hbm, ⟨34, _⟩ => ⟨S16x2048x1024, .f32⟩
  | .hbm, ⟨35, _⟩ => ⟨S1024x2048, .bf16⟩
  | .hbm, ⟨36, _⟩ => ⟨S32768x1024, .f32⟩
  | .hbm, ⟨37, _⟩ => ⟨S32768x1024, .bf16⟩
  | .hbm, ⟨38, _⟩ => ⟨S32768x2048, .f32⟩
  | .hbm, ⟨39, _⟩ => ⟨S16x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference9Ideal.lean ====
abbrev S16x2048x1024 : Shape := ⟨3, ![16, 2048, 1024]⟩
abbrev S16x256x2048 : Shape := ⟨3, ![16, 256, 2048]⟩
abbrev S2048x2048 : Shape := ⟨2, ![2048, 2048]⟩
abbrev S1024x2048 : Shape := ⟨2, ![1024, 2048]⟩
abbrev S16x256x1024 : Shape := ⟨3, ![16, 256, 1024]⟩
abbrev S16x256x4x256 : Shape := ⟨4, ![16, 256, 4, 256]⟩
abbrev S16x2048x4x256 : Shape := ⟨4, ![16, 2048, 4, 256]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S16x2048x2048 : Shape := ⟨3, ![16, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x2048, .f32⟩
  | .hbm, ⟨2, _⟩ => ⟨S2048x2048, .f32⟩
  | .hbm, ⟨3, _⟩ => ⟨S1024x2048, .f32⟩
  | .hbm, ⟨4, _⟩ => ⟨S16x256x2048, .f32⟩
  | .hbm, ⟨5, _⟩ => ⟨S16x256x1024, .f32⟩
  | .hbm, ⟨6, _⟩ => ⟨S16x256x4x256, .f32⟩
  | .hbm, ⟨7, _⟩ => ⟨S16x256x1024, .f32⟩
  | .hbm, ⟨8, _⟩ => ⟨S16x256x4x256, .f32⟩
  | .hbm, ⟨9, _⟩ => ⟨S16x2048x4x256, .f32⟩
  | .hbm, ⟨10, _⟩ => ⟨S16x4x2048x256, .f32⟩
  | .hbm, ⟨11, _⟩ => ⟨S_, .f32⟩
  | .hbm, ⟨12, _⟩ => ⟨S16x4x2048x256, .f32⟩
  | .hbm, ⟨13, _⟩ => ⟨S16x4x2048x256, .f32⟩
  | .hbm, ⟨14, _⟩ => ⟨S_, .f32⟩
  | .hbm, ⟨15, _⟩ => ⟨S16x4x2048, .f32⟩
  | .hbm, ⟨16, _⟩ => ⟨S_, .f32⟩
  | .hbm, ⟨17, _⟩ => ⟨S16x4x2048, .f32⟩
  | .hbm, ⟨18, _⟩ => ⟨S16x4x2048, .f32⟩
  | .hbm, ⟨19, _⟩ => ⟨S16x4x2048x1, .f32⟩
  | .hbm, ⟨20, _⟩ => ⟨S16x4x2048x256, .f32⟩
  | .hbm, ⟨21, _⟩ => ⟨S16x4x2048x256, .f32⟩
  | .hbm, ⟨22, _⟩ => ⟨S16x4x2048x256, .f32⟩
  | .hbm, ⟨23, _⟩ => ⟨S_, .f32⟩
  | .hbm, ⟨24, _⟩ => ⟨S16x4x2048, .f32⟩
  | .hbm, ⟨25, _⟩ => ⟨S16x4x2048x1, .f32⟩
  | .hbm, ⟨26, _⟩ => ⟨S16x4x2048x256, .f32⟩
  | .hbm, ⟨27, _⟩ => ⟨S16x4x2048x256, .f32⟩
  | .hbm, ⟨28, _⟩ => ⟨S16x4x256x2048, .f32⟩
  | .hbm, ⟨29, _⟩ => ⟨S16x2048x4x256, .f32⟩
  | .hbm, ⟨30, _⟩ => ⟨S16x2048x1024, .f32⟩
  | .hbm, ⟨31, _⟩ => ⟨S16x2048x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S16x2048x2048 : Shape := ⟨3, ![16, 2048, 2048]⟩
abbrev S16x2048x1024 : Shape := ⟨3, ![16, 2048, 1024]⟩
abbrev S16x2048x3x2048 : Shape := ⟨4, ![16, 2048, 3, 2048]⟩
abbrev S1024x2048 : Shape := ⟨2, ![1024, 2048]⟩
abbrev S2048x2048 : Shape := ⟨2, ![2048, 2048]⟩
abbrev S2048 : Shape := ⟨1, ![2048]⟩
abbrev S32768x1024 : Shape := ⟨2, ![32768, 1024]⟩
abbrev S32768x2048 : Shape := ⟨2, ![32768, 2048]⟩
abbrev S1024x1024 : Shape := ⟨2, ![1024, 1024]⟩
abbrev S1024x512 : Shape := ⟨2, ![1024, 512]⟩
abbrev S16x2048x1x2048 : Shape := ⟨4, ![16, 2048, 1, 2048]⟩
abbrev S_ : Shape := ⟨0, ![]⟩
abbrev S2048x512 : Shape := ⟨2, ![2048, 512]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 69
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S16x2048x3x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S1024x2048, .bf16⟩
  | .hbm, ⟨11, _⟩ => ⟨S32768x1024, .f32⟩
  | .hbm, ⟨12, _⟩ => ⟨S32768x1024, .bf16⟩
  | .hbm, ⟨13, _⟩ => ⟨S32768x2048, .f32⟩
  | .hbm, ⟨14, _⟩ => ⟨S16x2048x2048, .f32⟩
  | .hbm, ⟨15, _⟩ => ⟨S1024x2048, .bf16⟩
  | .hbm, ⟨16, _⟩ => ⟨S32768x1024, .f32⟩
  | .hbm, ⟨17, _⟩ => ⟨S32768x1024, .bf16⟩
  | .hbm, ⟨18, _⟩ => ⟨S32768x2048, .f32⟩
  | .hbm, ⟨19, _⟩ => ⟨S16x2048x2048, .f32⟩
  | .hbm, ⟨20, _⟩ => ⟨S16x2048x1x2048, .f32⟩
  | .hbm, ⟨21, _⟩ => ⟨S16x2048x2048, .f32⟩
  | .hbm, ⟨22, _⟩ => ⟨S16x2048x2048, .f32⟩
  | .hbm, ⟨23, _⟩ => ⟨S16x2048x1x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x1x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S2048x2048, .bf16⟩
  | .hbm, ⟨35, _⟩ => ⟨S32768x2048, .f32⟩
  | .hbm, ⟨36, _⟩ => ⟨S32768x2048, .bf16⟩
  | .hbm, ⟨37, _⟩ => ⟨S32768x2048, .f32⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x2048, .f32⟩
  | .hbm, ⟨56, _⟩ => ⟨S16x2048x2048, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S1x1x2048, .f32⟩
  | .hbm, ⟨64, _⟩ => ⟨S16x2048x2048, .f32⟩
  | .hbm, ⟨65, _⟩ => ⟨S16x2048x2048, .f32⟩
  | .hbm, ⟨66, _⟩ => ⟨S1x1x2048, .f32⟩
  | .hbm, ⟨67, _⟩ => ⟨S16x2048x2048, .f32⟩
  | .hbm, ⟨68, _⟩ => ⟨S16x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | .local _ .vmem, ⟨13, _⟩ => ⟨S1024x2048, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .f32⟩
  | .local _ .vmem, ⟨17, _⟩ => ⟨S1024x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference10Ideal.lean ====
abbrev S16x2048x2048 : Shape := ⟨3, ![16, 2048, 2048]⟩
abbrev S16x2048x1024 : Shape := ⟨3, ![16, 2048, 1024]⟩
abbrev S16x2048x3x2048 : Shape := ⟨4, ![16, 2048, 3, 2048]⟩
abbrev S1024x2048 : Shape := ⟨2, ![1024, 2048]⟩
abbrev S2048x2048 : Shape := ⟨2, ![2048, 2048]⟩
abbrev S2048 : Shape := ⟨1, ![2048]⟩
abbrev S16x2048x1x2048 : Shape := ⟨4, ![16, 2048, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S16x2048x3x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S16x2048x2048, .f32⟩
  | .hbm, ⟨11, _⟩ => ⟨S16x2048x2048, .f32⟩
  | .hbm, ⟨12, _⟩ => ⟨S16x2048x1x2048, .f32⟩
  | .hbm, ⟨13, _⟩ => ⟨S16x2048x2048, .f32⟩
  | .hbm, ⟨14, _⟩ => ⟨S16x2048x2048, .f32⟩
  | .hbm, ⟨15, _⟩ => ⟨S16x2048x1x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x1x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x2048, .f32⟩
  | .hbm, ⟨44, _⟩ => ⟨S16x2048x2048, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x2048, .f32⟩
  | .hbm, ⟨50, _⟩ => ⟨S16x2048x2048, .f32⟩
  | .hbm, ⟨51, _⟩ => ⟨S1x1x2048, .f32⟩
  | .hbm, ⟨52, _⟩ => ⟨S16x2048x2048, .f32⟩
  | .hbm, ⟨53, _⟩ => ⟨S16x2048x2048, .f32⟩
  | .hbm, ⟨54, _⟩ => ⟨S1x1x2048, .f32⟩
  | .hbm, ⟨55, _⟩ => ⟨S16x2048x2048, .f32⟩
  | .hbm, ⟨56, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel11.lean ====
abbrev S16x2048x1024 : Shape := ⟨3, ![16, 2048, 1024]⟩
abbrev S16x2048x416 : Shape := ⟨3, ![16, 2048, 416]⟩
abbrev S160x1024 : Shape := ⟨2, ![160, 1024]⟩
abbrev S16x2048x160 : Shape := ⟨3, ![16, 2048, 160]⟩
abbrev S_ : Shape := ⟨0, ![]⟩
abbrev S32768x160 : Shape := ⟨2, ![32768, 160]⟩
abbrev S32768x1024 : Shape := ⟨2, ![32768, 1024]⟩
abbrev S1024x160 : Shape := ⟨2, ![1024, 160]⟩
abbrev S160x512 : Shape := ⟨2, ![160, 512]⟩
abbrev S1024x512 : Shape := ⟨2, ![1024, 512]⟩

abbrev nBuf : Space → Nat
  | .hbm => 18
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S16x2048x416, .f32⟩
  | .hbm, ⟨2, _⟩ => ⟨S160x1024, .f32⟩
  | .hbm, ⟨3, _⟩ => ⟨S16x2048x160, .f32⟩
  | .hbm, ⟨4, _⟩ => ⟨S16x2048x160, .f32⟩
  | .hbm, ⟨5, _⟩ => ⟨S16x2048x160, .f32⟩
  | .hbm, ⟨6, _⟩ => ⟨S_, .f32⟩
  | .hbm, ⟨7, _⟩ => ⟨S16x2048x160, .f32⟩
  | .hbm, ⟨8, _⟩ => ⟨S16x2048x160, .f32⟩
  | .hbm, ⟨9, _⟩ => ⟨S_, .f32⟩
  | .hbm, ⟨10, _⟩ => ⟨S16x2048x160, .f32⟩
  | .hbm, ⟨11, _⟩ => ⟨S16x2048x160, .f32⟩
  | .hbm, ⟨12, _⟩ => ⟨S160x1024, .bf16⟩
  | .hbm, ⟨13, _⟩ => ⟨S32768x160, .f32⟩
  | .hbm, ⟨14, _⟩ => ⟨S32768x160, .bf16⟩
  | .hbm, ⟨15, _⟩ => ⟨S32768x1024, .f32⟩
  | .hbm, ⟨16, _⟩ => ⟨S16x2048x1024, .f32⟩
  | .hbm, ⟨17, _⟩ => ⟨S16x2048x1024, .f32⟩
  | .local _ .vmem, ⟨0, _⟩ => ⟨S1024x160, .bf16⟩
  | .local _ .vmem, ⟨1, _⟩ => ⟨S1024x160, .bf16⟩
  | .local _ .vmem, ⟨2, _⟩ => ⟨S160x512, .bf16⟩
  | .local _ .vmem, ⟨3, _⟩ => ⟨S160x512, .bf16⟩
  | .local _ .vmem, ⟨4, _⟩ => ⟨S1024x512, .f32⟩
  | .local _ .vmem, ⟨5, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S16x2048x1024 : Shape := ⟨3, ![16, 2048, 1024]⟩
abbrev S16x2048x416 : Shape := ⟨3, ![16, 2048, 416]⟩
abbrev S160x1024 : Shape := ⟨2, ![160, 1024]⟩
abbrev S16x2048x160 : Shape := ⟨3, ![16, 2048, 160]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x416, .f32⟩
  | .hbm, ⟨2, _⟩ => ⟨S160x1024, .f32⟩
  | .hbm, ⟨3, _⟩ => ⟨S16x2048x160, .f32⟩
  | .hbm, ⟨4, _⟩ => ⟨S16x2048x160, .f32⟩
  | .hbm, ⟨5, _⟩ => ⟨S16x2048x160, .f32⟩
  | .hbm, ⟨6, _⟩ => ⟨S_, .f32⟩
  | .hbm, ⟨7, _⟩ => ⟨S16x2048x160, .f32⟩
  | .hbm, ⟨8, _⟩ => ⟨S16x2048x160, .f32⟩
  | .hbm, ⟨9, _⟩ => ⟨S_, .f32⟩
  | .hbm, ⟨10, _⟩ => ⟨S16x2048x160, .f32⟩
  | .hbm, ⟨11, _⟩ => ⟨S16x2048x160, .f32⟩
  | .hbm, ⟨12, _⟩ => ⟨S16x2048x1024, .f32⟩
  | .hbm, ⟨13, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Sums.lean ====
/- Finite sums cut into equal blocks: what a product accumulated block by block adds up to. -/
module

public import Mathlib.Algebra.BigOperators.Fin
public import Mathlib.Algebra.BigOperators.Intervals

@[expose] public section

namespace Cert.Sums

/-- A sum over `a * b` consecutive naturals is the sum of its `a` blocks of `b`. -/
theorem range_blocks {M : Type*} [AddCommMonoid M] (f : ℕ → M) (b : ℕ) :
    ∀ a : ℕ, ∑ n ∈ Finset.range (a * b), f n = ∑ s ∈ Finset.range a, ∑ k : Fin b, f (b * s + k)
  | 0 => by simp
  | a + 1 => by
    rw [Nat.succ_mul, Finset.sum_range_add, range_blocks f b a, Finset.sum_range_succ,
      Finset.sum_range fun x => f (a * b + x), Nat.mul_comm a b]

/-- A function on `Fin n` continued by zero to all naturals. -/
def ext {M : Type*} [Zero M] {n : ℕ} (F : Fin n → M) (i : ℕ) : M := if h : i < n then F ⟨i, h⟩ else 0

theorem ext_of_lt {M : Type*} [Zero M] {n : ℕ} (F : Fin n → M) (i : ℕ) (h : i < n) : ext F i = F ⟨i, h⟩ :=
  dif_pos h

/-- A sum over `Fin n`, `n = a * b`, is the sum of its `a` blocks of `b`. -/
theorem fin_blocks {M : Type*} [AddCommMonoid M] {n : ℕ} (F : Fin n → M) (a b : ℕ) (hn : n = a * b) :
    ∑ k : Fin n, F k = ∑ s ∈ Finset.range a, ∑ k : Fin b, ext F (b * s + k) := by
  subst hn
  rw [← range_blocks (ext F) b a, Finset.sum_range]
  exact Finset.sum_congr rfl fun k _ => (ext_of_lt F k k.isLt).symm

end Cert.Sums
-- ==== Proof.MoeRegion.lean ====
/- The experts' feed-forward kernel: what its output array holds after the run. Each block of 1024 rows of an expert is
   accumulated over 16 blocks of 256 hidden units, and the accumulated sum is the expert's whole feed-forward network
   `(silu (x @ gate) * (x @ up)) @ down` over all 4096 hidden units. -/
module

public import proofs.«01_k».proof.Proof.Sums
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

/-- The value of hidden unit `k` of expert `e` at its row `r`: `silu (x @ gate) * (x @ up)`. -/
def hidden (X : Vec Ideal S16x2048x2048 .f32) (G U : Vec Ideal S16x2048x4096 .f32) (e : Fin 16) (r : Fin 2048) (k : Fin 4096) : EReal :=
  (∑ j : Fin 2048, X (ix3 e r j) * G (ix3 e j k)) * Ideal.logistic (∑ j : Fin 2048, X (ix3 e r j) * G (ix3 e j k))
    * ∑ j : Fin 2048, X (ix3 e r j) * U (ix3 e j k)

/-- The experts' feed-forward networks: row `r` of expert `e` through that expert's three matrices. -/
def ffn (X : Vec Ideal S16x2048x2048 .f32) (G U : Vec Ideal S16x2048x4096 .f32) (D : Vec Ideal S16x4096x2048 .f32) :
    Vec Ideal S16x2048x2048 .f32 :=
  fun i => ∑ k : Fin 4096, hidden X G U (i 0) (i 1) k * D (ix3 (i 0) k (i 2))

/-- What one grid point adds to row `r`, column `d` of its block: 256 hidden units of the feed-forward network. -/
def addend (x0 : Vec Ideal S1x1024x2048 .bf16) (x1 x2 : Vec Ideal S1x2048x256 .f32) (x3 : Vec Ideal S1x256x2048 .f32)
    (r : Fin 1024) (d : Fin 2048) : EReal :=
  ∑ k : Fin 256, ((∑ j : Fin 2048, x0 (ix3 0 r j) * x1 (ix3 0 j k)) * Ideal.logistic (∑ j : Fin 2048, x0 (ix3 0 r j) * x1 (ix3 0 j k))
    * ∑ j : Fin 2048, x0 (ix3 0 r j) * x2 (ix3 0 j k)) * x3 (ix3 0 k d)

/-- The body's stored value: the block before it, plus the point's addend. -/
theorem pay_apply (x0 : Vec Ideal S1x1024x2048 .bf16) (x1 x2 : Vec Ideal S1x2048x256 .f32) (acc : Vec Ideal S1x1024x2048 .f32)
    (x3 : Vec Ideal S1x256x2048 .f32) (i : S1x1024x2048.Idx) :
    k0_pay2 x0 x1 x2 acc x3 i = acc i + addend x0 x1 x2 x3 (i 1) (i 2) := by
  idx_vars i
  obtain rfl : i0 = 0 := Subsingleton.elim _ _
  pointwise [k0_pay2, addend]

theorem pay_zero (i : S1x1024x2048.Idx) : k0_pay1 (F := Ideal) i = 0 := by
  pointwise [k0_pay1]

variable (m : (ℓ : Loc nD τ sig) → Buf (Elt Ideal) ℓ)

theorem idx0 : ∀ t : Fin cfg0.N, win0_0.index t = ![t.val / 32, t.val / 16 % 2, 0] := (by decide +kernel : ∀ t : Fin grid0.N, _)
theorem idx1 : ∀ t : Fin cfg0.N, win0_1.index t = ![t.val / 32, 0, t.val % 16] := (by decide +kernel : ∀ t : Fin grid0.N, _)
theorem idx2 : ∀ t : Fin cfg0.N, win0_2.index t = ![t.val / 32, 0, t.val % 16] := (by decide +kernel : ∀ t : Fin grid0.N, _)
theorem idx3 : ∀ t : Fin cfg0.N, win0_3.index t = ![t.val / 32, t.val % 16, 0] := (by decide +kernel : ∀ t : Fin grid0.N, _)
theorem idx4 : ∀ t : Fin cfg0.N, win0_4.index t = ![t.val / 32, t.val / 16 % 2, 0] := (by decide +kernel : ∀ t : Fin grid0.N, _)

/-- The addend of point `n` of the grid, at an index of its block. -/
def term (c : Dev nD) (n : ℕ) (i : S1x1024x2048.Idx) : EReal :=
  if h : n < cfg0.N then addend (iblk m c 0 ⟨n, h⟩) (iblk m c 1 ⟨n, h⟩) (iblk m c 2 ⟨n, h⟩) (iblk m c 3 ⟨n, h⟩) (i 1) (i 2) else 0

/-- After the last point of a run the block holds the sum of the run's 16 addends. -/
theorem outs_eq (c : Dev nD) (t : Fin cfg0.N) (ht : t.val % 16 = 15) (i : S1x1024x2048.Idx) :
    outsAt0 m c t.val t.isLt i = 0 + ∑ s ∈ Finset.range (15 + 1), term m c (16 * (t.val / 16) + s) i :=
  Pipeline.eq_sum_of_reset_step_apply_of_mod (fun n h => outsAt0 m c n h) 16 (fun _ => (0 : EReal)) (term m c)
    (fun t h i => by
      rw [outsAt0_A m c t h]; frame_out
      rw [pay_apply, pay_zero, term, dif_pos t.isLt])
    (fun t h i => by
      rw [outsAt0_B m c t h]; frame_out
      rw [pay_apply, term, dif_pos t.isLt]) t ht i

/-- Row `r` of the rows' block at point `t` is row `R` of expert `e`. -/
theorem blk0 (c : Dev nD) (t : Fin cfg0.N) (e : Fin 16) (R : Fin 2048) (he : e.val = t.val / 32) (r : Fin 1024)
    (hR : R.val = t.val / 16 % 2 * 1024 + r.val) (j : Fin 2048) :
    (iblk m c 0 t : Vec Ideal S1x1024x2048 .bf16) (ix3 0 r j) = V m c main_v21 (ix3 e R j) := by
  unfold iblk
  rw [View.read_apply]
  show V m c main_v21 _ = V m c main_v21 _
  congr 1
  funext a
  apply Fin.ext
  match a with
  | ⟨0, _⟩ => show win0_0.index t 0 * 1 + 1 * 0 = e.val; rw [idx0]; show t.val / 32 * 1 + 1 * 0 = _; omega
  | ⟨1, _⟩ => show win0_0.index t 1 * 1024 + 1 * r.val = R.val; rw [idx0]; show t.val / 16 % 2 * 1024 + 1 * r.val = _; omega
  | ⟨2, _⟩ => show win0_0.index t 2 * 2048 + 1 * j.val = j.val; rw [idx0]; show 0 * 2048 + 1 * j.val = _; omega

/-- Column `k` of the first matrix' block at point `t` is column `K` of expert `e`'s matrix. -/
theorem blk1 (c : Dev nD) (t : Fin cfg0.N) (e : Fin 16) (K : Fin 4096) (he : e.val = t.val / 32) (k : Fin 256)
    (hK : K.val = t.val % 16 * 256 + k.val) (j : Fin 2048) :
    (iblk m c 1 t : Vec Ideal S1x2048x256 .f32) (ix3 0 j k) = V m c main_arg2 (ix3 e j K) := by
  unfold iblk
  rw [View.read_apply]
  show V m c main_arg2 _ = V m c main_arg2 _
  congr 1
  funext a
  apply Fin.ext
  match a with
  | ⟨0, _⟩ => show win0_1.index t 0 * 1 + 1 * 0 = e.val; rw [idx1]; show t.val / 32 * 1 + 1 * 0 = _; omega
  | ⟨1, _⟩ => show win0_1.index t 1 * 2048 + 1 * j.val = j.val; rw [idx1]; show 0 * 2048 + 1 * j.val = _; omega
  | ⟨2, _⟩ => show win0_1.index t 2 * 256 + 1 * k.val = K.val; rw [idx1]; show t.val % 16 * 256 + 1 * k.val = _; omega

/-- Column `k` of the second matrix' block at point `t` is column `K` of expert `e`'s matrix. -/
theorem blk2 (c : Dev nD) (t : Fin cfg0.N) (e : Fin 16) (K : Fin 4096) (he : e.val = t.val / 32) (k : Fin 256)
    (hK : K.val = t.val % 16 * 256 + k.val) (j : Fin 2048) :
    (iblk m c 2 t : Vec Ideal S1x2048x256 .f32) (ix3 0 j k) = V m c main_arg3 (ix3 e j K) := by
  unfold iblk
  rw [View.read_apply]
  show V m c main_arg3 _ = V m c main_arg3 _
  congr 1
  funext a
  apply Fin.ext
  match a with
  | ⟨0, _⟩ => show win0_2.index t 0 * 1 + 1 * 0 = e.val; rw [idx2]; show t.val / 32 * 1 + 1 * 0 = _; omega
  | ⟨1, _⟩ => show win0_2.index t 1 * 2048 + 1 * j.val = j.val; rw [idx2]; show 0 * 2048 + 1 * j.val = _; omega
  | ⟨2, _⟩ => show win0_2.index t 2 * 256 + 1 * k.val = K.val; rw [idx2]; show t.val % 16 * 256 + 1 * k.val = _; omega

/-- Row `k` of the third matrix' block at point `t` is row `K` of expert `e`'s matrix. -/
theorem blk3 (c : Dev nD) (t : Fin cfg0.N) (e : Fin 16) (K : Fin 4096) (he : e.val = t.val / 32) (k : Fin 256)
    (hK : K.val = t.val % 16 * 256 + k.val) (d : Fin 2048) :
    (iblk m c 3 t : Vec Ideal S1x256x2048 .f32) (ix3 0 k d) = V m c main_arg4 (ix3 e K d) := by
  unfold iblk
  rw [View.read_apply]
  show V m c main_arg4 _ = V m c main_arg4 _
  congr 1
  funext a
  apply Fin.ext
  match a with
  | ⟨0, _⟩ => show win0_3.index t 0 * 1 + 1 * 0 = e.val; rw [idx3]; show t.val / 32 * 1 + 1 * 0 = _; omega
  | ⟨1, _⟩ => show win0_3.index t 1 * 256 + 1 * k.val = K.val; rw [idx3]; show t.val % 16 * 256 + 1 * k.val = _; omega
  | ⟨2, _⟩ => show win0_3.index t 2 * 2048 + 1 * d.val = d.val; rw [idx3]; show 0 * 2048 + 1 * d.val = _; omega

/-- The addend of point `t` is the feed-forward network's sum over the point's 256 hidden units. -/
theorem addend_eq (c : Dev nD) (t : Fin cfg0.N) (e : Fin 16) (R : Fin 2048) (he : e.val = t.val / 32) (r : Fin 1024)
    (hR : R.val = t.val / 16 % 2 * 1024 + r.val) (d : Fin 2048) (s : ℕ) (hs : t.val % 16 = s) :
    addend (iblk m c 0 t) (iblk m c 1 t) (iblk m c 2 t) (iblk m c 3 t) r d
      = ∑ k : Fin 256, Sums.ext (fun K : Fin 4096 =>
          hidden (V m c main_v21) (V m c main_arg2) (V m c main_arg3) e R K * (V m c main_arg4 : Vec Ideal S16x4096x2048 .f32) (ix3 e K d)) (256 * s + k) := by
  unfold addend
  refine Finset.sum_congr rfl fun k _ => ?_
  have hk := k.isLt
  rw [Sums.ext_of_lt _ _ (by omega)]
  set K : Fin 4096 := ⟨256 * s + k, by omega⟩ with hKdef
  have hK : K.val = t.val % 16 * 256 + k.val := by rw [hKdef]; show 256 * s + k.val = _; omega
  unfold hidden
  rw [blk3 m c t e K he k hK d]
  simp only [blk0 m c t e R he r hR, blk1 m c t e K he k hK, blk2 m c t e K he k hK]

/-- The output array after the run: the experts' feed-forward networks of the gathered rows. -/
theorem final (c : Dev nD) : (dats m 0 c).arrAt 4 cfg0.N
    = ffn (V m c main_v21) (V m c main_arg2) (V m c main_arg3) (V m c main_arg4) := by
  refine (dats m 0 c).arrAt_eq_of_covers 4 _ (by decide +kernel) fun t hf y => ?_
  blk_simp
  rw [after0_4]
  have ht : t.val % 16 = 15 := (flush0_4 t).mp hf
  have hN : t.val < 512 := lt_of_lt_of_eq t.isLt (show cfg0.N = 512 from N_0)
  have hy0 : (y 0).val < 1 := (y 0).isLt
  have hy1 : (y 1).val < 1024 := (y 1).isLt
  have h0 : (((win0_4.blk t).view.emb y) 0).val = t.val / 32 := by
    show win0_4.index t 0 * 1 + 1 * (y 0).val = _; rw [idx4]; show t.val / 32 * 1 + 1 * (y 0).val = _; omega
  have h1 : (((win0_4.blk t).view.emb y) 1).val = t.val / 16 % 2 * 1024 + (y 1).val := by
    show win0_4.index t 1 * 1024 + 1 * (y 1).val = _; rw [idx4]; show t.val / 16 % 2 * 1024 + 1 * (y 1).val = _; omega
  have h2 : ((win0_4.blk t).view.emb y) 2 = y 2 := by
    apply Fin.ext
    show win0_4.index t 2 * 2048 + 1 * (y 2).val = _; rw [idx4]; show 0 * 2048 + 1 * (y 2).val = _; omega
  refine (outs_eq m c t ht y).trans ?_
  rw [zero_add]
  unfold ffn
  refine Eq.trans ?_ (Sums.fin_blocks _ 16 256 rfl).symm
  refine Finset.sum_congr rfl fun s hs => ?_
  have hs' : s < 16 := Finset.mem_range.mp hs
  have hn : 16 * (t.val / 16) + s < cfg0.N := by rw [show cfg0.N = 512 from N_0]; omega
  unfold term
  rw [dif_pos hn, h2]
  exact addend_eq m c ⟨_, hn⟩ (((win0_4.blk t).view.emb y) 0) (((win0_4.blk t).view.emb y) 1) (by rw [h0]; dsimp only; omega) (y 1)
    (by rw [h1]; dsimp only; omega) (y 2) s (by dsimp only; omega)

end Cert.KernelIdeal.Moe

end
-- ==== Proof.MoeHost.lean ====
/- The host lines around the experts' kernel: the router's softmax and top-k and the gather of each expert's rows before it,
   the weighting, the scatter-add back to the tokens and the layer norm after it — each named once, as a function of what it reads,
   and the program's buffers read as these functions. -/
module

public import proofs.«01_k».proof.Proof.MoeRegion
public import Idealize.ShloMosaic.Lib.StableHlo.Run

@[expose] public section

set_option maxRecDepth 16384

noncomputable section

namespace Cert.KernelIdeal.Moe

open Cert.KernelIdeal Cert.KernelIdeal.Gen Idealize.ShloMosaic Idealize.ShloMosaic.TcCoe Idealize.SL.Sem Idealize.ShloMosaic.StableHlo

variable {F : FTy → Type} [FloatOps F]

/-- The tokens as rows. -/
def rows (x : FVec F S4x4096x2048 .f32) : FVec F S16384x2048 .f32 :=
  shapeCast _ x shapeCasts_S4x4096x2048_S16384x2048

/-- Exponentials of the router's logits, shifted by each token's largest. -/
def expShifted (z : FVec F S16384x16 .f32) : FVec F S16384x16 .f32 :=
  Host.exp (subf z (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf z (constant S_ .f32 0xFF800000#32) reducesTo_S16384x16_S16384_d1 h_S_)))))

/-- The affinities of experts to tokens: each token's softmax over the experts, transposed. -/
def affinity (x : FVec F S4x4096x2048 .f32) (w : FVec F S2048x16 .f32) : FVec F S16x16384 .f32 :=
  let e := expShifted (Host.dotGeneral dot_S16384x2048_S2048x16_S16384x16_1_0_0_1_n_n none (rows x) w)
  transpose S16x16384 [1, 0] (Host.divf e (broadcastInDim S16384x16 ![0, 1] bcast_S16384x1_S16384x16_0_1 (broadcastInDim S16384x1 ![0] bcast_S16384_S16384x1_0 (Host.reduceAdd e (constant S_ .f32 0x00000000#32) reducesTo_S16384x16_S16384_d1 h_S_)))) transposes_S16384x16_S16x16384_1_0

/-- Each expert's largest affinities. -/
def best (a : FVec F S16x16384 .f32) : FVec F S16x2048 .f32 :=
  (Host.topK S16x2048 1 (FloatOps.cmpfTotal .gt) a sliceFits_S16x16384_S16x2048).1

/-- The tokens that have them. -/
def chosen (a : FVec F S16x16384 .f32) : IVec S16x2048 32 :=
  (Host.topK S16x2048 1 (FloatOps.cmpfTotal .gt) a sliceFits_S16x16384_S16x2048).2

/-- The chosen tokens' rows, expert by expert. -/
def gathered (x : FVec F S4x4096x2048 .f32) (idx : IVec S16x2048 32) : FVec F S16x2048x2048 .f32 :=
  Host.gather gather_S16384x2048_S16x2048x1_S16x2048x2048_2_0_n_n_0_2_12048 (rows x) (broadcastInDim S16x2048x1 ![0, 1] bcast_S16x2048_S16x2048x1_0_1 (select (cmpi .slt idx (broadcastInDim S16x2048 ![] bcast_S_S16x2048 (constantI S_ 32 0#32))) (addi idx (broadcastInDim S16x2048 ![] bcast_S_S16x2048 (constantI S_ 32 16384#32))) idx))

/-- The experts' rows weighted by their affinities, added up over each token's experts, and the residual connection. -/
def combine (x : FVec F S4x4096x2048 .f32) (val : FVec F S16x2048 .f32) (idx : IVec S16x2048 32)
    (o : FVec F S16x2048x2048 .f32) : FVec F S4x4096x2048 .f32 :=
  let flat : IVec S32768 32 := shapeCast _ idx shapeCasts_S16x2048_S32768
  addf (mulf (broadcastInDim S4x4096x2048 ![] bcast_S_S4x4096x2048 (constant S_ .f32 0x3F9837F0#32)) x) (shapeCast _ (Host.scatterAdd scatter_S16384x2048_S32768x1_S32768x2048_1_0_0_1 (broadcastInDim S16384x2048 ![] bcast_S_S16384x2048 (constant S_ .f32 0x00000000#32)) (broadcastInDim S32768x1 ![0] bcast_S32768_S32768x1_0 (select (cmpi .slt flat (broadcastInDim S32768 ![] bcast_S_S32768 (constantI S_ 32 0#32))) (addi flat (broadcastInDim S32768 ![] bcast_S_S32768 (constantI S_ 32 16384#32))) flat)) (shapeCast _ (mulf o (broadcastInDim S16x2048x2048 ![0, 1, 2] bcast_S16x2048x1_S16x2048x2048_0_1_2 (broadcastInDim S16x2048x1 ![0, 1] bcast_S16x2048_S16x2048x1_0_1 val))) shapeCasts_S16x2048x2048_S32768x2048)) shapeCasts_S16384x2048_S4x4096x2048)

/-- Each row's mean. -/
def mean (y : FVec F S4x4096x2048 .f32) : FVec F S4x4096x1 .f32 :=
  Host.divf (broadcastInDim S4x4096x1 ![0, 1] bcast_S4x4096_S4x4096x1_0_1 (Host.reduceAdd y (constant S_ .f32 0x00000000#32) reducesTo_S4x4096x2048_S4x4096_d2 h_S_)) (broadcastInDim S4x4096x1 ![] bcast_S_S4x4096x1 (constant S_ .f32 0x45000000#32))

/-- The layer norm of each row. -/
def layerNorm (y : FVec F S4x4096x2048 .f32) (g b : FVec F S2048 .f32) : FVec F S4x4096x2048 .f32 :=
  let z := subf y (broadcastInDim S4x4096x2048 ![0, 1, 2] bcast_S4x4096x1_S4x4096x2048_0_1_2 (mean y))
  addf (mulf (mulf z (broadcastInDim S4x4096x2048 ![0, 1, 2] bcast_S4x4096x1_S4x4096x2048_0_1_2 (Host.rsqrt (addf (mean (mulf z z)) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S1x1x2048_S4x4096x2048_0_1_2 (broadcastInDim S1x1x2048 ![2] bcast_S2048_S1x1x2048_2 b))

variable (W : Valuation τ sig (Elt Ideal))

set_option maxHeartbeats 4000000 in
/-- The lines after the region, from any contents before them. -/
theorem tail_eq : after hostOps1 W (Proc.devRef .tc main_v63)
    = layerNorm (F := Ideal) (combine (W (Proc.devRef .tc main_arg0)) (W (Proc.devRef .tc main_values)) (W (Proc.devRef .tc main_indices)) (W (Proc.devRef .tc main_v22)))
        (W (Proc.devRef .tc main_arg5)) (W (Proc.devRef .tc main_arg6)) := by
  simp only [hostOps1]
  after_results_simp
  dsimp only [layerNorm, mean, combine]
  rfl

set_option maxHeartbeats 4000000 in
theorem head_values : after hostOps0 W (Proc.devRef .tc main_values)
    = best (affinity (F := Ideal) (W (Proc.devRef .tc main_arg0)) (W (Proc.devRef .tc main_arg1))) := by
  simp only [hostOps0]
  after_results_simp
  dsimp only [best, chosen, gathered, affinity, expShifted, rows]
  rfl

set_option maxHeartbeats 4000000 in
theorem head_indices : after hostOps0 W (Proc.devRef .tc main_indices)
    = chosen (affinity (F := Ideal) (W (Proc.devRef .tc main_arg0)) (W (Proc.devRef .tc main_arg1))) := by
  simp only [hostOps0]
  after_results_simp
  dsimp only [best, chosen, gathered, affinity, expShifted, rows]
  rfl

set_option maxHeartbeats 4000000 in
theorem head_rows : after hostOps0 W (Proc.devRef .tc main_v21)
    = gathered (F := Ideal) (W (Proc.devRef .tc main_arg0)) (chosen (affinity (F := Ideal) (W (Proc.devRef .tc main_arg0)) (W (Proc.devRef .tc main_arg1)))) := by
  simp only [hostOps0]
  after_results_simp
  dsimp only [best, chosen, gathered, affinity, expShifted, rows]
  rfl

/-- What the program computes: route, run the experts on the chosen rows, add their weighted rows back, normalise. -/
def layer (x : FVec Ideal S4x4096x2048 .f32) (w : FVec Ideal S2048x16 .f32) (G U : FVec Ideal S16x2048x4096 .f32)
    (D : FVec Ideal S16x4096x2048 .f32) (g b : FVec Ideal S2048 .f32) : FVec Ideal S4x4096x2048 .f32 :=
  layerNorm (combine x (best (affinity x w)) (chosen (affinity x w)) (ffn (gathered x (chosen (affinity x w))) G U D)) g b

end Cert.KernelIdeal.Moe

end
-- ==== Proof.MoeRun.lean ====
/- The kernel's run: the experts' region ends with `Moe.ffn` of the gathered rows, and the host lines after it turn that into
   `Moe.layer` of the arguments. -/
module

public import proofs.«01_k».proof.Proof.MoeHost

@[expose] public section

set_option maxRecDepth 16384

noncomputable section

namespace Cert.KernelIdeal.Moe

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The arrays before the region, as functions of the launch's. -/
theorem V_values (c : Dev nD) : V0 m c (Proc.devRef .tc main_values)
    = best (affinity (F := Ideal) (m ((c.tc : Thread nD τ).loc main_arg0)) (m ((c.tc : Thread nD τ).loc main_arg1))) := by
  unfold V0
  simp only [List.flatten_cons, List.flatten_nil, List.append_nil]
  exact head_values _

theorem V_indices (c : Dev nD) : V0 m c (Proc.devRef .tc main_indices)
    = chosen (affinity (F := Ideal) (m ((c.tc : Thread nD τ).loc main_arg0)) (m ((c.tc : Thread nD τ).loc main_arg1))) := by
  unfold V0
  simp only [List.flatten_cons, List.flatten_nil, List.append_nil]
  exact head_indices _

theorem V_rows (c : Dev nD) : V m c main_v21
    = gathered (F := Ideal) (m ((c.tc : Thread nD τ).loc main_arg0))
        (chosen (affinity (F := Ideal) (m ((c.tc : Thread nD τ).loc main_arg0)) (m ((c.tc : Thread nD τ).loc main_arg1)))) := by
  unfold V V0
  simp only [List.flatten_cons, List.flatten_nil, List.append_nil]
  exact head_rows _

/-- The result after the host lines. -/
theorem tail_layer (c : Dev nD) : Pipeline.afterTail₀ cfgs (dats m) 0 (V0 m) [hostOps1] c main_v63
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  have arr : Pipeline.withArrays spec0 c (V0 m c) (fun w => (dats m 0 c).arrAt w cfg0.N) (Proc.devRef .tc main_v22)
      = ffn (gathered (F := Ideal) (m ((c.tc : Thread nD τ).loc main_arg0))
          (chosen (affinity (F := Ideal) (m ((c.tc : Thread nD τ).loc main_arg0)) (m ((c.tc : Thread nD τ).loc main_arg1)))))
          (m ((c.tc : Thread nD τ).loc main_arg2)) (m ((c.tc : Thread nD τ).loc main_arg3)) (m ((c.tc : Thread nD τ).loc main_arg4)) := by
    rw [← V_rows, ← V_main_arg2 m c, ← V_main_arg3 m c, ← V_main_arg4 m c, ← final m c]
    exact Pipeline.withArrays_arr spec0 (by decide) c (V0 m c) _ 4
  have rest : ∀ b : Ref sig .tc, (∀ w, Pipeline.arrRef spec0 w ≠ b) →
      Pipeline.withArrays spec0 c (V0 m c) (fun w => (dats m 0 c).arrAt w cfg0.N) (Proc.devRef .tc b) = V0 m c (Proc.devRef .tc b) :=
    fun b hb => Pipeline.withArrays_of_ne spec0 c (V0 m c) _ b hb
  unfold Pipeline.afterTail₀
  simp only [List.flatten_cons, List.flatten_nil, List.append_nil]
  refine (tail_eq _).trans ?_
  unfold layer
  have e0 := (rest main_arg0 (by decide)).trans (V_main_arg0 m c)
  have e5 := (rest main_arg5 (by decide)).trans (V_main_arg5 m c)
  have e6 := (rest main_arg6 (by decide)).trans (V_main_arg6 m c)
  have ev := (rest main_values (by decide)).trans (V_values m c)
  have ei := (rest main_indices (by decide)).trans (V_indices m c)
  exact congr (congr (congrArg layerNorm (congr (congr (congr (congrArg combine e0) ev) ei) arr)) e5) e6

/-- The kernel ends with `Moe.layer` of its arguments, which it leaves unchanged. -/
theorem run_layer : θ_run defs (onTc (τ := τ) (main (F := Ideal))) ⟨m, fun _ => 0, ρ⟩ fun r => ∀ c : Dev nD,
      r.2.mem ((c.tc : Thread nD τ).loc main_v63)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hv := (θ_run defs _ _).mono (fun _ h (c : Dev nD) =>
    ((h c).2 main_v63 (Pipeline.mem_restRefs_of main_v63 (by decide) (by decide))).trans (tail_layer m c)) (run_main m ρ)
  exact (θ_run defs _ _).mono (fun _ h c => ⟨h.1 c, h.2 c⟩) (θ_run_and hv (unchanged m ρ))

end Cert.KernelIdeal.Moe

end
-- ==== Proof.MoeReference.lean ====
/- The reference's side of the experts' claim: its three batched products and the SiLU between them, entry by entry, are the
   function `Moe.ffn` the kernel's blocks add up to; so its result is `Moe.layer` of its arguments. -/
module

public import proofs.«01_k».proof.Proof.MoeHost
public import proofs.«01_k».proof.Proof.Gen.ReferenceIdeal.Run

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe Idealize.SL.Sem Idealize.ShloMosaic.StableHlo
open Cert.KernelIdeal.Moe (ffn layer)

/-- The reference's experts: both up projections, the gate's SiLU, the product and the down projection. -/
theorem experts_eq (X : FVec Ideal S16x2048x2048 .f32) (G U : FVec Ideal S16x2048x4096 .f32) (D : FVec Ideal S16x4096x2048 .f32) :
    Host.dotGeneral dot_S16x2048x4096_S16x4096x2048_S16x2048x2048_2_1_1_2_0_0 none
      (mulf (mulf (Host.dotGeneral dot_S16x2048x2048_S16x2048x4096_S16x2048x4096_2_1_1_2_0_0 none X G)
          (Host.divf (broadcastInDim S16x2048x4096 ![] bcast_S_S16x2048x4096 (constant S_ .f32 0x3F800000#32))
            (addf (broadcastInDim S16x2048x4096 ![] bcast_S_S16x2048x4096 (constant S_ .f32 0x3F800000#32))
              (Host.exp (Host.negf (Host.dotGeneral dot_S16x2048x2048_S16x2048x4096_S16x2048x4096_2_1_1_2_0_0 none X G))))))
        (Host.dotGeneral dot_S16x2048x2048_S16x2048x4096_S16x2048x4096_2_1_1_2_0_0 none X U)) D
      = ffn X G U D := by
  funext i
  idx_vars i
  unfold ffn Cert.KernelIdeal.Moe.hidden
  pointwise
  rfl

set_option maxHeartbeats 4000000 in
/-- The reference ends with `Moe.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run m ρ)
  simp only [res_main_v48, res_main_v46, res_main_v42, res_main_v30, res_main_v21]
  rw [experts_eq]
  rfl

end Cert.ReferenceIdeal.Moe

end
-- ==== Proof.Mm2.lean ====
/- The matrix products of `Kernel2Ideal`: what each `mm` region leaves in its output array. A grid point takes 1024 rows of the
   left matrix and 512 columns of the right one whole along the contracted axis, so every block it writes back is that block
   of the product. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Mm

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-! ## Region 0: 16384×2048 times 2048×13824 -/

/-- The product of the two matrices. -/
def product0 (X : Vec Ideal S16384x2048 .bf16) (W : Vec Ideal S2048x13824 .bf16) : Vec Ideal S16384x13824 .f32 :=
  fun i => ∑ j : Fin 2048, X (ix2 (i 0) j) * W (ix2 j (i 1))

/-- The body's stored value, entry by entry. -/
theorem pay0_apply (x0 : Vec Ideal S1024x2048 .bf16) (x1 : Vec Ideal S2048x512 .bf16) (a : Fin 1024) (b : Fin 512) :
    k0_pay1 x0 x1 (ix2 a b) = ∑ j : Fin 2048, x0 (ix2 a j) * x1 (ix2 j b) := by
  pointwise [k0_pay1]

theorem idx0_0 : ∀ t : Fin cfg0.N, win0_0.index t = ![t.val / 27, 0] := (by decide +kernel : ∀ t : Fin grid0.N, _)
theorem idx0_1 : ∀ t : Fin cfg0.N, win0_1.index t = ![0, t.val % 27] := (by decide +kernel : ∀ t : Fin grid0.N, _)
theorem idx0_2 : ∀ t : Fin cfg0.N, win0_2.index t = ![t.val / 27, t.val % 27] := (by decide +kernel : ∀ t : Fin grid0.N, _)

/-- Row `a` of the left block at point `t` is row `R` of the left matrix. -/
theorem left0 (c : Dev nD) (t : Fin cfg0.N) (a : Fin 1024) (R : Fin 16384) (hR : R.val = t.val / 27 * 1024 + a.val) (j : Fin 2048) :
    (iblk m c 0 t : Vec Ideal S1024x2048 .bf16) (ix2 a j) = (V m c main_v6 : Vec Ideal S16384x2048 .bf16) (ix2 R j) := by
  unfold iblk
  rw [View.read_apply]
  show V m c main_v6 _ = V m c main_v6 _
  congr 1
  funext d
  apply Fin.ext
  match d with
  | ⟨0, _⟩ => show win0_0.index t 0 * 1024 + 1 * a.val = R.val; rw [idx0_0]; show t.val / 27 * 1024 + 1 * a.val = _; omega
  | ⟨1, _⟩ => show win0_0.index t 1 * 2048 + 1 * j.val = j.val; rw [idx0_0]; show 0 * 2048 + 1 * j.val = _; omega

/-- Column `b` of the right block at point `t` is column `C` of the right matrix. -/
theorem right0 (c : Dev nD) (t : Fin cfg0.N) (b : Fin 512) (C : Fin 13824) (hC : C.val = t.val % 27 * 512 + b.val) (j : Fin 2048) :
    (iblk m c 1 t : Vec Ideal S2048x512 .bf16) (ix2 j b) = (V m c main_v4 : Vec Ideal S2048x13824 .bf16) (ix2 j C) := by
  unfold iblk
  rw [View.read_apply]
  show V m c main_v4 _ = V m c main_v4 _
  congr 1
  funext d
  apply Fin.ext
  match d with
  | ⟨0, _⟩ => show win0_1.index t 0 * 2048 + 1 * j.val = j.val; rw [idx0_1]; show 0 * 2048 + 1 * j.val = _; omega
  | ⟨1, _⟩ => show win0_1.index t 1 * 512 + 1 * b.val = C.val; rw [idx0_1]; show t.val % 27 * 512 + 1 * b.val = _; omega

/-- The region's output array after the run. -/
theorem final0 (c : Dev nD) : (dats m 0 c).arrAt 2 cfg0.N = product0 (V m c main_v6) (V m c main_v4) := by
  refine (dats m 0 c).arrAt_eq_of_covers 2 _ (by decide +kernel) fun t hf y => ?_
  blk_simp
  rw [after0_2]
  frame_out
  have hN : t.val < 432 := lt_of_lt_of_eq t.isLt (show cfg0.N = 432 from N_0)
  have hy0 : (y 0).val < 1024 := (y 0).isLt
  have hy1 : (y 1).val < 512 := (y 1).isLt
  have h0 : (((win0_2.blk t).view.emb y) 0).val = t.val / 27 * 1024 + (y 0).val := by
    show win0_2.index t 0 * 1024 + 1 * (y 0).val = _; rw [idx0_2]; show t.val / 27 * 1024 + 1 * (y 0).val = _; omega
  have h1 : (((win0_2.blk t).view.emb y) 1).val = t.val % 27 * 512 + (y 1).val := by
    show win0_2.index t 1 * 512 + 1 * (y 1).val = _; rw [idx0_2]; show t.val % 27 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 m c t (y 0) (((win0_2.blk t).view.emb y) 0) h0 j, right0 m c t (y 1) (((win0_2.blk t).view.emb y) 1) h1 j]

end Cert.Kernel2Ideal.Mm

end
-- ==== Proof.Start.lean ====
/- The layer's start: the input projection and, from its columns, the short convolutions, the queries and the gates. The kernel's
   projection has 96 columns of zeros after the first 6560; no result reads them. -/
module

public import proofs.«01_k».proof.Proof.Mm2
public import Idealize.ShloMosaic.Lib.StableHlo.Run

@[expose] public section

set_option maxRecDepth 16384

noncomputable section

namespace Cert.Kernel2Ideal.Start

open Cert.Kernel2Ideal Cert.Kernel2Ideal.Gen Cert.Kernel2Ideal.Mm Idealize.ShloMosaic Idealize.ShloMosaic.TcCoe Idealize.SL.Sem Idealize.ShloMosaic.StableHlo

/-! ## The mathematics -/

/-- Column `n` of the input projection. -/
def column (x : FVec Ideal S4x4096x2048 .f32) (w : FVec Ideal S2048x13728 .f32) (b : Fin 4) (l : Fin 4096) (n : Fin 13728) : EReal :=
  ∑ j : Fin 2048, x (ix3 b l j) * w (ix2 j n)

/-- What stands before the first token and after the last one: zero, as the cast of the integer. -/
def outside : EReal := FloatOps.sitofp (F := Ideal) FTy.f32 0#32

/-- Column `n` of the short convolution over the tokens: the token before, the token and the token after. -/
def conv (x : FVec Ideal S4x4096x2048 .f32) (w : FVec Ideal S2048x13728 .f32) (k : FVec Ideal S3x6560 .f32) (b : Fin 4) (l : Fin 4096) (n : Fin 6560) : EReal :=
  (k (ix2 0 n) * (if h : 1 ≤ l.val ∧ l.val - 1 < 4096 then column x w b ⟨l.val - 1, h.2⟩ ⟨n.val, by omega⟩ else outside)
    + k (ix2 1 n) * column x w b l ⟨n.val, by omega⟩)
  + k (ix2 2 n) * (if h : 1 ≤ 2 + l.val ∧ 2 + l.val - 1 < 4096 then column x w b ⟨2 + l.val - 1, h.2⟩ ⟨n.val, by omega⟩ else outside)

/-- Columns 0 to 3071 of the short convolution. -/
def short_0 (x : FVec Ideal S4x4096x2048 .f32) (w : FVec Ideal S2048x13728 .f32) (k : FVec Ideal S3x6560 .f32) : FVec Ideal S4x4096x3072 .f32 :=
  fun i => conv x w k (i 0) (i 1) ⟨(i 2).val, by have h : (i 2).val < 3072 := (i 2).isLt; omega⟩

/-- Columns 3072 to 6143 of the short convolution. -/
def short_3072 (x : FVec Ideal S4x4096x2048 .f32) (w : FVec Ideal S2048x13728 .f32) (k : FVec Ideal S3x6560 .f32) : FVec Ideal S4x4096x3072 .f32 :=
  fun i => conv x w k (i 0) (i 1) ⟨3072 + (i 2).val, by have h : (i 2).val < 3072 := (i 2).isLt; omega⟩

/-- Columns 6144 to 6559 of the short convolution. -/
def short_6144 (x : FVec Ideal S4x4096x2048 .f32) (w : FVec Ideal S2048x13728 .f32) (k : FVec Ideal S3x6560 .f32) : FVec Ideal S4x4096x416 .f32 :=
  fun i => conv x w k (i 0) (i 1) ⟨6144 + (i 2).val, by have h : (i 2).val < 416 := (i 2).isLt; omega⟩

/-- The queries of the memory attention. -/
def queries (x : FVec Ideal S4x4096x2048 .f32) (w : FVec Ideal S2048x13728 .f32) : FVec Ideal S4x4096x1024 .f32 :=
  fun i => column x w (i 0) (i 1) ⟨6560 + (i 2).val, by have h : (i 2).val < 1024 := (i 2).isLt; omega⟩

/-- The logistic function. -/
def logistic (t : EReal) : EReal :=
  Ideal.div 1 (1 + Ideal.exp (-t))

/-- The branches' gates before they are split by branch. -/
def gates (x : FVec Ideal S4x4096x2048 .f32) (w : FVec Ideal S2048x13728 .f32) : FVec Ideal S4x4096x6144 .f32 :=
  fun i => logistic (column x w (i 0) (i 1) ⟨7584 + (i 2).val, by have h : (i 2).val < 6144 := (i 2).isLt; omega⟩)

/-! ## The kernel's host lines -/

section Lines
variable {F : FTy → Type} [FloatOps F]

/-- The projection's weight with 96 columns of zeros after the first 6560. -/
def weight (w : FVec F S2048x13728 .f32) : FVec F S2048x13824 .f32 :=
  concatenate S2048x13824 1 [⟨S2048x6560, extractStridedSlice S2048x6560 ![0, 0] w slices_S2048x13728_S2048x6560_0_0⟩,
    ⟨S2048x96, broadcastInDim S2048x96 ![] bcast_S_S2048x96 (constant S_ .f32 0x00000000#32 : FVec F S_ .f32)⟩,
    ⟨S2048x7168, extractStridedSlice S2048x7168 ![0, 6560] w slices_S2048x13728_S2048x7168_0_6560⟩] concatenates_S2048x6560_S2048x96_S2048x7168_S2048x13824_d1

/-- Zero padding along the tokens, 3072 columns. -/
def padded3072 (u : FVec F S4x4096x3072 .f32) : FVec F S4x4098x3072 .f32 :=
  pad S4x4098x3072 ![0, 1, 0] ![0, 1, 0] ![0, 0, 0] u (sitofp .f32 (constantI S_ 32 0#32) : FVec F S_ .f32) pads_S4x4096x3072_S4x4098x3072_000_110_000 h_S_

/-- One tap of a short convolution of 3072 columns: the tap's weights times the shifted tokens. -/
def tap3072 (w : FVec F S3072 .f32) (u : FVec F S4x4096x3072 .f32) : FVec F S4x4096x3072 .f32 :=
  mulf (broadcastInDim S4x4096x3072 ![0, 1, 2] bcast_S1x1x3072_S4x4096x3072_0_1_2 (broadcastInDim S1x1x3072 ![2] bcast_S3072_S1x1x3072_2 w)) u

/-- The short convolution of 3072 columns, the host's lines. -/
def conv3072 (u : FVec F S4x4096x3072 .f32) (k : FVec F S3x3072 .f32) : FVec F S4x4096x3072 .f32 :=
  addf (addf (tap3072 (shapeCast _ (extractStridedSlice S1x3072 ![0, 0] k slices_S3x3072_S1x3072_0_0) shapeCasts_S1x3072_S3072)
        (extractStridedSlice S4x4096x3072 ![0, 0, 0] (padded3072 u) slices_S4x4098x3072_S4x4096x3072_0_0_0))
      (tap3072 (shapeCast _ (extractStridedSlice S1x3072 ![1, 0] k slices_S3x3072_S1x3072_1_0) shapeCasts_S1x3072_S3072)
        (extractStridedSlice S4x4096x3072 ![0, 1, 0] (padded3072 u) slices_S4x4098x3072_S4x4096x3072_0_1_0)))
    (tap3072 (shapeCast _ (extractStridedSlice S1x3072 ![2, 0] k slices_S3x3072_S1x3072_2_0) shapeCasts_S1x3072_S3072)
      (extractStridedSlice S4x4096x3072 ![0, 2, 0] (padded3072 u) slices_S4x4098x3072_S4x4096x3072_0_2_0))

/-- Zero padding along the tokens, 416 columns. -/
def padded416 (u : FVec F S4x4096x416 .f32) : FVec F S4x4098x416 .f32 :=
  pad S4x4098x416 ![0, 1, 0] ![0, 1, 0] ![0, 0, 0] u (sitofp .f32 (constantI S_ 32 0#32) : FVec F S_ .f32) pads_S4x4096x416_S4x4098x416_000_110_000 h_S_

/-- One tap of a short convolution of 416 columns: the tap's weights times the shifted tokens. -/
def tap416 (w : FVec F S416 .f32) (u : FVec F S4x4096x416 .f32) : FVec F S4x4096x416 .f32 :=
  mulf (broadcastInDim S4x4096x416 ![0, 1, 2] bcast_S1x1x416_S4x4096x416_0_1_2 (broadcastInDim S1x1x416 ![2] bcast_S416_S1x1x416_2 w)) u

/-- The short convolution of 416 columns, the host's lines. -/
def conv416 (u : FVec F S4x4096x416 .f32) (k : FVec F S3x416 .f32) : FVec F S4x4096x416 .f32 :=
  addf (addf (tap416 (shapeCast _ (extractStridedSlice S1x416 ![0, 0] k slices_S3x416_S1x416_0_0) shapeCasts_S1x416_S416)
        (extractStridedSlice S4x4096x416 ![0, 0, 0] (padded416 u) slices_S4x4098x416_S4x4096x416_0_0_0))
      (tap416 (shapeCast _ (extractStridedSlice S1x416 ![1, 0] k slices_S3x416_S1x416_1_0) shapeCasts_S1x416_S416)
        (extractStridedSlice S4x4096x416 ![0, 1, 0] (padded416 u) slices_S4x4098x416_S4x4096x416_0_1_0)))
    (tap416 (shapeCast _ (extractStridedSlice S1x416 ![2, 0] k slices_S3x416_S1x416_2_0) shapeCasts_S1x416_S416)
      (extractStridedSlice S4x4096x416 ![0, 2, 0] (padded416 u) slices_S4x4098x416_S4x4096x416_0_2_0))

/-- The gates' lines. -/
def gateLines (u : FVec F S4x4096x6144 .f32) : FVec F S4x4096x6144 .f32 :=
  Host.divf (broadcastInDim S4x4096x6144 ![] bcast_S_S4x4096x6144 (constant S_ .f32 0x3F800000#32))
    (addf (broadcastInDim S4x4096x6144 ![] bcast_S_S4x4096x6144 (constant S_ .f32 0x3F800000#32)) (Host.exp (Host.negf u)))

end Lines

/-- The projection as the region and the reshape after it leave it. -/
def wide (x : FVec Ideal S4x4096x2048 .f32) (w : FVec Ideal S2048x13728 .f32) : FVec Ideal S4x4096x13824 .f32 :=
  shapeCast (α := EReal) S4x4096x13824 (product0 (shapeCast (α := EReal) S16384x2048 x shapeCasts_S4x4096x2048_S16384x2048) (weight (F := Ideal) w)) shapeCasts_S16384x13824_S4x4096x13824

/-! ## The lines compute the mathematics -/

theorem weight_low (w : FVec Ideal S2048x13728 .f32) (j : Fin 2048) (n : Fin 13824) (h : n.val < 6560) :
    weight (F := Ideal) w (ix2 j n) = w (ix2 j ⟨n.val, by omega⟩) := by
  unfold weight
  pointwise
  rw [dif_pos h]

theorem weight_high (w : FVec Ideal S2048x13728 .f32) (j : Fin 2048) (n : Fin 13824) (h : 6656 ≤ n.val) :
    weight (F := Ideal) w (ix2 j n) = w (ix2 j ⟨n.val - 96, by omega⟩) := by
  unfold weight
  pointwise
  rw [dif_neg (by omega), dif_neg (by omega)]
  exact congrArg (fun n => w (ix2 j n)) (Fin.ext (by show 6560 + (n.val - 6560 - 96) = n.val - 96; omega))

theorem wide_apply (x : FVec Ideal S4x4096x2048 .f32) (w : FVec Ideal S2048x13728 .f32) (b : Fin 4) (l : Fin 4096) (n : Fin 13824) :
    wide x w (ix3 b l n) = ∑ j : Fin 2048, x (ix3 b l j) * weight (F := Ideal) w (ix2 j n) := by
  unfold wide
  pointwise [product0]
  done

theorem wide_low (x : FVec Ideal S4x4096x2048 .f32) (w : FVec Ideal S2048x13728 .f32) (b : Fin 4) (l : Fin 4096) (n : Fin 13824) (h : n.val < 6560) :
    wide x w (ix3 b l n) = column x w b l ⟨n.val, by omega⟩ := by
  rw [wide_apply]
  exact Finset.sum_congr rfl fun j _ => by rw [weight_low w j n h]

theorem wide_high (x : FVec Ideal S4x4096x2048 .f32) (w : FVec Ideal S2048x13728 .f32) (b : Fin 4) (l : Fin 4096) (n : Fin 13824) (h : 6656 ≤ n.val) :
    wide x w (ix3 b l n) = column x w b l ⟨n.val - 96, by omega⟩ := by
  rw [wide_apply]
  exact Finset.sum_congr rfl fun j _ => by rw [weight_high w j n h]

theorem conv3072_0 (x : FVec Ideal S4x4096x2048 .f32) (w : FVec Ideal S2048x13728 .f32) (k : FVec Ideal S3x6560 .f32) :
    conv3072 (F := Ideal) (extractStridedSlice S4x4096x3072 ![0, 0, 0] (wide x w) slices_S4x4096x13824_S4x4096x3072_0_0_0)
      (extractStridedSlice S3x3072 ![0, 0] k slices_S3x6560_S3x3072_0_0) = short_0 x w k := by
  funext i
  idx_vars i
  unfold conv3072 tap3072 padded3072 short_0 conv
  have e : ∀ (b : Fin 4) (l : Fin 4096), wide x w (ix3 b l ⟨i2.val, by omega⟩) = column x w b l ⟨i2.val, by omega⟩ :=
    fun b l => wide_low x w b l _ (by show i2.val < 6560; omega)
  pointwise
  simp only [e]
  rfl

theorem conv3072_3072 (x : FVec Ideal S4x4096x2048 .f32) (w : FVec Ideal S2048x13728 .f32) (k : FVec Ideal S3x6560 .f32) :
    conv3072 (F := Ideal) (extractStridedSlice S4x4096x3072 ![0, 0, 3072] (wide x w) slices_S4x4096x13824_S4x4096x3072_0_0_3072)
      (extractStridedSlice S3x3072 ![0, 3072] k slices_S3x6560_S3x3072_0_3072) = short_3072 x w k := by
  funext i
  idx_vars i
  unfold conv3072 tap3072 padded3072 short_3072 conv
  have e : ∀ (b : Fin 4) (l : Fin 4096), wide x w (ix3 b l ⟨3072 + i2.val, by omega⟩) = column x w b l ⟨3072 + i2.val, by omega⟩ :=
    fun b l => wide_low x w b l _ (by show 3072 + i2.val < 6560; omega)
  pointwise
  simp only [e]
  rfl

theorem conv416_6144 (x : FVec Ideal S4x4096x2048 .f32) (w : FVec Ideal S2048x13728 .f32) (k : FVec Ideal S3x6560 .f32) :
    conv416 (F := Ideal) (extractStridedSlice S4x4096x416 ![0, 0, 6144] (wide x w) slices_S4x4096x13824_S4x4096x416_0_0_6144)
      (extractStridedSlice S3x416 ![0, 6144] k slices_S3x6560_S3x416_0_6144) = short_6144 x w k := by
  funext i
  idx_vars i
  unfold conv416 tap416 padded416 short_6144 conv
  have e : ∀ (b : Fin 4) (l : Fin 4096), wide x w (ix3 b l ⟨6144 + i2.val, by omega⟩) = column x w b l ⟨6144 + i2.val, by omega⟩ :=
    fun b l => wide_low x w b l _ (by show 6144 + i2.val < 6560; omega)
  pointwise
  simp only [e]
  rfl

theorem queries_eq (x : FVec Ideal S4x4096x2048 .f32) (w : FVec Ideal S2048x13728 .f32) :
    extractStridedSlice S4x4096x1024 ![0, 0, 6656] (wide x w) slices_S4x4096x13824_S4x4096x1024_0_0_6656 = queries x w := by
  funext i
  idx_vars i
  unfold queries
  pointwise
  refine (wide_high x w i0 i1 _ (by show 6656 ≤ 6656 + i2.val; omega)).trans ?_
  exact congrArg (column x w i0 i1) (Fin.ext (by show 6656 + i2.val - 96 = 6560 + i2.val; omega))

theorem gates_eq (x : FVec Ideal S4x4096x2048 .f32) (w : FVec Ideal S2048x13728 .f32) :
    gateLines (F := Ideal) (extractStridedSlice S4x4096x6144 ![0, 0, 7680] (wide x w) slices_S4x4096x13824_S4x4096x6144_0_0_7680) = gates x w := by
  funext i
  idx_vars i
  unfold gates gateLines
  pointwise
  rw [wide_high x w i0 i1 _ (by show 6656 ≤ 7680 + i2.val; omega)]
  exact congrArg (fun n => logistic (column x w i0 i1 n)) (Fin.ext (by show 7680 + i2.val - 96 = 7584 + i2.val; omega))

end Cert.Kernel2Ideal.Start

end
-- ==== Proof.StartRun.lean ====
/- The start's kernel: the projection's array after the region, the host lines after it, and the run with its five results. -/
module

public import proofs.«01_k».proof.Proof.Start

@[expose] public section

set_option maxRecDepth 16384

noncomputable section

namespace Cert.Kernel2Ideal.Start

open Cert.Kernel2Ideal Cert.Kernel2Ideal.Gen Cert.Kernel2Ideal.Mm Idealize.ShloMosaic Idealize.ShloMosaic.TcCoe Idealize.SL.Sem Idealize.ShloMosaic.StableHlo

/-! ## The host stretches, from any contents -/

/-- The host lines after the region. -/
abbrev tail : List (HloOp τ sig (Elt Ideal)) :=
  List.flatten [hostOps1, hostOps1_1, hostOps1_2, hostOps1_3, hostOps1_4, hostOps1_5, hostOps1_6]

section Host
variable (W : Valuation τ sig (Elt Ideal))

theorem head_weight : after hostOps0 W (Proc.devRef .tc main_v4) = weight (F := Ideal) (W (Proc.devRef .tc main_arg1)) := by
  simp only [hostOps0]; after_results_simp; dsimp only [weight]; rfl

theorem head_rows : after hostOps0 W (Proc.devRef .tc main_v6)
    = shapeCast (α := EReal) S16384x2048 (W (Proc.devRef .tc main_arg0)) shapeCasts_S4x4096x2048_S16384x2048 := by
  simp only [hostOps0]; after_results_simp; rfl

set_option maxHeartbeats 4000000 in
theorem tail_hy : after tail W (Proc.devRef .tc main_v31)
    = conv3072 (F := Ideal) (extractStridedSlice S4x4096x3072 ![0, 0, 0] (shapeCast (α := EReal) S4x4096x13824 (W (Proc.devRef .tc main_v7)) shapeCasts_S16384x13824_S4x4096x13824) slices_S4x4096x13824_S4x4096x3072_0_0_0)
        (extractStridedSlice S3x3072 ![0, 0] (W (Proc.devRef .tc main_arg2)) slices_S3x6560_S3x3072_0_0) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv3072, tap3072, padded3072]
  rfl

set_option maxHeartbeats 4000000 in
theorem tail_rw : after tail W (Proc.devRef .tc main_v54)
    = conv3072 (F := Ideal) (extractStridedSlice S4x4096x3072 ![0, 0, 3072] (shapeCast (α := EReal) S4x4096x13824 (W (Proc.devRef .tc main_v7)) shapeCasts_S16384x13824_S4x4096x13824) slices_S4x4096x13824_S4x4096x3072_0_0_3072)
        (extractStridedSlice S3x3072 ![0, 3072] (W (Proc.devRef .tc main_arg2)) slices_S3x6560_S3x3072_0_3072) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv3072, tap3072, padded3072]
  rfl

set_option maxHeartbeats 4000000 in
theorem tail_lo : after tail W (Proc.devRef .tc main_v77)
    = conv416 (F := Ideal) (extractStridedSlice S4x4096x416 ![0, 0, 6144] (shapeCast (α := EReal) S4x4096x13824 (W (Proc.devRef .tc main_v7)) shapeCasts_S16384x13824_S4x4096x13824) slices_S4x4096x13824_S4x4096x416_0_0_6144)
        (extractStridedSlice S3x416 ![0, 6144] (W (Proc.devRef .tc main_arg2)) slices_S3x6560_S3x416_0_6144) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv416, tap416, padded416]
  rfl

set_option maxHeartbeats 4000000 in
theorem tail_queries : after tail W (Proc.devRef .tc main_v86)
    = extractStridedSlice S4x4096x1024 ![0, 0, 6656] (shapeCast (α := EReal) S4x4096x13824 (W (Proc.devRef .tc main_v7)) shapeCasts_S16384x13824_S4x4096x13824) slices_S4x4096x13824_S4x4096x1024_0_0_6656 := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  rfl

set_option maxHeartbeats 4000000 in
theorem tail_gates : after tail W (Proc.devRef .tc main_v85)
    = shapeCast (α := EReal) S4x4096x3x2048 (gateLines (F := Ideal) (extractStridedSlice S4x4096x6144 ![0, 0, 7680] (shapeCast (α := EReal) S4x4096x13824 (W (Proc.devRef .tc main_v7)) shapeCasts_S16384x13824_S4x4096x13824) slices_S4x4096x13824_S4x4096x6144_0_0_7680)) shapeCasts_S4x4096x6144_S4x4096x3x2048 := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [gateLines]
  rfl

end Host

/-! ## From the launch to the results -/

variable (m : (ℓ : Loc nD τ sig) → Buf (Elt Ideal) ℓ) (ρ : Dev nD → PrngReg)

theorem V_rows (c : Dev nD) : V m c main_v6 = shapeCast (α := EReal) S16384x2048 (m ((c.tc : Thread nD τ).loc main_arg0)) shapeCasts_S4x4096x2048_S16384x2048 := by
  unfold V V0
  simp only [List.flatten_cons, List.flatten_nil, List.append_nil]
  exact head_rows _

theorem V_weight (c : Dev nD) : V m c main_v4 = weight (F := Ideal) (m ((c.tc : Thread nD τ).loc main_arg1)) := by
  unfold V V0
  simp only [List.flatten_cons, List.flatten_nil, List.append_nil]
  exact head_weight _

/-- A buffer the region does not write keeps its contents. -/
theorem rest (c : Dev nD) (b : Ref sig .tc) (hb : ∀ w, Pipeline.arrRef spec0 w ≠ b) :
    Pipeline.withArrays spec0 c (V0 m c) (fun w => (dats m 0 c).arrAt w cfg0.N) (Proc.devRef .tc b) = V0 m c (Proc.devRef .tc b) :=
  Pipeline.withArrays_of_ne spec0 c (V0 m c) _ b hb

/-- The projection, reshaped, after the region. -/
theorem product_end (c : Dev nD) :
    shapeCast (α := EReal) S4x4096x13824 (Pipeline.withArrays spec0 c (V0 m c) (fun w => (dats m 0 c).arrAt w cfg0.N) (Proc.devRef .tc main_v7)) shapeCasts_S16384x13824_S4x4096x13824
      = wide (m ((c.tc : Thread nD τ).loc main_arg0)) (m ((c.tc : Thread nD τ).loc main_arg1)) := by
  unfold wide
  rw [← V_rows m c, ← V_weight m c, ← final0 m c]
  exact congrArg (fun a => shapeCast (α := EReal) S4x4096x13824 a shapeCasts_S16384x13824_S4x4096x13824)
    (Pipeline.withArrays_arr spec0 (by decide) c (V0 m c) _ 2)

theorem end_hy (c : Dev nD) : Pipeline.afterTail₀ cfgs (dats m) 0 (V0 m) [hostOps1, hostOps1_1, hostOps1_2, hostOps1_3, hostOps1_4, hostOps1_5, hostOps1_6] c main_v31 = short_0 (m ((c.tc : Thread nD τ).loc main_arg0)) (m ((c.tc : Thread nD τ).loc main_arg1)) (m ((c.tc : Thread nD τ).loc main_arg2)) := by
  unfold Pipeline.afterTail₀
  refine (tail_hy _).trans ?_
  have e2 := (rest m c main_arg2 (by decide)).trans (V_main_arg2 m c)
  rw [product_end m c, e2]
  exact conv3072_0 _ _ _

theorem end_rw (c : Dev nD) : Pipeline.afterTail₀ cfgs (dats m) 0 (V0 m) [hostOps1, hostOps1_1, hostOps1_2, hostOps1_3, hostOps1_4, hostOps1_5, hostOps1_6] c main_v54 = short_3072 (m ((c.tc : Thread nD τ).loc main_arg0)) (m ((c.tc : Thread nD τ).loc main_arg1)) (m ((c.tc : Thread nD τ).loc main_arg2)) := by
  unfold Pipeline.afterTail₀
  refine (tail_rw _).trans ?_
  have e2 := (rest m c main_arg2 (by decide)).trans (V_main_arg2 m c)
  rw [product_end m c, e2]
  exact conv3072_3072 _ _ _

theorem end_lo (c : Dev nD) : Pipeline.afterTail₀ cfgs (dats m) 0 (V0 m) [hostOps1, hostOps1_1, hostOps1_2, hostOps1_3, hostOps1_4, hostOps1_5, hostOps1_6] c main_v77 = short_6144 (m ((c.tc : Thread nD τ).loc main_arg0)) (m ((c.tc : Thread nD τ).loc main_arg1)) (m ((c.tc : Thread nD τ).loc main_arg2)) := by
  unfold Pipeline.afterTail₀
  refine (tail_lo _).trans ?_
  have e2 := (rest m c main_arg2 (by decide)).trans (V_main_arg2 m c)
  rw [product_end m c, e2]
  exact conv416_6144 _ _ _

theorem end_queries (c : Dev nD) : Pipeline.afterTail₀ cfgs (dats m) 0 (V0 m) [hostOps1, hostOps1_1, hostOps1_2, hostOps1_3, hostOps1_4, hostOps1_5, hostOps1_6] c main_v86 = queries (m ((c.tc : Thread nD τ).loc main_arg0)) (m ((c.tc : Thread nD τ).loc main_arg1)) := by
  unfold Pipeline.afterTail₀
  refine (tail_queries _).trans ?_
  rw [product_end m c]
  exact queries_eq _ _

theorem end_gates (c : Dev nD) : Pipeline.afterTail₀ cfgs (dats m) 0 (V0 m) [hostOps1, hostOps1_1, hostOps1_2, hostOps1_3, hostOps1_4, hostOps1_5, hostOps1_6] c main_v85
    = shapeCast (α := EReal) S4x4096x3x2048 (gates (m ((c.tc : Thread nD τ).loc main_arg0)) (m ((c.tc : Thread nD τ).loc main_arg1))) shapeCasts_S4x4096x6144_S4x4096x3x2048 := by
  unfold Pipeline.afterTail₀
  refine (tail_gates _).trans ?_
  rw [product_end m c, gates_eq]

/-- The kernel ends with the five results of its arguments, which it leaves unchanged. -/
theorem run_layer : θ_run defs (onTc (τ := τ) (main (F := Ideal))) ⟨m, fun _ => 0, ρ⟩ fun r => ∀ c : Dev nD,
      r.2.mem ((c.tc : Thread nD τ).loc main_v31) = short_0 (m ((c.tc : Thread nD τ).loc main_arg0)) (m ((c.tc : Thread nD τ).loc main_arg1)) (m ((c.tc : Thread nD τ).loc main_arg2))
      ∧ r.2.mem ((c.tc : Thread nD τ).loc main_v54) = short_3072 (m ((c.tc : Thread nD τ).loc main_arg0)) (m ((c.tc : Thread nD τ).loc main_arg1)) (m ((c.tc : Thread nD τ).loc main_arg2))
      ∧ r.2.mem ((c.tc : Thread nD τ).loc main_v77) = short_6144 (m ((c.tc : Thread nD τ).loc main_arg0)) (m ((c.tc : Thread nD τ).loc main_arg1)) (m ((c.tc : Thread nD τ).loc main_arg2))
      ∧ r.2.mem ((c.tc : Thread nD τ).loc main_v86) = queries (m ((c.tc : Thread nD τ).loc main_arg0)) (m ((c.tc : Thread nD τ).loc main_arg1))
      ∧ r.2.mem ((c.tc : Thread nD τ).loc main_v85) = shapeCast (α := EReal) S4x4096x3x2048 (gates (m ((c.tc : Thread nD τ).loc main_arg0)) (m ((c.tc : Thread nD τ).loc main_arg1))) shapeCasts_S4x4096x6144_S4x4096x3x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv := (θ_run defs _ _).mono (fun _ h (c : Dev nD) =>
    And.intro (((h c).2 main_v31 (Pipeline.mem_restRefs_of main_v31 (by decide) (by decide))).trans (end_hy m c))
    (And.intro (((h c).2 main_v54 (Pipeline.mem_restRefs_of main_v54 (by decide) (by decide))).trans (end_rw m c))
    (And.intro (((h c).2 main_v77 (Pipeline.mem_restRefs_of main_v77 (by decide) (by decide))).trans (end_lo m c))
    (And.intro (((h c).2 main_v86 (Pipeline.mem_restRefs_of main_v86 (by decide) (by decide))).trans (end_queries m c))
      (((h c).2 main_v85 (Pipeline.mem_restRefs_of main_v85 (by decide) (by decide))).trans (end_gates m c)))))) (run_main m ρ)
  exact (θ_run defs _ _).mono (fun _ h c => ⟨(h.1 c).1, (h.1 c).2.1, (h.1 c).2.2.1, (h.1 c).2.2.2.1, (h.1 c).2.2.2.2, h.2 c⟩) (θ_run_and hv (unchanged m ρ))

end Cert.Kernel2Ideal.Start

end
-- ==== Proof.StartReference.lean ====
/- The start's reference: its run ends with the same five functions of the arguments as the kernel's. -/
module

public import proofs.«01_k».proof.Proof.Start
public import proofs.«01_k».proof.Proof.Gen.Reference2Ideal.Run

@[expose] public section

set_option maxRecDepth 16384

noncomputable section

namespace Cert.Reference2Ideal.Start

open Cert.Reference2Ideal Cert.Reference2Ideal.Gen Cert.Reference2Ideal.Value Idealize.ShloMosaic Idealize.ShloMosaic.TcCoe Idealize.SL.Sem Idealize.ShloMosaic.StableHlo
open Cert.Kernel2Ideal.Start (column outside conv short_0 short_3072 short_6144 queries gates)

/-- The reference's projection. -/
def projected (x : FVec Ideal S4x4096x2048 .f32) (w : FVec Ideal S2048x13728 .f32) : FVec Ideal S4x4096x13728 .f32 :=
  Host.dotGeneral dot_S4x4096x2048_S2048x13728_S4x4096x13728_2_0_01_1_n_n none x w

/-- The first 6560 columns with a zero token before the first and one after the last. -/
def paddedTokens (x : FVec Ideal S4x4096x2048 .f32) (w : FVec Ideal S2048x13728 .f32) : FVec Ideal S4x4098x6560 .f32 :=
  pad S4x4098x6560 ![0, 1, 0] ![0, 1, 0] ![0, 0, 0] (extractStridedSlice S4x4096x6560 ![0, 0, 0] (projected x w) slices_S4x4096x13728_S4x4096x6560_0_0_0)
    (sitofp .f32 (constantI S_ 32 0#32) : FVec Ideal S_ .f32) pads_S4x4096x6560_S4x4098x6560_000_110_000 h_S_

/-- The reference's short convolution of the first 6560 columns. -/
def shortConv (x : FVec Ideal S4x4096x2048 .f32) (w : FVec Ideal S2048x13728 .f32) (k : FVec Ideal S3x6560 .f32) : FVec Ideal S4x4096x6560 .f32 :=
  addf (addf (mulf (broadcastInDim S4x4096x6560 ![0, 1, 2] bcast_S1x1x6560_S4x4096x6560_0_1_2 (broadcastInDim S1x1x6560 ![2] bcast_S6560_S1x1x6560_2 (shapeCast _ (extractStridedSlice S1x6560 ![0, 0] k slices_S3x6560_S1x6560_0_0) shapeCasts_S1x6560_S6560))) (extractStridedSlice S4x4096x6560 ![0, 0, 0] (paddedTokens x w) slices_S4x4098x6560_S4x4096x6560_0_0_0))
      (mulf (broadcastInDim S4x4096x6560 ![0, 1, 2] bcast_S1x1x6560_S4x4096x6560_0_1_2 (broadcastInDim S1x1x6560 ![2] bcast_S6560_S1x1x6560_2 (shapeCast _ (extractStridedSlice S1x6560 ![1, 0] k slices_S3x6560_S1x6560_1_0) shapeCasts_S1x6560_S6560))) (extractStridedSlice S4x4096x6560 ![0, 1, 0] (paddedTokens x w) slices_S4x4098x6560_S4x4096x6560_0_1_0)))
    (mulf (broadcastInDim S4x4096x6560 ![0, 1, 2] bcast_S1x1x6560_S4x4096x6560_0_1_2 (broadcastInDim S1x1x6560 ![2] bcast_S6560_S1x1x6560_2 (shapeCast _ (extractStridedSlice S1x6560 ![2, 0] k slices_S3x6560_S1x6560_2_0) shapeCasts_S1x6560_S6560))) (extractStridedSlice S4x4096x6560 ![0, 2, 0] (paddedTokens x w) slices_S4x4098x6560_S4x4096x6560_0_2_0))

theorem projected_apply (x : FVec Ideal S4x4096x2048 .f32) (w : FVec Ideal S2048x13728 .f32) (b : Fin 4) (l : Fin 4096) (n : Fin 13728) :
    projected x w (ix3 b l n) = column x w b l n := by
  unfold projected
  pointwise [column]
  done

theorem shortConv_apply (x : FVec Ideal S4x4096x2048 .f32) (w : FVec Ideal S2048x13728 .f32) (k : FVec Ideal S3x6560 .f32)
    (b : Fin 4) (l : Fin 4096) (n : Fin 6560) : shortConv x w k (ix3 b l n) = conv x w k b l n := by
  unfold shortConv paddedTokens conv
  pointwise
  simp only [projected_apply]
  rfl

theorem hy_eq (x : FVec Ideal S4x4096x2048 .f32) (w : FVec Ideal S2048x13728 .f32) (k : FVec Ideal S3x6560 .f32) :
    extractStridedSlice S4x4096x3072 ![0, 0, 0] (shortConv x w k) slices_S4x4096x6560_S4x4096x3072_0_0_0 = short_0 x w k := by
  funext i
  idx_vars i
  unfold short_0
  pointwise [shortConv_apply]
  done

theorem rw_eq (x : FVec Ideal S4x4096x2048 .f32) (w : FVec Ideal S2048x13728 .f32) (k : FVec Ideal S3x6560 .f32) :
    extractStridedSlice S4x4096x3072 ![0, 0, 3072] (shortConv x w k) slices_S4x4096x6560_S4x4096x3072_0_0_3072 = short_3072 x w k := by
  funext i
  idx_vars i
  unfold short_3072
  pointwise [shortConv_apply]
  done

theorem lo_eq (x : FVec Ideal S4x4096x2048 .f32) (w : FVec Ideal S2048x13728 .f32) (k : FVec Ideal S3x6560 .f32) :
    extractStridedSlice S4x4096x416 ![0, 0, 6144] (shortConv x w k) slices_S4x4096x6560_S4x4096x416_0_0_6144 = short_6144 x w k := by
  funext i
  idx_vars i
  unfold short_6144
  pointwise [shortConv_apply]
  done

theorem queries_eq (x : FVec Ideal S4x4096x2048 .f32) (w : FVec Ideal S2048x13728 .f32) :
    extractStridedSlice S4x4096x1024 ![0, 0, 6560] (projected x w) slices_S4x4096x13728_S4x4096x1024_0_0_6560 = queries x w := by
  funext i
  idx_vars i
  unfold queries
  pointwise [projected_apply]
  done

theorem gates_eq (x : FVec Ideal S4x4096x2048 .f32) (w : FVec Ideal S2048x13728 .f32) :
    Host.divf (broadcastInDim S4x4096x6144 ![] bcast_S_S4x4096x6144 (constant S_ .f32 0x3F800000#32))
      (addf (broadcastInDim S4x4096x6144 ![] bcast_S_S4x4096x6144 (constant S_ .f32 0x3F800000#32))
        (Host.exp (Host.negf (extractStridedSlice S4x4096x6144 ![0, 0, 7584] (projected x w) slices_S4x4096x13728_S4x4096x6144_0_0_7584))))
      = gates x w := by
  funext i
  idx_vars i
  unfold gates Cert.Kernel2Ideal.Start.logistic
  pointwise [projected_apply]
  done

set_option maxHeartbeats 4000000 in
/-- The reference ends with the five results of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = short_0 (m ((c.tc : Thread nD τ).loc main_arg0)) (m ((c.tc : Thread nD τ).loc main_arg1)) (m ((c.tc : Thread nD τ).loc main_arg2))
      ∧ r.2.mem ((c.tc : Thread nD τ).loc main_v32) = short_3072 (m ((c.tc : Thread nD τ).loc main_arg0)) (m ((c.tc : Thread nD τ).loc main_arg1)) (m ((c.tc : Thread nD τ).loc main_arg2))
      ∧ r.2.mem ((c.tc : Thread nD τ).loc main_v33) = short_6144 (m ((c.tc : Thread nD τ).loc main_arg0)) (m ((c.tc : Thread nD τ).loc main_arg1)) (m ((c.tc : Thread nD τ).loc main_arg2))
      ∧ r.2.mem ((c.tc : Thread nD τ).loc main_v34) = queries (m ((c.tc : Thread nD τ).loc main_arg0)) (m ((c.tc : Thread nD τ).loc main_arg1))
      ∧ r.2.mem ((c.tc : Thread nD τ).loc main_v30) = shapeCast (α := EReal) S4x4096x3x2048 (gates (m ((c.tc : Thread nD τ).loc main_arg0)) (m ((c.tc : Thread nD τ).loc main_arg1))) shapeCasts_S4x4096x6144_S4x4096x3x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (hy_eq _ _ _), (h c).2.1.trans (rw_eq _ _ _), (h c).2.2.1.trans (lo_eq _ _ _),
    (h c).2.2.2.1.trans (queries_eq _ _), (h c).2.2.2.2.1.trans (congrArg (fun a => shapeCast (α := EReal) S4x4096x3x2048 a shapeCasts_S4x4096x6144_S4x4096x3x2048) (gates_eq _ _)),
    (h c).2.2.2.2.2⟩) (Value.run m ρ)

end Cert.Reference2Ideal.Start

end
-- ==== Proof.Mm3.lean ====
/- The matrix products of `Kernel3Ideal`: what each `mm` region leaves in its output array. A grid point takes 1024 rows of the
   left matrix and 512 columns of the right one whole along the contracted axis, so every block it writes back is that block
   of the product. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Mm

open Cert.Kernel3Ideal Cert.Kernel3Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Region 0: 1024×2048 times 2048×2048 -/

/-- The product of the two matrices. -/
def product0 (X : Vec Ideal S1024x2048 .bf16) (W : Vec Ideal S2048x2048 .bf16) : Vec Ideal S1024x2048 .f32 :=
  fun i => ∑ j : Fin 2048, X (ix2 (i 0) j) * W (ix2 j (i 1))

/-- The body's stored value, entry by entry. -/
theorem pay0_apply (x0 : Vec Ideal S1024x2048 .bf16) (x1 : Vec Ideal S2048x512 .bf16) (a : Fin 1024) (b : Fin 512) :
    k0_pay1 x0 x1 (ix2 a b) = ∑ j : Fin 2048, x0 (ix2 a j) * x1 (ix2 j b) := by
  pointwise [k0_pay1]

theorem idx0_0 : ∀ t : Fin cfg0.N, win0_0.index t = ![t.val / 4, 0] := (by decide +kernel : ∀ t : Fin grid0.N, _)
theorem idx0_1 : ∀ t : Fin cfg0.N, win0_1.index t = ![0, t.val % 4] := (by decide +kernel : ∀ t : Fin grid0.N, _)
theorem idx0_2 : ∀ t : Fin cfg0.N, win0_2.index t = ![t.val / 4, t.val % 4] := (by decide +kernel : ∀ t : Fin grid0.N, _)

/-- Row `a` of the left block at point `t` is row `R` of the left matrix. -/
theorem left0 (c : Dev nD) (t : Fin cfg0.N) (a : Fin 1024) (R : Fin 1024) (hR : R.val = t.val / 4 * 1024 + a.val) (j : Fin 2048) :
    (iblk0 V c 0 t : Vec Ideal S1024x2048 .bf16) (ix2 a j) = (V c main_v2 : Vec Ideal S1024x2048 .bf16) (ix2 R j) := by
  unfold iblk0
  rw [View.read_apply]
  show V c main_v2 _ = V c main_v2 _
  congr 1
  funext d
  apply Fin.ext
  match d with
  | ⟨0, _⟩ => show win0_0.index t 0 * 1024 + 1 * a.val = R.val; rw [idx0_0]; show t.val / 4 * 1024 + 1 * a.val = _; omega
  | ⟨1, _⟩ => show win0_0.index t 1 * 2048 + 1 * j.val = j.val; rw [idx0_0]; show 0 * 2048 + 1 * j.val = _; omega

/-- Column `b` of the right block at point `t` is column `C` of the right matrix. -/
theorem right0 (c : Dev nD) (t : Fin cfg0.N) (b : Fin 512) (C : Fin 2048) (hC : C.val = t.val % 4 * 512 + b.val) (j : Fin 2048) :
    (iblk0 V c 1 t : Vec Ideal S2048x512 .bf16) (ix2 j b) = (V c main_v0 : Vec Ideal S2048x2048 .bf16) (ix2 j C) := by
  unfold iblk0
  rw [View.read_apply]
  show V c main_v0 _ = V c main_v0 _
  congr 1
  funext d
  apply Fin.ext
  match d with
  | ⟨0, _⟩ => show win0_1.index t 0 * 2048 + 1 * j.val = j.val; rw [idx0_1]; show 0 * 2048 + 1 * j.val = _; omega
  | ⟨1, _⟩ => show win0_1.index t 1 * 512 + 1 * b.val = C.val; rw [idx0_1]; show t.val % 4 * 512 + 1 * b.val = _; omega

/-- The region's output array after the run. -/
theorem final0 (c : Dev nD) : (dat0 V c).arrAt 2 cfg0.N = product0 (V c main_v2) (V c main_v0) := by
  refine (dat0 V c).arrAt_eq_of_covers 2 _ (by decide +kernel) fun t hf y => ?_
  blk_simp
  rw [after0_2]
  frame_out
  have hN : t.val < 4 := lt_of_lt_of_eq t.isLt (show cfg0.N = 4 from N_0)
  have hy0 : (y 0).val < 1024 := (y 0).isLt
  have hy1 : (y 1).val < 512 := (y 1).isLt
  have h0 : (((win0_2.blk t).view.emb y) 0).val = t.val / 4 * 1024 + (y 0).val := by
    show win0_2.index t 0 * 1024 + 1 * (y 0).val = _; rw [idx0_2]; show t.val / 4 * 1024 + 1 * (y 0).val = _; omega
  have h1 : (((win0_2.blk t).view.emb y) 1).val = t.val % 4 * 512 + (y 1).val := by
    show win0_2.index t 1 * 512 + 1 * (y 1).val = _; rw [idx0_2]; show t.val % 4 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 V c t (y 0) (((win0_2.blk t).view.emb y) 0) h0 j, right0 V c t (y 1) (((win0_2.blk t).view.emb y) 1) h1 j]

/-! ## Region 1: 16384×1024 times 1024×2048 -/

/-- The product of the two matrices. -/
def product1 (X : Vec Ideal S16384x1024 .bf16) (W : Vec Ideal S1024x2048 .bf16) : Vec Ideal S16384x2048 .f32 :=
  fun i => ∑ j : Fin 1024, X (ix2 (i 0) j) * W (ix2 j (i 1))

/-- The body's stored value, entry by entry. -/
theorem pay1_apply (x0 : Vec Ideal S1024x1024 .bf16) (x1 : Vec Ideal S1024x512 .bf16) (a : Fin 1024) (b : Fin 512) :
    k1_pay1 x0 x1 (ix2 a b) = ∑ j : Fin 1024, x0 (ix2 a j) * x1 (ix2 j b) := by
  pointwise [k1_pay1]

theorem idx1_0 : ∀ t : Fin cfg1.N, win1_0.index t = ![t.val / 4, 0] := (by decide +kernel : ∀ t : Fin grid1.N, _)
theorem idx1_1 : ∀ t : Fin cfg1.N, win1_1.index t = ![0, t.val % 4] := (by decide +kernel : ∀ t : Fin grid1.N, _)
theorem idx1_2 : ∀ t : Fin cfg1.N, win1_2.index t = ![t.val / 4, t.val % 4] := (by decide +kernel : ∀ t : Fin grid1.N, _)

/-- Row `a` of the left block at point `t` is row `R` of the left matrix. -/
theorem left1 (c : Dev nD) (t : Fin cfg1.N) (a : Fin 1024) (R : Fin 16384) (hR : R.val = t.val / 4 * 1024 + a.val) (j : Fin 1024) :
    (iblk1 V c 0 t : Vec Ideal S1024x1024 .bf16) (ix2 a j) = (V c main_v29 : Vec Ideal S16384x1024 .bf16) (ix2 R j) := by
  unfold iblk1
  rw [View.read_apply]
  show V c main_v29 _ = V c main_v29 _
  congr 1
  funext d
  apply Fin.ext
  match d with
  | ⟨0, _⟩ => show win1_0.index t 0 * 1024 + 1 * a.val = R.val; rw [idx1_0]; show t.val / 4 * 1024 + 1 * a.val = _; omega
  | ⟨1, _⟩ => show win1_0.index t 1 * 1024 + 1 * j.val = j.val; rw [idx1_0]; show 0 * 1024 + 1 * j.val = _; omega

/-- Column `b` of the right block at point `t` is column `C` of the right matrix. -/
theorem right1 (c : Dev nD) (t : Fin cfg1.N) (b : Fin 512) (C : Fin 2048) (hC : C.val = t.val % 4 * 512 + b.val) (j : Fin 1024) :
    (iblk1 V c 1 t : Vec Ideal S1024x512 .bf16) (ix2 j b) = (V c main_v27 : Vec Ideal S1024x2048 .bf16) (ix2 j C) := by
  unfold iblk1
  rw [View.read_apply]
  show V c main_v27 _ = V c main_v27 _
  congr 1
  funext d
  apply Fin.ext
  match d with
  | ⟨0, _⟩ => show win1_1.index t 0 * 1024 + 1 * j.val = j.val; rw [idx1_1]; show 0 * 1024 + 1 * j.val = _; omega
  | ⟨1, _⟩ => show win1_1.index t 1 * 512 + 1 * b.val = C.val; rw [idx1_1]; show t.val % 4 * 512 + 1 * b.val = _; omega

/-- The region's output array after the run. -/
theorem final1 (c : Dev nD) : (dat1 V c).arrAt 2 cfg1.N = product1 (V c main_v29) (V c main_v27) := by
  refine (dat1 V c).arrAt_eq_of_covers 2 _ (by decide +kernel) fun t hf y => ?_
  blk_simp
  rw [after1_2]
  frame_out
  have hN : t.val < 64 := lt_of_lt_of_eq t.isLt (show cfg1.N = 64 from N_1)
  have hy0 : (y 0).val < 1024 := (y 0).isLt
  have hy1 : (y 1).val < 512 := (y 1).isLt
  have h0 : (((win1_2.blk t).view.emb y) 0).val = t.val / 4 * 1024 + (y 0).val := by
    show win1_2.index t 0 * 1024 + 1 * (y 0).val = _; rw [idx1_2]; show t.val / 4 * 1024 + 1 * (y 0).val = _; omega
  have h1 : (((win1_2.blk t).view.emb y) 1).val = t.val % 4 * 512 + (y 1).val := by
    show win1_2.index t 1 * 512 + 1 * (y 1).val = _; rw [idx1_2]; show t.val % 4 * 512 + 1 * (y 1).val = _; omega
  have hy : y = ix2 (y 0) (y 1) := by
    funext d
    match d with
    | ⟨0, _⟩ => rfl
    | ⟨1, _⟩ => rfl
  rw [hy]
  refine (pay1_apply _ _ (y 0) (y 1)).trans ?_
  unfold product1
  rw [← hy]
  refine Finset.sum_congr rfl fun j _ => ?_
  rw [left1 V c t (y 0) (((win1_2.blk t).view.emb y) 0) h0 j, right1 V c t (y 1) (((win1_2.blk t).view.emb y) 1) h1 j]

end Cert.Kernel3Ideal.Mm

end
-- ==== Proof.Attention.lean ====
/- The memory attention: the host lines between its two matrix products, named once as functions of the queries and of the keys
   and values, and kernel and reference read as the same function `Attn.layer` of their arguments. -/
module

public import proofs.«01_k».proof.Proof.Mm3
public import proofs.«01_k».proof.Proof.Gen.Reference3Ideal.Run
public import Idealize.ShloMosaic.Lib.StableHlo.Run

@[expose] public section

set_option maxRecDepth 16384

noncomputable section

namespace Cert.Kernel3Ideal.Attn

open Cert.Kernel3Ideal Cert.Kernel3Ideal.Gen Cert.Kernel3Ideal.Mm Idealize.ShloMosaic Idealize.ShloMosaic.TcCoe Idealize.SL.Sem Idealize.ShloMosaic.StableHlo

variable {F : FTy → Type} [FloatOps F]

/-- The scaled scores of every query against every memory token, head by head. -/
def scores (q : FVec F S4x4096x1024 .f32) (kv : FVec F S4x256x2048 .f32) : FVec F S4x4x4096x256 .f32 :=
  mulf (Host.dotGeneral dot_S4x4096x4x256_S4x256x4x256_S4x4x4096x256_3_3_1_1_02_02 none
      (shapeCast S4x4096x4x256 q shapeCasts_S4x4096x1024_S4x4096x4x256)
      (shapeCast S4x256x4x256 (extractStridedSlice S4x256x1024 ![0, 0, 0] kv slices_S4x256x2048_S4x256x1024_0_0_0) shapeCasts_S4x256x1024_S4x256x4x256))
    (broadcastInDim S4x4x4096x256 ![] bcast_S_S4x4x4096x256 (constant S_ .f32 0x3D800000#32))

/-- Exponentials of the scores, shifted by each query's largest. -/
def expShifted (s : FVec F S4x4x4096x256 .f32) : FVec F S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2
    (maximumf (broadcastInDim S4x4x4096 ![] bcast_S_S4x4x4096 (constant S_ .f32 0xFF800000#32))
      (Host.reduce FloatOps.maximumf s (constant S_ .f32 0xFF800000#32) reducesTo_S4x4x4096x256_S4x4x4096_d3 h_S_)))))

/-- The attention's weights: each query's softmax over the memory. -/
def weights (s : FVec F S4x4x4096x256 .f32) : FVec F S4x4x4096x256 .f32 :=
  Host.divf (expShifted s) (broadcastInDim S4x4x4096x256 ![0, 1, 2, 3] bcast_S4x4x4096x1_S4x4x4096x256_0_1_2_3 (broadcastInDim S4x4x4096x1 ![0, 1, 2] bcast_S4x4x4096_S4x4x4096x1_0_1_2
    (Host.reduceAdd (expShifted s) (constant S_ .f32 0x00000000#32) reducesTo_S4x4x4096x256_S4x4x4096_d3 h_S_)))

/-- The attention of the queries over keys and values, the heads side by side again. -/
def attend (q : FVec F S4x4096x1024 .f32) (kv : FVec F S4x256x2048 .f32) : FVec F S4x4096x1024 .f32 :=
  shapeCast S4x4096x1024 (transpose S4x4096x4x256 [0, 3, 1, 2] (Host.dotGeneral dot_S4x256x4x256_S4x4x4096x256_S4x4x256x4096_1_3_3_2_02_01 none
      (shapeCast S4x256x4x256 (extractStridedSlice S4x256x1024 ![0, 0, 1024] kv slices_S4x256x2048_S4x256x1024_0_0_1024) shapeCasts_S4x256x1024_S4x256x4x256)
      (weights (scores q kv))) transposes_S4x4x256x4096_S4x4096x4x256_0_3_1_2) shapeCasts_S4x4096x4x256_S4x4096x1024

/-- Keys and values of the memory. -/
def memory (mem : FVec Ideal S4x256x2048 .f32) (w : FVec Ideal S2048x2048 .f32) : FVec Ideal S4x256x2048 .f32 :=
  fun i => ∑ j : Fin 2048, mem (ix3 (i 0) (i 1) j) * w (ix2 j (i 2))

/-- The output projection. -/
def project (a : FVec Ideal S4x4096x1024 .f32) (w : FVec Ideal S1024x2048 .f32) : FVec Ideal S4x4096x2048 .f32 :=
  fun i => ∑ j : Fin 1024, a (ix3 (i 0) (i 1) j) * w (ix2 j (i 2))

/-- What the program computes. -/
def layer (q : FVec Ideal S4x4096x1024 .f32) (mem : FVec Ideal S4x256x2048 .f32) (wkv : FVec Ideal S2048x2048 .f32)
    (wo : FVec Ideal S1024x2048 .f32) : FVec Ideal S4x4096x2048 .f32 :=
  project (attend q (memory mem wkv)) wo

/-! ## The kernel's products are these -/

theorem memory_eq (mem : FVec Ideal S4x256x2048 .f32) (w : FVec Ideal S2048x2048 .f32) :
    shapeCast (α := EReal) S4x256x2048 (product0 (shapeCast (α := EReal) S1024x2048 mem shapeCasts_S4x256x2048_S1024x2048) w) shapeCasts_S1024x2048_S4x256x2048 = memory mem w := by
  funext i
  idx_vars i
  pointwise [product0, memory]
  done

theorem project_eq (a : FVec Ideal S4x4096x1024 .f32) (w : FVec Ideal S1024x2048 .f32) :
    shapeCast (α := EReal) S4x4096x2048 (product1 (shapeCast (α := EReal) S16384x1024 a shapeCasts_S4x4096x1024_S16384x1024) w) shapeCasts_S16384x2048_S4x4096x2048 = project a w := by
  funext i
  idx_vars i
  pointwise [product1, project]
  done

end Cert.Kernel3Ideal.Attn

end
-- ==== Proof.AttentionLaunch.lean ====
/- The attention program's launch: the segments of `main` run to the end with the result buffer at the value of the last
   boundary, the arguments unchanged. -/
module

public import proofs.«01_k».proof.Proof.Gen.Kernel3Ideal.Frame

@[expose] public section

set_option maxRecDepth 16384

noncomputable section

namespace Cert.Kernel3Ideal.Attn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer as the last host stretch leaves it, and with the arguments as launched. -/
theorem run_kept : θ_run defs (onTc (τ := τ) (main (F := F))) ⟨m, fun _ => 0, ρ⟩ (fun r => (∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.Kernel3Ideal.Attn

end
-- ==== Proof.AttentionRun.lean ====
/- The attention kernel's value: the boundaries of `main` read one after the other, from the launch to the result. -/
module

public import proofs.«01_k».proof.Proof.Attention
public import proofs.«01_k».proof.Proof.AttentionLaunch

@[expose] public section

set_option maxRecDepth 16384

noncomputable section

namespace Cert.Kernel3Ideal.Attn

open Cert.Kernel3Ideal Cert.Kernel3Ideal.Gen Cert.Kernel3Ideal.Mm Idealize.ShloMosaic Idealize.ShloMosaic.TcCoe Idealize.SL.Sem Idealize.ShloMosaic.StableHlo

/-! ## The host stretches, from any contents -/

section Host
variable (W : Valuation τ sig (Elt Ideal))

theorem head_weight : after hostOps0 W (Proc.devRef .tc main_v0) = (W (Proc.devRef .tc main_arg2) : FVec Ideal S2048x2048 .f32) := by
  simp only [hostOps0]; after_results_simp; rfl

theorem head_rows : after hostOps0 W (Proc.devRef .tc main_v2)
    = shapeCast (α := EReal) S1024x2048 (W (Proc.devRef .tc main_arg1)) shapeCasts_S4x256x2048_S1024x2048 := by
  simp only [hostOps0]; after_results_simp; rfl

set_option maxHeartbeats 2000000 in
theorem mid_weight : after hostOps1 W (Proc.devRef .tc main_v27) = (W (Proc.devRef .tc main_arg3) : FVec Ideal S1024x2048 .f32) := by
  simp only [hostOps1]; after_results_simp; rfl

set_option maxHeartbeats 2000000 in
theorem mid_rows : after hostOps1 W (Proc.devRef .tc main_v29)
    = shapeCast (α := EReal) S16384x1024 (attend (F := Ideal) (W (Proc.devRef .tc main_arg0))
        (shapeCast (α := EReal) S4x256x2048 (W (Proc.devRef .tc main_v3)) shapeCasts_S1024x2048_S4x256x2048)) shapeCasts_S4x4096x1024_S16384x1024 := by
  simp only [hostOps1]; after_results_simp; dsimp only [attend, weights, expShifted, scores]; rfl

theorem tail_result : after hostOps2 W (Proc.devRef .tc main_v31)
    = shapeCast (α := EReal) S4x4096x2048 (W (Proc.devRef .tc main_v30)) shapeCasts_S16384x2048_S4x4096x2048 := by
  simp only [hostOps2]; after_results_simp; rfl

end Host

/-! ## From the launch to the result -/

variable (m : (ℓ : Loc nD τ sig) → Buf (Elt Ideal) ℓ) (ρ : Dev nD → PrngReg)

/-- After the first product. -/
theorem W2_product (c : Dev nD) : W2 m ρ c (Proc.devRef .tc main_v3)
    = product0 (shapeCast (α := EReal) S1024x2048 (m ((c.tc : Thread nD τ).loc main_arg1)) shapeCasts_S4x256x2048_S1024x2048)
        (m ((c.tc : Thread nD τ).loc main_arg2)) := by
  refine (W2_arr m ρ c 2).trans ((final0 (V1 m ρ) c).trans ?_)
  exact congrArg₂ product0 (head_rows (W0 m ρ c)) (head_weight (W0 m ρ c))

/-- After the second product. -/
theorem W4_product (c : Dev nD) : W4 m ρ c (Proc.devRef .tc main_v30)
    = product1 (shapeCast (α := EReal) S16384x1024 (attend (F := Ideal) (m ((c.tc : Thread nD τ).loc main_arg0))
        (memory (m ((c.tc : Thread nD τ).loc main_arg1)) (m ((c.tc : Thread nD τ).loc main_arg2)))) shapeCasts_S4x4096x1024_S16384x1024)
        (m ((c.tc : Thread nD τ).loc main_arg3)) := by
  refine (W4_arr m ρ c 2).trans ((final1 (V3 m ρ) c).trans ?_)
  refine congrArg₂ product1 ((mid_rows (W2 m ρ c)).trans ?_) ((mid_weight (W2 m ρ c)).trans (W2_args m ρ c main_arg3 (by decide)))
  rw [W2_product, memory_eq]
  exact congrArg (fun q => shapeCast (α := EReal) S16384x1024 (attend (F := Ideal) q _) shapeCasts_S4x4096x1024_S16384x1024)
    (W2_args m ρ c main_arg0 (by decide))

/-- The result at the end. -/
theorem W5_result (c : Dev nD) : W5 m ρ c (Proc.devRef .tc main_v31)
    = layer (m ((c.tc : Thread nD τ).loc main_arg0)) (m ((c.tc : Thread nD τ).loc main_arg1)) (m ((c.tc : Thread nD τ).loc main_arg2))
        (m ((c.tc : Thread nD τ).loc main_arg3)) := by
  refine (tail_result (W4 m ρ c)).trans ?_
  rw [W4_product, project_eq]
  rfl

/-- The kernel ends with `Attn.layer` of its arguments, which it leaves unchanged. -/
theorem run_layer : θ_run defs (onTc (τ := τ) (main (F := Ideal))) ⟨m, fun _ => 0, ρ⟩ fun r => ∀ c : Dev nD,
      r.2.mem ((c.tc : Thread nD τ).loc main_v31)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1.trans (W5_result m ρ c), (h.1 c).2⟩) (run_kept m ρ)

end Cert.Kernel3Ideal.Attn

end
-- ==== Proof.AttentionReference.lean ====
/- The attention's reference: its run ends with the same function of the arguments as the kernel's. -/
module

public import proofs.«01_k».proof.Proof.Attention

@[expose] public section

set_option maxRecDepth 16384

noncomputable section

namespace Cert.Reference3Ideal.Attn

open Cert.Reference3Ideal Cert.Reference3Ideal.Gen Cert.Reference3Ideal.Value Idealize.ShloMosaic Idealize.ShloMosaic.TcCoe Idealize.SL.Sem Idealize.ShloMosaic.StableHlo
open Cert.Kernel3Ideal.Attn (layer memory project)

theorem memory_eq (mem : FVec Ideal S4x256x2048 .f32) (w : FVec Ideal S2048x2048 .f32) :
    Host.dotGeneral dot_S4x256x2048_S2048x2048_S4x256x2048_2_0_01_1_n_n none mem w = memory mem w := by
  funext i
  idx_vars i
  pointwise [memory]
  done

theorem project_eq (a : FVec Ideal S4x4096x1024 .f32) (w : FVec Ideal S1024x2048 .f32) :
    Host.dotGeneral dot_S4x4096x1024_S1024x2048_S4x4096x2048_2_0_01_1_n_n none a w = project a w := by
  funext i
  idx_vars i
  pointwise [project]
  done

set_option maxHeartbeats 4000000 in
/-- The reference ends with `Attn.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  rw [memory_eq, project_eq]
  rfl

end Cert.Reference3Ideal.Attn

end
-- ==== Proof.Mm4.lean ====
/- The matrix products of `Kernel4Ideal`: what each `mm` region leaves in its output array. A grid point takes 1024 rows of the
   left matrix and 512 columns of the right one whole along the contracted axis, so every block it writes back is that block
   of the product. -/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Mm

open Cert.Kernel4Ideal Cert.Kernel4Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Region 0: 16384×1024 times 1024×2048 -/

/-- The product of the two matrices. -/
def product0 (X : Vec Ideal S16384x1024 .bf16) (W : Vec Ideal S1024x2048 .bf16) : Vec Ideal S16384x2048 .f32 :=
  fun i => ∑ j : Fin 1024, X (ix2 (i 0) j) * W (ix2 j (i 1))

/-- The body's stored value, entry by entry. -/
theorem pay0_apply (x0 : Vec Ideal S1024x1024 .bf16) (x1 : Vec Ideal S1024x512 .bf16) (a : Fin 1024) (b : Fin 512) :
    k0_pay1 x0 x1 (ix2 a b) = ∑ j : Fin 1024, x0 (ix2 a j) * x1 (ix2 j b) := by
  pointwise [k0_pay1]

theorem idx0_0 : ∀ t : Fin cfg0.N, win0_0.index t = ![t.val / 4, 0] := (by decide +kernel : ∀ t : Fin grid0.N, _)
theorem idx0_1 : ∀ t : Fin cfg0.N, win0_1.index t = ![0, t.val % 4] := (by decide +kernel : ∀ t : Fin grid0.N, _)
theorem idx0_2 : ∀ t : Fin cfg0.N, win0_2.index t = ![t.val / 4, t.val % 4] := (by decide +kernel : ∀ t : Fin grid0.N, _)

/-- Row `a` of the left block at point `t` is row `R` of the left matrix. -/
theorem left0 (c : Dev nD) (t : Fin cfg0.N) (a : Fin 1024) (R : Fin 16384) (hR : R.val = t.val / 4 * 1024 + a.val) (j : Fin 1024) :
    (iblk0 V c 0 t : Vec Ideal S1024x1024 .bf16) (ix2 a j) = (V c main_v2 : Vec Ideal S16384x1024 .bf16) (ix2 R j) := by
  unfold iblk0
  rw [View.read_apply]
  show V c main_v2 _ = V c main_v2 _
  congr 1
  funext d
  apply Fin.ext
  match d with
  | ⟨0, _⟩ => show win0_0.index t 0 * 1024 + 1 * a.val = R.val; rw [idx0_0]; show t.val / 4 * 1024 + 1 * a.val = _; omega
  | ⟨1, _⟩ => show win0_0.index t 1 * 1024 + 1 * j.val = j.val; rw [idx0_0]; show 0 * 1024 + 1 * j.val = _; omega

/-- Column `b` of the right block at point `t` is column `C` of the right matrix. -/
theorem right0 (c : Dev nD) (t : Fin cfg0.N) (b : Fin 512) (C : Fin 2048) (hC : C.val = t.val % 4 * 512 + b.val) (j : Fin 1024) :
    (iblk0 V c 1 t : Vec Ideal S1024x512 .bf16) (ix2 j b) = (V c main_v0 : Vec Ideal S1024x2048 .bf16) (ix2 j C) := by
  unfold iblk0
  rw [View.read_apply]
  show V c main_v0 _ = V c main_v0 _
  congr 1
  funext d
  apply Fin.ext
  match d with
  | ⟨0, _⟩ => show win0_1.index t 0 * 1024 + 1 * j.val = j.val; rw [idx0_1]; show 0 * 1024 + 1 * j.val = _; omega
  | ⟨1, _⟩ => show win0_1.index t 1 * 512 + 1 * b.val = C.val; rw [idx0_1]; show t.val % 4 * 512 + 1 * b.val = _; omega

/-- The region's output array after the run. -/
theorem final0 (c : Dev nD) : (dat0 V c).arrAt 2 cfg0.N = product0 (V c main_v2) (V c main_v0) := by
  refine (dat0 V c).arrAt_eq_of_covers 2 _ (by decide +kernel) fun t hf y => ?_
  blk_simp
  rw [after0_2]
  frame_out
  have hN : t.val < 64 := lt_of_lt_of_eq t.isLt (show cfg0.N = 64 from N_0)
  have hy0 : (y 0).val < 1024 := (y 0).isLt
  have hy1 : (y 1).val < 512 := (y 1).isLt
  have h0 : (((win0_2.blk t).view.emb y) 0).val = t.val / 4 * 1024 + (y 0).val := by
    show win0_2.index t 0 * 1024 + 1 * (y 0).val = _; rw [idx0_2]; show t.val / 4 * 1024 + 1 * (y 0).val = _; omega
  have h1 : (((win0_2.blk t).view.emb y) 1).val = t.val % 4 * 512 + (y 1).val := by
    show win0_2.index t 1 * 512 + 1 * (y 1).val = _; rw [idx0_2]; show t.val % 4 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 V c t (y 0) (((win0_2.blk t).view.emb y) 0) h0 j, right0 V c t (y 1) (((win0_2.blk t).view.emb y) 1) h1 j]

/-! ## Region 1: 16384×1024 times 1024×2048 -/

/-- The product of the two matrices. -/
def product1 (X : Vec Ideal S16384x1024 .bf16) (W : Vec Ideal S1024x2048 .bf16) : Vec Ideal S16384x2048 .f32 :=
  fun i => ∑ j : Fin 1024, X (ix2 (i 0) j) * W (ix2 j (i 1))

/-- The body's stored value, entry by entry. -/
theorem pay1_apply (x0 : Vec Ideal S1024x1024 .bf16) (x1 : Vec Ideal S1024x512 .bf16) (a : Fin 1024) (b : Fin 512) :
    k1_pay1 x0 x1 (ix2 a b) = ∑ j : Fin 1024, x0 (ix2 a j) * x1 (ix2 j b) := by
  pointwise [k1_pay1]

theorem idx1_0 : ∀ t : Fin cfg1.N, win1_0.index t = ![t.val / 4, 0] := (by decide +kernel : ∀ t : Fin grid1.N, _)
theorem idx1_1 : ∀ t : Fin cfg1.N, win1_1.index t = ![0, t.val % 4] := (by decide +kernel : ∀ t : Fin grid1.N, _)
theorem idx1_2 : ∀ t : Fin cfg1.N, win1_2.index t = ![t.val / 4, t.val % 4] := (by decide +kernel : ∀ t : Fin grid1.N, _)

/-- Row `a` of the left block at point `t` is row `R` of the left matrix. -/
theorem left1 (c : Dev nD) (t : Fin cfg1.N) (a : Fin 1024) (R : Fin 16384) (hR : R.val = t.val / 4 * 1024 + a.val) (j : Fin 1024) :
    (iblk1 V c 0 t : Vec Ideal S1024x1024 .bf16) (ix2 a j) = (V c main_v7 : Vec Ideal S16384x1024 .bf16) (ix2 R j) := by
  unfold iblk1
  rw [View.read_apply]
  show V c main_v7 _ = V c main_v7 _
  congr 1
  funext d
  apply Fin.ext
  match d with
  | ⟨0, _⟩ => show win1_0.index t 0 * 1024 + 1 * a.val = R.val; rw [idx1_0]; show t.val / 4 * 1024 + 1 * a.val = _; omega
  | ⟨1, _⟩ => show win1_0.index t 1 * 1024 + 1 * j.val = j.val; rw [idx1_0]; show 0 * 1024 + 1 * j.val = _; omega

/-- Column `b` of the right block at point `t` is column `C` of the right matrix. -/
theorem right1 (c : Dev nD) (t : Fin cfg1.N) (b : Fin 512) (C : Fin 2048) (hC : C.val = t.val % 4 * 512 + b.val) (j : Fin 1024) :
    (iblk1 V c 1 t : Vec Ideal S1024x512 .bf16) (ix2 j b) = (V c main_v5 : Vec Ideal S1024x2048 .bf16) (ix2 j C) := by
  unfold iblk1
  rw [View.read_apply]
  show V c main_v5 _ = V c main_v5 _
  congr 1
  funext d
  apply Fin.ext
  match d with
  | ⟨0, _⟩ => show win1_1.index t 0 * 1024 + 1 * j.val = j.val; rw [idx1_1]; show 0 * 1024 + 1 * j.val = _; omega
  | ⟨1, _⟩ => show win1_1.index t 1 * 512 + 1 * b.val = C.val; rw [idx1_1]; show t.val % 4 * 512 + 1 * b.val = _; omega

/-- The region's output array after the run. -/
theorem final1 (c : Dev nD) : (dat1 V c).arrAt 2 cfg1.N = product1 (V c main_v7) (V c main_v5) := by
  refine (dat1 V c).arrAt_eq_of_covers 2 _ (by decide +kernel) fun t hf y => ?_
  blk_simp
  rw [after1_2]
  frame_out
  have hN : t.val < 64 := lt_of_lt_of_eq t.isLt (show cfg1.N = 64 from N_1)
  have hy0 : (y 0).val < 1024 := (y 0).isLt
  have hy1 : (y 1).val < 512 := (y 1).isLt
  have h0 : (((win1_2.blk t).view.emb y) 0).val = t.val / 4 * 1024 + (y 0).val := by
    show win1_2.index t 0 * 1024 + 1 * (y 0).val = _; rw [idx1_2]; show t.val / 4 * 1024 + 1 * (y 0).val = _; omega
  have h1 : (((win1_2.blk t).view.emb y) 1).val = t.val % 4 * 512 + (y 1).val := by
    show win1_2.index t 1 * 512 + 1 * (y 1).val = _; rw [idx1_2]; show t.val % 4 * 512 + 1 * (y 1).val = _; omega
  have hy : y = ix2 (y 0) (y 1) := by
    funext d
    match d with
    | ⟨0, _⟩ => rfl
    | ⟨1, _⟩ => rfl
  rw [hy]
  refine (pay1_apply _ _ (y 0) (y 1)).trans ?_
  unfold product1
  rw [← hy]
  refine Finset.sum_congr rfl fun j _ => ?_
  rw [left1 V c t (y 0) (((win1_2.blk t).view.emb y) 0) h0 j, right1 V c t (y 1) (((win1_2.blk t).view.emb y) 1) h1 j]

/-! ## Region 2: 16384×2048 times 2048×2048 -/

/-- The product of the two matrices. -/
def product2 (X : Vec Ideal S16384x2048 .bf16) (W : Vec Ideal S2048x2048 .bf16) : Vec Ideal S16384x2048 .f32 :=
  fun i => ∑ j : Fin 2048, X (ix2 (i 0) j) * W (ix2 j (i 1))

/-- The body's stored value, entry by entry. -/
theorem pay2_apply (x0 : Vec Ideal S1024x2048 .bf16) (x1 : Vec Ideal S2048x512 .bf16) (a : Fin 1024) (b : Fin 512) :
    k2_pay1 x0 x1 (ix2 a b) = ∑ j : Fin 2048, x0 (ix2 a j) * x1 (ix2 j b) := by
  pointwise [k2_pay1]

theorem idx2_0 : ∀ t : Fin cfg2.N, win2_0.index t = ![t.val / 4, 0] := (by decide +kernel : ∀ t : Fin grid2.N, _)
theorem idx2_1 : ∀ t : Fin cfg2.N, win2_1.index t = ![0, t.val % 4] := (by decide +kernel : ∀ t : Fin grid2.N, _)
theorem idx2_2 : ∀ t : Fin cfg2.N, win2_2.index t = ![t.val / 4, t.val % 4] := (by decide +kernel : ∀ t : Fin grid2.N, _)

/-- Row `a` of the left block at point `t` is row `R` of the left matrix. -/
theorem left2 (c : Dev nD) (t : Fin cfg2.N) (a : Fin 1024) (R : Fin 16384) (hR : R.val = t.val / 4 * 1024 + a.val) (j : Fin 2048) :
    (iblk2 V c 0 t : Vec Ideal S1024x2048 .bf16) (ix2 a j) = (V c main_v25 : Vec Ideal S16384x2048 .bf16) (ix2 R j) := by
  unfold iblk2
  rw [View.read_apply]
  show V c main_v25 _ = V c main_v25 _
  congr 1
  funext d
  apply Fin.ext
  match d with
  | ⟨0, _⟩ => show win2_0.index t 0 * 1024 + 1 * a.val = R.val; rw [idx2_0]; show t.val / 4 * 1024 + 1 * a.val = _; omega
  | ⟨1, _⟩ => show win2_0.index t 1 * 2048 + 1 * j.val = j.val; rw [idx2_0]; show 0 * 2048 + 1 * j.val = _; omega

/-- Column `b` of the right block at point `t` is column `C` of the right matrix. -/
theorem right2 (c : Dev nD) (t : Fin cfg2.N) (b : Fin 512) (C : Fin 2048) (hC : C.val = t.val % 4 * 512 + b.val) (j : Fin 2048) :
    (iblk2 V c 1 t : Vec Ideal S2048x512 .bf16) (ix2 j b) = (V c main_v23 : Vec Ideal S2048x2048 .bf16) (ix2 j C) := by
  unfold iblk2
  rw [View.read_apply]
  show V c main_v23 _ = V c main_v23 _
  congr 1
  funext d
  apply Fin.ext
  match d with
  | ⟨0, _⟩ => show win2_1.index t 0 * 2048 + 1 * j.val = j.val; rw [idx2_1]; show 0 * 2048 + 1 * j.val = _; omega
  | ⟨1, _⟩ => show win2_1.index t 1 * 512 + 1 * b.val = C.val; rw [idx2_1]; show t.val % 4 * 512 + 1 * b.val = _; omega

/-- The region's output array after the run. -/
theorem final2 (c : Dev nD) : (dat2 V c).arrAt 2 cfg2.N = product2 (V c main_v25) (V c main_v23) := by
  refine (dat2 V c).arrAt_eq_of_covers 2 _ (by decide +kernel) fun t hf y => ?_
  blk_simp
  rw [after2_2]
  frame_out
  have hN : t.val < 64 := lt_of_lt_of_eq t.isLt (show cfg2.N = 64 from N_2)
  have hy0 : (y 0).val < 1024 := (y 0).isLt
  have hy1 : (y 1).val < 512 := (y 1).isLt
  have h0 : (((win2_2.blk t).view.emb y) 0).val = t.val / 4 * 1024 + (y 0).val := by
    show win2_2.index t 0 * 1024 + 1 * (y 0).val = _; rw [idx2_2]; show t.val / 4 * 1024 + 1 * (y 0).val = _; omega
  have h1 : (((win2_2.blk t).view.emb y) 1).val = t.val % 4 * 512 + (y 1).val := by
    show win2_2.index t 1 * 512 + 1 * (y 1).val = _; rw [idx2_2]; show t.val % 4 * 512 + 1 * (y 1).val = _; omega
  have hy : y = ix2 (y 0) (y 1) := by
    funext d
    match d with
    | ⟨0, _⟩ => rfl
    | ⟨1, _⟩ => rfl
  rw [hy]
  refine (pay2_apply _ _ (y 0) (y 1)).trans ?_
  unfold product2
  rw [← hy]
  refine Finset.sum_congr rfl fun j _ => ?_
  rw [left2 V c t (y 0) (((win2_2.blk t).view.emb y) 0) h0 j, right2 V c t (y 1) (((win2_2.blk t).view.emb y) 1) h1 j]

end Cert.Kernel4Ideal.Mm

end
-- ==== Proof.Merge.lean ====
/- The merge of the three branches: the host lines between its matrix products, named once, and the program's value as the
   function `Merge.layer` of its arguments. -/
module

public import proofs.«01_k».proof.Proof.Mm4
public import Idealize.ShloMosaic.Lib.StableHlo.Run

@[expose] public section

set_option maxRecDepth 16384

noncomputable section

namespace Cert.Kernel4Ideal.Merge

open Cert.Kernel4Ideal Cert.Kernel4Ideal.Gen Cert.Kernel4Ideal.Mm Idealize.ShloMosaic Idealize.ShloMosaic.TcCoe Idealize.SL.Sem Idealize.ShloMosaic.StableHlo

variable {F : FTy → Type} [FloatOps F]

/-- The gated sum of the long convolution's, the recurrence's and the attention's outputs. -/
def gated (g : FVec F S4x4096x3x2048 .f32) (hy rw ca : FVec F S4x4096x2048 .f32) : FVec F S4x4096x2048 .f32 :=
  addf (addf (mulf (shapeCast _ (extractStridedSlice S4x4096x1x2048 ![0, 0, 0, 0] g slices_S4x4096x3x2048_S4x4096x1x2048_0_0_0_0) shapeCasts_S4x4096x1x2048_S4x4096x2048) hy)
      (mulf (shapeCast _ (extractStridedSlice S4x4096x1x2048 ![0, 0, 1, 0] g slices_S4x4096x3x2048_S4x4096x1x2048_0_0_1_0) shapeCasts_S4x4096x1x2048_S4x4096x2048) rw))
    (mulf (shapeCast _ (extractStridedSlice S4x4096x1x2048 ![0, 0, 2, 0] g slices_S4x4096x3x2048_S4x4096x1x2048_0_0_2_0) shapeCasts_S4x4096x1x2048_S4x4096x2048) ca)

/-- The residual sum: the scaled input and the projection of the merged branches. -/
def residual (x p : FVec F S4x4096x2048 .f32) : FVec F S4x4096x2048 .f32 :=
  addf (mulf (broadcastInDim S4x4096x2048 ![] bcast_S_S4x4096x2048 (constant S_ .f32 0x3F9837F0#32)) x) p

/-- The mean over the columns. -/
def mean (x : FVec F S4x4096x2048 .f32) : FVec F S4x4096x1 .f32 :=
  Host.divf (broadcastInDim S4x4096x1 ![0, 1] bcast_S4x4096_S4x4096x1_0_1
      (Host.reduceAdd x (constant S_ .f32 0x00000000#32) reducesTo_S4x4096x2048_S4x4096_d2 h_S_))
    (broadcastInDim S4x4096x1 ![] bcast_S_S4x4096x1 (constant S_ .f32 0x45000000#32))

/-- The difference from the mean. -/
def centred (x : FVec F S4x4096x2048 .f32) : FVec F S4x4096x2048 .f32 :=
  subf x (broadcastInDim S4x4096x2048 ![0, 1, 2] bcast_S4x4096x1_S4x4096x2048_0_1_2 (mean x))

/-- The layer's norm with scale `g` and offset `b`. -/
def norm (x : FVec F S4x4096x2048 .f32) (g b : FVec F S2048 .f32) : FVec F S4x4096x2048 .f32 :=
  addf (mulf (mulf (centred x) (broadcastInDim S4x4096x2048 ![0, 1, 2] bcast_S4x4096x1_S4x4096x2048_0_1_2
        (Host.rsqrt (addf (mean (mulf (centred x) (centred x))) (broadcastInDim S4x4096x1 ![] bcast_S_S4x4096x1 (constant S_ .f32 0x3727C5AC#32))))))
      (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))

/-- The output projection of a recurrent branch. -/
def branch (a : FVec Ideal S4x4096x1024 .f32) (w : FVec Ideal S1024x2048 .f32) : FVec Ideal S4x4096x2048 .f32 :=
  fun i => ∑ j : Fin 1024, a (ix3 (i 0) (i 1) j) * w (ix2 j (i 2))

/-- The projection of the merged branches. -/
def project (a : FVec Ideal S4x4096x2048 .f32) (w : FVec Ideal S2048x2048 .f32) : FVec Ideal S4x4096x2048 .f32 :=
  fun i => ∑ j : Fin 2048, a (ix3 (i 0) (i 1) j) * w (ix2 j (i 2))

/-- What the program computes. -/
def layer (x : FVec Ideal S4x4096x2048 .f32) (hy rw : FVec Ideal S4x4096x1024 .f32) (ca : FVec Ideal S4x4096x2048 .f32)
    (g : FVec Ideal S4x4096x3x2048 .f32) (hyw rww : FVec Ideal S1024x2048 .f32) (w : FVec Ideal S2048x2048 .f32)
    (ln b : FVec Ideal S2048 .f32) : FVec Ideal S4x4096x2048 .f32 :=
  norm (residual x (project (gated g (branch hy hyw) (branch rw rww) ca) w)) ln b

/-! ## The kernel's products are these -/

theorem branch_eq0 (a : FVec Ideal S4x4096x1024 .f32) (w : FVec Ideal S1024x2048 .f32) :
    shapeCast (α := EReal) S4x4096x2048 (product0 (shapeCast (α := EReal) S16384x1024 a shapeCasts_S4x4096x1024_S16384x1024) w) shapeCasts_S16384x2048_S4x4096x2048 = branch a w := by
  funext i
  idx_vars i
  pointwise [product0, branch]
  done

theorem branch_eq1 (a : FVec Ideal S4x4096x1024 .f32) (w : FVec Ideal S1024x2048 .f32) :
    shapeCast (α := EReal) S4x4096x2048 (product1 (shapeCast (α := EReal) S16384x1024 a shapeCasts_S4x4096x1024_S16384x1024) w) shapeCasts_S16384x2048_S4x4096x2048 = branch a w := by
  funext i
  idx_vars i
  pointwise [product1, branch]
  done

theorem project_eq (a : FVec Ideal S4x4096x2048 .f32) (w : FVec Ideal S2048x2048 .f32) :
    shapeCast (α := EReal) S4x4096x2048 (product2 (shapeCast (α := EReal) S16384x2048 a shapeCasts_S4x4096x2048_S16384x2048) w) shapeCasts_S16384x2048_S4x4096x2048 = project a w := by
  funext i
  idx_vars i
  pointwise [product2, project]
  done

end Cert.Kernel4Ideal.Merge

end
-- ==== Proof.MergeLaunch.lean ====
/- The merge program's launch: the segments of `main` run to the end with the result buffer at the value of the last
   boundary, the arguments unchanged. -/
module

public import proofs.«01_k».proof.Proof.Gen.Kernel4Ideal.Frame

@[expose] public section

set_option maxRecDepth 16384

noncomputable section

namespace Cert.Kernel4Ideal.Merge

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer as the last host stretch leaves it, and with the arguments as launched. -/
theorem run_kept : θ_run defs (onTc (τ := τ) (main (F := F))) ⟨m, fun _ => 0, ρ⟩ (fun r => (∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩), funext fun g => hz g (.inr (no_unscoped g.2))⟩)

end Cert.Kernel4Ideal.Merge

end
-- ==== Proof.MergeRun.lean ====
/- The merge kernel's value: the boundaries of `main` read one after the other, from the launch to the result. -/
module

public import proofs.«01_k».proof.Proof.Merge
public import proofs.«01_k».proof.Proof.MergeLaunch

@[expose] public section

set_option maxRecDepth 16384

noncomputable section

namespace Cert.Kernel4Ideal.Merge

open Cert.Kernel4Ideal Cert.Kernel4Ideal.Gen Cert.Kernel4Ideal.Mm Idealize.ShloMosaic Idealize.ShloMosaic.TcCoe Idealize.SL.Sem Idealize.ShloMosaic.StableHlo

/-! ## The host stretches, from any contents -/

section Host
variable (W : Valuation τ sig (Elt Ideal))

theorem hy_weight : after hostOps0 W (Proc.devRef .tc main_v0) = ((W (Proc.devRef .tc main_arg5)) : FVec Ideal S1024x2048 .f32) := by
  simp only [hostOps0]; after_results_simp; rfl

theorem hy_rows : after hostOps0 W (Proc.devRef .tc main_v2)
    = shapeCast (α := EReal) S16384x1024 (W (Proc.devRef .tc main_arg1)) shapeCasts_S4x4096x1024_S16384x1024 := by
  simp only [hostOps0]; after_results_simp; rfl

theorem hy_out : after hostOps1 W (Proc.devRef .tc main_v4)
    = shapeCast (α := EReal) S4x4096x2048 (W (Proc.devRef .tc main_v3)) shapeCasts_S16384x2048_S4x4096x2048 := by
  simp only [hostOps1]; after_results_simp; rfl

theorem rw_weight : after hostOps1 W (Proc.devRef .tc main_v5) = ((W (Proc.devRef .tc main_arg6)) : FVec Ideal S1024x2048 .f32) := by
  simp only [hostOps1]; after_results_simp; rfl

theorem rw_rows : after hostOps1 W (Proc.devRef .tc main_v7)
    = shapeCast (α := EReal) S16384x1024 (W (Proc.devRef .tc main_arg2)) shapeCasts_S4x4096x1024_S16384x1024 := by
  simp only [hostOps1]; after_results_simp; rfl

theorem out_weight : after hostOps2 W (Proc.devRef .tc main_v23) = ((W (Proc.devRef .tc main_arg7)) : FVec Ideal S2048x2048 .f32) := by
  simp only [hostOps2]; after_results_simp; rfl

theorem out_rows : after hostOps2 W (Proc.devRef .tc main_v25)
    = shapeCast (α := EReal) S16384x2048 (gated (F := Ideal) (W (Proc.devRef .tc main_arg4)) (W (Proc.devRef .tc main_v4))
        (shapeCast (α := EReal) S4x4096x2048 (W (Proc.devRef .tc main_v8)) shapeCasts_S16384x2048_S4x4096x2048) (W (Proc.devRef .tc main_arg3))) shapeCasts_S4x4096x2048_S16384x2048 := by
  simp only [hostOps2]; after_results_simp; dsimp only [gated]; rfl

theorem scaled : after hostOps2 W (Proc.devRef .tc main_v22)
    = mulf (F := Ideal) (broadcastInDim S4x4096x2048 ![] bcast_S_S4x4096x2048 (constant S_ .f32 0x3F9837F0#32)) (W (Proc.devRef .tc main_arg0)) := by
  simp only [hostOps2]; after_results_simp

theorem tail_result : after hostOps3 W (Proc.devRef .tc main_v52)
    = norm (F := Ideal) (addf (F := Ideal) (W (Proc.devRef .tc main_v22))
        (shapeCast (α := EReal) S4x4096x2048 (W (Proc.devRef .tc main_v26)) shapeCasts_S16384x2048_S4x4096x2048)) (W (Proc.devRef .tc main_arg8)) (W (Proc.devRef .tc main_arg9)) := by
  simp only [hostOps3]; after_results_simp; dsimp only [norm, centred, mean]; rfl

end Host

/-! ## From the launch to the result -/

variable (m : (ℓ : Loc nD τ sig) → Buf (Elt Ideal) ℓ) (ρ : Dev nD → PrngReg)

/-- The first branch's output projection, in the first region's array. -/
theorem W2_product (c : Dev nD) : W2 m ρ c (Proc.devRef .tc main_v3)
    = product0 (shapeCast (α := EReal) S16384x1024 (m ((c.tc : Thread nD τ).loc main_arg1)) shapeCasts_S4x4096x1024_S16384x1024) (m ((c.tc : Thread nD τ).loc main_arg5)) := by
  refine (W2_arr m ρ c 2).trans ((final0 (V1 m ρ) c).trans ?_)
  exact congrArg₂ product0 (hy_rows (W0 m ρ c)) (hy_weight (W0 m ρ c))

/-- The second region keeps the first branch's array. -/
theorem W4_first (c : Dev nD) : W4 m ρ c (Proc.devRef .tc main_v4) = branch (m ((c.tc : Thread nD τ).loc main_arg1)) (m ((c.tc : Thread nD τ).loc main_arg5)) := by
  refine (W4_of_ne m ρ c main_v4 (by decide)).trans ((hy_out (W2 m ρ c)).trans ?_)
  rw [W2_product, branch_eq0]

/-- The second branch's output projection, in the second region's array. -/
theorem W4_product (c : Dev nD) : W4 m ρ c (Proc.devRef .tc main_v8)
    = product1 (shapeCast (α := EReal) S16384x1024 (m ((c.tc : Thread nD τ).loc main_arg2)) shapeCasts_S4x4096x1024_S16384x1024) (m ((c.tc : Thread nD τ).loc main_arg6)) := by
  refine (W4_arr m ρ c 2).trans ((final1 (V3 m ρ) c).trans ?_)
  refine congrArg₂ product1 ((rw_rows (W2 m ρ c)).trans ?_) ((rw_weight (W2 m ρ c)).trans (W2_args m ρ c main_arg6 (by decide)))
  exact congrArg (fun a => shapeCast (α := EReal) S16384x1024 a shapeCasts_S4x4096x1024_S16384x1024) (W2_args m ρ c main_arg2 (by decide))

/-- The rows the last region reads. -/
theorem W5_rows (c : Dev nD) : W5 m ρ c (Proc.devRef .tc main_v25)
    = shapeCast (α := EReal) S16384x2048 (gated (F := Ideal) (m ((c.tc : Thread nD τ).loc main_arg4)) (branch (m ((c.tc : Thread nD τ).loc main_arg1)) (m ((c.tc : Thread nD τ).loc main_arg5))) (branch (m ((c.tc : Thread nD τ).loc main_arg2)) (m ((c.tc : Thread nD τ).loc main_arg6))) (m ((c.tc : Thread nD τ).loc main_arg3))) shapeCasts_S4x4096x2048_S16384x2048 := by
  refine (out_rows (W4 m ρ c)).trans ?_
  rw [W4_product, branch_eq1, W4_first]
  have e3 := W4_args m ρ c main_arg3 (by decide)
  have e4 := W4_args m ρ c main_arg4 (by decide)
  rw [e3, e4]

/-- The last projection, in the last region's array. -/
theorem W6_product (c : Dev nD) : W6 m ρ c (Proc.devRef .tc main_v26)
    = product2 (shapeCast (α := EReal) S16384x2048 (gated (F := Ideal) (m ((c.tc : Thread nD τ).loc main_arg4)) (branch (m ((c.tc : Thread nD τ).loc main_arg1)) (m ((c.tc : Thread nD τ).loc main_arg5))) (branch (m ((c.tc : Thread nD τ).loc main_arg2)) (m ((c.tc : Thread nD τ).loc main_arg6))) (m ((c.tc : Thread nD τ).loc main_arg3))) shapeCasts_S4x4096x2048_S16384x2048) (m ((c.tc : Thread nD τ).loc main_arg7)) := by
  refine (W6_arr m ρ c 2).trans ((final2 (V5 m ρ) c).trans ?_)
  exact congrArg₂ product2 (W5_rows m ρ c) ((out_weight (W4 m ρ c)).trans (W4_args m ρ c main_arg7 (by decide)))

/-- The scaled input, which the last region keeps. -/
theorem W6_scaled (c : Dev nD) : W6 m ρ c (Proc.devRef .tc main_v22)
    = mulf (F := Ideal) (broadcastInDim S4x4096x2048 ![] bcast_S_S4x4096x2048 (constant S_ .f32 0x3F9837F0#32)) (m ((c.tc : Thread nD τ).loc main_arg0)) := by
  refine (W6_of_ne m ρ c main_v22 (by decide)).trans ((scaled (W4 m ρ c)).trans ?_)
  have e0 := W4_args m ρ c main_arg0 (by decide)
  rw [e0]

/-- The result at the end. -/
theorem W7_result (c : Dev nD) : W7 m ρ c (Proc.devRef .tc main_v52)
    = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (tail_result (W6 m ρ c)).trans ?_
  have e8 := W6_args m ρ c main_arg8 (by decide)
  have e9 := W6_args m ρ c main_arg9 (by decide)
  rw [W6_product, project_eq, W6_scaled, e8, e9]
  rfl

/-- The kernel ends with `Merge.layer` of its arguments, which it leaves unchanged. -/
theorem run_layer : θ_run defs (onTc (τ := τ) (main (F := Ideal))) ⟨m, fun _ => 0, ρ⟩ fun r => ∀ c : Dev nD,
      r.2.mem ((c.tc : Thread nD τ).loc main_v52)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h.1 c).1.trans (W7_result m ρ c), (h.1 c).2⟩) (run_kept m ρ)

end Cert.Kernel4Ideal.Merge

end
-- ==== Proof.MergeReference.lean ====
/- The merge's reference: its run ends with the same function of the arguments as the kernel's. -/
module

public import proofs.«01_k».proof.Proof.Merge
public import proofs.«01_k».proof.Proof.Gen.Reference4Ideal.Run

@[expose] public section

set_option maxRecDepth 16384

noncomputable section

namespace Cert.Reference4Ideal.Merge

open Cert.Reference4Ideal Cert.Reference4Ideal.Gen Cert.Reference4Ideal.Value Idealize.ShloMosaic Idealize.ShloMosaic.TcCoe Idealize.SL.Sem Idealize.ShloMosaic.StableHlo
open Cert.Kernel4Ideal.Merge (layer branch project)

theorem branch_eq (a : FVec Ideal S4x4096x1024 .f32) (w : FVec Ideal S1024x2048 .f32) :
    Host.dotGeneral dot_S4x4096x1024_S1024x2048_S4x4096x2048_2_0_01_1_n_n none a w = branch a w := by
  funext i
  idx_vars i
  pointwise [branch]
  done

theorem project_eq (a : FVec Ideal S4x4096x2048 .f32) (w : FVec Ideal S2048x2048 .f32) :
    Host.dotGeneral dot_S4x4096x2048_S2048x2048_S4x4096x2048_2_0_01_1_n_n none a w = project a w := by
  funext i
  idx_vars i
  pointwise [project]
  done

set_option maxHeartbeats 4000000 in
/-- The reference ends with `Merge.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2⟩) (Value.run m ρ)
  unfold res_main_v40
  simp only [branch_eq, project_eq]
  rfl

end Cert.Reference4Ideal.Merge

end
-- ==== Proof.Wkv.lean ====
/- One chunk of one pair of heads as the kernel computes it, as functions of the pair's blocks: the same operations for each of the
   eight pairs that a grid point holds. -/
module

public import proofs.«01_k».proof.Proof.Gen.Kernel5Ideal.Skeleton

@[expose] public section

noncomputable section

namespace Cert.Kernel5Ideal.Val

open Idealize.ShloMosaic Idealize.SL.Sem Cert.Kernel5Ideal.Gen

variable {F : FTy → Type} [FloatOps F]

/-- Tokens of a chunk by a pair's lanes. -/
abbrev Rowed (F : FTy → Type) := FVec F S64x128 .f32
/-- The pair's two heads stacked, by lanes; or lanes by lanes. -/
abbrev Square (F : FTy → Type) := FVec F S128x128 .f32
abbrev Narrow (F : FTy → Type) := FVec F S128x128 .bf16

def zeroR : Rowed F := broadcast S64x128 (Scalar.ofBits .f32 0x00000000#32)
def zeroS : Square F := broadcast S128x128 (Scalar.ofBits .f32 0x00000000#32)
def narrow (x : Square F) : Narrow F := truncf .bf16 x bitsLt_bf16_f32

/-- The first head's lanes over the second's. -/
def stack (x : Rowed F) : Square F :=
  concatenate S128x128 0 [⟨S64x128, select k0_pay61 x zeroR⟩, ⟨S64x128, select k0_pay61 zeroR x⟩] concatenates_S64x128_S64x128_S128x128_d0

def dotNN (x y : Narrow F) : Square F := matmul dot_S128x128_S128x128_S128x128_1_0_0_1_n_n none x y (constant S128x128 .f32 0x00000000#32)
def dotNT (x y : Narrow F) : Square F := matmul dot_S128x128_S128x128_S128x128_1_1_0_0_n_n none x y (constant S128x128 .f32 0x00000000#32)
def dotTN (x y : Narrow F) : Square F := matmul dot_S128x128_S128x128_S128x128_0_0_1_1_n_n none x y (constant S128x128 .f32 0x00000000#32)

/-- The running sum of the logarithms of the decays, through each token. -/
def vcum (rev : BitVec 32) (lw : Rowed F) : Rowed F :=
  matmul dot_S64x64_S64x128_S64x128_1_0_0_1_n_n (some .fp32) (k0_pay60 (F := F) rev) lw (constant S64x128 .f32 0x00000000#32)
/-- The chunk's whole decay, by lane. -/
def vgall (lw : Rowed F) : FVec F S1x128 .f32 :=
  exp (shapeCast S1x128 (multiReduction .add [0] S128 lw 0x00000000#32 reduces_S64x128_S128 (.inl rfl) rfl) shapeCasts_S128_S1x128)
def vgrow (lw : Rowed F) : Square F := broadcastTo S128x128 (vgall lw) broadcasts_S1x128_S128x128
/-- The whole decay, one lane a row. -/
def vgcol (lw : Rowed F) : Square F :=
  matmul dot_S128x128_S128x128_S128x128_1_0_0_1_n_n (some .fp32) (mulf (k0_pay65 (F := F)) (vgrow lw)) (k0_pay66 (F := F)) (constant S128x128 .f32 0x00000000#32)
def vginv (rev : BitVec 32) (lw : Rowed F) : Rowed F := exp (subf zeroR (vcum rev lw))
def vbt (rev : BitVec 32) (lw kk : Rowed F) : Narrow F := narrow (stack (mulf kk (exp (subf (vcum rev lw) lw))))
def vat (rev : BitVec 32) (lw a : Rowed F) : Square F := stack (subf zeroR (mulf a (vginv rev lw)))
def vkt (rev : BitVec 32) (lw k : Rowed F) : Square F := stack (mulf k (vginv rev lw))
def vrt (rev : BitVec 32) (lw r : Rowed F) : Narrow F := narrow (stack (mulf r (exp (vcum rev lw))))
def vvs (v : Rowed F) : Narrow F := narrow (stack v)
def vstrict (rev : BitVec 32) (x y : Narrow F) : Square F := select (k0_pay63 rev) (dotNT x y) zeroS
def vincl (rev : BitVec 32) (x y : Narrow F) : Square F := select (k0_pay64 rev) (dotNT x y) zeroS

/-- The powers of the strict part by squaring. -/
def vps (m : Square F) : ℕ → Square F
  | 0 => m
  | n + 1 => dotNN (narrow (vps m n)) (narrow (vps m n))
/-- The inverse, one squaring at a time. -/
def vts (m : Square F) : ℕ → Square F
  | 0 => addf (k0_pay65 (F := F)) m
  | n + 1 => addf (vts m n) (dotNN (narrow (vts m n)) (narrow (vps m (n + 1))))

/-- The removed values. -/
def vu (rev : BitVec 32) (lw k v kk a : Rowed F) (h : Square F) : Narrow F :=
  narrow (dotNN (narrow (vts (vstrict rev (vbt rev lw kk) (narrow (vat rev lw a))) 5))
    (narrow (addf (dotNN (vbt rev lw kk) (narrow h)) (dotNN (narrow (vstrict rev (vbt rev lw kk) (narrow (vkt rev lw k)))) (vvs v)))))
/-- The outputs with the two heads stacked. -/
def vyS (rev : BitVec 32) (r lw k v kk a : Rowed F) (h : Square F) : Square F :=
  addf (addf (dotNN (vrt rev lw r) (narrow h)) (dotNN (narrow (vincl rev (vrt rev lw r) (narrow (vat rev lw a)))) (vu rev lw k v kk a h)))
    (dotNN (narrow (vincl rev (vrt rev lw r) (narrow (vkt rev lw k)))) (vvs v))
/-- The chunk's outputs. -/
def vY (rev : BitVec 32) (r lw k v kk a : Rowed F) (h : Square F) : Rowed F :=
  addf (extractStridedSlice S64x128 ![0, 0] (vyS rev r lw k v kk a h) slices_S128x128_o0_0_S64x128)
    (extractStridedSlice S64x128 ![64, 0] (vyS rev r lw k v kk a h) slices_S128x128_o64_0_S64x128)
/-- The state after the chunk. -/
def vH (rev : BitVec 32) (lw k v kk a : Rowed F) (h : Square F) : Square F :=
  addf (addf (mulf h (vgcol lw)) (dotTN (narrow (mulf (vat rev lw a) (vgrow lw))) (vu rev lw k v kk a h)))
    (dotTN (narrow (mulf (vkt rev lw k) (vgrow lw))) (vvs v))

end Cert.Kernel5Ideal.Val

end
-- ==== Proof.WkvBlock.lean ====
module

public import proofs.«01_k».proof.Proof.Wkv
public import proofs.«01_k».proof.Proof.Gen.Kernel5Ideal.Frame
public import Idealize.ShloMosaic.Lib.Pipeline.ValueKit
public import Idealize.ShloMosaic.Lib.Pipeline.ReadBack
public import Idealize.ShloMosaic.Lib.Pointwise

/-!
# What a grid point of the recurrence kernel writes

A grid point handles 64 tokens of eight pairs of heads. Its loads, computations and stores are unrolled over the pairs. Here the outputs
and the new states of a whole point are put together from the eight pairs, for a point that begins a pass over the tokens and for one
that carries on from the point before.
-/

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.Pipeline (Dat)

/-- A pair's lanes of a block that both directions read. -/
def pair3 (x : Vec Ideal S1x64x1024 .f32) (p : Fin 8) : Rowed Ideal := fun i => x (ix3 0 (i 0) ⟨128 * p.val + (i 1).val, by have := (i 1).isLt; have : (i 1).val < 128 := this; omega⟩)
/-- A pair's lanes of a block of one direction. -/
def pair4 (x : Vec Ideal S1x1x64x1024 .f32) (p : Fin 8) : Rowed Ideal := fun i => x (ix4 0 0 (i 0) ⟨128 * p.val + (i 1).val, by have := (i 1).isLt; have : (i 1).val < 128 := this; omega⟩)
/-- A pair's state. -/
def slice (x : Vec Ideal S8x128x128 .f32) (p : Fin 8) : Square Ideal := fun i => x (ix3 p (i 0) (i 1))

variable (m : (ℓ : Loc nD τ sig) → Buf (Elt Ideal) ℓ)

/-- A point's outputs, from its blocks and the states it starts from. -/
def outY (rev : BitVec 32) (x0 x1 x2 : Vec Ideal S1x64x1024 .f32) (x3 x4 x5 : Vec Ideal S1x1x64x1024 .f32) (xs : Vec Ideal S8x128x128 .f32) :
    Vec Ideal S1x1x64x1024 .f32 := fun y =>
  let p : Fin 8 := ⟨(y 3).val / 128, by have : (y 3).val < 1024 := (y 3).isLt; omega⟩
  vY rev (pair3 x0 p) (pair4 x3 p) (pair4 x4 p) (pair3 x1 p) (pair3 x2 p) (pair4 x5 p) (slice xs p)
    (ix2 (y 2) ⟨(y 3).val % 128, Nat.mod_lt _ (by omega)⟩)

/-- An entry of a block without its leading axis. -/
theorem drop3 (w : Vec Ideal S1x64x128 .f32) (a : Fin 64) (b : Fin 128) : shapeCast S64x128 w shapeCasts_S1x64x128_S64x128 (ix2 a b) = w (ix3 0 a b) := by
  pointwise []

/-- An entry of a block without its two leading axes. -/
theorem drop4 (w : Vec Ideal S1x1x64x128 .f32) (a : Fin 64) (b : Fin 128) : shapeCast S64x128 w shapeCasts_S1x1x64x128_S64x128 (ix2 a b) = w (ix4 0 0 a b) := by
  pointwise []

/-- An entry of a state without its leading axis. -/
theorem dropS (w : Vec Ideal S1x128x128 .f32) (a b : Fin 128) : shapeCast S128x128 w shapeCasts_S1x128x128_S128x128 (ix2 a b) = w (ix3 0 a b) := by
  pointwise []

/-- A loaded slice of the block's lanes is a pair's. -/
theorem pair3_eq (x : Vec Ideal S1x64x1024 .f32) (p : Fin 8) (o : ℕ) (ho : o = 128 * p.val) (inb) :
    pair3 x p = shapeCast S64x128 (View.ld (Val := Elt Ideal) (e' := .f32) x (Rect.unit (s := S1x64x1024) ![0, 0, o] S1x64x128.size inb)) shapeCasts_S1x64x128_S64x128 := by
  subst ho
  have hw : ∀ a b, View.ld (Val := Elt Ideal) (e' := .f32) x (Rect.unit (s := S1x64x1024) ![0, 0, 128 * p.val] S1x64x128.size inb) (ix3 0 a b) = pair3 x p (ix2 a b) := fun a b => by
    refine View.ld_unit_apply_of x _ _ inb _ _ fun d => ?_
    fin_cases d <;> simp [ix2, ix3, ix4]
  generalize View.ld (Val := Elt Ideal) (e' := .f32) x (Rect.unit (s := S1x64x1024) ![0, 0, 128 * p.val] S1x64x128.size inb) = w at hw ⊢
  funext i; idx_vars i
  rw [← hw]; exact (drop3 _ _ _).symm

/-- The same for a block of one direction. -/
theorem pair4_eq (x : Vec Ideal S1x1x64x1024 .f32) (p : Fin 8) (o : ℕ) (ho : o = 128 * p.val) (inb) :
    pair4 x p = shapeCast S64x128 (View.ld (Val := Elt Ideal) (e' := .f32) x (Rect.unit (s := S1x1x64x1024) ![0, 0, 0, o] S1x1x64x128.size inb)) shapeCasts_S1x1x64x128_S64x128 := by
  subst ho
  have hw : ∀ a b, View.ld (Val := Elt Ideal) (e' := .f32) x (Rect.unit (s := S1x1x64x1024) ![0, 0, 0, 128 * p.val] S1x1x64x128.size inb) (ix4 0 0 a b) = pair4 x p (ix2 a b) := fun a b => by
    refine View.ld_unit_apply_of x _ _ inb _ _ fun d => ?_
    fin_cases d <;> simp [ix2, ix3, ix4]
  generalize View.ld (Val := Elt Ideal) (e' := .f32) x (Rect.unit (s := S1x1x64x1024) ![0, 0, 0, 128 * p.val] S1x1x64x128.size inb) = w at hw ⊢
  funext i; idx_vars i
  rw [← hw]; exact (drop4 _ _ _).symm

/-- A loaded slice of the states is a pair's. -/
theorem slice_eq (x : Vec Ideal S8x128x128 .f32) (p : Fin 8) (o : ℕ) (ho : o = p.val) (inb) :
    slice x p = shapeCast S128x128 (View.ld (Val := Elt Ideal) (e' := .f32) x (Rect.unit (s := S8x128x128) ![o, 0, 0] S1x128x128.size inb)) shapeCasts_S1x128x128_S128x128 := by
  subst ho
  have hw : ∀ a b, View.ld (Val := Elt Ideal) (e' := .f32) x (Rect.unit (s := S8x128x128) ![p.val, 0, 0] S1x128x128.size inb) (ix3 0 a b) = slice x p (ix2 a b) := fun a b => by
    refine View.ld_unit_apply_of x _ _ inb _ _ fun d => ?_
    fin_cases d <;> simp [ix2, ix3, ix4]
  generalize View.ld (Val := Elt Ideal) (e' := .f32) x (Rect.unit (s := S8x128x128) ![p.val, 0, 0] S1x128x128.size inb) = w at hw ⊢
  funext i; idx_vars i
  rw [← hw]; exact (dropS _ _ _).symm

/-- A stored pair of the outputs. -/
theorem pieceY (p : Fin 8) (rev : BitVec 32) (x0 x1 x2 : Vec Ideal S1x64x1024 .f32) (x3 x4 x5 : Vec Ideal S1x1x64x1024 .f32) (xs : Vec Ideal S8x128x128 .f32)
    (x : S1x1x64x128.Idx) (y : S1x1x64x1024.Idx) (h2 : (y 2).val = (x 2).val) (h3 : (y 3).val = 128 * p.val + (x 3).val) :
    shapeCast S1x1x64x128 (vY rev (pair3 x0 p) (pair4 x3 p) (pair4 x4 p) (pair3 x1 p) (pair3 x2 p) (pair4 x5 p) (slice xs p)) shapeCasts_S64x128_S1x1x64x128 x
      = outY rev x0 x1 x2 x3 x4 x5 xs y := by
  have hx : (x 3).val < 128 := (x 3).isLt
  have hp : (⟨(y 3).val / 128, by have : (y 3).val < 1024 := (y 3).isLt; omega⟩ : Fin 8) = p := Fin.ext (by show (y 3).val / 128 = p.val; omega)
  unfold outY
  simp only [hp]
  generalize vY rev (pair3 x0 p) (pair4 x3 p) (pair4 x4 p) (pair3 x1 p) (pair3 x2 p) (pair4 x5 p) (slice xs p) = A
  idx_vars x
  pointwise []
  congr 2
  · exact Fin.ext (by simpa using h2.symm)
  · exact Fin.ext (by simp at h3 ⊢; omega)

/-- A point's new states, from its blocks and the states it starts from. -/
def outH (rev : BitVec 32) (x0 x1 x2 : Vec Ideal S1x64x1024 .f32) (x3 x4 x5 : Vec Ideal S1x1x64x1024 .f32) (xs : Vec Ideal S8x128x128 .f32) :
    Vec Ideal S8x128x128 .f32 := fun y =>
  vH rev (pair4 x3 (y 0)) (pair4 x4 (y 0)) (pair3 x1 (y 0)) (pair3 x2 (y 0)) (pair4 x5 (y 0)) (slice xs (y 0)) (ix2 (y 1) (y 2))

/-- A stored pair of the states. -/
theorem pieceH (p : Fin 8) (rev : BitVec 32) (x0 x1 x2 : Vec Ideal S1x64x1024 .f32) (x3 x4 x5 : Vec Ideal S1x1x64x1024 .f32) (xs : Vec Ideal S8x128x128 .f32)
    (x : S1x128x128.Idx) (y : S8x128x128.Idx) (h0 : (y 0).val = p.val + (x 0).val) (h1 : (y 1).val = (x 1).val) (h2 : (y 2).val = (x 2).val) :
    shapeCast S1x128x128 (vH rev (pair4 x3 p) (pair4 x4 p) (pair3 x1 p) (pair3 x2 p) (pair4 x5 p) (slice xs p)) shapeCasts_S128x128_S1x128x128 x
      = outH rev x0 x1 x2 x3 x4 x5 xs y := by
  have hx : (x 0).val < 1 := (x 0).isLt
  obtain rfl : (y 0 : Fin 8) = p := Fin.ext (by omega)
  unfold outH
  generalize vH rev (pair4 x3 (y 0)) (pair4 x4 (y 0)) (pair3 x1 (y 0)) (pair3 x2 (y 0)) (pair4 x5 (y 0)) (slice xs (y 0)) = A
  idx_vars x
  pointwise []
  congr 2
  · exact Fin.ext h1.symm
  · exact Fin.ext h2.symm

/-- The outputs of a point that carries on from the one before. -/
theorem outB_Y (c : Dev nD) (t : Fin cfg0.N) (h0 : ¬t.val % 64 = 0) :
    (outsAt0 m c t.val t.isLt).1 = outY (BitVec.ofNat 32 ((grid0.coords t) 0).val) (iblk m c 0 t) (iblk m c 1 t) (iblk m c 2 t) (iblk m c 3 t) (iblk m c 4 t) (iblk m c 5 t)
      (outsAt0 m c (t.val - 1) (Nat.lt_of_le_of_lt (Nat.sub_le _ _) t.isLt)).2 := by
  rw [outsAt0_B m c t h0]
  generalize (outsAt0 m c (t.val - 1) (Nat.lt_of_le_of_lt (Nat.sub_le _ _) t.isLt)).2 = xs
  frame_out
  simp only [read_unread_whole]
  generalize iblk m c 0 t = x0
  generalize iblk m c 1 t = x1
  generalize iblk m c 2 t = x2
  generalize iblk m c 3 t = x3
  generalize iblk m c 4 t = x4
  generalize iblk m c 5 t = x5
  funext y
  canon_tiles x h
  · refine Eq.trans ?_ (pieceY 7 _ x0 x1 x2 x3 x4 x5 xs x y h2 h3)
    rw [pair3_eq x1 7 896 rfl inb_S1x64x1024_S1x64x128_0_0_896, pair3_eq x2 7 896 rfl inb_S1x64x1024_S1x64x128_0_0_896,
      pair4_eq x3 7 896 rfl inb_S1x1x64x1024_S1x1x64x128_0_0_0_896, pair4_eq x4 7 896 rfl inb_S1x1x64x1024_S1x1x64x128_0_0_0_896, pair4_eq x5 7 896 rfl inb_S1x1x64x1024_S1x1x64x128_0_0_0_896,
      slice_eq xs 7 7 rfl inb_S8x128x128_S1x128x128_7_0_0, pair3_eq x0 7 896 rfl inb_S1x64x1024_S1x64x128_0_0_896]
    rfl
  · refine Eq.trans ?_ (pieceY 6 _ x0 x1 x2 x3 x4 x5 xs x y h2 h3)
    rw [pair3_eq x1 6 768 rfl inb_S1x64x1024_S1x64x128_0_0_768, pair3_eq x2 6 768 rfl inb_S1x64x1024_S1x64x128_0_0_768,
      pair4_eq x3 6 768 rfl inb_S1x1x64x1024_S1x1x64x128_0_0_0_768, pair4_eq x4 6 768 rfl inb_S1x1x64x1024_S1x1x64x128_0_0_0_768, pair4_eq x5 6 768 rfl inb_S1x1x64x1024_S1x1x64x128_0_0_0_768,
      slice_eq xs 6 6 rfl inb_S8x128x128_S1x128x128_6_0_0, pair3_eq x0 6 768 rfl inb_S1x64x1024_S1x64x128_0_0_768]
    rfl
  · refine Eq.trans ?_ (pieceY 5 _ x0 x1 x2 x3 x4 x5 xs x y h2 h3)
    rw [pair3_eq x1 5 640 rfl inb_S1x64x1024_S1x64x128_0_0_640, pair3_eq x2 5 640 rfl inb_S1x64x1024_S1x64x128_0_0_640,
      pair4_eq x3 5 640 rfl inb_S1x1x64x1024_S1x1x64x128_0_0_0_640, pair4_eq x4 5 640 rfl inb_S1x1x64x1024_S1x1x64x128_0_0_0_640, pair4_eq x5 5 640 rfl inb_S1x1x64x1024_S1x1x64x128_0_0_0_640,
      slice_eq xs 5 5 rfl inb_S8x128x128_S1x128x128_5_0_0, pair3_eq x0 5 640 rfl inb_S1x64x1024_S1x64x128_0_0_640]
    rfl
  · refine Eq.trans ?_ (pieceY 4 _ x0 x1 x2 x3 x4 x5 xs x y h2 h3)
    rw [pair3_eq x1 4 512 rfl inb_S1x64x1024_S1x64x128_0_0_512, pair3_eq x2 4 512 rfl inb_S1x64x1024_S1x64x128_0_0_512,
      pair4_eq x3 4 512 rfl inb_S1x1x64x1024_S1x1x64x128_0_0_0_512, pair4_eq x4 4 512 rfl inb_S1x1x64x1024_S1x1x64x128_0_0_0_512, pair4_eq x5 4 512 rfl inb_S1x1x64x1024_S1x1x64x128_0_0_0_512,
      slice_eq xs 4 4 rfl inb_S8x128x128_S1x128x128_4_0_0, pair3_eq x0 4 512 rfl inb_S1x64x1024_S1x64x128_0_0_512]
    rfl
  · refine Eq.trans ?_ (pieceY 3 _ x0 x1 x2 x3 x4 x5 xs x y h2 h3)
    rw [pair3_eq x1 3 384 rfl inb_S1x64x1024_S1x64x128_0_0_384, pair3_eq x2 3 384 rfl inb_S1x64x1024_S1x64x128_0_0_384,
      pair4_eq x3 3 384 rfl inb_S1x1x64x1024_S1x1x64x128_0_0_0_384, pair4_eq x4 3 384 rfl inb_S1x1x64x1024_S1x1x64x128_0_0_0_384, pair4_eq x5 3 384 rfl inb_S1x1x64x1024_S1x1x64x128_0_0_0_384,
      slice_eq xs 3 3 rfl inb_S8x128x128_S1x128x128_3_0_0, pair3_eq x0 3 384 rfl inb_S1x64x1024_S1x64x128_0_0_384]
    rfl
  · refine Eq.trans ?_ (pieceY 2 _ x0 x1 x2 x3 x4 x5 xs x y h2 h3)
    rw [pair3_eq x1 2 256 rfl inb_S1x64x1024_S1x64x128_0_0_256, pair3_eq x2 2 256 rfl inb_S1x64x1024_S1x64x128_0_0_256,
      pair4_eq x3 2 256 rfl inb_S1x1x64x1024_S1x1x64x128_0_0_0_256, pair4_eq x4 2 256 rfl inb_S1x1x64x1024_S1x1x64x128_0_0_0_256, pair4_eq x5 2 256 rfl inb_S1x1x64x1024_S1x1x64x128_0_0_0_256,
      slice_eq xs 2 2 rfl inb_S8x128x128_S1x128x128_2_0_0, pair3_eq x0 2 256 rfl inb_S1x64x1024_S1x64x128_0_0_256]
    rfl
  · refine Eq.trans ?_ (pieceY 1 _ x0 x1 x2 x3 x4 x5 xs x y h2 h3)
    rw [pair3_eq x1 1 128 rfl inb_S1x64x1024_S1x64x128_0_0_128, pair3_eq x2 1 128 rfl inb_S1x64x1024_S1x64x128_0_0_128,
      pair4_eq x3 1 128 rfl inb_S1x1x64x1024_S1x1x64x128_0_0_0_128, pair4_eq x4 1 128 rfl inb_S1x1x64x1024_S1x1x64x128_0_0_0_128, pair4_eq x5 1 128 rfl inb_S1x1x64x1024_S1x1x64x128_0_0_0_128,
      slice_eq xs 1 1 rfl inb_S8x128x128_S1x128x128_1_0_0, pair3_eq x0 1 128 rfl inb_S1x64x1024_S1x64x128_0_0_128]
    rfl
  · refine Eq.trans ?_ (pieceY 0 _ x0 x1 x2 x3 x4 x5 xs x y h2 (by simpa using h3))
    rw [pair3_eq x1 0 0 rfl inb_S1x64x1024_S1x64x128_0_0_0, pair3_eq x2 0 0 rfl inb_S1x64x1024_S1x64x128_0_0_0,
      pair4_eq x3 0 0 rfl inb_S1x1x64x1024_S1x1x64x128_0_0_0_0, pair4_eq x4 0 0 rfl inb_S1x1x64x1024_S1x1x64x128_0_0_0_0, pair4_eq x5 0 0 rfl inb_S1x1x64x1024_S1x1x64x128_0_0_0_0,
      slice_eq xs 0 0 rfl inb_S8x128x128_S1x128x128_0_0_0, pair3_eq x0 0 0 rfl inb_S1x64x1024_S1x64x128_0_0_0]
    rfl

/-- The states after it. -/
theorem outB_H (c : Dev nD) (t : Fin cfg0.N) (h0 : ¬t.val % 64 = 0) :
    (outsAt0 m c t.val t.isLt).2 = outH (BitVec.ofNat 32 ((grid0.coords t) 0).val) (iblk m c 0 t) (iblk m c 1 t) (iblk m c 2 t) (iblk m c 3 t) (iblk m c 4 t) (iblk m c 5 t)
      (outsAt0 m c (t.val - 1) (Nat.lt_of_le_of_lt (Nat.sub_le _ _) t.isLt)).2 := by
  rw [outsAt0_B m c t h0]
  generalize (outsAt0 m c (t.val - 1) (Nat.lt_of_le_of_lt (Nat.sub_le _ _) t.isLt)).2 = xs
  frame_out
  simp only [read_unread_whole]
  generalize iblk m c 0 t = x0
  generalize iblk m c 1 t = x1
  generalize iblk m c 2 t = x2
  generalize iblk m c 3 t = x3
  generalize iblk m c 4 t = x4
  generalize iblk m c 5 t = x5
  funext y
  canon_tiles x h
  · refine Eq.trans ?_ (pieceH 7 _ x0 x1 x2 x3 x4 x5 xs x y h0 h1 h2)
    rw [pair3_eq x1 7 896 rfl inb_S1x64x1024_S1x64x128_0_0_896, pair3_eq x2 7 896 rfl inb_S1x64x1024_S1x64x128_0_0_896,
      pair4_eq x3 7 896 rfl inb_S1x1x64x1024_S1x1x64x128_0_0_0_896, pair4_eq x4 7 896 rfl inb_S1x1x64x1024_S1x1x64x128_0_0_0_896, pair4_eq x5 7 896 rfl inb_S1x1x64x1024_S1x1x64x128_0_0_0_896,
      slice_eq xs 7 7 rfl inb_S8x128x128_S1x128x128_7_0_0]
    rfl
  · refine Eq.trans ?_ (pieceH 6 _ x0 x1 x2 x3 x4 x5 xs x y h0 h1 h2)
    rw [pair3_eq x1 6 768 rfl inb_S1x64x1024_S1x64x128_0_0_768, pair3_eq x2 6 768 rfl inb_S1x64x1024_S1x64x128_0_0_768,
      pair4_eq x3 6 768 rfl inb_S1x1x64x1024_S1x1x64x128_0_0_0_768, pair4_eq x4 6 768 rfl inb_S1x1x64x1024_S1x1x64x128_0_0_0_768, pair4_eq x5 6 768 rfl inb_S1x1x64x1024_S1x1x64x128_0_0_0_768,
      slice_eq xs 6 6 rfl inb_S8x128x128_S1x128x128_6_0_0]
    rfl
  · refine Eq.trans ?_ (pieceH 5 _ x0 x1 x2 x3 x4 x5 xs x y h0 h1 h2)
    rw [pair3_eq x1 5 640 rfl inb_S1x64x1024_S1x64x128_0_0_640, pair3_eq x2 5 640 rfl inb_S1x64x1024_S1x64x128_0_0_640,
      pair4_eq x3 5 640 rfl inb_S1x1x64x1024_S1x1x64x128_0_0_0_640, pair4_eq x4 5 640 rfl inb_S1x1x64x1024_S1x1x64x128_0_0_0_640, pair4_eq x5 5 640 rfl inb_S1x1x64x1024_S1x1x64x128_0_0_0_640,
      slice_eq xs 5 5 rfl inb_S8x128x128_S1x128x128_5_0_0]
    rfl
  · refine Eq.trans ?_ (pieceH 4 _ x0 x1 x2 x3 x4 x5 xs x y h0 h1 h2)
    rw [pair3_eq x1 4 512 rfl inb_S1x64x1024_S1x64x128_0_0_512, pair3_eq x2 4 512 rfl inb_S1x64x1024_S1x64x128_0_0_512,
      pair4_eq x3 4 512 rfl inb_S1x1x64x1024_S1x1x64x128_0_0_0_512, pair4_eq x4 4 512 rfl inb_S1x1x64x1024_S1x1x64x128_0_0_0_512, pair4_eq x5 4 512 rfl inb_S1x1x64x1024_S1x1x64x128_0_0_0_512,
      slice_eq xs 4 4 rfl inb_S8x128x128_S1x128x128_4_0_0]
    rfl
  · refine Eq.trans ?_ (pieceH 3 _ x0 x1 x2 x3 x4 x5 xs x y h0 h1 h2)
    rw [pair3_eq x1 3 384 rfl inb_S1x64x1024_S1x64x128_0_0_384, pair3_eq x2 3 384 rfl inb_S1x64x1024_S1x64x128_0_0_384,
      pair4_eq x3 3 384 rfl inb_S1x1x64x1024_S1x1x64x128_0_0_0_384, pair4_eq x4 3 384 rfl inb_S1x1x64x1024_S1x1x64x128_0_0_0_384, pair4_eq x5 3 384 rfl inb_S1x1x64x1024_S1x1x64x128_0_0_0_384,
      slice_eq xs 3 3 rfl inb_S8x128x128_S1x128x128_3_0_0]
    rfl
  · refine Eq.trans ?_ (pieceH 2 _ x0 x1 x2 x3 x4 x5 xs x y h0 h1 h2)
    rw [pair3_eq x1 2 256 rfl inb_S1x64x1024_S1x64x128_0_0_256, pair3_eq x2 2 256 rfl inb_S1x64x1024_S1x64x128_0_0_256,
      pair4_eq x3 2 256 rfl inb_S1x1x64x1024_S1x1x64x128_0_0_0_256, pair4_eq x4 2 256 rfl inb_S1x1x64x1024_S1x1x64x128_0_0_0_256, pair4_eq x5 2 256 rfl inb_S1x1x64x1024_S1x1x64x128_0_0_0_256,
      slice_eq xs 2 2 rfl inb_S8x128x128_S1x128x128_2_0_0]
    rfl
  · refine Eq.trans ?_ (pieceH 1 _ x0 x1 x2 x3 x4 x5 xs x y h0 h1 h2)
    rw [pair3_eq x1 1 128 rfl inb_S1x64x1024_S1x64x128_0_0_128, pair3_eq x2 1 128 rfl inb_S1x64x1024_S1x64x128_0_0_128,
      pair4_eq x3 1 128 rfl inb_S1x1x64x1024_S1x1x64x128_0_0_0_128, pair4_eq x4 1 128 rfl inb_S1x1x64x1024_S1x1x64x128_0_0_0_128, pair4_eq x5 1 128 rfl inb_S1x1x64x1024_S1x1x64x128_0_0_0_128,
      slice_eq xs 1 1 rfl inb_S8x128x128_S1x128x128_1_0_0]
    rfl
  · refine Eq.trans ?_ (pieceH 0 _ x0 x1 x2 x3 x4 x5 xs x y (by omega) h1 h2)
    rw [pair3_eq x1 0 0 rfl inb_S1x64x1024_S1x64x128_0_0_0, pair3_eq x2 0 0 rfl inb_S1x64x1024_S1x64x128_0_0_0,
      pair4_eq x3 0 0 rfl inb_S1x1x64x1024_S1x1x64x128_0_0_0_0, pair4_eq x4 0 0 rfl inb_S1x1x64x1024_S1x1x64x128_0_0_0_0, pair4_eq x5 0 0 rfl inb_S1x1x64x1024_S1x1x64x128_0_0_0_0,
      slice_eq xs 0 0 rfl inb_S8x128x128_S1x128x128_0_0_0]
    rfl

/-- The outputs of a point that begins a pass over the tokens. -/
theorem outA_Y (c : Dev nD) (t : Fin cfg0.N) (h0 : t.val % 64 = 0) :
    (outsAt0 m c t.val t.isLt).1 = outY (BitVec.ofNat 32 ((grid0.coords t) 0).val) (iblk m c 0 t) (iblk m c 1 t) (iblk m c 2 t) (iblk m c 3 t) (iblk m c 4 t) (iblk m c 5 t)
      (k0_pay3 (F := Ideal)) := by
  rw [outsAt0_A m c t h0]
  frame_open
  simp (disch := decide) only [↓ View.readCov_fill]
  frame_out
  generalize iblk m c 0 t = x0
  generalize iblk m c 1 t = x1
  generalize iblk m c 2 t = x2
  generalize iblk m c 3 t = x3
  generalize iblk m c 4 t = x4
  generalize iblk m c 5 t = x5
  funext y
  canon_tiles x h
  · refine Eq.trans ?_ (pieceY 7 _ x0 x1 x2 x3 x4 x5 (k0_pay3 (F := Ideal)) x y h2 h3)
    rw [pair3_eq x1 7 896 rfl inb_S1x64x1024_S1x64x128_0_0_896, pair3_eq x2 7 896 rfl inb_S1x64x1024_S1x64x128_0_0_896,
      pair4_eq x3 7 896 rfl inb_S1x1x64x1024_S1x1x64x128_0_0_0_896, pair4_eq x4 7 896 rfl inb_S1x1x64x1024_S1x1x64x128_0_0_0_896, pair4_eq x5 7 896 rfl inb_S1x1x64x1024_S1x1x64x128_0_0_0_896,
      slice_eq (k0_pay3 (F := Ideal)) 7 7 rfl inb_S8x128x128_S1x128x128_7_0_0, pair3_eq x0 7 896 rfl inb_S1x64x1024_S1x64x128_0_0_896]
    rfl
  · refine Eq.trans ?_ (pieceY 6 _ x0 x1 x2 x3 x4 x5 (k0_pay3 (F := Ideal)) x y h2 h3)
    rw [pair3_eq x1 6 768 rfl inb_S1x64x1024_S1x64x128_0_0_768, pair3_eq x2 6 768 rfl inb_S1x64x1024_S1x64x128_0_0_768,
      pair4_eq x3 6 768 rfl inb_S1x1x64x1024_S1x1x64x128_0_0_0_768, pair4_eq x4 6 768 rfl inb_S1x1x64x1024_S1x1x64x128_0_0_0_768, pair4_eq x5 6 768 rfl inb_S1x1x64x1024_S1x1x64x128_0_0_0_768,
      slice_eq (k0_pay3 (F := Ideal)) 6 6 rfl inb_S8x128x128_S1x128x128_6_0_0, pair3_eq x0 6 768 rfl inb_S1x64x1024_S1x64x128_0_0_768]
    rfl
  · refine Eq.trans ?_ (pieceY 5 _ x0 x1 x2 x3 x4 x5 (k0_pay3 (F := Ideal)) x y h2 h3)
    rw [pair3_eq x1 5 640 rfl inb_S1x64x1024_S1x64x128_0_0_640, pair3_eq x2 5 640 rfl inb_S1x64x1024_S1x64x128_0_0_640,
      pair4_eq x3 5 640 rfl inb_S1x1x64x1024_S1x1x64x128_0_0_0_640, pair4_eq x4 5 640 rfl inb_S1x1x64x1024_S1x1x64x128_0_0_0_640, pair4_eq x5 5 640 rfl inb_S1x1x64x1024_S1x1x64x128_0_0_0_640,
      slice_eq (k0_pay3 (F := Ideal)) 5 5 rfl inb_S8x128x128_S1x128x128_5_0_0, pair3_eq x0 5 640 rfl inb_S1x64x1024_S1x64x128_0_0_640]
    rfl
  · refine Eq.trans ?_ (pieceY 4 _ x0 x1 x2 x3 x4 x5 (k0_pay3 (F := Ideal)) x y h2 h3)
    rw [pair3_eq x1 4 512 rfl inb_S1x64x1024_S1x64x128_0_0_512, pair3_eq x2 4 512 rfl inb_S1x64x1024_S1x64x128_0_0_512,
      pair4_eq x3 4 512 rfl inb_S1x1x64x1024_S1x1x64x128_0_0_0_512, pair4_eq x4 4 512 rfl inb_S1x1x64x1024_S1x1x64x128_0_0_0_512, pair4_eq x5 4 512 rfl inb_S1x1x64x1024_S1x1x64x128_0_0_0_512,
      slice_eq (k0_pay3 (F := Ideal)) 4 4 rfl inb_S8x128x128_S1x128x128_4_0_0, pair3_eq x0 4 512 rfl inb_S1x64x1024_S1x64x128_0_0_512]
    rfl
  · refine Eq.trans ?_ (pieceY 3 _ x0 x1 x2 x3 x4 x5 (k0_pay3 (F := Ideal)) x y h2 h3)
    rw [pair3_eq x1 3 384 rfl inb_S1x64x1024_S1x64x128_0_0_384, pair3_eq x2 3 384 rfl inb_S1x64x1024_S1x64x128_0_0_384,
      pair4_eq x3 3 384 rfl inb_S1x1x64x1024_S1x1x64x128_0_0_0_384, pair4_eq x4 3 384 rfl inb_S1x1x64x1024_S1x1x64x128_0_0_0_384, pair4_eq x5 3 384 rfl inb_S1x1x64x1024_S1x1x64x128_0_0_0_384,
      slice_eq (k0_pay3 (F := Ideal)) 3 3 rfl inb_S8x128x128_S1x128x128_3_0_0, pair3_eq x0 3 384 rfl inb_S1x64x1024_S1x64x128_0_0_384]
    rfl
  · refine Eq.trans ?_ (pieceY 2 _ x0 x1 x2 x3 x4 x5 (k0_pay3 (F := Ideal)) x y h2 h3)
    rw [pair3_eq x1 2 256 rfl inb_S1x64x1024_S1x64x128_0_0_256, pair3_eq x2 2 256 rfl inb_S1x64x1024_S1x64x128_0_0_256,
      pair4_eq x3 2 256 rfl inb_S1x1x64x1024_S1x1x64x128_0_0_0_256, pair4_eq x4 2 256 rfl inb_S1x1x64x1024_S1x1x64x128_0_0_0_256, pair4_eq x5 2 256 rfl inb_S1x1x64x1024_S1x1x64x128_0_0_0_256,
      slice_eq (k0_pay3 (F := Ideal)) 2 2 rfl inb_S8x128x128_S1x128x128_2_0_0, pair3_eq x0 2 256 rfl inb_S1x64x1024_S1x64x128_0_0_256]
    rfl
  · refine Eq.trans ?_ (pieceY 1 _ x0 x1 x2 x3 x4 x5 (k0_pay3 (F := Ideal)) x y h2 h3)
    rw [pair3_eq x1 1 128 rfl inb_S1x64x1024_S1x64x128_0_0_128, pair3_eq x2 1 128 rfl inb_S1x64x1024_S1x64x128_0_0_128,
      pair4_eq x3 1 128 rfl inb_S1x1x64x1024_S1x1x64x128_0_0_0_128, pair4_eq x4 1 128 rfl inb_S1x1x64x1024_S1x1x64x128_0_0_0_128, pair4_eq x5 1 128 rfl inb_S1x1x64x1024_S1x1x64x128_0_0_0_128,
      slice_eq (k0_pay3 (F := Ideal)) 1 1 rfl inb_S8x128x128_S1x128x128_1_0_0, pair3_eq x0 1 128 rfl inb_S1x64x1024_S1x64x128_0_0_128]
    rfl
  · refine Eq.trans ?_ (pieceY 0 _ x0 x1 x2 x3 x4 x5 (k0_pay3 (F := Ideal)) x y h2 (by simpa using h3))
    rw [pair3_eq x1 0 0 rfl inb_S1x64x1024_S1x64x128_0_0_0, pair3_eq x2 0 0 rfl inb_S1x64x1024_S1x64x128_0_0_0,
      pair4_eq x3 0 0 rfl inb_S1x1x64x1024_S1x1x64x128_0_0_0_0, pair4_eq x4 0 0 rfl inb_S1x1x64x1024_S1x1x64x128_0_0_0_0, pair4_eq x5 0 0 rfl inb_S1x1x64x1024_S1x1x64x128_0_0_0_0,
      slice_eq (k0_pay3 (F := Ideal)) 0 0 rfl inb_S8x128x128_S1x128x128_0_0_0, pair3_eq x0 0 0 rfl inb_S1x64x1024_S1x64x128_0_0_0]
    rfl

/-- The states after it. -/
theorem outA_H (c : Dev nD) (t : Fin cfg0.N) (h0 : t.val % 64 = 0) :
    (outsAt0 m c t.val t.isLt).2 = outH (BitVec.ofNat 32 ((grid0.coords t) 0).val) (iblk m c 0 t) (iblk m c 1 t) (iblk m c 2 t) (iblk m c 3 t) (iblk m c 4 t) (iblk m c 5 t)
      (k0_pay3 (F := Ideal)) := by
  rw [outsAt0_A m c t h0]
  frame_open
  simp (disch := decide) only [↓ View.readCov_fill]
  frame_out
  generalize iblk m c 0 t = x0
  generalize iblk m c 1 t = x1
  generalize iblk m c 2 t = x2
  generalize iblk m c 3 t = x3
  generalize iblk m c 4 t = x4
  generalize iblk m c 5 t = x5
  funext y
  refine View.canon_append_of_piecesOf _ [_] [_, _, _, _, _, _, _, _] ⟨fun x => ?_, fun x => ?_, fun x => ?_, fun x => ?_, fun x => ?_, fun x => ?_, fun x => ?_, fun x => ?_, trivial⟩ y ?_
  · refine Eq.trans ?_ (pieceH 7 _ x0 x1 x2 x3 x4 x5 (k0_pay3 (F := Ideal)) x _ (by show 7 + 1 * (x 0).val = _; exact congrArg (7 + ·) (Nat.one_mul _)) (by show 0 + 1 * (x 1).val = _; omega) (by show 0 + 1 * (x 2).val = _; omega))
    rw [pair3_eq x1 7 896 rfl inb_S1x64x1024_S1x64x128_0_0_896, pair3_eq x2 7 896 rfl inb_S1x64x1024_S1x64x128_0_0_896,
      pair4_eq x3 7 896 rfl inb_S1x1x64x1024_S1x1x64x128_0_0_0_896, pair4_eq x4 7 896 rfl inb_S1x1x64x1024_S1x1x64x128_0_0_0_896, pair4_eq x5 7 896 rfl inb_S1x1x64x1024_S1x1x64x128_0_0_0_896,
      slice_eq (k0_pay3 (F := Ideal)) 7 7 rfl inb_S8x128x128_S1x128x128_7_0_0]
    rfl
  · refine Eq.trans ?_ (pieceH 6 _ x0 x1 x2 x3 x4 x5 (k0_pay3 (F := Ideal)) x _ (by show 6 + 1 * (x 0).val = _; exact congrArg (6 + ·) (Nat.one_mul _)) (by show 0 + 1 * (x 1).val = _; omega) (by show 0 + 1 * (x 2).val = _; omega))
    rw [pair3_eq x1 6 768 rfl inb_S1x64x1024_S1x64x128_0_0_768, pair3_eq x2 6 768 rfl inb_S1x64x1024_S1x64x128_0_0_768,
      pair4_eq x3 6 768 rfl inb_S1x1x64x1024_S1x1x64x128_0_0_0_768, pair4_eq x4 6 768 rfl inb_S1x1x64x1024_S1x1x64x128_0_0_0_768, pair4_eq x5 6 768 rfl inb_S1x1x64x1024_S1x1x64x128_0_0_0_768,
      slice_eq (k0_pay3 (F := Ideal)) 6 6 rfl inb_S8x128x128_S1x128x128_6_0_0]
    rfl
  · refine Eq.trans ?_ (pieceH 5 _ x0 x1 x2 x3 x4 x5 (k0_pay3 (F := Ideal)) x _ (by show 5 + 1 * (x 0).val = _; exact congrArg (5 + ·) (Nat.one_mul _)) (by show 0 + 1 * (x 1).val = _; omega) (by show 0 + 1 * (x 2).val = _; omega))
    rw [pair3_eq x1 5 640 rfl inb_S1x64x1024_S1x64x128_0_0_640, pair3_eq x2 5 640 rfl inb_S1x64x1024_S1x64x128_0_0_640,
      pair4_eq x3 5 640 rfl inb_S1x1x64x1024_S1x1x64x128_0_0_0_640, pair4_eq x4 5 640 rfl inb_S1x1x64x1024_S1x1x64x128_0_0_0_640, pair4_eq x5 5 640 rfl inb_S1x1x64x1024_S1x1x64x128_0_0_0_640,
      slice_eq (k0_pay3 (F := Ideal)) 5 5 rfl inb_S8x128x128_S1x128x128_5_0_0]
    rfl
  · refine Eq.trans ?_ (pieceH 4 _ x0 x1 x2 x3 x4 x5 (k0_pay3 (F := Ideal)) x _ (by show 4 + 1 * (x 0).val = _; exact congrArg (4 + ·) (Nat.one_mul _)) (by show 0 + 1 * (x 1).val = _; omega) (by show 0 + 1 * (x 2).val = _; omega))
    rw [pair3_eq x1 4 512 rfl inb_S1x64x1024_S1x64x128_0_0_512, pair3_eq x2 4 512 rfl inb_S1x64x1024_S1x64x128_0_0_512,
      pair4_eq x3 4 512 rfl inb_S1x1x64x1024_S1x1x64x128_0_0_0_512, pair4_eq x4 4 512 rfl inb_S1x1x64x1024_S1x1x64x128_0_0_0_512, pair4_eq x5 4 512 rfl inb_S1x1x64x1024_S1x1x64x128_0_0_0_512,
      slice_eq (k0_pay3 (F := Ideal)) 4 4 rfl inb_S8x128x128_S1x128x128_4_0_0]
    rfl
  · refine Eq.trans ?_ (pieceH 3 _ x0 x1 x2 x3 x4 x5 (k0_pay3 (F := Ideal)) x _ (by show 3 + 1 * (x 0).val = _; exact congrArg (3 + ·) (Nat.one_mul _)) (by show 0 + 1 * (x 1).val = _; omega) (by show 0 + 1 * (x 2).val = _; omega))
    rw [pair3_eq x1 3 384 rfl inb_S1x64x1024_S1x64x128_0_0_384, pair3_eq x2 3 384 rfl inb_S1x64x1024_S1x64x128_0_0_384,
      pair4_eq x3 3 384 rfl inb_S1x1x64x1024_S1x1x64x128_0_0_0_384, pair4_eq x4 3 384 rfl inb_S1x1x64x1024_S1x1x64x128_0_0_0_384, pair4_eq x5 3 384 rfl inb_S1x1x64x1024_S1x1x64x128_0_0_0_384,
      slice_eq (k0_pay3 (F := Ideal)) 3 3 rfl inb_S8x128x128_S1x128x128_3_0_0]
    rfl
  · refine Eq.trans ?_ (pieceH 2 _ x0 x1 x2 x3 x4 x5 (k0_pay3 (F := Ideal)) x _ (by show 2 + 1 * (x 0).val = _; exact congrArg (2 + ·) (Nat.one_mul _)) (by show 0 + 1 * (x 1).val = _; omega) (by show 0 + 1 * (x 2).val = _; omega))
    rw [pair3_eq x1 2 256 rfl inb_S1x64x1024_S1x64x128_0_0_256, pair3_eq x2 2 256 rfl inb_S1x64x1024_S1x64x128_0_0_256,
      pair4_eq x3 2 256 rfl inb_S1x1x64x1024_S1x1x64x128_0_0_0_256, pair4_eq x4 2 256 rfl inb_S1x1x64x1024_S1x1x64x128_0_0_0_256, pair4_eq x5 2 256 rfl inb_S1x1x64x1024_S1x1x64x128_0_0_0_256,
      slice_eq (k0_pay3 (F := Ideal)) 2 2 rfl inb_S8x128x128_S1x128x128_2_0_0]
    rfl
  · refine Eq.trans ?_ (pieceH 1 _ x0 x1 x2 x3 x4 x5 (k0_pay3 (F := Ideal)) x _ (by show 1 + 1 * (x 0).val = _; exact congrArg (1 + ·) (Nat.one_mul _)) (by show 0 + 1 * (x 1).val = _; omega) (by show 0 + 1 * (x 2).val = _; omega))
    rw [pair3_eq x1 1 128 rfl inb_S1x64x1024_S1x64x128_0_0_128, pair3_eq x2 1 128 rfl inb_S1x64x1024_S1x64x128_0_0_128,
      pair4_eq x3 1 128 rfl inb_S1x1x64x1024_S1x1x64x128_0_0_0_128, pair4_eq x4 1 128 rfl inb_S1x1x64x1024_S1x1x64x128_0_0_0_128, pair4_eq x5 1 128 rfl inb_S1x1x64x1024_S1x1x64x128_0_0_0_128,
      slice_eq (k0_pay3 (F := Ideal)) 1 1 rfl inb_S8x128x128_S1x128x128_1_0_0]
    rfl
  · refine Eq.trans ?_ (pieceH 0 _ x0 x1 x2 x3 x4 x5 (k0_pay3 (F := Ideal)) x _ (by show 0 + 1 * (x 0).val = _; exact congrArg (0 + ·) (Nat.one_mul _)) (by show 0 + 1 * (x 1).val = _; omega) (by show 0 + 1 * (x 2).val = _; omega))
    rw [pair3_eq x1 0 0 rfl inb_S1x64x1024_S1x64x128_0_0_0, pair3_eq x2 0 0 rfl inb_S1x64x1024_S1x64x128_0_0_0,
      pair4_eq x3 0 0 rfl inb_S1x1x64x1024_S1x1x64x128_0_0_0_0, pair4_eq x4 0 0 rfl inb_S1x1x64x1024_S1x1x64x128_0_0_0_0, pair4_eq x5 0 0 rfl inb_S1x1x64x1024_S1x1x64x128_0_0_0_0,
      slice_eq (k0_pay3 (F := Ideal)) 0 0 rfl inb_S8x128x128_S1x128x128_0_0_0]
    rfl
  · exact View.cover_of_tiledL (s := S8x128x128) _ ![1, 128, 128] (by sl_kernel_rfl) y

end Cert.Kernel5Ideal.Val

end
-- ==== Proof.Chunk.lean ====
/- The chunked form of the recurrence, over the reals: a chunk's steps taken one after another are the products of 128 by 128
   matrices that the kernel forms, the solution of the triangular system found by repeated squaring. -/
module

public import Mathlib.Analysis.SpecialFunctions.Exp
public import Mathlib.LinearAlgebra.Matrix.NonsingularInverse
public import Mathlib.Tactic.NoncommRing

@[expose] public section

noncomputable section

namespace Cert.Chunk

/-- A square matrix over the 128 stacked rows, or lanes, of a pair of heads. -/
abbrev Mat := Matrix (Fin 128) (Fin 128) ℝ

/-! ## The inverse by repeated squaring -/

/-- The `n`-th square: `M` to the power `2 ^ n`. -/
def square (M : Mat) : ℕ → Mat
  | 0 => M
  | n + 1 => square M n * square M n

/-- `1 + M` times `1 + M ^ 2`, …, times `1 + M ^ (2 ^ n)`. -/
def inverse (M : Mat) : ℕ → Mat
  | 0 => 1 + M
  | n + 1 => inverse M n + inverse M n * square M (n + 1)

theorem square_eq (M : Mat) : ∀ n, square M n = M ^ 2 ^ n
  | 0 => by simp [square]
  | n + 1 => by rw [square, square_eq M n, ← pow_add, pow_succ 2 n, mul_two]

/-- The product telescopes against `1 - M`. -/
theorem inverse_mul (M : Mat) : ∀ n, inverse M n * (1 - M) = 1 - square M (n + 1)
  | 0 => by simp only [inverse, square]; noncomm_ring
  | n + 1 => by
    have hc : square M (n + 1) * (1 - M) = (1 - M) * square M (n + 1) := by
      rw [square_eq]; exact ((Commute.one_right _).sub_right (Commute.pow_self M _)).eq
    have ih := inverse_mul M n
    calc inverse M (n + 1) * (1 - M) = inverse M n * (1 - M) + inverse M n * (square M (n + 1) * (1 - M)) := by
          rw [inverse, add_mul, mul_assoc]
      _ = (1 - square M (n + 1)) + (1 - square M (n + 1)) * square M (n + 1) := by rw [hc, ← mul_assoc, ih]
      _ = 1 - square M (n + 2) := by
          rw [show square M (n + 2) = square M (n + 1) * square M (n + 1) from rfl]; generalize square M (n + 1) = P; noncomm_ring

/-- A matrix that only leads to a row from earlier times is nilpotent. -/
theorem pow_apply_eq_zero (M : Mat) (tm : Fin 128 → ℕ) (hM : ∀ I J, M I J ≠ 0 → tm J < tm I) :
    ∀ (n : ℕ) (I J : Fin 128), (M ^ n) I J ≠ 0 → tm J + n ≤ tm I
  | 0, I, J, h => by
    rw [pow_zero, Matrix.one_apply] at h
    split_ifs at h with hij
    · exact hij ▸ le_refl _
    · exact absurd rfl h
  | n + 1, I, J, h => by
    rw [pow_succ, Matrix.mul_apply] at h
    obtain ⟨K, -, hK⟩ := Finset.exists_ne_zero_of_sum_ne_zero h
    have h1 := pow_apply_eq_zero M tm hM n I K (left_ne_zero_of_mul hK)
    have h2 := hM K J (right_ne_zero_of_mul hK)
    omega

/-- Over 64 times, five squarings give the inverse of `1 - M`, so they solve the system. -/
theorem inverse_solves (M : Mat) (tm : Fin 128 → ℕ) (h64 : ∀ I, tm I < 64) (hM : ∀ I J, M I J ≠ 0 → tm J < tm I)
    (U W : Mat) (h : U = W + M * U) : inverse M 5 * W = U := by
  have hz : square M 6 = 0 := by
    rw [square_eq]
    ext I J
    by_contra hne
    have := pow_apply_eq_zero M tm hM _ I J hne
    have := h64 I
    omega
  have hW : W = (1 - M) * U := by rw [sub_mul, one_mul]; nth_rewrite 1 [h]; abel
  rw [hW, ← mul_assoc, inverse_mul, hz, sub_zero, one_mul]

/-! ## One chunk -/

/-- The rows of a chunk for a pair of heads: which head a row (or a lane) belongs to, the step a row is taken at, and the row of
    a head and a step. -/
structure Rows where
  hd : Fin 128 → Fin 2
  tm : Fin 128 → ℕ
  row : Fin 2 → ℕ → Fin 128
  tm_lt : ∀ I, tm I < 64
  hd_row : ∀ c t, t < 64 → hd (row c t) = c
  tm_row : ∀ c t, t < 64 → tm (row c t) = t
  row_eq : ∀ I, row (hd I) (tm I) = I

variable (R : Rows)

theorem Rows.eq_row_iff (c : Fin 2) (t : ℕ) (ht : t < 64) (J : Fin 128) : (R.hd J = c ∧ R.tm J = t) ↔ J = R.row c t :=
  ⟨fun h => by rw [← h.1, ← h.2, R.row_eq], fun h => by rw [h]; exact ⟨R.hd_row c t ht, R.tm_row c t ht⟩⟩

/-- A sum over a head's steps before `t + 1` is the sum before `t` and the term of step `t`. -/
theorem Rows.sum_succ (c : Fin 2) (t : ℕ) (ht : t < 64) (f : Fin 128 → ℝ) :
    (∑ J, if R.hd J = c ∧ R.tm J < t + 1 then f J else 0) = (∑ J, if R.hd J = c ∧ R.tm J < t then f J else 0) + f (R.row c t) := by
  have h : ∀ J, (if R.hd J = c ∧ R.tm J < t + 1 then f J else 0)
      = (if R.hd J = c ∧ R.tm J < t then f J else 0) + if J = R.row c t then f J else 0 := fun J => by
    rw [← if_congr (R.eq_row_iff c t ht J) rfl rfl]
    by_cases hc : R.hd J = c
    · rcases lt_trichotomy (R.tm J) t with h | h | h
      · simp [hc, h, h.ne, Nat.lt_succ_of_lt h]
      · simp [hc, h]
      · simp [hc, h.ne', Nat.not_lt.2 h.le, Nat.not_lt.2 (Nat.succ_le_of_lt h)]
    · simp [hc]
  rw [Finset.sum_congr rfl fun J _ => h J, Finset.sum_add_distrib, Finset.sum_ite_eq' Finset.univ (R.row c t) f,
    if_pos (Finset.mem_univ _)]

/-- What a chunk reads: logarithms of decays, removal and replacement keys, keys, values and receptances by row and lane, the
    state it starts from by lane and value lane. -/
structure Data where
  lw : Fin 128 → Fin 128 → ℝ
  kk : Fin 128 → Fin 128 → ℝ
  a : Fin 128 → Fin 128 → ℝ
  k : Fin 128 → Fin 128 → ℝ
  v : Fin 128 → Fin 128 → ℝ
  r : Fin 128 → Fin 128 → ℝ
  h : Mat

variable (D : Data)

/-- The state of value lane `e` after `t` of the chunk's steps, by the recurrence itself. -/
def state (e : Fin 128) : ℕ → Fin 128 → ℝ
  | 0 => fun l => D.h l e
  | t + 1 => fun l =>
    state e t l * Real.exp (D.lw (R.row (R.hd e) t) l)
      - (∑ i, state e t i * D.kk (R.row (R.hd e) t) i) * (if R.hd l = R.hd e then D.a (R.row (R.hd e) t) l else 0)
      + D.v (R.row (R.hd e) t) e * (if R.hd l = R.hd e then D.k (R.row (R.hd e) t) l else 0)

theorem state_succ (e : Fin 128) (t : ℕ) (l : Fin 128) : state R D e (t + 1) l = state R D e t l * Real.exp (D.lw (R.row (R.hd e) t) l)
      - (∑ i, state R D e t i * D.kk (R.row (R.hd e) t) i) * (if R.hd l = R.hd e then D.a (R.row (R.hd e) t) l else 0)
      + D.v (R.row (R.hd e) t) e * (if R.hd l = R.hd e then D.k (R.row (R.hd e) t) l else 0) := rfl

/-- What step `t` removes: the state read at the removal key. -/
def removed (e : Fin 128) (t : ℕ) : ℝ := ∑ i, state R D e t i * D.kk (R.row (R.hd e) t) i

/-- The state stays on its head's lanes. -/
theorem state_off (hh : ∀ l e, R.hd l ≠ R.hd e → D.h l e = 0) (e l : Fin 128) (hl : R.hd l ≠ R.hd e) : ∀ t, state R D e t l = 0
  | 0 => hh l e hl
  | t + 1 => by rw [state_succ, state_off hh e l hl t]; simp [hl]

/-- The logarithm of the decay from the chunk's start through row `I`'s step. -/
def cum (I l : Fin 128) : ℝ := ∑ J, if R.hd J = R.hd I ∧ R.tm J < R.tm I + 1 then D.lw J l else 0

/-- The logarithm of the decay of the first `t` steps. -/
def before (c : Fin 2) (t : ℕ) (l : Fin 128) : ℝ := ∑ J, if R.hd J = c ∧ R.tm J < t then D.lw J l else 0

theorem before_succ (c : Fin 2) (t : ℕ) (ht : t < 64) (l : Fin 128) :
    before R D c (t + 1) l = before R D c t l + D.lw (R.row c t) l :=
  R.sum_succ c t ht fun J => D.lw J l

theorem cum_eq (I l : Fin 128) : cum R D I l = before R D (R.hd I) (R.tm I + 1) l := rfl

/-- The unrolled state: the start and every step's contribution, each decayed from its step on. -/
theorem state_eq (e l : Fin 128) (hl : R.hd l = R.hd e) : ∀ t, t ≤ 64 →
    state R D e t l = Real.exp (before R D (R.hd e) t l) * (D.h l e + ∑ J, if R.hd J = R.hd e ∧ R.tm J < t then
      Real.exp (-cum R D J l) * (D.v J e * D.k J l - removed R D e (R.tm J) * D.a J l) else 0)
  | 0, _ => by simp [state, before]
  | t + 1, ht => by
    have ht' : t < 64 := ht
    rw [R.sum_succ (R.hd e) t ht' fun J => Real.exp (-cum R D J l) * (D.v J e * D.k J l - removed R D e (R.tm J) * D.a J l)]
    have hcum : cum R D (R.row (R.hd e) t) l = before R D (R.hd e) (t + 1) l := by
      rw [cum_eq, R.hd_row _ _ ht', R.tm_row _ _ ht']
    rw [hcum, R.tm_row _ _ ht', state_succ, state_eq e l hl t ht'.le, if_pos hl, if_pos hl, Real.exp_neg]
    have hb := before_succ R D (R.hd e) t ht' l
    have he : Real.exp (before R D (R.hd e) (t + 1) l) = Real.exp (before R D (R.hd e) t l) * Real.exp (D.lw (R.row (R.hd e) t) l) := by
      rw [hb, Real.exp_add]
    rw [← removed]
    have hne := Real.exp_ne_zero (before R D (R.hd e) (t + 1) l)
    rw [mul_add (Real.exp (before R D (R.hd e) (t + 1) l)), mul_add (Real.exp (before R D (R.hd e) (t + 1) l)), mul_inv_cancel_left₀ hne, he]
    ring

/-! ## The kernel's matrices -/

def bt : Mat := fun I l => if R.hd l = R.hd I then D.kk I l * Real.exp (cum R D I l - D.lw I l) else 0
def at' : Mat := fun I l => if R.hd l = R.hd I then -(D.a I l * Real.exp (-cum R D I l)) else 0
def kt : Mat := fun I l => if R.hd l = R.hd I then D.k I l * Real.exp (-cum R D I l) else 0
def rt : Mat := fun I l => if R.hd l = R.hd I then D.r I l * Real.exp (cum R D I l) else 0
def vs : Mat := fun I e => if R.hd e = R.hd I then D.v I e else 0

/-- The removed values, stacked. -/
def U : Mat := fun I e => if R.hd e = R.hd I then removed R D e (R.tm I) else 0

/-- The products of rows under a mask. -/
def masked (s : Fin 128 → Fin 128 → Prop) [∀ I J, Decidable (s I J)] (x y : Mat) : Mat :=
  fun I J => if s I J then ∑ l, x I l * y J l else 0

/-- Products with masked products, as one sum over the lanes. -/
theorem sum_masked (s : Fin 128 → Prop) [DecidablePred s] (b h : Fin 128 → ℝ) (k a : Fin 128 → Fin 128 → ℝ) (v u : Fin 128 → ℝ) :
    (∑ l, b l * h l) + (∑ J, (if s J then ∑ l, b l * k J l else 0) * v J) + (∑ J, (if s J then ∑ l, b l * a J l else 0) * u J)
      = ∑ l, b l * (h l + ∑ J, if s J then k J l * v J + a J l * u J else 0) := by
  have hk : ∀ (k : Fin 128 → Fin 128 → ℝ) (v : Fin 128 → ℝ), (∑ J, (if s J then ∑ l, b l * k J l else 0) * v J)
      = ∑ l, b l * ∑ J, if s J then k J l * v J else 0 := fun k v => by
    simp only [Finset.mul_sum]
    rw [Finset.sum_comm]
    refine Finset.sum_congr rfl fun J _ => ?_
    split_ifs
    · rw [Finset.sum_mul]; exact Finset.sum_congr rfl fun l _ => by ring
    · simp
  rw [hk, hk, ← Finset.sum_add_distrib, ← Finset.sum_add_distrib]
  refine Finset.sum_congr rfl fun l _ => ?_
  rw [← mul_add, ← mul_add, add_assoc, ← Finset.sum_add_distrib]
  congr 2
  exact Finset.sum_congr rfl fun J _ => by split_ifs <;> simp

variable (hh : ∀ l e, R.hd l ≠ R.hd e → D.h l e = 0)

include hh in
/-- Rows that read the state decayed to time `T`, with the contributions of the steps before `T`. -/
theorem read_rows (s : Fin 128 → Prop) [DecidablePred s] (I e : Fin 128) (T : ℕ) (hT : T ≤ 64) (hI : R.hd e = R.hd I)
    (hs : ∀ J, R.hd I = R.hd J → (s J ↔ R.tm J < T)) (b x : Fin 128 → ℝ)
    (hb : ∀ l, b l = if R.hd l = R.hd I then x l * Real.exp (before R D (R.hd I) T l) else 0) :
    (∑ l, b l * (D.h l e + ∑ J, if s J then kt R D J l * vs R D J e + at' R D J l * U R D J e else 0))
      = ∑ l, state R D e T l * x l := by
  refine Finset.sum_congr rfl fun l _ => ?_
  rw [hb]
  by_cases hl : R.hd l = R.hd I
  · rw [if_pos hl, state_eq R D e l (hl.trans hI.symm) T hT, hI]
    have hsum : (∑ J, if s J then kt R D J l * vs R D J e + at' R D J l * U R D J e else 0)
        = ∑ J, if R.hd J = R.hd I ∧ R.tm J < T then
          Real.exp (-cum R D J l) * (D.v J e * D.k J l - removed R D e (R.tm J) * D.a J l) else 0 := by
      refine Finset.sum_congr rfl fun J _ => ?_
      by_cases hJ : R.hd J = R.hd I
      · rw [if_congr (hs J hJ.symm) rfl rfl]
        simp only [kt, at', vs, U, hJ, hl, hI, true_and, if_true]
        split_ifs
        · ring
        · rfl
      · have : ¬ R.hd I = R.hd J := fun h => hJ h.symm
        simp [vs, U, hJ, hI, this]
    rw [hsum]; ring
  · rw [if_neg hl, state_off R D hh e l (fun h => hl (h.trans hI))]; ring

include hh in
/-- Rows of the other head read nothing. -/
theorem read_rows_off (s : Fin 128 → Prop) [DecidablePred s] (I e : Fin 128) (hI : R.hd e ≠ R.hd I) (b : Fin 128 → ℝ)
    (hb : ∀ l, R.hd l ≠ R.hd I → b l = 0) :
    (∑ l, b l * (D.h l e + ∑ J, if s J then kt R D J l * vs R D J e + at' R D J l * U R D J e else 0)) = 0 := by
  refine Finset.sum_eq_zero fun l _ => ?_
  by_cases hl : R.hd l = R.hd I
  · have hle : R.hd l ≠ R.hd e := fun h => hI (h.symm.trans hl)
    rw [hh l e hle, Finset.sum_eq_zero, add_zero, mul_zero]
    intro J _
    by_cases hJ : R.hd e = R.hd J
    · have : R.hd l ≠ R.hd J := fun h => hle (h.trans hJ.symm)
      simp [kt, at', this]
    · simp [vs, U, hJ]
  · rw [hb l hl, zero_mul]

variable (strict incl : Fin 128 → Fin 128 → Prop) [∀ I J, Decidable (strict I J)] [∀ I J, Decidable (incl I J)]
  (hstrict : ∀ I J, R.hd I = R.hd J → (strict I J ↔ R.tm J < R.tm I)) (hincl : ∀ I J, R.hd I = R.hd J → (incl I J ↔ R.tm J < R.tm I + 1))

theorem before_tm (I l : Fin 128) : before R D (R.hd I) (R.tm I) l = cum R D I l - D.lw I l := by
  rw [cum_eq, before_succ R D _ _ (R.tm_lt I), R.row_eq]; ring

include hh hstrict in
/-- The removed values solve the chunk's triangular system. -/
theorem U_eq : U R D = (bt R D * D.h + masked strict (bt R D) (kt R D) * vs R D)
    + masked strict (bt R D) (at' R D) * U R D := by
  ext I e
  simp only [Matrix.add_apply, Matrix.mul_apply, masked]
  rw [sum_masked (strict I) (bt R D I) (fun l => D.h l e) (kt R D) (at' R D) (fun J => vs R D J e) (fun J => U R D J e)]
  by_cases hI : R.hd e = R.hd I
  · rw [read_rows R D hh (strict I) I e (R.tm I) (R.tm_lt I).le hI (hstrict I) (bt R D I) (D.kk I) fun l => by
      rw [before_tm]; rfl]
    rw [U, if_pos hI, removed, hI, R.row_eq]
  · rw [read_rows_off R D hh (strict I) I e hI (bt R D I) fun l hl => if_neg hl, U, if_neg hI]

include hstrict in
theorem masked_at_ne (I J : Fin 128) (h : masked strict (bt R D) (at' R D) I J ≠ 0) : R.tm J < R.tm I := by
  by_cases hIJ : R.hd I = R.hd J
  · by_cases hs : strict I J
    · exact (hstrict I J hIJ).1 hs
    · exact absurd (if_neg hs) h
  · refine absurd ?_ h
    unfold masked
    split_ifs
    · refine Finset.sum_eq_zero fun l _ => ?_
      by_cases hl : R.hd l = R.hd I
      · have : R.hd l ≠ R.hd J := fun h => hIJ (hl.symm.trans h)
        simp [at', this]
      · simp [bt, hl]
    · rfl

include hh hstrict in
/-- Repeated squaring finds the removed values. -/
theorem solve_eq : inverse (masked strict (bt R D) (at' R D)) 5 * (bt R D * D.h + masked strict (bt R D) (kt R D) * vs R D)
    = U R D :=
  inverse_solves _ R.tm R.tm_lt (masked_at_ne R D strict hstrict) _ _ (U_eq R D hh strict hstrict)

include hh hincl in
/-- The chunk's outputs: the state after a row's own step, read at the row's receptance; nothing off the head's lanes. -/
theorem out_eq (I e : Fin 128) : (rt R D * D.h + masked incl (rt R D) (at' R D) * U R D + masked incl (rt R D) (kt R D) * vs R D) I e
    = if R.hd e = R.hd I then ∑ l, state R D e (R.tm I + 1) l * D.r I l else 0 := by
  simp only [Matrix.add_apply, Matrix.mul_apply, masked]
  rw [add_right_comm, sum_masked (incl I) (rt R D I) (fun l => D.h l e) (kt R D) (at' R D) (fun J => vs R D J e) (fun J => U R D J e)]
  by_cases hI : R.hd e = R.hd I
  · rw [if_pos hI, read_rows R D hh (incl I) I e (R.tm I + 1) (R.tm_lt I) hI (hincl I) (rt R D I) (D.r I) fun l => by
      rw [← cum_eq]; rfl]
  · rw [if_neg hI, read_rows_off R D hh (incl I) I e hI (rt R D I) fun l hl => if_neg hl]

include hh in
/-- The state after the whole chunk. -/
theorem next_eq (g : Fin 128 → ℝ) (hg : ∀ l c, g l = Real.exp (∑ J, if R.hd J = c then D.lw J l else 0)) (l e : Fin 128) :
    D.h l e * g l + (∑ J, (at' R D J l * g l) * U R D J e) + (∑ J, (kt R D J l * g l) * vs R D J e) = state R D e 64 l := by
  by_cases hl : R.hd l = R.hd e
  · have hb : ∀ (f : Fin 128 → ℝ) (c : Fin 2), (∑ J, if R.hd J = c ∧ R.tm J < 64 then f J else 0) = ∑ J, if R.hd J = c then f J else 0 :=
      fun f c => Finset.sum_congr rfl fun J _ => by simp [R.tm_lt J]
    rw [state_eq R D e l hl 64 le_rfl, hb, before, hb fun J => D.lw J l, ← hg l (R.hd e), mul_add, Finset.mul_sum, add_assoc,
      ← Finset.sum_add_distrib, mul_comm]
    congr 1
    refine Finset.sum_congr rfl fun J _ => ?_
    by_cases hJ : R.hd J = R.hd e
    · simp only [kt, at', vs, U, hJ, hl, if_true]; ring
    · have : ¬ R.hd e = R.hd J := fun h => hJ h.symm
      simp [vs, U, hJ, this]
  · rw [state_off R D hh e l hl, hh l e hl, zero_mul, Finset.sum_eq_zero, Finset.sum_eq_zero]
    · simp
    all_goals
      intro J _
      by_cases hJ : R.hd e = R.hd J
      · have : R.hd l ≠ R.hd J := fun h => hl (h.trans hJ.symm)
        simp [kt, at', this]
      · simp [vs, U, hJ]

end Cert.Chunk

end
-- ==== Proof.WkvReal.lean ====
/- The chunk's operations on finite entries: each is the operation on the real matrices, so the outputs and the states of a chunk
   are those of the recurrence itself. -/
module

public import proofs.«01_k».proof.Proof.Wkv
public import proofs.«01_k».proof.Proof.Chunk
public import Idealize.ShloMosaic.Lib.Pipeline.ValueKit
public import Idealize.ShloMosaic.Lib.Pointwise

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Cert.Chunk (Mat)

/-- Every entry of a square block is the real matrix's. -/
def IsS (A : S128x128.Idx → EReal) (M : Mat) : Prop := ∀ I J, A (ix2 I J) = ((M I J : ℝ) : EReal)
/-- Every entry of a block of rows is the real array's. -/
def IsR (A : S64x128.Idx → EReal) (x : Fin 64 → Fin 128 → ℝ) : Prop := ∀ s l, A (ix2 s l) = ((x s l : ℝ) : EReal)

theorem coe_sum {ι : Type} (u : Finset ι) (f : ι → ℝ) : ((∑ k ∈ u, f k : ℝ) : EReal) = ∑ k ∈ u, (f k : EReal) := by
  classical
  induction u using Finset.induction_on with
  | empty => simp
  | insert a u ha ih => rw [Finset.sum_insert ha, Finset.sum_insert ha, EReal.coe_add, ih]

theorem isR_zero : IsR (zeroR (F := Ideal)) 0 := fun s l => by
  pointwise [zeroR]
  simp
theorem isS_zero : IsS (zeroS (F := Ideal)) 0 := fun s l => by
  pointwise [zeroS]
  simp

theorem isS_dotNN {A B : Narrow Ideal} {M N : Mat} (hA : IsS A M) (hB : IsS B N) : IsS (dotNN A B) (M * N) := fun I J => by
  pointwise [dotNN]
  rw [Matrix.mul_apply]
  simp only [hA _ _, hB _ _, coe_sum, EReal.coe_mul]

theorem isS_dotNT {A B : Narrow Ideal} {M N : Mat} (hA : IsS A M) (hB : IsS B N) : IsS (dotNT A B) (fun I J => ∑ l, M I l * N J l) := fun I J => by
  pointwise [dotNT]
  simp only [hA _ _, hB _ _, coe_sum, EReal.coe_mul]

theorem isS_dotTN {A B : Narrow Ideal} {M N : Mat} (hA : IsS A M) (hB : IsS B N) : IsS (dotTN A B) (fun I J => ∑ l, M l I * N l J) := fun I J => by
  pointwise [dotTN]
  simp only [hA _ _, hB _ _, coe_sum, EReal.coe_mul]

theorem isS_narrow {A : Square Ideal} {M : Mat} (hA : IsS A M) : IsS (narrow A) M := hA

theorem isS_add {A B : Square Ideal} {M N : Mat} (hA : IsS A M) (hB : IsS B N) : IsS (addf A B) (M + N) := fun I J => by
  pointwise []
  rw [hA, hB, Matrix.add_apply, EReal.coe_add]

theorem isS_mul {A B : Square Ideal} {M N : Mat} (hA : IsS A M) (hB : IsS B N) : IsS (mulf A B) (fun I J => M I J * N I J) := fun I J => by
  pointwise []
  rw [hA, hB, EReal.coe_mul]

theorem isR_sub {A B : Rowed Ideal} {x y : Fin 64 → Fin 128 → ℝ} (hA : IsR A x) (hB : IsR B y) : IsR (subf A B) (fun s l => x s l - y s l) := fun s l => by
  pointwise []
  rw [hA, hB, EReal.coe_sub]

theorem isR_mul {A B : Rowed Ideal} {x y : Fin 64 → Fin 128 → ℝ} (hA : IsR A x) (hB : IsR B y) : IsR (mulf A B) (fun s l => x s l * y s l) := fun s l => by
  pointwise []
  rw [hA, hB, EReal.coe_mul]

theorem isR_exp {A : Rowed Ideal} {x : Fin 64 → Fin 128 → ℝ} (hA : IsR A x) : IsR (exp A) (fun s l => Real.exp (x s l)) := fun s l => by
  pointwise []
  rw [hA]; rfl

/-- The head of a stacked row, or of a lane. -/
def hd (I : Fin 128) : Fin 2 := ⟨I.val / 64, by omega⟩
/-- A stacked row's token within the chunk. -/
def tok (I : Fin 128) : Fin 64 := ⟨I.val % 64, by omega⟩

theorem toInt_small (l : ℕ) (h : l < 128) : (BitVec.ofNat 32 l).toInt = l := by
  have e : (BitVec.ofNat 32 l).toNat = l := by rw [BitVec.toNat_ofNat]; exact Nat.mod_eq_of_lt (by omega)
  rw [BitVec.toInt_eq_toNat_of_lt (by rw [e]; omega), e]

theorem ofBool_iff (b : Bool) : (BitVec.ofBool b = 1#1) ↔ b = true := by cases b <;> decide

theorem slt64 (l : ℕ) (h : l < 128) : (IntOp.cmpi CmpIPredicate.slt (BitVec.ofNat 32 l) 64#32 = 1#1) ↔ l < 64 := by
  rw [show IntOp.cmpi CmpIPredicate.slt (BitVec.ofNat 32 l) 64#32 = BitVec.ofBool ((BitVec.ofNat 32 l).slt 64#32) from rfl]
  rw [ofBool_iff]
  simp [BitVec.slt, toInt_small l h]

theorem isS_stack {A : Rowed Ideal} {x : Fin 64 → Fin 128 → ℝ} (hA : IsR A x) : IsS (stack A) (fun I l => if hd l = hd I then x (tok I) l else 0) := fun I l => by
  pointwise [stack, k0_pay61, zeroR]
  have hl := slt64 l.val l.isLt
  have e : hd l = hd I ↔ (l.val < 64 ↔ I.val < 64) := by
    rw [Fin.ext_iff]; simp only [hd]; have := l.isLt; have := I.isLt; omega
  by_cases hI : I.val < 64
  · have ht : (⟨I.val, hI⟩ : Fin 64) = tok I := Fin.ext (by simp only [tok]; omega)
    rw [dif_pos hI, ht, hA]
    by_cases hl' : l.val < 64
    · simp [Scalar.select, hl.2 hl', e, hl', hI]
    · simp [Scalar.select, mt hl.1 hl', e, hl', hI]
  · have ht : (⟨I.val - 64, by have := I.isLt; omega⟩ : Fin 64) = tok I := Fin.ext (by simp only [tok]; have := I.isLt; omega)
    rw [dif_neg hI, ht, hA]
    by_cases hl' : l.val < 64
    · simp [Scalar.select, hl.2 hl', e, hl', hI]
    · simp [Scalar.select, mt hl.1 hl', e, hl', hI]

theorem sitofp_bit (b : BitVec 1) : FloatOps.sitofp (F := Ideal) FTy.f32 (BitVec.setWidth 32 b) = ((if b = 1#1 then 1 else 0 : ℝ) : EReal) := by
  have : ∀ b : BitVec 1, b = 0#1 ∨ b = 1#1 := by decide
  rcases this b with rfl | rfl
  · show (((BitVec.setWidth 32 0#1).toInt : ℝ) : EReal) = _
    simp
  · show (((BitVec.setWidth 32 1#1).toInt : ℝ) : EReal) = _
    simp

theorem isS_eye : IsS (k0_pay65 (F := Ideal)) 1 := fun I J => by
  pointwise [k0_pay65]
  rw [sitofp_bit, Matrix.one_apply]
  congr 1
  refine if_congr ?_ rfl rfl
  rw [show IntOp.cmpi CmpIPredicate.eq (BitVec.ofNat 32 I.val) (BitVec.ofNat 32 J.val) = BitVec.ofBool (BitVec.ofNat 32 I.val == BitVec.ofNat 32 J.val) from rfl, Fin.ext_iff]
  have hI := I.isLt; have hJ := J.isLt
  rw [← BitVec.toNat_inj.trans Iff.rfl]
  by_cases h : I.val = J.val
  · simp [h]
  · simp [h, ← BitVec.toNat_inj, Nat.mod_eq_of_lt (show I.val < 4294967296 by omega), Nat.mod_eq_of_lt (show J.val < 4294967296 by omega)]

theorem isS_ones : IsS (k0_pay66 (F := Ideal)) (fun _ _ => 1) := fun I J => by
  pointwise [k0_pay66]
  simp

theorem toInt_sub (i j : ℕ) (hi : i < 128) (hj : j < 128) : (IntOp.subi (BitVec.ofNat 32 i) (BitVec.ofNat 32 j)).toInt = (i : ℤ) - j := by
  rw [show IntOp.subi (BitVec.ofNat 32 i) (BitVec.ofNat 32 j) = BitVec.ofNat 32 i - BitVec.ofNat 32 j from rfl, BitVec.toInt_sub,
    toInt_small i hi, toInt_small j hj]
  unfold Int.bmod
  norm_num
  omega

theorem sgt_sub (i j : ℕ) (hi : i < 128) (hj : j < 128) :
    (IntOp.cmpi CmpIPredicate.sgt (IntOp.subi (BitVec.ofNat 32 i) (BitVec.ofNat 32 j)) 0#32 = 1#1) ↔ j < i := by
  rw [show ∀ a b : BitVec 32, IntOp.cmpi CmpIPredicate.sgt a b = BitVec.ofBool (b.slt a) from fun _ _ => rfl, ofBool_iff]
  simp [BitVec.slt, toInt_sub i j hi hj]

theorem sge_sub (i j : ℕ) (hi : i < 128) (hj : j < 128) :
    (IntOp.cmpi CmpIPredicate.sge (IntOp.subi (BitVec.ofNat 32 i) (BitVec.ofNat 32 j)) 0#32 = 1#1) ↔ j ≤ i := by
  rw [show ∀ a b : BitVec 32, IntOp.cmpi CmpIPredicate.sge a b = BitVec.ofBool (b.sle a) from fun _ _ => rfl, ofBool_iff]
  simp [BitVec.sle, toInt_sub i j hi hj]

/-- A direction as the kernel's program id. -/
abbrev dir (d : Fin 2) : BitVec 32 := BitVec.ofNat 32 d.val

/-- Row `J` comes before row `I` in direction `d`. -/
def Before (d : Fin 2) (I J : ℕ) : Prop := if d = 0 then J < I else I < J
/-- Row `J` comes before row `I`, or is that row. -/
def Upto (d : Fin 2) (I J : ℕ) : Prop := if d = 0 then J ≤ I else I ≤ J
instance (d : Fin 2) (I J : ℕ) : Decidable (Before d I J) := by unfold Before; infer_instance
instance (d : Fin 2) (I J : ℕ) : Decidable (Upto d I J) := by unfold Upto; infer_instance

theorem tri_apply (d : Fin 2) (i j : Fin 64) : (k0_pay60 (F := Ideal) (dir d)) (ix2 i j) = ((if Upto d i j then 1 else 0 : ℝ) : EReal) := by
  pointwise [k0_pay60]
  rw [sitofp_bit]
  congr 1
  refine if_congr ?_ rfl rfl
  have hi := i.isLt; have hj := j.isLt
  fin_cases d
  · exact sge_sub i j (by omega) (by omega)
  · exact sge_sub j i (by omega) (by omega)

theorem strict_apply (d : Fin 2) (i j : Fin 128) : (k0_pay63 (dir d) (ix2 i j) = 1#1) ↔ Before d i j := by
  pointwise [k0_pay63, k0_pay62]
  fin_cases d
  · exact sgt_sub i j i.isLt j.isLt
  · exact sgt_sub j i j.isLt i.isLt

theorem incl_apply (d : Fin 2) (i j : Fin 128) : (k0_pay64 (dir d) (ix2 i j) = 1#1) ↔ Upto d i j := by
  pointwise [k0_pay64, k0_pay62]
  fin_cases d
  · exact sge_sub i j i.isLt j.isLt
  · exact sge_sub j i j.isLt i.isLt

theorem isS_gall {A : Rowed Ideal} {x : Fin 64 → Fin 128 → ℝ} (hA : IsR A x) : IsS (vgrow A) (fun _ l => Real.exp (∑ s, x s l)) := fun I J => by
  pointwise [vgrow, vgall]
  simp only [hA _ _, ← coe_sum]; rfl

theorem IsS.congr {A : S128x128.Idx → EReal} {M N : Mat} (h : IsS A M) (e : ∀ I J, M I J = N I J) : IsS A N :=
  fun I J => (h I J).trans (congrArg _ (e I J))

theorem IsR.congr {A : S64x128.Idx → EReal} {M N : Fin 64 → Fin 128 → ℝ} (h : IsR A M) (e : ∀ I J, M I J = N I J) : IsR A N :=
  fun I J => (h I J).trans (congrArg _ (e I J))

/-! ## The rows of a chunk in one direction -/

/-- The step a token is taken at within its chunk. -/
def step (d : Fin 2) (s : Fin 64) : ℕ := if d = 0 then s.val else 63 - s.val

/-- The stacked rows of direction `d`. -/
def rows (d : Fin 2) : Chunk.Rows where
  hd := hd
  tm I := step d (tok I)
  row c t := ⟨(64 * c.val + if d = 0 then t else 63 - t) % 128, Nat.mod_lt _ (by omega)⟩
  tm_lt I := by have := (tok I).isLt; unfold step; split_ifs <;> omega
  hd_row c t ht := by
    have := c.isLt
    refine Fin.ext ?_
    show ((64 * c.val + if d = 0 then t else 63 - t) % 128) / 64 = c.val
    split_ifs <;> omega
  tm_row c t ht := by
    have := c.isLt
    have hs : (tok ⟨(64 * c.val + if d = 0 then t else 63 - t) % 128, Nat.mod_lt _ (by omega)⟩).val
        = ((64 * c.val + if d = 0 then t else 63 - t) % 128) % 64 := rfl
    unfold step
    rw [hs]
    split_ifs <;> omega
  row_eq I := by
    have := I.isLt
    refine Fin.ext ?_
    show (64 * (I.val / 64) + if d = 0 then (if d = 0 then I.val % 64 else 63 - I.val % 64) else 63 - (if d = 0 then I.val % 64 else 63 - I.val % 64)) % 128 = I.val
    split_ifs <;> omega

/-- A chunk's data from its token rows. -/
def data (lw kk a k v r : Fin 64 → Fin 128 → ℝ) (h : Mat) : Chunk.Data where
  lw I := lw (tok I)
  kk I := kk (tok I)
  a I := a (tok I)
  k I := k (tok I)
  v I := v (tok I)
  r I := r (tok I)
  h := h

/-- A sum over a head's stacked rows is a sum over its tokens. -/
theorem sum_rows (c : Fin 2) (P : Fin 64 → Prop) [DecidablePred P] (f : Fin 64 → ℝ) :
    (∑ J : Fin 128, if hd J = c ∧ P (tok J) then f (tok J) else 0) = ∑ s, if P s then f s else 0 := by
  have e : ∀ (b : Fin 2) (s : Fin 64), hd (finProdFinEquiv (b, s)) = b ∧ tok (finProdFinEquiv (b, s)) = s := fun b s => by
    constructor <;> refine Fin.ext ?_
    · show (s.val + 64 * b.val) / 64 = b.val
      have := s.isLt; omega
    · show (s.val + 64 * b.val) % 64 = s.val
      have := s.isLt; omega
  rw [← (finProdFinEquiv (m := 2) (n := 64)).sum_comp, Fintype.sum_prod_type, Finset.sum_eq_single c]
  · exact Finset.sum_congr rfl fun s _ => by rw [(e c s).1, (e c s).2]; simp
  · intro b _ hb
    exact Finset.sum_eq_zero fun s _ => by rw [(e b s).1]; simp [hb]
  · exact fun h => absurd (Finset.mem_univ c) h

theorem before_iff (d : Fin 2) (I J : Fin 128) (h : hd I = hd J) : Before d I J ↔ step d (tok J) < step d (tok I) := by
  have h' : I.val / 64 = J.val / 64 := Fin.ext_iff.1 h
  have := I.isLt; have := J.isLt
  simp only [Before, step, tok]
  split_ifs <;> omega

theorem upto_iff (d : Fin 2) (I J : Fin 128) (h : hd I = hd J) : Upto d I J ↔ step d (tok J) < step d (tok I) + 1 := by
  have h' : I.val / 64 = J.val / 64 := Fin.ext_iff.1 h
  have := I.isLt; have := J.isLt
  simp only [Upto, step, tok]
  split_ifs <;> omega

theorem upto_tok (d : Fin 2) (s t : Fin 64) : Upto d s t ↔ step d t < step d s + 1 := by
  have := s.isLt; have := t.isLt
  simp only [Upto, step]
  split_ifs <;> omega

section
variable (d : Fin 2) {LW KK A K V R : Rowed Ideal} {H : Square Ideal} {lw kk a k v r : Fin 64 → Fin 128 → ℝ} {h : Mat}
  (hLW : IsR LW lw) (hKK : IsR KK kk) (hA : IsR A a) (hK : IsR K k) (hV : IsR V v) (hR : IsR R r) (hH : IsS H h)

theorem cum_rows (I l : Fin 128) : Chunk.cum (rows d) (data lw kk a k v r h) I l = ∑ s : Fin 64, if Upto d (tok I) s then lw s l else 0 := by
  rw [← sum_rows (hd I)]
  exact Finset.sum_congr rfl fun J _ => if_congr (and_congr_right fun _ => (upto_tok d (tok I) (tok J)).symm) rfl rfl

include hLW in
theorem isR_cum : IsR (vcum (dir d) LW) (fun s l => ∑ t : Fin 64, if Upto d s t then lw t l else 0) := fun s l => by
  have e : vcum (dir d) LW (ix2 s l) = ∑ t : Fin 64, (k0_pay60 (F := Ideal) (dir d)) (ix2 s t) * LW (ix2 t l) := by
    unfold vcum
    generalize k0_pay60 (F := Ideal) (dir d) = T
    pointwise []
  rw [e, coe_sum]
  refine Finset.sum_congr rfl fun t _ => ?_
  rw [tri_apply, hLW, ← EReal.coe_mul]
  congr 1
  split_ifs <;> simp

include hLW in
theorem isR_ginv : IsR (vginv (dir d) LW) (fun s l => Real.exp (-∑ t : Fin 64, if Upto d s t then lw t l else 0)) :=
  (isR_exp (isR_sub isR_zero (isR_cum d hLW))).congr fun s l => by simp

include hLW hKK in
theorem isS_bt : IsS (vbt (dir d) LW KK) (Chunk.bt (rows d) (data lw kk a k v r h)) :=
  (isS_narrow (isS_stack (isR_mul hKK (isR_exp (isR_sub (isR_cum d hLW) hLW))))).congr fun I l => by
    unfold Chunk.bt; rw [cum_rows]; rfl

include hLW hA in
theorem isS_at : IsS (vat (dir d) LW A) (Chunk.at' (rows d) (data lw kk a k v r h)) :=
  (isS_stack (isR_sub isR_zero (isR_mul hA (isR_ginv d hLW)))).congr fun I l => by
    unfold Chunk.at'; rw [cum_rows]; simp only [Pi.zero_apply, zero_sub]; rfl

include hLW hK in
theorem isS_kt : IsS (vkt (dir d) LW K) (Chunk.kt (rows d) (data lw kk a k v r h)) :=
  (isS_stack (isR_mul hK (isR_ginv d hLW))).congr fun I l => by
    unfold Chunk.kt; rw [cum_rows]; rfl

include hLW hR in
theorem isS_rt : IsS (vrt (dir d) LW R) (Chunk.rt (rows d) (data lw kk a k v r h)) :=
  (isS_narrow (isS_stack (isR_mul hR (isR_exp (isR_cum d hLW))))).congr fun I l => by
    unfold Chunk.rt; rw [cum_rows]; rfl

include hV in
theorem isS_vs : IsS (vvs V) (Chunk.vs (rows d) (data lw kk a k v r h)) := isS_narrow (isS_stack hV)

theorem isS_strict {X Y : Narrow Ideal} {M N : Mat} (hX : IsS X M) (hY : IsS Y N) :
    IsS (vstrict (dir d) X Y) (Chunk.masked (fun I J => Before d I J) M N) := fun I J => by
  show Scalar.select (k0_pay63 (dir d) (ix2 I J)) (dotNT X Y (ix2 I J)) (zeroS (F := Ideal) (ix2 I J)) = _
  rw [isS_dotNT hX hY, isS_zero]
  unfold Scalar.select Chunk.masked
  have e := strict_apply d I J
  by_cases hb : k0_pay63 (dir d) (ix2 I J) = 1#1
  · exact (if_pos hb).trans (congrArg _ (if_pos (e.1 hb)).symm)
  · exact (if_neg hb).trans (congrArg _ (if_neg (mt e.2 hb)).symm)

theorem isS_incl {X Y : Narrow Ideal} {M N : Mat} (hX : IsS X M) (hY : IsS Y N) :
    IsS (vincl (dir d) X Y) (Chunk.masked (fun I J => Upto d I J) M N) := fun I J => by
  show Scalar.select (k0_pay64 (dir d) (ix2 I J)) (dotNT X Y (ix2 I J)) (zeroS (F := Ideal) (ix2 I J)) = _
  rw [isS_dotNT hX hY, isS_zero]
  unfold Scalar.select Chunk.masked
  have e := incl_apply d I J
  by_cases hb : k0_pay64 (dir d) (ix2 I J) = 1#1
  · exact (if_pos hb).trans (congrArg _ (if_pos (e.1 hb)).symm)
  · exact (if_neg hb).trans (congrArg _ (if_neg (mt e.2 hb)).symm)

theorem isS_ps {X : Square Ideal} {M : Mat} (hX : IsS X M) : ∀ n, IsS (vps X n) (Chunk.square M n)
  | 0 => hX
  | n + 1 => isS_dotNN (isS_narrow (isS_ps hX n)) (isS_narrow (isS_ps hX n))

theorem isS_ts {X : Square Ideal} {M : Mat} (hX : IsS X M) : ∀ n, IsS (vts X n) (Chunk.inverse M n)
  | 0 => isS_add isS_eye hX
  | n + 1 => isS_add (isS_ts hX n) (isS_dotNN (isS_narrow (isS_ts hX n)) (isS_narrow (isS_ps hX (n + 1))))

variable (hh : ∀ l e, hd l ≠ hd e → h l e = 0)

include hLW hKK hA hK hV hH hh in
theorem isS_u : IsS (vu (dir d) LW K V KK A H) (Chunk.U (rows d) (data lw kk a k v r h)) := by
  rw [← Chunk.solve_eq (rows d) (data lw kk a k v r h) hh (fun I J => Before d I J) (before_iff d)]
  exact isS_narrow (isS_dotNN (isS_narrow (isS_ts (isS_strict d (isS_bt d hLW hKK) (isS_narrow (isS_at d hLW hA))) 5))
    (isS_narrow (isS_add (isS_dotNN (isS_bt d hLW hKK) (isS_narrow hH))
      (isS_dotNN (isS_narrow (isS_strict d (isS_bt d hLW hKK) (isS_narrow (isS_kt d hLW hK)))) (isS_vs d hV)))))

include hLW hKK hA hK hV hR hH hh in
theorem isS_yS : IsS (vyS (dir d) R LW K V KK A H) (fun I e => if hd e = hd I then
    ∑ l, Chunk.state (rows d) (data lw kk a k v r h) e (step d (tok I) + 1) l * r (tok I) l else 0) :=
  IsS.congr (isS_add (isS_add (isS_dotNN (isS_rt d hLW hR) (isS_narrow hH))
      (isS_dotNN (isS_narrow (isS_incl d (isS_rt d hLW hR) (isS_narrow (isS_at d hLW hA)))) (isS_u d hLW hKK hA hK hV hH hh)))
    (isS_dotNN (isS_narrow (isS_incl d (isS_rt d hLW hR) (isS_narrow (isS_kt d hLW hK)))) (isS_vs d hV)))
  fun I e => Chunk.out_eq (rows d) (data lw kk a k v r h) hh (fun I J => Upto d I J) (upto_iff d) I e

include hLW hKK hA hK hV hR hH hh in
/-- A chunk's outputs: the state after each token's own step, read at its receptance. -/
theorem isR_Y : IsR (vY (dir d) R LW K V KK A H) (fun s e => ∑ l, Chunk.state (rows d) (data lw kk a k v r h) e (step d s + 1) l * r s l) := fun s e => by
  have hs := s.isLt
  have hy := isS_yS d hLW hKK hA hK hV hR hH hh
  have hsplit : vY (dir d) R LW K V KK A H (ix2 s e) = vyS (dir d) R LW K V KK A H (ix2 ⟨s.val, by omega⟩ e)
      + vyS (dir d) R LW K V KK A H (ix2 ⟨64 + s.val, by omega⟩ e) := by
    unfold vY
    generalize vyS (dir d) R LW K V KK A H = Y
    pointwise []
  have t0 : tok ⟨s.val, by omega⟩ = s := Fin.ext (Nat.mod_eq_of_lt hs)
  have t1 : tok ⟨64 + s.val, by omega⟩ = s := Fin.ext (by show (64 + s.val) % 64 = s.val; omega)
  have h0 : hd ⟨s.val, by omega⟩ = 0 := Fin.ext (by show s.val / 64 = 0; omega)
  have h1 : hd ⟨64 + s.val, by omega⟩ = 1 := Fin.ext (by show (64 + s.val) / 64 = 1; omega)
  rw [hsplit, hy, hy, ← EReal.coe_add]
  beta_reduce
  rw [t0, t1, h0, h1]
  congr 1
  rcases (by decide : ∀ c : Fin 2, c = 0 ∨ c = 1) (hd e) with hc | hc <;> simp [hc]

include hLW hKK hA hK hV hH hh in
/-- The state after a chunk is the recurrence's after all its steps. -/
theorem isS_H : IsS (vH (dir d) LW K V KK A H) (fun l e => Chunk.state (rows d) (data lw kk a k v r h) e 64 l) := by
  have hu := isS_u (r := r) d hLW hKK hA hK hV hH hh
  have hg : IsS (vgcol LW) (fun I _ => Real.exp (∑ s, lw s I)) := fun I J => by
    have e : vgcol LW (ix2 I J) = ∑ k : Fin 128, ((k0_pay65 (F := Ideal)) (ix2 I k) * vgrow LW (ix2 I k)) * (k0_pay66 (F := Ideal)) (ix2 k J) := by
      unfold vgcol
      generalize vgrow LW = G
      generalize k0_pay65 (F := Ideal) = E
      generalize k0_pay66 (F := Ideal) = O
      pointwise []
    rw [e, Finset.sum_eq_single I]
    · rw [isS_eye, isS_ones, isS_gall hLW]; simp
    · intro k _ hk
      rw [isS_eye, isS_ones, isS_gall hLW, Matrix.one_apply_ne' hk]; simp
    · exact fun hI => absurd (Finset.mem_univ I) hI
  refine IsS.congr (isS_add (isS_add (isS_mul hH hg) (isS_dotTN (isS_narrow (isS_mul (isS_at (kk := kk) (k := k) (v := v) (r := r) (h := h) d hLW hA) (isS_gall hLW))) hu))
    (isS_dotTN (isS_narrow (isS_mul (isS_kt (kk := kk) (a := a) (v := v) (r := r) (h := h) d hLW hK) (isS_gall hLW))) (isS_vs (lw := lw) (kk := kk) (a := a) (k := k) (r := r) (h := h) d hV))) fun l e => ?_
  exact Chunk.next_eq (rows d) (data lw kk a k v r h) hh (fun l => Real.exp (∑ s, lw s l)) (fun l c => by
    congr 1
    have := sum_rows c (fun _ => True) (fun s => lw s l)
    simp only [and_true, if_true] at this
    exact this.symm) l e

end

end Cert.Kernel5Ideal.Val

end
-- ==== Proof.WkvHost.lean ====
/- The host lines around the recurrence kernel: the decays, rates and keys that its inputs are made of before it, the group norm and the
   current token's own contribution after it — each named once, as a function of what it reads, and the program's buffers read as
   these functions. -/
module

public import proofs.«01_k».proof.Proof.Gen.Kernel5Ideal.Frame
public import Idealize.ShloMosaic.Lib.StableHlo.Run
public import Idealize.ShloMosaic.Lib.StableHlo.RunClose

@[expose] public section

set_option maxRecDepth 16384

noncomputable section

namespace Cert.Kernel5Ideal.Host

open Cert.Kernel5Ideal Cert.Kernel5Ideal.Gen Idealize.ShloMosaic Idealize.ShloMosaic.TcCoe Idealize.SL.Sem Idealize.ShloMosaic.StableHlo

variable {F : FTy → Type} [FloatOps F]

/-- The receptances, the keys and the values of the tokens. -/
def receptance (u : FVec F S4x4096x3072 .f32) : FVec F S4x4096x1024 .f32 :=
  extractStridedSlice S4x4096x1024 ![0, 0, 0] u slices_S4x4096x3072_S4x4096x1024_0_0_0
def key (u : FVec F S4x4096x3072 .f32) : FVec F S4x4096x1024 .f32 :=
  extractStridedSlice S4x4096x1024 ![0, 0, 1024] u slices_S4x4096x3072_S4x4096x1024_0_0_1024
def value (u : FVec F S4x4096x3072 .f32) : FVec F S4x4096x1024 .f32 :=
  extractStridedSlice S4x4096x1024 ![0, 0, 2048] u slices_S4x4096x3072_S4x4096x1024_0_0_2048

/-- A bias of each direction and lane, at every token. -/
def spread (b : FVec F S2x1024 .f32) : FVec F S2x4x4096x1024 .f32 :=
  broadcastInDim S2x4x4096x1024 ![0, 1, 2, 3] bcast_S2x1x1x1024_S2x4x4096x1024_0_1_2_3 (broadcastInDim S2x1x1x1024 ![0, 3] bcast_S2x1024_S2x1x1x1024_0_3 b)

/-- A constant, everywhere. -/
def every (c : BitVec 32) : FVec F S2x4x4096x1024 .f32 := broadcastInDim S2x4x4096x1024 ![] bcast_S_S2x4x4096x1024 (constant S_ .f32 c)

/-- What the decays are the softplus of: the low-rank map of a token, with its bias. -/
def decayLogit (lo : FVec F S4x4096x416 .f32) (w0 : FVec F S2x1024 .f32) (w2 : FVec F S2x64x1024 .f32) : FVec F S2x4x4096x1024 .f32 :=
  Host.negf (addf (spread w0) (Host.dotGeneral dot_S4x4096x2x64_S2x64x1024_S2x4x4096x1024_3_1_01_2_2_0 none
    (Host.tanh (shapeCast S4x4096x2x64 (extractStridedSlice S4x4096x128 ![0, 0, 0] lo slices_S4x4096x416_S4x4096x128_0_0_0) shapeCasts_S4x4096x128_S4x4096x2x64)) w2))

/-- The softplus. -/
def softplus (z : FVec F S2x4x4096x1024 .f32) : FVec F S2x4x4096x1024 .f32 :=
  select (cmpf .une (subf z (every 0x00000000#32)) (subf z (every 0x00000000#32))) (addf z (every 0x00000000#32))
    (addf (maximumf z (every 0x00000000#32)) (Host.log1p (Host.exp (Host.negf (Host.absf (subf z (every 0x00000000#32)))))))

/-- The logarithms of the decays. -/
def logDecay (z : FVec F S2x4x4096x1024 .f32) : FVec F S2x4x4096x1024 .f32 :=
  Host.negf (Host.exp (subf (Host.negf (softplus z)) (every 0x3F000000#32)))

/-- The rates at which a key replaces what the state holds for it. -/
def rate (lo : FVec F S4x4096x416 .f32) (a0 : FVec F S2x1024 .f32) (a2 : FVec F S2x64x1024 .f32) : FVec F S2x4x4096x1024 .f32 :=
  Host.divf (every 0x3F800000#32) (addf (every 0x3F800000#32) (Host.exp (Host.negf (addf (spread a0)
    (Host.dotGeneral dot_S4x4096x2x64_S2x64x1024_S2x4x4096x1024_3_1_01_2_2_0 none
      (shapeCast S4x4096x2x64 (extractStridedSlice S4x4096x128 ![0, 0, 128] lo slices_S4x4096x416_S4x4096x128_0_0_128) shapeCasts_S4x4096x128_S4x4096x2x64) a2)))))

/-- The scaled keys, by heads. -/
def scaled (k : FVec F S4x4096x1024 .f32) (s : FVec F S1024 .f32) : FVec F S4x4096x16x64 .f32 :=
  shapeCast S4x4096x16x64 (mulf k (broadcastInDim S4x4096x1024 ![0, 1, 2] bcast_S1x1x1024_S4x4096x1024_0_1_2 (broadcastInDim S1x1x1024 ![2] bcast_S1024_S1x1x1024_2 s)))
    shapeCasts_S4x4096x1024_S4x4096x16x64

/-- Each head's sum. -/
def total (x : FVec F S4x4096x16x64 .f32) : FVec F S4x4096x16x1 .f32 :=
  broadcastInDim S4x4096x16x1 ![0, 1, 2] bcast_S4x4096x16_S4x4096x16x1_0_1_2 (Host.reduceAdd x (constant S_ .f32 0x00000000#32) reducesTo_S4x4096x16x64_S4x4096x16_d3 h_S_)

/-- A head's number, at its every lane. -/
def along (x : FVec F S4x4096x16x1 .f32) : FVec F S4x4096x16x64 .f32 :=
  broadcastInDim S4x4096x16x64 ![0, 1, 2, 3] bcast_S4x4096x16x1_S4x4096x16x64_0_1_2_3 x

/-- A constant of every head. -/
def each (c : BitVec 32) : FVec F S4x4096x16x1 .f32 := broadcastInDim S4x4096x16x1 ![] bcast_S_S4x4096x16x1 (constant S_ .f32 c)

/-- Keys over their head's length. -/
def unit (x : FVec F S4x4096x16x64 .f32) : FVec F S4x4096x1024 .f32 :=
  shapeCast S4x4096x1024 (Host.divf x (along (maximumf (Host.sqrt (total (mulf x x))) (each 0x2B8CBCCC#32)))) shapeCasts_S4x4096x16x64_S4x4096x1024

/-- An array of the tokens, in both directions. -/
def twice (x : FVec F S4x4096x1024 .f32) : FVec F S2x4x4096x1024 .f32 :=
  broadcastInDim S2x4x4096x1024 ![0, 1, 2, 3] bcast_S1x4x4096x1024_S2x4x4096x1024_0_1_2_3 (broadcastInDim S1x4x4096x1024 ![1, 2, 3] bcast_S4x4096x1024_S1x4x4096x1024_1_2_3 x)

/-- The keys that are written, by direction. -/
def written (k : FVec F S4x4096x1024 .f32) (a : FVec F S2x4x4096x1024 .f32) (s : FVec F S1024 .f32) : FVec F S2x4x4096x1024 .f32 :=
  mulf (twice k) (addf (every 0x3F800000#32) (mulf (subf a (every 0x3F800000#32))
    (broadcastInDim S2x4x4096x1024 ![0, 1, 2, 3] bcast_S1x1x1x1024_S2x4x4096x1024_0_1_2_3 (broadcastInDim S1x1x1x1024 ![3] bcast_S1024_S1x1x1x1024_3 s))))

/-- The replacement keys, by direction. -/
def replacing (kk : FVec F S4x4096x1024 .f32) (a : FVec F S2x4x4096x1024 .f32) : FVec F S2x4x4096x1024 .f32 := mulf (twice kk) a

/-- The outputs of both directions added up, by heads. -/
def bothWays (y : FVec F S2x4x4096x1024 .f32) : FVec F S4x4096x16x64 .f32 :=
  shapeCast S4x4096x16x64 (addf
    (shapeCast S4x4096x1024 (extractStridedSlice S1x4x4096x1024 ![0, 0, 0, 0] y slices_S2x4x4096x1024_S1x4x4096x1024_0_0_0_0) shapeCasts_S1x4x4096x1024_S4x4096x1024)
    (shapeCast S4x4096x1024 (extractStridedSlice S1x4x4096x1024 ![1, 0, 0, 0] y slices_S2x4x4096x1024_S1x4x4096x1024_1_0_0_0) shapeCasts_S1x4x4096x1024_S4x4096x1024))
    shapeCasts_S4x4096x1024_S4x4096x16x64

/-- Each head's mean. -/
def mean (x : FVec F S4x4096x16x64 .f32) : FVec F S4x4096x16x1 .f32 := Host.divf (total x) (each 0x42800000#32)

/-- Lane by lane numbers, at every token. -/
def lanes (s : FVec F S1024 .f32) : FVec F S4x4096x1024 .f32 :=
  broadcastInDim S4x4096x1024 ![0, 1, 2] bcast_S1x1x1024_S4x4096x1024_0_1_2 (broadcastInDim S1x1x1024 ![2] bcast_S1024_S1x1x1024_2 s)

/-- Each head's outputs, normalised. -/
def groupNorm (y : FVec F S4x4096x16x64 .f32) (g b : FVec F S1024 .f32) : FVec F S4x4096x1024 .f32 :=
  let z := subf y (along (mean y))
  addf (mulf (shapeCast S4x4096x1024 (mulf z (along (Host.rsqrt (addf (mean (mulf z z)) (each 0x3A27C5AC#32))))) shapeCasts_S4x4096x16x64_S4x4096x1024) (lanes g)) (lanes b)

/-- A token's own contribution: its value times the product of its receptance with its written key. -/
def own (r v : FVec F S4x4096x1024 .f32) (k : FVec F S2x4x4096x1024 .f32) (s : FVec F S2x16x64 .f32) : FVec F S4x4096x1024 .f32 :=
  let heads (x : FVec F S4x4096x1024 .f32) : FVec F S2x4x4096x16x64 .f32 :=
    broadcastInDim S2x4x4096x16x64 ![0, 1, 2, 3, 4] bcast_S1x4x4096x16x64_S2x4x4096x16x64_0_1_2_3_4
      (broadcastInDim S1x4x4096x16x64 ![1, 2, 3, 4] bcast_S4x4096x16x64_S1x4x4096x16x64_1_2_3_4 (shapeCast S4x4096x16x64 x shapeCasts_S4x4096x1024_S4x4096x16x64))
  let p := mulf (mulf (heads r) (shapeCast S2x4x4096x16x64 k shapeCasts_S2x4x4096x1024_S2x4x4096x16x64))
    (broadcastInDim S2x4x4096x16x64 ![0, 1, 2, 3, 4] bcast_S2x1x1x16x64_S2x4x4096x16x64_0_1_2_3_4 (broadcastInDim S2x1x1x16x64 ![0, 3, 4] bcast_S2x16x64_S2x1x1x16x64_0_3_4 s))
  shapeCast S4x4096x1024 (Host.reduceAdd (mulf
    (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3
      (Host.reduceAdd p (constant S_ .f32 0x00000000#32) reducesTo_S2x4x4096x16x64_S2x4x4096x16_d4 h_S_))) (heads v))
    (constant S_ .f32 0x00000000#32) reducesTo_S2x4x4096x16x64_S4x4096x16x64_d0 h_S_) shapeCasts_S4x4096x16x64_S4x4096x1024

/-- What the program computes from the recurrence's outputs. -/
def finish (y : FVec F S2x4x4096x1024 .f32) (r v : FVec F S4x4096x1024 .f32) (k : FVec F S2x4x4096x1024 .f32) (s : FVec F S2x16x64 .f32) (g b : FVec F S1024 .f32) :
    FVec F S4x4096x1024 .f32 :=
  addf (groupNorm (bothWays y) g b) (own r v k s)

variable (W : Valuation τ sig (Elt F))

/-- The contents before the kernel. -/
abbrev entry (W : Valuation τ sig (Elt F)) : Valuation τ sig (Elt F) := after hostOps0_2 (after hostOps0_1 (after hostOps0 W))

/-- The decays' logits before the softplus. -/
theorem head_logit : after hostOps0 W (Proc.devRef .tc main_v12)
    = decayLogit (W (Proc.devRef .tc main_arg1)) (W (Proc.devRef .tc main_arg2)) (W (Proc.devRef .tc main_arg3)) := by
  simp only [hostOps0]; after_results_simp; rfl

theorem head_r : entry W (Proc.devRef .tc main_v0) = receptance (W (Proc.devRef .tc main_arg0)) := by
  unfold entry; after_results_simp; rfl
theorem head_v : entry W (Proc.devRef .tc main_v2) = value (W (Proc.devRef .tc main_arg0)) := by
  unfold entry; after_results_simp; rfl
theorem head_kk : entry W (Proc.devRef .tc main_v41) = unit (scaled (key (W (Proc.devRef .tc main_arg0))) (W (Proc.devRef .tc main_arg6))) := by
  unfold entry; after_results_simp; rfl
theorem head_soft : after hostOps0_1 W (Proc.devRef .tc main_v13) = softplus (W (Proc.devRef .tc main_v12)) := by
  after_results_simp_entrywise; rfl
theorem head_decay : after hostOps0_2 W (Proc.devRef .tc main_v18) = Host.negf (Host.exp (subf (Host.negf (W (Proc.devRef .tc main_v13))) (every 0x3F000000#32))) := by
  after_results_simp; rfl
theorem head_lw : entry W (Proc.devRef .tc main_v18)
    = logDecay (decayLogit (W (Proc.devRef .tc main_arg1)) (W (Proc.devRef .tc main_arg2)) (W (Proc.devRef .tc main_arg3))) := by
  rw [← head_logit]
  exact (head_decay _).trans (congrArg (fun x => Host.negf (Host.exp (subf (Host.negf x) (every 0x3F000000#32)))) (head_soft _))
theorem head_k : entry W (Proc.devRef .tc main_v51)
    = written (key (W (Proc.devRef .tc main_arg0))) (rate (W (Proc.devRef .tc main_arg1)) (W (Proc.devRef .tc main_arg4)) (W (Proc.devRef .tc main_arg5))) (W (Proc.devRef .tc main_arg7)) := by
  unfold entry; after_results_simp; rfl
theorem head_a : entry W (Proc.devRef .tc main_v54)
    = replacing (unit (scaled (key (W (Proc.devRef .tc main_arg0))) (W (Proc.devRef .tc main_arg6))))
        (rate (W (Proc.devRef .tc main_arg1)) (W (Proc.devRef .tc main_arg4)) (W (Proc.devRef .tc main_arg5))) := by
  unfold entry; after_results_simp; rfl

set_option maxHeartbeats 4000000 in
/-- The lines after the kernel, from any contents before them. -/
theorem tail_eq : after hostOps1 W (Proc.devRef .tc main_v104)
    = finish (W (Proc.devRef .tc main_v55)) (W (Proc.devRef .tc main_v0)) (W (Proc.devRef .tc main_v2)) (W (Proc.devRef .tc main_v51))
        (W (Proc.devRef .tc main_arg8)) (W (Proc.devRef .tc main_arg9)) (W (Proc.devRef .tc main_arg10)) := by
  after_results_simp
  dsimp only [finish, groupNorm, own, bothWays, mean, total, each, along, lanes]
  rfl

end Cert.Kernel5Ideal.Host

end
-- ==== Proof.Recurrence.lean ====
/- The recurrence of a head's state over all the tokens of a sequence, in either direction, on the reals; and that a chunk's states,
   laid out by pairs of heads, are the recurrence's between the chunk's first step and its last. -/
module

public import proofs.«01_k».proof.Proof.WkvReal

@[expose] public section

noncomputable section

namespace Cert.Recurrence

open Cert.Kernel5Ideal.Val (hd tok step rows data)
open Cert.Chunk (Mat)
open Cert.Kernel5Ideal Idealize.ShloMosaic

/-- What the layer gives the recurrence: receptances, values and removal keys by sequence, token and lane; logarithms of decays, keys and
    replacement keys by direction too. -/
structure Inputs where
  r : Fin 4 → Fin 4096 → Fin 1024 → ℝ
  v : Fin 4 → Fin 4096 → Fin 1024 → ℝ
  kk : Fin 4 → Fin 4096 → Fin 1024 → ℝ
  lw : Fin 2 → Fin 4 → Fin 4096 → Fin 1024 → ℝ
  k : Fin 2 → Fin 4 → Fin 4096 → Fin 1024 → ℝ
  a : Fin 2 → Fin 4 → Fin 4096 → Fin 1024 → ℝ

/-- Lane `j` of head `h`. -/
def lane (h : Fin 16) (j : Fin 64) : Fin 1024 := ⟨64 * h.val + j.val, by omega⟩
/-- The token of step `n`: the second direction reads a sequence from its end. -/
def token (d : Fin 2) (n : ℕ) : Fin 4096 := ⟨(if d = 0 then n else 4095 - n) % 4096, Nat.mod_lt _ (by omega)⟩
/-- The step of a token. -/
def number (d : Fin 2) (T : Fin 4096) : ℕ := if d = 0 then T.val else 4095 - T.val

/-- Every entry is a real number. -/
def Finite {s : Shape} (x : s.Idx → EReal) : Prop := ∀ i, x i = ((x i).toReal : EReal)

/-- The real numbers in finite arrays. -/
def inputs (r v kk : S4x4096x1024.Idx → EReal) (lw k a : S2x4x4096x1024.Idx → EReal) : Inputs where
  r b T x := (r (ix3 b T x)).toReal
  v b T x := (v (ix3 b T x)).toReal
  kk b T x := (kk (ix3 b T x)).toReal
  lw d b T x := (lw (ix4 d b T x)).toReal
  k d b T x := (k (ix4 d b T x)).toReal
  a d b T x := (a (ix4 d b T x)).toReal

variable (I : Inputs) (d : Fin 2) (b : Fin 4)

/-- Head `h`'s state before step `n`, by value lane and key lane: it decays, loses what it holds under the removal key, and gains
    the step's value under the step's key. -/
def state (h : Fin 16) : ℕ → Fin 64 → Fin 64 → ℝ
  | 0 => fun _ _ => 0
  | n + 1 => fun e l =>
    state h n e l * Real.exp (I.lw d b (token d n) (lane h l))
      - (∑ i, state h n e i * I.kk b (token d n) (lane h i)) * I.a d b (token d n) (lane h l)
      + I.v b (token d n) (lane h e) * I.k d b (token d n) (lane h l)

theorem state_succ (h : Fin 16) (n : ℕ) (e l : Fin 64) : state I d b h (n + 1) e l
    = state I d b h n e l * Real.exp (I.lw d b (token d n) (lane h l))
      - (∑ i, state I d b h n e i * I.kk b (token d n) (lane h i)) * I.a d b (token d n) (lane h l)
      + I.v b (token d n) (lane h e) * I.k d b (token d n) (lane h l) := rfl

/-- The read-out of a head's state after step `n`, at a value lane. -/
def readout (h : Fin 16) (n : ℕ) (e : Fin 64) : ℝ := ∑ l, state I d b h (n + 1) e l * I.r b (token d n) (lane h l)

/-- The head of a lane, and the lane within it. -/
def headOf (x : Fin 1024) : Fin 16 := ⟨x.val / 64, by omega⟩
def within (x : Fin 1024) : Fin 64 := ⟨x.val % 64, by omega⟩

/-- The output at a token and a lane. -/
def out (T : Fin 4096) (x : Fin 1024) : ℝ := readout I d b (headOf x) (number d T) (within x)

/-- The outputs as an array. -/
def result : S2x4x4096x1024.Idx → EReal := fun i => ((out I (i 0) (i 1) (i 2) (i 3) : ℝ) : EReal)

/-! ## Chunks of 64 tokens and pairs of heads -/

/-- A pair's head. -/
def head (p : Fin 8) (x : Fin 2) : Fin 16 := ⟨2 * p.val + x.val, by omega⟩
/-- A pair's lane among all lanes. -/
def wide (p : Fin 8) (l : Fin 128) : Fin 1024 := ⟨128 * p.val + l.val, by omega⟩
/-- Token `s` of the chunk that is the `c`-th in its direction's order. -/
def place (d : Fin 2) (c s : Fin 64) : Fin 4096 := ⟨64 * (if d = 0 then c.val else 63 - c.val) + s.val, by have := c.isLt; have := s.isLt; split_ifs <;> omega⟩

theorem wide_eq (p : Fin 8) (l : Fin 128) : wide p l = lane (head p (hd l)) (tok l) := Fin.ext (by
  show 128 * p.val + l.val = 64 * (2 * p.val + l.val / 64) + l.val % 64; omega)

theorem headOf_wide (p : Fin 8) (l : Fin 128) : headOf (wide p l) = head p (hd l) := Fin.ext (by
  show (128 * p.val + l.val) / 64 = 2 * p.val + l.val / 64; omega)

theorem within_wide (p : Fin 8) (l : Fin 128) : within (wide p l) = tok l := Fin.ext (by
  show (128 * p.val + l.val) % 64 = l.val % 64; omega)

theorem number_place (c s : Fin 64) : number d (place d c s) = 64 * c.val + step d s := by
  have := c.isLt; have := s.isLt
  unfold number place step
  split_ifs <;> simp only [] <;> omega

theorem token_number (T : Fin 4096) : token d (number d T) = T := Fin.ext (by
  have := T.isLt
  unfold token number
  split_ifs <;> simp only [] <;> omega)

/-- A pair's two states as one matrix by lane and value lane: zero where the lanes are of different heads. -/
def laid (p : Fin 8) (n : ℕ) : Mat := fun l e => if hd l = hd e then state I d b (head p (hd e)) n (tok e) (tok l) else 0

theorem laid_off (p : Fin 8) (n : ℕ) (l e : Fin 128) (h : hd l ≠ hd e) : laid I d b p n l e = 0 := if_neg h

theorem laid_zero (p : Fin 8) : laid I d b p 0 = 0 := by
  funext l e
  show (if _ then _ else _) = _
  split_ifs <;> rfl

/-- A chunk's data for a pair of heads, from the state before its first step. -/
def chunk (p : Fin 8) (c : Fin 64) : Chunk.Data :=
  data (fun s l => I.lw d b (place d c s) (wide p l)) (fun s l => I.kk b (place d c s) (wide p l)) (fun s l => I.a d b (place d c s) (wide p l))
    (fun s l => I.k d b (place d c s) (wide p l)) (fun s l => I.v b (place d c s) (wide p l)) (fun s l => I.r b (place d c s) (wide p l))
    (laid I d b p (64 * c.val))

/-- A sum over a pair's lanes that only one head's lanes enter. -/
theorem sum_head (x : Fin 2) (p : Fin 8) (f : Fin 64 → ℝ) (g : Fin 1024 → ℝ) :
    (∑ l : Fin 128, (if hd l = x then f (tok l) else 0) * g (wide p l)) = ∑ j, f j * g (lane (head p x) j) := by
  have h : ∀ l, (if hd l = x then f (tok l) else 0) * g (wide p l)
      = if hd l = x ∧ True then (fun j => f j * g (lane (head p x) j)) (tok l) else 0 := fun l => by
    by_cases hl : hd l = x
    · rw [if_pos hl, if_pos ⟨hl, trivial⟩, wide_eq, hl]
    · rw [if_neg hl, if_neg fun h => hl h.1, zero_mul]
  rw [Finset.sum_congr rfl fun l _ => h l]
  exact (Cert.Kernel5Ideal.Val.sum_rows x (fun _ => True) (fun j => f j * g (lane (head p x) j))).trans (by simp)

/-- The row of a chunk's step `t` is a token of the sequence's. -/
theorem place_row (c : Fin 64) (x : Fin 2) (t : ℕ) (ht : t < 64) : place d c (tok ((rows d).row x t)) = token d (64 * c.val + t) := Fin.ext (by
  have := c.isLt; have := x.isLt
  show 64 * (if d = 0 then c.val else 63 - c.val) + ((64 * x.val + if d = 0 then t else 63 - t) % 128) % 64
    = (if d = 0 then 64 * c.val + t else 4095 - (64 * c.val + t)) % 4096
  split_ifs <;> omega)

/-- A chunk's state after `t` of its steps is the recurrence's. -/
theorem chunk_state (p : Fin 8) (c : Fin 64) (e : Fin 128) : ∀ t, t ≤ 64 → ∀ l,
    Chunk.state (rows d) (chunk I d b p c) e t l = laid I d b p (64 * c.val + t) l e := by
  intro t
  induction t with
  | zero => exact fun _ _ => rfl
  | succ t ih =>
    intro ht l
    have hs : Chunk.state (rows d) (chunk I d b p c) e (t + 1) l
        = laid I d b p (64 * c.val + t) l e * Real.exp (I.lw d b (token d (64 * c.val + t)) (wide p l))
          - (∑ i, laid I d b p (64 * c.val + t) i e * I.kk b (token d (64 * c.val + t)) (wide p i))
              * (if hd l = hd e then I.a d b (token d (64 * c.val + t)) (wide p l) else 0)
          + I.v b (token d (64 * c.val + t)) (wide p e) * (if hd l = hd e then I.k d b (token d (64 * c.val + t)) (wide p l) else 0) := by
      rw [Chunk.state_succ, ← place_row d c (hd e) t (by omega), ih (by omega) l, Finset.sum_congr rfl fun i _ => by rw [ih (by omega) i]]
      rfl
    rw [hs]
    have hsum := sum_head (hd e) p (fun j => state I d b (head p (hd e)) (64 * c.val + t) (tok e) j) (I.kk b (token d (64 * c.val + t)))
    by_cases hl : hd l = hd e
    · show _ = if hd l = hd e then state I d b (head p (hd e)) (64 * c.val + t + 1) (tok e) (tok l) else 0
      rw [if_pos hl, if_pos hl, if_pos hl, state_succ]
      have hw : wide p l = lane (head p (hd e)) (tok l) := by rw [wide_eq, hl]
      rw [← hw, ← wide_eq p e]
      have hll : laid I d b p (64 * c.val + t) l e = state I d b (head p (hd e)) (64 * c.val + t) (tok e) (tok l) := if_pos hl
      rw [hll]
      congr 3
    · rw [laid_off _ _ _ _ _ l e hl, laid_off _ _ _ _ _ l e hl, if_neg hl, if_neg hl]
      simp

/-- A chunk's read-outs are the recurrence's outputs. -/
theorem chunk_out (p : Fin 8) (c s : Fin 64) (e : Fin 128) :
    (∑ l, Chunk.state (rows d) (chunk I d b p c) e (step d s + 1) l * I.r b (place d c s) (wide p l)) = out I d b (place d c s) (wide p e) := by
  have hst : step d s + 1 ≤ 64 := by have := s.isLt; unfold step; split_ifs <;> omega
  rw [Finset.sum_congr rfl fun l _ => by rw [chunk_state I d b p c e _ hst l]]
  refine (sum_head (hd e) p (fun j => state I d b (head p (hd e)) (64 * c.val + (step d s + 1)) (tok e) j) (I.r b (place d c s))).trans ?_
  unfold out readout
  rw [headOf_wide, within_wide, token_number, number_place]
  rfl

end Cert.Recurrence

end
-- ==== Proof.WkvFinite.lean ====
/- The recurrence's inputs are real numbers: receptances, keys and values by the precondition; the decays, the rates and the normalised
   keys whatever they are made of, for a softplus is nowhere minus infinity, a rate lies between nought and one, and a key over its
   head's length vanishes where the length is infinite. -/
module

public import proofs.«01_k».proof.Proof.Gen.Pre_finite
public import proofs.«01_k».proof.Proof.WkvHost
public import proofs.«01_k».proof.Proof.Recurrence
public import Idealize.ShloMosaic.Lib.IdealHost
public import Idealize.ShloMosaic.Lib.Pointwise

@[expose] public section

set_option maxRecDepth 16384

noncomputable section

/-! ## The precondition -/

namespace Cert.Pre_finite

open Idealize.ShloMosaic Cert.Pre_finite.Gen
open Cert.Recurrence (Finite)

/-- An extended real whose absolute value is below a bound is a real number. -/
theorem real_of_below (x c : EReal) (h : BitVec.ofBool (decide (max x (-x) < c)) = 1#1) : x = ((x.toReal : ℝ) : EReal) := by
  have h' : max x (-x) < c := by
    by_contra hc
    rw [decide_eq_false hc] at h
    exact absurd h (by decide)
  exact (EReal.coe_toReal (fun hx => by subst hx; simp at h') (fun hx => by subst hx; simp at h')).symm

/-- Where the precondition holds, the receptances, keys and values and the scales of the written keys are real numbers. -/
theorem real_args (x0 : S4x4096x3072.Idx → EReal) (x1 : S4x4096x416.Idx → EReal) (x2 x4 : S2x1024.Idx → EReal) (x3 x5 : S2x64x1024.Idx → EReal)
    (x6 x7 : S1024.Idx → EReal) (x8 : S2x16x64.Idx → EReal) (x9 x10 : S1024.Idx → EReal)
    (h0 : (fn (F := Ideal) x0 x1 x2 x3 x4 x5 x6 x7 x8 x9 x10).1 = fun _ => 1#1)
    (h1 : (fn (F := Ideal) x0 x1 x2 x3 x4 x5 x6 x7 x8 x9 x10).2 = fun _ => 1#1) : Finite x0 ∧ Finite x7 := by
  refine ⟨fun i => ?_, fun i => ?_⟩
  · have hi := congrFun h0 i
    idx_vars i
    unfold fn at hi
    dsimp only at hi
    pointwise at hi
    exact real_of_below _ _ hi
  · have hi := congrFun h1 i
    idx_vars i
    unfold fn at hi
    dsimp only at hi
    pointwise at hi
    exact real_of_below _ _ hi

end Cert.Pre_finite

namespace Cert.Kernel5Ideal.Host

open Cert.Kernel5Ideal Cert.Kernel5Ideal.Gen Idealize.ShloMosaic Idealize.ShloMosaic.TcCoe
open Cert.Recurrence (Finite)

/-! ## Which extended reals are real -/

/-- Being a real number. -/
def IsReal (x : EReal) : Prop := x = ((x.toReal : ℝ) : EReal)

theorem IsReal.coe (r : ℝ) : IsReal (r : EReal) := by unfold IsReal; rw [EReal.toReal_coe]
theorem IsReal.of {x : EReal} (h : x ≠ ⊤) (h' : x ≠ ⊥) : IsReal x := (EReal.coe_toReal h h').symm
theorem IsReal.add {x y : EReal} (hx : IsReal x) (hy : IsReal y) : IsReal (x + y) := by
  rw [hx, hy, ← EReal.coe_add]; exact .coe _
theorem IsReal.sub {x y : EReal} (hx : IsReal x) (hy : IsReal y) : IsReal (x - y) := by
  rw [hx, hy, ← EReal.coe_sub]; exact .coe _
theorem IsReal.mul {x y : EReal} (hx : IsReal x) (hy : IsReal y) : IsReal (x * y) := by
  rw [hx, hy, ← EReal.coe_mul]; exact .coe _
theorem IsReal.neg {x : EReal} (hx : IsReal x) : IsReal (-x) := by
  rw [hx, ← EReal.coe_neg]; exact .coe _

/-- The exponential is nowhere negative, -/
theorem exp_nonneg (x : EReal) : 0 ≤ Ideal.exp x := by
  induction x with
  | bot => exact le_refl _
  | top => exact le_top
  | coe r => exact EReal.coe_nonneg.mpr (Real.exp_pos r).le

/-- and real where its argument is not plus infinity. -/
theorem exp_real {x : EReal} (h : x ≠ ⊤) : IsReal (Ideal.exp x) := by
  induction x with
  | bot => exact .coe 0
  | top => exact absurd rfl h
  | coe r => exact .coe _

/-- The logarithm of a positive number is not minus infinity. -/
theorem log_ne_bot {x : EReal} (h : 0 < x) : Ideal.log x ≠ ⊥ := by
  induction x with
  | bot => simp at h
  | top => exact top_ne_bot
  | coe r =>
    show (if r ≤ 0 then ⊥ else (Real.log r : EReal)) ≠ ⊥
    rw [if_neg (not_le.mpr (EReal.coe_pos.mp h))]
    exact EReal.coe_ne_bot _

theorem one_add_exp_pos (x : EReal) : 0 < 1 + Ideal.exp x := lt_of_lt_of_le zero_lt_one (le_add_of_nonneg_right (exp_nonneg x))

/-- A softplus is not minus infinity. -/
theorem softplus_ne_bot (x y : EReal) : max x 0 + Ideal.log1p (Ideal.exp y) ≠ ⊥ := by
  rw [EReal.add_ne_bot_iff]
  refine ⟨fun h => ?_, log_ne_bot (one_add_exp_pos y)⟩
  have := le_max_right x 0
  rw [h] at this
  simp at this

/-- The logarithm of a decay is real. -/
theorem decay_real {s : EReal} (h : s ≠ ⊥) (r : ℝ) : IsReal (-Ideal.exp (-s - (r : EReal))) := by
  refine (exp_real ?_).neg
  intro hc
  induction s with
  | bot => exact h rfl
  | top => simp at hc
  | coe s => rw [← EReal.coe_neg, ← EReal.coe_sub] at hc; exact EReal.coe_ne_top _ hc

/-- A quotient by a positive number is real, if its numerator is or its denominator is infinite. -/
theorem div_real {x y : EReal} (hy : 0 < y) (h : IsReal x ∨ y = ⊤) : IsReal (Ideal.div x y) := by
  unfold Ideal.div
  rw [if_neg hy.ne']
  induction y with
  | bot => simp at hy
  | top => rw [EReal.inv_top, mul_zero]; exact .coe 0
  | coe r =>
    rw [← EReal.coe_inv]
    exact (h.resolve_right (EReal.coe_ne_top r)).mul (.coe _)

theorem sqrt_top : Ideal.sqrt ⊤ = ⊤ := rfl

/-- A sum of squares with one infinite entry is infinite. -/
theorem squares_top {x : Fin 64 → EReal} {j : Fin 64} (h : ¬IsReal (x j)) : ∑ i, x i * x i = ⊤ := by
  have hj : x j * x j = ⊤ := by
    by_cases ht : x j = ⊤
    · rw [ht]; simp
    · by_cases hb : x j = ⊥
      · rw [hb]; simp
      · exact absurd (IsReal.of ht hb) h
  have hs : ∀ i, 0 ≤ x i * x i := fun i => by
    induction x i with
    | bot => simp
    | top => simp
    | coe r => rw [← EReal.coe_mul]; exact EReal.coe_nonneg.mpr (mul_self_nonneg r)
  exact top_le_iff.mp (hj ▸ Finset.single_le_sum (f := fun i => x i * x i) (fun i _ => hs i) (Finset.mem_univ j))

theorem half_real : Ideal.ofBits .f32 0x3F000000#32 = (((1 : ℝ) / 2 : ℝ) : EReal) := by
  simp [Ideal.ofBits, Ideal.ieee, -EReal.coe_mul]; norm_num

theorem tiny_pos : 0 < Ideal.ofBits .f32 0x2B8CBCCC#32 := by
  simp [Ideal.ofBits, Ideal.ieee, -EReal.coe_mul]

/-! ## The inputs -/

theorem receptance_real {u : FVec Ideal S4x4096x3072 .f32} (h : Finite u) : Finite (receptance u) := fun _ => h _
theorem key_real {u : FVec Ideal S4x4096x3072 .f32} (h : Finite u) : Finite (key u) := fun _ => h _
theorem value_real {u : FVec Ideal S4x4096x3072 .f32} (h : Finite u) : Finite (value u) := fun _ => h _

/-- The logarithms of the decays are real, whatever they are made of. -/
theorem logDecay_real (z : FVec Ideal S2x4x4096x1024 .f32) : Finite (logDecay z) := fun i => by
  change IsReal _
  idx_vars i
  pointwise [logDecay, softplus, every]
  rw [half_real, if_neg (not_not.mpr rfl)]
  exact decay_real (softplus_ne_bot _ _) _

/-- The rates are real, whatever they are made of. -/
theorem rate_real (lo : FVec Ideal S4x4096x416 .f32) (a0 : FVec Ideal S2x1024 .f32) (a2 : FVec Ideal S2x64x1024 .f32) : Finite (rate lo a0 a2) := fun i => by
  change IsReal _
  unfold rate
  generalize addf (spread a0) _ = z
  idx_vars i
  pointwise [every]
  refine div_real (one_add_exp_pos _) ?_
  by_cases h : -z (ix4 i0 i1 i2 i3) = ⊤
  · exact .inr (by rw [h]; rfl)
  · exact .inl (.coe 1)

/-- Keys over their head's length are real, whatever the keys are. -/
theorem unit_real (x : FVec Ideal S4x4096x16x64 .f32) : Finite (unit x) := fun i => by
  change IsReal _
  idx_vars i
  pointwise [unit, along, total, each]
  generalize hj : (⟨i2.val % 64, _⟩ : Fin 64) = j
  refine div_real (lt_of_lt_of_le tiny_pos (le_max_right _ _)) ?_
  by_cases h : IsReal (x (ix4 i0 i1 ⟨i2.val / 64, by omega⟩ j))
  · exact .inl h
  · refine .inr (top_le_iff.mp (le_max_of_le_left ?_))
    rw [squares_top (x := fun l => x (ix4 i0 i1 ⟨i2.val / 64, _⟩ l)) h, sqrt_top]

theorem written_real {k : FVec Ideal S4x4096x1024 .f32} {a : FVec Ideal S2x4x4096x1024 .f32} {s : FVec Ideal S1024 .f32} (hk : Finite k) (ha : Finite a)
    (hs : Finite s) : Finite (written k a s) := fun i => by
  change IsReal _
  idx_vars i
  pointwise [written, twice, every]
  exact IsReal.mul (hk _) (IsReal.add (.coe 1) (IsReal.mul (IsReal.sub (ha _) (.coe 1)) (hs _)))

theorem replacing_real {k : FVec Ideal S4x4096x1024 .f32} {a : FVec Ideal S2x4x4096x1024 .f32} (hk : Finite k) (ha : Finite a) : Finite (replacing k a) := fun i => by
  change IsReal _
  idx_vars i
  pointwise [replacing, twice]
  exact IsReal.mul (hk _) (ha _)

end Cert.Kernel5Ideal.Host

end
-- ==== Proof.WkvRun.lean ====
/- The recurrence kernel's run: the states that pass from a point of the grid to the next are the recurrence's, so the output array
   holds the recurrence's outputs. -/
module

public import proofs.«01_k».proof.Proof.WkvBlock
public import proofs.«01_k».proof.Proof.WkvReal
public import proofs.«01_k».proof.Proof.WkvFinite
public import Idealize.ShloMosaic.Lib.Pipeline.ValueKit

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.Pipeline (Dat)
open Cert.Kernel5Ideal.Host
open Cert.Recurrence (place wide laid chunk inputs Inputs)

variable (m : (ℓ : Loc nD τ sig) → Buf (Elt Ideal) ℓ)

/-- The place of a point's chunk in its sequence. -/
def turn (n : ℕ) : ℕ := if n / 256 = 0 then n % 64 else 63 - n % 64

theorem idx0 : ∀ t : Fin cfg0.N, win0_0.index t = ![t.val / 64 % 4, turn t.val, 0] := (by decide +kernel : ∀ t : Fin grid0.N, _)
theorem idx1 : ∀ t : Fin cfg0.N, win0_1.index t = ![t.val / 64 % 4, turn t.val, 0] := (by decide +kernel : ∀ t : Fin grid0.N, _)
theorem idx2 : ∀ t : Fin cfg0.N, win0_2.index t = ![t.val / 64 % 4, turn t.val, 0] := (by decide +kernel : ∀ t : Fin grid0.N, _)
theorem idx3 : ∀ t : Fin cfg0.N, win0_3.index t = ![t.val / 256, t.val / 64 % 4, turn t.val, 0] := (by decide +kernel : ∀ t : Fin grid0.N, _)
theorem idx4 : ∀ t : Fin cfg0.N, win0_4.index t = ![t.val / 256, t.val / 64 % 4, turn t.val, 0] := (by decide +kernel : ∀ t : Fin grid0.N, _)
theorem idx5 : ∀ t : Fin cfg0.N, win0_5.index t = ![t.val / 256, t.val / 64 % 4, turn t.val, 0] := (by decide +kernel : ∀ t : Fin grid0.N, _)
theorem idx6 : ∀ t : Fin cfg0.N, win0_6.index t = ![t.val / 256, t.val / 64 % 4, turn t.val, 0] := (by decide +kernel : ∀ t : Fin grid0.N, _)
theorem coord0 : ∀ t : Fin cfg0.N, ((grid0.coords t) 0).val = t.val / 256 := (by decide +kernel : ∀ t : Fin grid0.N, _)

/-- A point's direction, sequence and chunk. -/
def dOf (t : Fin cfg0.N) : Fin 2 := ⟨t.val / 256, by have h := t.isLt; have : cfg0.N = 512 := N_0; omega⟩
def bOf (t : Fin cfg0.N) : Fin 4 := ⟨t.val / 64 % 4, by omega⟩
def cOf (t : Fin cfg0.N) : Fin 64 := ⟨t.val % 64, by omega⟩

theorem rev_eq (t : Fin cfg0.N) : BitVec.ofNat 32 ((grid0.coords t) 0).val = dir (dOf t) := by rw [coord0]; rfl

theorem place_turn (t : Fin cfg0.N) (s : Fin 64) : (place (dOf t) (cOf t) s).val = 64 * turn t.val + s.val := by
  unfold place turn
  have : dOf t = 0 ↔ t.val / 256 = 0 := ⟨fun h => congrArg Fin.val h, fun h => Fin.ext h⟩
  simp only [this]
  rfl

/-- What the lines before the kernel give the recurrence. -/
def ins (c : Dev nD) : Inputs :=
  inputs (V m c main_v0) (V m c main_v2) (V m c main_v41) (V m c main_v18) (V m c main_v51) (V m c main_v54)

/-! ## The blocks of a point -/

theorem read0 (A : S4x4096x1024.Idx → EReal) (t : Fin cfg0.N) (s : Fin 64) (p : Fin 8) (l : Fin 128) :
    (((cfg0.win 0).blk t).view.read (Elt Ideal) A : Vec Ideal S1x64x1024 .f32) (ix3 0 s (wide p l)) = A (ix3 (bOf t) (place (dOf t) (cOf t) s) (wide p l)) := by
  rw [View.read_apply]
  show A _ = A _
  congr 1
  funext a
  apply Fin.ext
  match a with
  | ⟨0, _⟩ => show win0_0.index t 0 * 1 + 1 * 0 = t.val / 64 % 4; rw [idx0]; show t.val / 64 % 4 * 1 + 1 * 0 = _; omega
  | ⟨1, _⟩ => show win0_0.index t 1 * 64 + 1 * s.val = (place (dOf t) (cOf t) s).val; rw [idx0, place_turn]; show turn t.val * 64 + 1 * s.val = _; omega
  | ⟨2, _⟩ => show win0_0.index t 2 * 1024 + 1 * (wide p l).val = (wide p l).val; rw [idx0]; show 0 * 1024 + 1 * (wide p l).val = _; omega

theorem blk0 (c : Dev nD) (t : Fin cfg0.N) (hx : Cert.Recurrence.Finite (V m c main_v0 : S4x4096x1024.Idx → EReal)) (p : Fin 8) :
    IsR (pair3 (iblk m c 0 t) p) (fun s l => (ins m c).r (bOf t) (place (dOf t) (cOf t) s) (wide p l)) := fun s l =>
  (read0 (V m c main_v0) t s p l).trans (hx (ix3 (bOf t) (place (dOf t) (cOf t) s) (wide p l)))

theorem read1 (A : S4x4096x1024.Idx → EReal) (t : Fin cfg0.N) (s : Fin 64) (p : Fin 8) (l : Fin 128) :
    (((cfg0.win 1).blk t).view.read (Elt Ideal) A : Vec Ideal S1x64x1024 .f32) (ix3 0 s (wide p l)) = A (ix3 (bOf t) (place (dOf t) (cOf t) s) (wide p l)) := by
  rw [View.read_apply]
  show A _ = A _
  congr 1
  funext a
  apply Fin.ext
  match a with
  | ⟨0, _⟩ => show win0_1.index t 0 * 1 + 1 * 0 = t.val / 64 % 4; rw [idx1]; show t.val / 64 % 4 * 1 + 1 * 0 = _; omega
  | ⟨1, _⟩ => show win0_1.index t 1 * 64 + 1 * s.val = (place (dOf t) (cOf t) s).val; rw [idx1, place_turn]; show turn t.val * 64 + 1 * s.val = _; omega
  | ⟨2, _⟩ => show win0_1.index t 2 * 1024 + 1 * (wide p l).val = (wide p l).val; rw [idx1]; show 0 * 1024 + 1 * (wide p l).val = _; omega

theorem blk1 (c : Dev nD) (t : Fin cfg0.N) (hx : Cert.Recurrence.Finite (V m c main_v2 : S4x4096x1024.Idx → EReal)) (p : Fin 8) :
    IsR (pair3 (iblk m c 1 t) p) (fun s l => (ins m c).v (bOf t) (place (dOf t) (cOf t) s) (wide p l)) := fun s l =>
  (read1 (V m c main_v2) t s p l).trans (hx (ix3 (bOf t) (place (dOf t) (cOf t) s) (wide p l)))

theorem read2 (A : S4x4096x1024.Idx → EReal) (t : Fin cfg0.N) (s : Fin 64) (p : Fin 8) (l : Fin 128) :
    (((cfg0.win 2).blk t).view.read (Elt Ideal) A : Vec Ideal S1x64x1024 .f32) (ix3 0 s (wide p l)) = A (ix3 (bOf t) (place (dOf t) (cOf t) s) (wide p l)) := by
  rw [View.read_apply]
  show A _ = A _
  congr 1
  funext a
  apply Fin.ext
  match a with
  | ⟨0, _⟩ => show win0_2.index t 0 * 1 + 1 * 0 = t.val / 64 % 4; rw [idx2]; show t.val / 64 % 4 * 1 + 1 * 0 = _; omega
  | ⟨1, _⟩ => show win0_2.index t 1 * 64 + 1 * s.val = (place (dOf t) (cOf t) s).val; rw [idx2, place_turn]; show turn t.val * 64 + 1 * s.val = _; omega
  | ⟨2, _⟩ => show win0_2.index t 2 * 1024 + 1 * (wide p l).val = (wide p l).val; rw [idx2]; show 0 * 1024 + 1 * (wide p l).val = _; omega

theorem blk2 (c : Dev nD) (t : Fin cfg0.N) (hx : Cert.Recurrence.Finite (V m c main_v41 : S4x4096x1024.Idx → EReal)) (p : Fin 8) :
    IsR (pair3 (iblk m c 2 t) p) (fun s l => (ins m c).kk (bOf t) (place (dOf t) (cOf t) s) (wide p l)) := fun s l =>
  (read2 (V m c main_v41) t s p l).trans (hx (ix3 (bOf t) (place (dOf t) (cOf t) s) (wide p l)))

theorem read3 (A : S2x4x4096x1024.Idx → EReal) (t : Fin cfg0.N) (s : Fin 64) (p : Fin 8) (l : Fin 128) :
    (((cfg0.win 3).blk t).view.read (Elt Ideal) A : Vec Ideal S1x1x64x1024 .f32) (ix4 0 0 s (wide p l)) = A (ix4 (dOf t) (bOf t) (place (dOf t) (cOf t) s) (wide p l)) := by
  rw [View.read_apply]
  show A _ = A _
  congr 1
  funext a
  apply Fin.ext
  match a with
  | ⟨0, _⟩ => show win0_3.index t 0 * 1 + 1 * 0 = t.val / 256; rw [idx3]; show t.val / 256 * 1 + 1 * 0 = _; omega
  | ⟨1, _⟩ => show win0_3.index t 1 * 1 + 1 * 0 = t.val / 64 % 4; rw [idx3]; show t.val / 64 % 4 * 1 + 1 * 0 = _; omega
  | ⟨2, _⟩ => show win0_3.index t 2 * 64 + 1 * s.val = (place (dOf t) (cOf t) s).val; rw [idx3, place_turn]; show turn t.val * 64 + 1 * s.val = _; omega
  | ⟨3, _⟩ => show win0_3.index t 3 * 1024 + 1 * (wide p l).val = (wide p l).val; rw [idx3]; show 0 * 1024 + 1 * (wide p l).val = _; omega

theorem blk3 (c : Dev nD) (t : Fin cfg0.N) (hx : Cert.Recurrence.Finite (V m c main_v18 : S2x4x4096x1024.Idx → EReal)) (p : Fin 8) :
    IsR (pair4 (iblk m c 3 t) p) (fun s l => (ins m c).lw (dOf t) (bOf t) (place (dOf t) (cOf t) s) (wide p l)) := fun s l =>
  (read3 (V m c main_v18) t s p l).trans (hx (ix4 (dOf t) (bOf t) (place (dOf t) (cOf t) s) (wide p l)))

theorem read4 (A : S2x4x4096x1024.Idx → EReal) (t : Fin cfg0.N) (s : Fin 64) (p : Fin 8) (l : Fin 128) :
    (((cfg0.win 4).blk t).view.read (Elt Ideal) A : Vec Ideal S1x1x64x1024 .f32) (ix4 0 0 s (wide p l)) = A (ix4 (dOf t) (bOf t) (place (dOf t) (cOf t) s) (wide p l)) := by
  rw [View.read_apply]
  show A _ = A _
  congr 1
  funext a
  apply Fin.ext
  match a with
  | ⟨0, _⟩ => show win0_4.index t 0 * 1 + 1 * 0 = t.val / 256; rw [idx4]; show t.val / 256 * 1 + 1 * 0 = _; omega
  | ⟨1, _⟩ => show win0_4.index t 1 * 1 + 1 * 0 = t.val / 64 % 4; rw [idx4]; show t.val / 64 % 4 * 1 + 1 * 0 = _; omega
  | ⟨2, _⟩ => show win0_4.index t 2 * 64 + 1 * s.val = (place (dOf t) (cOf t) s).val; rw [idx4, place_turn]; show turn t.val * 64 + 1 * s.val = _; omega
  | ⟨3, _⟩ => show win0_4.index t 3 * 1024 + 1 * (wide p l).val = (wide p l).val; rw [idx4]; show 0 * 1024 + 1 * (wide p l).val = _; omega

theorem blk4 (c : Dev nD) (t : Fin cfg0.N) (hx : Cert.Recurrence.Finite (V m c main_v51 : S2x4x4096x1024.Idx → EReal)) (p : Fin 8) :
    IsR (pair4 (iblk m c 4 t) p) (fun s l => (ins m c).k (dOf t) (bOf t) (place (dOf t) (cOf t) s) (wide p l)) := fun s l =>
  (read4 (V m c main_v51) t s p l).trans (hx (ix4 (dOf t) (bOf t) (place (dOf t) (cOf t) s) (wide p l)))

theorem read5 (A : S2x4x4096x1024.Idx → EReal) (t : Fin cfg0.N) (s : Fin 64) (p : Fin 8) (l : Fin 128) :
    (((cfg0.win 5).blk t).view.read (Elt Ideal) A : Vec Ideal S1x1x64x1024 .f32) (ix4 0 0 s (wide p l)) = A (ix4 (dOf t) (bOf t) (place (dOf t) (cOf t) s) (wide p l)) := by
  rw [View.read_apply]
  show A _ = A _
  congr 1
  funext a
  apply Fin.ext
  match a with
  | ⟨0, _⟩ => show win0_5.index t 0 * 1 + 1 * 0 = t.val / 256; rw [idx5]; show t.val / 256 * 1 + 1 * 0 = _; omega
  | ⟨1, _⟩ => show win0_5.index t 1 * 1 + 1 * 0 = t.val / 64 % 4; rw [idx5]; show t.val / 64 % 4 * 1 + 1 * 0 = _; omega
  | ⟨2, _⟩ => show win0_5.index t 2 * 64 + 1 * s.val = (place (dOf t) (cOf t) s).val; rw [idx5, place_turn]; show turn t.val * 64 + 1 * s.val = _; omega
  | ⟨3, _⟩ => show win0_5.index t 3 * 1024 + 1 * (wide p l).val = (wide p l).val; rw [idx5]; show 0 * 1024 + 1 * (wide p l).val = _; omega

theorem blk5 (c : Dev nD) (t : Fin cfg0.N) (hx : Cert.Recurrence.Finite (V m c main_v54 : S2x4x4096x1024.Idx → EReal)) (p : Fin 8) :
    IsR (pair4 (iblk m c 5 t) p) (fun s l => (ins m c).a (dOf t) (bOf t) (place (dOf t) (cOf t) s) (wide p l)) := fun s l =>
  (read5 (V m c main_v54) t s p l).trans (hx (ix4 (dOf t) (bOf t) (place (dOf t) (cOf t) s) (wide p l)))

/-- The kernel's inputs are arrays of real numbers. -/
structure AllReal (c : Dev nD) : Prop where
  h0 : Cert.Recurrence.Finite (V m c main_v0 : S4x4096x1024.Idx → EReal)
  h1 : Cert.Recurrence.Finite (V m c main_v2 : S4x4096x1024.Idx → EReal)
  h2 : Cert.Recurrence.Finite (V m c main_v41 : S4x4096x1024.Idx → EReal)
  h3 : Cert.Recurrence.Finite (V m c main_v18 : S2x4x4096x1024.Idx → EReal)
  h4 : Cert.Recurrence.Finite (V m c main_v51 : S2x4x4096x1024.Idx → EReal)
  h5 : Cert.Recurrence.Finite (V m c main_v54 : S2x4x4096x1024.Idx → EReal)

variable {m}

/-- One point's states, from the states before it. -/
theorem point_H {c : Dev nD} (hx : AllReal m c) (t : Fin cfg0.N) (xs : Vec Ideal S8x128x128 .f32)
    (hs : ∀ p, IsS (slice xs p) (laid (ins m c) (dOf t) (bOf t) p (64 * (cOf t).val))) (p : Fin 8) :
    IsS (slice (outH (BitVec.ofNat 32 ((grid0.coords t) 0).val) (iblk m c 0 t) (iblk m c 1 t) (iblk m c 2 t) (iblk m c 3 t) (iblk m c 4 t) (iblk m c 5 t) xs) p)
      (laid (ins m c) (dOf t) (bOf t) p (64 * (cOf t).val + 64)) := by
  have h := isS_H (r := fun s l => (ins m c).r (bOf t) (place (dOf t) (cOf t) s) (wide p l)) (dOf t) (blk3 m c t hx.h3 p) (blk2 m c t hx.h2 p)
    (blk5 m c t hx.h5 p) (blk4 m c t hx.h4 p) (blk1 m c t hx.h1 p) (hs p) (Cert.Recurrence.laid_off _ _ _ _ _)
  intro l e
  rw [rev_eq]
  refine (h l e).trans (congrArg _ ?_)
  exact Cert.Recurrence.chunk_state (ins m c) (dOf t) (bOf t) p (cOf t) e 64 (le_refl _) l

/-- One point's outputs, from the states before it. -/
theorem point_Y {c : Dev nD} (hx : AllReal m c) (t : Fin cfg0.N) (xs : Vec Ideal S8x128x128 .f32)
    (hs : ∀ p, IsS (slice xs p) (laid (ins m c) (dOf t) (bOf t) p (64 * (cOf t).val))) (s : Fin 64) (x : Fin 1024) :
    outY (BitVec.ofNat 32 ((grid0.coords t) 0).val) (iblk m c 0 t) (iblk m c 1 t) (iblk m c 2 t) (iblk m c 3 t) (iblk m c 4 t) (iblk m c 5 t) xs (ix4 0 0 s x)
      = ((Cert.Recurrence.out (ins m c) (dOf t) (bOf t) (place (dOf t) (cOf t) s) x : ℝ) : EReal) := by
  have hp : x.val / 128 < 8 := by omega
  have h := isR_Y (dOf t) (blk3 m c t hx.h3 ⟨_, hp⟩) (blk2 m c t hx.h2 ⟨_, hp⟩)
    (blk5 m c t hx.h5 ⟨_, hp⟩) (blk4 m c t hx.h4 ⟨_, hp⟩) (blk1 m c t hx.h1 ⟨_, hp⟩) (blk0 m c t hx.h0 ⟨_, hp⟩) (hs ⟨_, hp⟩)
    (Cert.Recurrence.laid_off _ _ _ _ _)
  rw [rev_eq]
  refine (h s ⟨x.val % 128, Nat.mod_lt _ (by omega)⟩).trans (congrArg _ ?_)
  refine (Cert.Recurrence.chunk_out (ins m c) (dOf t) (bOf t) ⟨_, hp⟩ (cOf t) s ⟨x.val % 128, Nat.mod_lt _ (by omega)⟩).trans ?_
  congr 1
  exact Fin.ext (by show 128 * (x.val / 128) + x.val % 128 = x.val; omega)

/-- The states a run of points starts from are zero. -/
theorem fresh (I : Inputs) (d : Fin 2) (b : Fin 4) (p : Fin 8) : IsS (slice (k0_pay3 (F := Ideal)) p) (laid I d b p 0) := fun l e => by
  rw [Cert.Recurrence.laid_zero]
  show (k0_pay3 (F := Ideal)) (ix3 p l e) = _
  pointwise [k0_pay3]
  simp

/-- The states before a point, if the states after the point before it are the recurrence's. -/
theorem before {c : Dev nD} (n : ℕ) (hn : n + 1 < cfg0.N) (h0 : ¬(n + 1) % 64 = 0)
    (ih : ∀ p, IsS (slice (outsAt0 m c n (Nat.lt_of_succ_lt hn)).2 p)
      (laid (ins m c) (dOf ⟨n, Nat.lt_of_succ_lt hn⟩) (bOf ⟨n, Nat.lt_of_succ_lt hn⟩) p (64 * (cOf ⟨n, Nat.lt_of_succ_lt hn⟩).val + 64))) (p : Fin 8) :
    IsS (slice (outsAt0 m c n (Nat.lt_of_succ_lt hn)).2 p)
      (laid (ins m c) (dOf ⟨n + 1, hn⟩) (bOf ⟨n + 1, hn⟩) p (64 * (cOf ⟨n + 1, hn⟩).val)) := by
  have hd' : dOf ⟨n + 1, hn⟩ = dOf ⟨n, Nat.lt_of_succ_lt hn⟩ := Fin.ext (by show (n + 1) / 256 = n / 256; omega)
  have hb' : bOf ⟨n + 1, hn⟩ = bOf ⟨n, Nat.lt_of_succ_lt hn⟩ := Fin.ext (by show (n + 1) / 64 % 4 = n / 64 % 4; omega)
  have hc' : 64 * (cOf ⟨n + 1, hn⟩).val = 64 * (cOf ⟨n, Nat.lt_of_succ_lt hn⟩).val + 64 := by show 64 * ((n + 1) % 64) = 64 * (n % 64) + 64; omega
  rw [hd', hb', hc']
  exact ih p

/-- After every point the carried states are the recurrence's. -/
theorem carried {c : Dev nD} (hx : AllReal m c) : ∀ (n : ℕ) (hn : n < cfg0.N) (p : Fin 8),
    IsS (slice (outsAt0 m c n hn).2 p) (laid (ins m c) (dOf ⟨n, hn⟩) (bOf ⟨n, hn⟩) p (64 * (cOf ⟨n, hn⟩).val + 64)) := by
  intro n
  induction n with
  | zero =>
    intro hn p
    rw [outA_H m c ⟨0, hn⟩ rfl]
    exact point_H hx ⟨0, hn⟩ _ (fresh _ _ _) p
  | succ n ih =>
    intro hn p
    by_cases h0 : (n + 1) % 64 = 0
    · rw [outA_H m c ⟨n + 1, hn⟩ h0]
      refine point_H hx ⟨n + 1, hn⟩ _ (fun p => ?_) p
      have hc : (cOf ⟨n + 1, hn⟩).val = 0 := h0
      rw [hc]
      exact fresh _ _ _ p
    · rw [outB_H m c ⟨n + 1, hn⟩ h0]
      exact point_H hx ⟨n + 1, hn⟩ _ (before n hn h0 (ih _)) p

/-- Every point's output block. -/
theorem block_out {c : Dev nD} (hx : AllReal m c) : ∀ (t : Fin cfg0.N) (s : Fin 64) (x : Fin 1024),
    (outsAt0 m c t.val t.isLt).1 (ix4 0 0 s x) = ((Cert.Recurrence.out (ins m c) (dOf t) (bOf t) (place (dOf t) (cOf t) s) x : ℝ) : EReal) := by
  rintro ⟨n, hn⟩ s x
  by_cases h0 : n % 64 = 0
  · rw [outA_Y m c ⟨n, hn⟩ h0]
    refine point_Y hx ⟨n, hn⟩ _ (fun p => ?_) s x
    have hc : (cOf ⟨n, hn⟩).val = 0 := h0
    rw [hc]
    exact fresh _ _ _ p
  · cases n with
    | zero => exact absurd rfl h0
    | succ n =>
      rw [outB_Y m c ⟨n + 1, hn⟩ h0]
      exact point_Y hx ⟨n + 1, hn⟩ _ (before n hn h0 (carried hx n _)) s x

/-- The output array after the run. -/
theorem final {c : Dev nD} (hx : AllReal m c) : (dats m 0 c).arrAt 6 cfg0.N = Cert.Recurrence.result (ins m c) := by
  refine (dats m 0 c).arrAt_eq_of_covers 6 _ (by decide +kernel) fun t hf y => ?_
  blk_simp
  rw [after0_6]
  have hy0 : (y 0).val < 1 := (y 0).isLt
  have hy1 : (y 1).val < 1 := (y 1).isLt
  have hy2 : (y 2).val < 64 := (y 2).isLt
  have hy : y = ix4 (n0 := 1) (n1 := 1) (n2 := 64) (n3 := 1024) 0 0 (y 2) (y 3) := by
    funext a
    apply Fin.ext
    match a with
    | ⟨0, _⟩ => show (y 0).val = 0; omega
    | ⟨1, _⟩ => show (y 1).val = 0; omega
    | ⟨2, _⟩ => rfl
    | ⟨3, _⟩ => rfl
  have h0 : ((win0_6.blk t).view.emb y) 0 = dOf t := Fin.ext (by
    show win0_6.index t 0 * 1 + 1 * (y 0).val = t.val / 256; rw [idx6]; show t.val / 256 * 1 + 1 * (y 0).val = _; omega)
  have h1 : ((win0_6.blk t).view.emb y) 1 = bOf t := Fin.ext (by
    show win0_6.index t 1 * 1 + 1 * (y 1).val = t.val / 64 % 4; rw [idx6]; show t.val / 64 % 4 * 1 + 1 * (y 1).val = _; omega)
  have h2 : ((win0_6.blk t).view.emb y) 2 = place (dOf t) (cOf t) (y 2) := Fin.ext (by
    refine Eq.trans ?_ (place_turn t (y 2)).symm; show win0_6.index t 2 * 64 + 1 * (y 2).val = 64 * turn t.val + (y 2).val; rw [idx6]; show turn t.val * 64 + 1 * (y 2).val = _; omega)
  have h3 : ((win0_6.blk t).view.emb y) 3 = y 3 := Fin.ext (by
    show win0_6.index t 3 * 1024 + 1 * (y 3).val = (y 3).val; rw [idx6]; show 0 * 1024 + 1 * (y 3).val = _; omega)
  refine ((congrArg _ hy).trans (block_out hx t (y 2) (y 3))).trans ?_
  unfold Cert.Recurrence.result
  rw [h0, h1, h2, h3]

variable (m)

/-! ## The run -/

/-- The recurrence's inputs, from the program's arguments. -/
def given (u : FVec Ideal S4x4096x3072 .f32) (lo : FVec Ideal S4x4096x416 .f32) (w0 : FVec Ideal S2x1024 .f32) (w2 : FVec Ideal S2x64x1024 .f32)
    (a0 : FVec Ideal S2x1024 .f32) (a2 : FVec Ideal S2x64x1024 .f32) (kk ka : FVec Ideal S1024 .f32) : Inputs :=
  inputs (receptance u) (value u) (unit (scaled (key u) kk)) (logDecay (decayLogit lo w0 w2)) (written (key u) (rate lo a0 a2) ka)
    (replacing (unit (scaled (key u) kk)) (rate lo a0 a2))

/-- What the program computes. -/
def layer (u : FVec Ideal S4x4096x3072 .f32) (lo : FVec Ideal S4x4096x416 .f32) (w0 : FVec Ideal S2x1024 .f32) (w2 : FVec Ideal S2x64x1024 .f32)
    (a0 : FVec Ideal S2x1024 .f32) (a2 : FVec Ideal S2x64x1024 .f32) (kk ka : FVec Ideal S1024 .f32) (rk : FVec Ideal S2x16x64 .f32) (g b : FVec Ideal S1024 .f32) :
    FVec Ideal S4x4096x1024 .f32 :=
  finish (F := Ideal) (Cert.Recurrence.result (given u lo w0 w2 a0 a2 kk ka)) (receptance u) (value u) (written (key u) (rate lo a0 a2) ka) rk g b

theorem fin_of {s : Shape} {x y : s.Idx → EReal} (h : x = y) (hy : Cert.Recurrence.Finite y) : Cert.Recurrence.Finite x := h ▸ hy

variable (c : Dev nD)

theorem V_r : V0 m c (Proc.devRef .tc main_v0) = receptance (F := Ideal) (m ((c.tc : Thread nD τ).loc main_arg0)) := by
  unfold V0
  simp only [List.flatten_cons, List.flatten_nil, List.append_nil, StableHlo.after_append]
  exact head_r _
theorem V_v : V0 m c (Proc.devRef .tc main_v2) = value (F := Ideal) (m ((c.tc : Thread nD τ).loc main_arg0)) := by
  unfold V0
  simp only [List.flatten_cons, List.flatten_nil, List.append_nil, StableHlo.after_append]
  exact head_v _
theorem V_kk : V0 m c (Proc.devRef .tc main_v41) = unit (F := Ideal) (scaled (key (m ((c.tc : Thread nD τ).loc main_arg0))) (m ((c.tc : Thread nD τ).loc main_arg6))) := by
  unfold V0
  simp only [List.flatten_cons, List.flatten_nil, List.append_nil, StableHlo.after_append]
  exact head_kk _
theorem V_lw : V0 m c (Proc.devRef .tc main_v18) = logDecay (F := Ideal) (decayLogit (m ((c.tc : Thread nD τ).loc main_arg1)) (m ((c.tc : Thread nD τ).loc main_arg2)) (m ((c.tc : Thread nD τ).loc main_arg3))) := by
  unfold V0
  simp only [List.flatten_cons, List.flatten_nil, List.append_nil, StableHlo.after_append]
  exact head_lw _
theorem V_k : V0 m c (Proc.devRef .tc main_v51) = written (F := Ideal) (key (m ((c.tc : Thread nD τ).loc main_arg0))) (rate (F := Ideal) (m ((c.tc : Thread nD τ).loc main_arg1)) (m ((c.tc : Thread nD τ).loc main_arg4)) (m ((c.tc : Thread nD τ).loc main_arg5))) (m ((c.tc : Thread nD τ).loc main_arg7)) := by
  unfold V0
  simp only [List.flatten_cons, List.flatten_nil, List.append_nil, StableHlo.after_append]
  exact head_k _
theorem V_a : V0 m c (Proc.devRef .tc main_v54) = replacing (F := Ideal) (unit (F := Ideal) (scaled (key (m ((c.tc : Thread nD τ).loc main_arg0))) (m ((c.tc : Thread nD τ).loc main_arg6)))) (rate (F := Ideal) (m ((c.tc : Thread nD τ).loc main_arg1)) (m ((c.tc : Thread nD τ).loc main_arg4)) (m ((c.tc : Thread nD τ).loc main_arg5))) := by
  unfold V0
  simp only [List.flatten_cons, List.flatten_nil, List.append_nil, StableHlo.after_append]
  exact head_a _

theorem ins_eq : ins m c = given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ins given
  exact congr (congr (congr (congr (congr (congrArg inputs (V_r m c)) (V_v m c)) (V_kk m c)) (V_lw m c)) (V_k m c)) (V_a m c)

/-- The kernel's inputs are real where the receptances, keys and values and the written keys' scales are. -/
theorem all_real (h0 : Cert.Recurrence.Finite (m ((c.tc : Thread nD τ).loc main_arg0) : S4x4096x3072.Idx → EReal)) (h7 : Cert.Recurrence.Finite (m ((c.tc : Thread nD τ).loc main_arg7) : S1024.Idx → EReal)) :
    AllReal m c where
  h0 := fin_of (V_r m c) (receptance_real h0)
  h1 := fin_of (V_v m c) (value_real h0)
  h2 := fin_of (V_kk m c) (unit_real _)
  h3 := fin_of (V_lw m c) (logDecay_real _)
  h4 := fin_of (V_k m c) (written_real (key_real h0) (rate_real _ _ _) h7)
  h5 := fin_of (V_a m c) (replacing_real (unit_real _) (rate_real _ _ _))

variable {m c} in
/-- The result after the host lines. -/
theorem tail_layer (hx : AllReal m c) : Pipeline.afterTail₀ cfgs (dats m) 0 (V0 m) [hostOps1] c main_v104
    = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have arr : Pipeline.withArrays spec0 c (V0 m c) (fun w => (dats m 0 c).arrAt w cfg0.N) (Proc.devRef .tc main_v55)
      = Cert.Recurrence.result (given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
    rw [← ins_eq m c, ← final hx]
    exact Pipeline.withArrays_arr spec0 (by decide) c (V0 m c) _ 6
  have rest : ∀ b : Ref sig .tc, (∀ w, Pipeline.arrRef spec0 w ≠ b) →
      Pipeline.withArrays spec0 c (V0 m c) (fun w => (dats m 0 c).arrAt w cfg0.N) (Proc.devRef .tc b) = V0 m c (Proc.devRef .tc b) :=
    fun b hb => Pipeline.withArrays_of_ne spec0 c (V0 m c) _ b hb
  have inp : ∀ w, (cfg0.win w).isOut = false → Pipeline.withArrays spec0 c (V0 m c) (fun w => (dats m 0 c).arrAt w cfg0.N) (Proc.devRef .tc (Pipeline.arrRef spec0 w))
      = V0 m c (Proc.devRef .tc (Pipeline.arrRef spec0 w)) := fun w hw =>
    (Pipeline.withArrays_arr spec0 (by decide) c (V0 m c) _ w).trans ((dats m 0 c).arrAt_in w hw cfg0.N)
  unfold Pipeline.afterTail₀
  simp only [List.flatten_cons, List.flatten_nil, List.append_nil]
  refine (tail_eq _).trans ?_
  unfold layer
  have e0 := (inp 0 rfl).trans (V_r m c)
  have e1 := (inp 1 rfl).trans (V_v m c)
  have e2 := (inp 4 rfl).trans (V_k m c)
  have e3 := (rest main_arg8 (by decide)).trans (V_main_arg8 m c)
  have e4 := (rest main_arg9 (by decide)).trans (V_main_arg9 m c)
  have e5 := (rest main_arg10 (by decide)).trans (V_main_arg10 m c)
  exact congr (congr (congr (congr (congr (congr (congrArg finish arr) e0) e1) e2) e3) e4) e5

/-- The kernel ends with `layer` of its arguments, which it leaves unchanged, if receptances, keys, values and scales are real. -/
theorem run_layer (ρ : Dev nD → PrngReg) (hx : ∀ c, AllReal m c) :
    θ_run defs (onTc (τ := τ) (main (F := Ideal))) ⟨m, fun _ => 0, ρ⟩ fun r => ∀ c : Dev nD,
      r.2.mem ((c.tc : Thread nD τ).loc main_v104) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hv := (θ_run defs _ _).mono (fun _ h (c : Dev nD) =>
    ((h c).2 main_v104 (Pipeline.mem_restRefs_of main_v104 (by decide) (by decide))).trans (tail_layer (hx c))) (run_main m ρ)
  exact (θ_run defs _ _).mono (fun _ h c => ⟨h.1 c, h.2 c⟩) (θ_run_and hv (unchanged m ρ))

end Cert.Kernel5Ideal.Val

end
-- ==== Proof.WkvLoop.lean ====
/- The plain recurrence as lists of host operations: those before the loop, a step's, and those after the loop; and that the loop
   takes its 4096 steps. -/
module

public import proofs.«01_k».proof.Proof.Gen.Reference5Ideal
public import proofs.«01_k».proof.Proof.WkvHost
public import Idealize.ShloMosaic.Lib.StableHlo.RunLoop
public import Idealize.ShloMosaic.Lib.StableHlo.Run
public import Idealize.ShloMosaic.Lib.Scf.Counter
public import Idealize.ShloMosaic.Lib.Scf.ExitTest

@[expose] public section

set_option maxRecDepth 16384

noncomputable section

namespace Cert.Reference5Ideal.Wkv

open Cert.Reference5Ideal Cert.Reference5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Kernel5Ideal.Host

variable {F : FTy → Type} [FloatOps F]

/-- The softplus. -/
abbrev softOps (arg0 : TRef sig ⟨S2x4x4096x1024, .f32⟩) (φ : fn_softplus.Bufs) : List (HloOp τ sig (Elt F)) :=
  [ TRef.nullary φ.cst (constant S_ .f32 0x00000000#32),
    TRef.unary φ.cst φ.v0 (broadcastInDim S2x4x4096x1024 ![] bcast_S_S2x4x4096x1024),
    TRef.binary arg0 φ.v0 φ.v1 maximumf,
    TRef.unary φ.cst φ.v2 (broadcastInDim S2x4x4096x1024 ![] bcast_S_S2x4x4096x1024),
    TRef.binary arg0 φ.v2 φ.v3 subf,
    TRef.binary φ.v3 φ.v3 φ.v4 (cmpf .une),
    TRef.unary φ.cst φ.v5 (broadcastInDim S2x4x4096x1024 ![] bcast_S_S2x4x4096x1024),
    TRef.binary arg0 φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- One call that reads a step of an array. -/
abbrev pickOps (arg0 : TRef sig ⟨S4096x2x4x16x64, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x2x4x16x64 x (fun k => (i k (Shape.Idx.first h_S_)).toInt) sliceFits_S4096x2x4x16x64_S1x2x4x16x64),
    TRef.reshape φ.v0 φ.v1 (rfl : (.f32 : EltTy) = .f32) shapeCasts_S1x2x4x16x64_S2x4x16x64 ]

/-- The call that writes a step of an array. -/
abbrev placeOps (arg0 : TRef sig ⟨S4096x2x4x16x64, .f32⟩) (arg1 : TRef sig ⟨S2x4x16x64, .f32⟩) (arg2 : TRef sig ⟨S_, .i32⟩) (φ : fn_dynamic_update_index_in_dim.Bufs) : List (HloOp τ sig (Elt F)) :=
  [ TRef.unary arg1 φ.v0 (broadcastInDim S1x2x4x16x64 ![1, 2, 3, 4] bcast_S2x4x16x64_S1x2x4x16x64_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S4096x2x4x16x64_S1x2x4x16x64) ]

/-- The condition's operations. -/
abbrev condOps : List (HloOp τ sig (Elt F)) :=
  [ nullary main_while0c_c_23 (constantI S_ 32 4096#32),
    binary main_v106_6 main_while0c_c_23 main_while0c_v166 (cmpi .slt : (⟨S_, .i32⟩ : BufTy).Contents (Elt F) → (⟨S_, .i32⟩ : BufTy).Contents (Elt F) → (⟨S_, .i1⟩ : BufTy).Contents (Elt F)) ]

/-- The arithmetic of a step. -/
abbrev stepOps : List (HloOp τ sig (Elt F)) :=
  [ binary main_v106_7 main_while0b_v170 main_while0b_v172 ((fun l r => Host.dotGeneral dot_S2x4x16x64x64_S2x4x16x64_S2x4x16x64_4_3_3_n_012_012 none l r) : (⟨S2x4x16x64x64, .f32⟩ : BufTy).Contents (Elt F) → (⟨S2x4x16x64, .f32⟩ : BufTy).Contents (Elt F) → (⟨S2x4x16x64, .f32⟩ : BufTy).Contents (Elt F)),
    unary main_while0b_v167 main_while0b_v173 (broadcastInDim S2x4x16x1x64 ![0, 1, 2, 4] bcast_S2x4x16x64_S2x4x16x1x64_0_1_2_4 : (⟨S2x4x16x64, .f32⟩ : BufTy).Contents (Elt F) → (⟨S2x4x16x1x64, .f32⟩ : BufTy).Contents (Elt F)),
    unary main_while0b_v173 main_while0b_v174 (broadcastInDim S2x4x16x64x64 ![0, 1, 2, 3, 4] bcast_S2x4x16x1x64_S2x4x16x64x64_0_1_2_3_4 : (⟨S2x4x16x1x64, .f32⟩ : BufTy).Contents (Elt F) → (⟨S2x4x16x64x64, .f32⟩ : BufTy).Contents (Elt F)),
    binary main_v106_7 main_while0b_v174 main_while0b_v175 (mulf : (⟨S2x4x16x64x64, .f32⟩ : BufTy).Contents (Elt F) → (⟨S2x4x16x64x64, .f32⟩ : BufTy).Contents (Elt F) → (⟨S2x4x16x64x64, .f32⟩ : BufTy).Contents (Elt F)),
    unary main_while0b_v172 main_while0b_v176 (broadcastInDim S2x4x16x64x1 ![0, 1, 2, 3] bcast_S2x4x16x64_S2x4x16x64x1_0_1_2_3 : (⟨S2x4x16x64, .f32⟩ : BufTy).Contents (Elt F) → (⟨S2x4x16x64x1, .f32⟩ : BufTy).Contents (Elt F)),
    unary main_while0b_v171 main_while0b_v177 (broadcastInDim S2x4x16x1x64 ![0, 1, 2, 4] bcast_S2x4x16x64_S2x4x16x1x64_0_1_2_4 : (⟨S2x4x16x64, .f32⟩ : BufTy).Contents (Elt F) → (⟨S2x4x16x1x64, .f32⟩ : BufTy).Contents (Elt F)),
    unary main_while0b_v176 main_while0b_v178 (broadcastInDim S2x4x16x64x64 ![0, 1, 2, 3, 4] bcast_S2x4x16x64x1_S2x4x16x64x64_0_1_2_3_4 : (⟨S2x4x16x64x1, .f32⟩ : BufTy).Contents (Elt F) → (⟨S2x4x16x64x64, .f32⟩ : BufTy).Contents (Elt F)),
    unary main_while0b_v177 main_while0b_v179 (broadcastInDim S2x4x16x64x64 ![0, 1, 2, 3, 4] bcast_S2x4x16x1x64_S2x4x16x64x64_0_1_2_3_4 : (⟨S2x4x16x1x64, .f32⟩ : BufTy).Contents (Elt F) → (⟨S2x4x16x64x64, .f32⟩ : BufTy).Contents (Elt F)),
    binary main_while0b_v178 main_while0b_v179 main_while0b_v180 (mulf : (⟨S2x4x16x64x64, .f32⟩ : BufTy).Contents (Elt F) → (⟨S2x4x16x64x64, .f32⟩ : BufTy).Contents (Elt F) → (⟨S2x4x16x64x64, .f32⟩ : BufTy).Contents (Elt F)),
    binary main_while0b_v175 main_while0b_v180 main_while0b_v181 (subf : (⟨S2x4x16x64x64, .f32⟩ : BufTy).Contents (Elt F) → (⟨S2x4x16x64x64, .f32⟩ : BufTy).Contents (Elt F) → (⟨S2x4x16x64x64, .f32⟩ : BufTy).Contents (Elt F)),
    unary main_while0b_v169 main_while0b_v182 (broadcastInDim S2x4x16x64x1 ![0, 1, 2, 3] bcast_S2x4x16x64_S2x4x16x64x1_0_1_2_3 : (⟨S2x4x16x64, .f32⟩ : BufTy).Contents (Elt F) → (⟨S2x4x16x64x1, .f32⟩ : BufTy).Contents (Elt F)),
    unary main_while0b_v168 main_while0b_v183 (broadcastInDim S2x4x16x1x64 ![0, 1, 2, 4] bcast_S2x4x16x64_S2x4x16x1x64_0_1_2_4 : (⟨S2x4x16x64, .f32⟩ : BufTy).Contents (Elt F) → (⟨S2x4x16x1x64, .f32⟩ : BufTy).Contents (Elt F)),
    unary main_while0b_v182 main_while0b_v184 (broadcastInDim S2x4x16x64x64 ![0, 1, 2, 3, 4] bcast_S2x4x16x64x1_S2x4x16x64x64_0_1_2_3_4 : (⟨S2x4x16x64x1, .f32⟩ : BufTy).Contents (Elt F) → (⟨S2x4x16x64x64, .f32⟩ : BufTy).Contents (Elt F)),
    unary main_while0b_v183 main_while0b_v185 (broadcastInDim S2x4x16x64x64 ![0, 1, 2, 3, 4] bcast_S2x4x16x1x64_S2x4x16x64x64_0_1_2_3_4 : (⟨S2x4x16x1x64, .f32⟩ : BufTy).Contents (Elt F) → (⟨S2x4x16x64x64, .f32⟩ : BufTy).Contents (Elt F)),
    binary main_while0b_v184 main_while0b_v185 main_while0b_v186 (mulf : (⟨S2x4x16x64x64, .f32⟩ : BufTy).Contents (Elt F) → (⟨S2x4x16x64x64, .f32⟩ : BufTy).Contents (Elt F) → (⟨S2x4x16x64x64, .f32⟩ : BufTy).Contents (Elt F)),
    binary main_while0b_v181 main_while0b_v186 main_while0b_v187 (addf : (⟨S2x4x16x64x64, .f32⟩ : BufTy).Contents (Elt F) → (⟨S2x4x16x64x64, .f32⟩ : BufTy).Contents (Elt F) → (⟨S2x4x16x64x64, .f32⟩ : BufTy).Contents (Elt F)),
    binary main_while0b_v187 main_while0b_v166 main_while0b_v188 ((fun l r => Host.dotGeneral dot_S2x4x16x64x64_S2x4x16x64_S2x4x16x64_4_3_3_n_012_012 none l r) : (⟨S2x4x16x64x64, .f32⟩ : BufTy).Contents (Elt F) → (⟨S2x4x16x64, .f32⟩ : BufTy).Contents (Elt F) → (⟨S2x4x16x64, .f32⟩ : BufTy).Contents (Elt F)) ]

/-- A step's end: the counter and the carried values. -/
abbrev endOps : List (HloOp τ sig (Elt F)) :=
  [ nullary main_while0b_c_23 (constantI S_ 32 1#32),
    binary main_v106_6 main_while0b_c_23 main_while0b_v190 (addi : (⟨S_, .i32⟩ : BufTy).Contents (Elt F) → (⟨S_, .i32⟩ : BufTy).Contents (Elt F) → (⟨S_, .i32⟩ : BufTy).Contents (Elt F)),
    unary main_while0b_v190 main_v106_6 id,
    unary main_while0b_v187 main_v106_7 id,
    unary main_while0b_v189 main_v106_8 id ]

/-- The stretches of a step. -/
abbrev bodyI : List (List (HloOp τ sig (Elt F))) :=
  [ pickOps (.of main_v106_0) (.of main_v106_6) main_while0b_call1,
    pickOps (.of main_v106_1) (.of main_v106_6) main_while0b_call2,
    pickOps (.of main_v106_2) (.of main_v106_6) main_while0b_call3,
    pickOps (.of main_v106_3) (.of main_v106_6) main_while0b_call4,
    pickOps (.of main_v106_4) (.of main_v106_6) main_while0b_call5,
    pickOps (.of main_v106_5) (.of main_v106_6) main_while0b_call6,
    stepOps,
    placeOps (.of main_v106_8) (.of main_while0b_v188) (.of main_v106_6) main_while0b_call7,
    endOps ]

/-- What the decays are the softplus of. -/
abbrev logitOps : List (HloOp τ sig (Elt F)) :=
  [ unary main_arg0 main_v0 ((extractStridedSlice S4x4096x1024 ![0, 0, 0] · slices_S4x4096x3072_S4x4096x1024_0_0_0) : (⟨S4x4096x3072, .f32⟩ : BufTy).Contents (Elt F) → (⟨S4x4096x1024, .f32⟩ : BufTy).Contents (Elt F)),
    unary main_arg0 main_v1 ((extractStridedSlice S4x4096x1024 ![0, 0, 1024] · slices_S4x4096x3072_S4x4096x1024_0_0_1024) : (⟨S4x4096x3072, .f32⟩ : BufTy).Contents (Elt F) → (⟨S4x4096x1024, .f32⟩ : BufTy).Contents (Elt F)),
    unary main_arg0 main_v2 ((extractStridedSlice S4x4096x1024 ![0, 0, 2048] · slices_S4x4096x3072_S4x4096x1024_0_0_2048) : (⟨S4x4096x3072, .f32⟩ : BufTy).Contents (Elt F) → (⟨S4x4096x1024, .f32⟩ : BufTy).Contents (Elt F)),
    unary main_arg1 main_v3 ((extractStridedSlice S4x4096x128 ![0, 0, 0] · slices_S4x4096x416_S4x4096x128_0_0_0) : (⟨S4x4096x416, .f32⟩ : BufTy).Contents (Elt F) → (⟨S4x4096x128, .f32⟩ : BufTy).Contents (Elt F)),
    reshape main_v3 main_v4 (rfl : (.f32 : EltTy) = .f32) shapeCasts_S4x4096x128_S4x4096x2x64,
    unary main_arg1 main_v5 ((extractStridedSlice S4x4096x128 ![0, 0, 128] · slices_S4x4096x416_S4x4096x128_0_0_128) : (⟨S4x4096x416, .f32⟩ : BufTy).Contents (Elt F) → (⟨S4x4096x128, .f32⟩ : BufTy).Contents (Elt F)),
    reshape main_v5 main_v6 (rfl : (.f32 : EltTy) = .f32) shapeCasts_S4x4096x128_S4x4096x2x64,
    unary main_arg2 main_v7 (broadcastInDim S2x1x1x1024 ![0, 3] bcast_S2x1024_S2x1x1x1024_0_3 : (⟨S2x1024, .f32⟩ : BufTy).Contents (Elt F) → (⟨S2x1x1x1024, .f32⟩ : BufTy).Contents (Elt F)),
    unary main_v4 main_v8 (Host.tanh : (⟨S4x4096x2x64, .f32⟩ : BufTy).Contents (Elt F) → (⟨S4x4096x2x64, .f32⟩ : BufTy).Contents (Elt F)),
    binary main_v8 main_arg3 main_v9 ((fun l r => Host.dotGeneral dot_S4x4096x2x64_S2x64x1024_S2x4x4096x1024_3_1_01_2_2_0 none l r) : (⟨S4x4096x2x64, .f32⟩ : BufTy).Contents (Elt F) → (⟨S2x64x1024, .f32⟩ : BufTy).Contents (Elt F) → (⟨S2x4x4096x1024, .f32⟩ : BufTy).Contents (Elt F)),
    unary main_v7 main_v10 (broadcastInDim S2x4x4096x1024 ![0, 1, 2, 3] bcast_S2x1x1x1024_S2x4x4096x1024_0_1_2_3 : (⟨S2x1x1x1024, .f32⟩ : BufTy).Contents (Elt F) → (⟨S2x4x4096x1024, .f32⟩ : BufTy).Contents (Elt F)),
    binary main_v10 main_v9 main_v11 (addf : (⟨S2x4x4096x1024, .f32⟩ : BufTy).Contents (Elt F) → (⟨S2x4x4096x1024, .f32⟩ : BufTy).Contents (Elt F) → (⟨S2x4x4096x1024, .f32⟩ : BufTy).Contents (Elt F)),
    unary main_v11 main_v12 (Host.negf : (⟨S2x4x4096x1024, .f32⟩ : BufTy).Contents (Elt F) → (⟨S2x4x4096x1024, .f32⟩ : BufTy).Contents (Elt F)) ]

/-- The decays. -/
abbrev decayOps : List (HloOp τ sig (Elt F)) :=
  [ unary main_v13 main_v14 (Host.negf : (⟨S2x4x4096x1024, .f32⟩ : BufTy).Contents (Elt F) → (⟨S2x4x4096x1024, .f32⟩ : BufTy).Contents (Elt F)),
    nullary main_cst (constant S_ .f32 0x3F000000#32),
    unary main_cst main_v15 (broadcastInDim S2x4x4096x1024 ![] bcast_S_S2x4x4096x1024 : (⟨S_, .f32⟩ : BufTy).Contents (Elt F) → (⟨S2x4x4096x1024, .f32⟩ : BufTy).Contents (Elt F)),
    binary main_v14 main_v15 main_v16 (subf : (⟨S2x4x4096x1024, .f32⟩ : BufTy).Contents (Elt F) → (⟨S2x4x4096x1024, .f32⟩ : BufTy).Contents (Elt F) → (⟨S2x4x4096x1024, .f32⟩ : BufTy).Contents (Elt F)),
    unary main_v16 main_v17 (Host.exp : (⟨S2x4x4096x1024, .f32⟩ : BufTy).Contents (Elt F) → (⟨S2x4x4096x1024, .f32⟩ : BufTy).Contents (Elt F)),
    unary main_v17 main_v18 (Host.negf : (⟨S2x4x4096x1024, .f32⟩ : BufTy).Contents (Elt F) → (⟨S2x4x4096x1024, .f32⟩ : BufTy).Contents (Elt F)),
    unary main_v18 main_v19 (Host.exp : (⟨S2x4x4096x1024, .f32⟩ : BufTy).Contents (Elt F) → (⟨S2x4x4096x1024, .f32⟩ : BufTy).Contents (Elt F)) ]

/-- The rates. -/
abbrev rateOps : List (HloOp τ sig (Elt F)) :=
  [ unary main_arg4 main_v20 (broadcastInDim S2x1x1x1024 ![0, 3] bcast_S2x1024_S2x1x1x1024_0_3 : (⟨S2x1024, .f32⟩ : BufTy).Contents (Elt F) → (⟨S2x1x1x1024, .f32⟩ : BufTy).Contents (Elt F)),
    binary main_v6 main_arg5 main_v21 ((fun l r => Host.dotGeneral dot_S4x4096x2x64_S2x64x1024_S2x4x4096x1024_3_1_01_2_2_0 none l r) : (⟨S4x4096x2x64, .f32⟩ : BufTy).Contents (Elt F) → (⟨S2x64x1024, .f32⟩ : BufTy).Contents (Elt F) → (⟨S2x4x4096x1024, .f32⟩ : BufTy).Contents (Elt F)),
    unary main_v20 main_v22 (broadcastInDim S2x4x4096x1024 ![0, 1, 2, 3] bcast_S2x1x1x1024_S2x4x4096x1024_0_1_2_3 : (⟨S2x1x1x1024, .f32⟩ : BufTy).Contents (Elt F) → (⟨S2x4x4096x1024, .f32⟩ : BufTy).Contents (Elt F)),
    binary main_v22 main_v21 main_v23 (addf : (⟨S2x4x4096x1024, .f32⟩ : BufTy).Contents (Elt F) → (⟨S2x4x4096x1024, .f32⟩ : BufTy).Contents (Elt F) → (⟨S2x4x4096x1024, .f32⟩ : BufTy).Contents (Elt F)),
    unary main_v23 main_v24 (Host.negf : (⟨S2x4x4096x1024, .f32⟩ : BufTy).Contents (Elt F) → (⟨S2x4x4096x1024, .f32⟩ : BufTy).Contents (Elt F)),
    unary main_v24 main_v25 (Host.exp : (⟨S2x4x4096x1024, .f32⟩ : BufTy).Contents (Elt F) → (⟨S2x4x4096x1024, .f32⟩ : BufTy).Contents (Elt F)),
    nullary main_cst_0 (constant S_ .f32 0x3F800000#32),
    unary main_cst_0 main_v26 (broadcastInDim S2x4x4096x1024 ![] bcast_S_S2x4x4096x1024 : (⟨S_, .f32⟩ : BufTy).Contents (Elt F) → (⟨S2x4x4096x1024, .f32⟩ : BufTy).Contents (Elt F)),
    binary main_v26 main_v25 main_v27 (addf : (⟨S2x4x4096x1024, .f32⟩ : BufTy).Contents (Elt F) → (⟨S2x4x4096x1024, .f32⟩ : BufTy).Contents (Elt F) → (⟨S2x4x4096x1024, .f32⟩ : BufTy).Contents (Elt F)),
    nullary main_cst_1 (constant S_ .f32 0x3F800000#32),
    unary main_cst_1 main_v28 (broadcastInDim S2x4x4096x1024 ![] bcast_S_S2x4x4096x1024 : (⟨S_, .f32⟩ : BufTy).Contents (Elt F) → (⟨S2x4x4096x1024, .f32⟩ : BufTy).Contents (Elt F)),
    binary main_v28 main_v27 main_v29 (Host.divf : (⟨S2x4x4096x1024, .f32⟩ : BufTy).Contents (Elt F) → (⟨S2x4x4096x1024, .f32⟩ : BufTy).Contents (Elt F) → (⟨S2x4x4096x1024, .f32⟩ : BufTy).Contents (Elt F)) ]

/-- The removal keys. -/
abbrev unitOps : List (HloOp τ sig (Elt F)) :=
  [ unary main_arg6 main_v30 (broadcastInDim S1x1x1024 ![2] bcast_S1024_S1x1x1024_2 : (⟨S1024, .f32⟩ : BufTy).Contents (Elt F) → (⟨S1x1x1024, .f32⟩ : BufTy).Contents (Elt F)),
    unary main_v30 main_v31 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v1 main_v31 main_v32 (mulf : (⟨S4x4096x1024, .f32⟩ : BufTy).Contents (Elt F) → (⟨S4x4096x1024, .f32⟩ : BufTy).Contents (Elt F) → (⟨S4x4096x1024, .f32⟩ : BufTy).Contents (Elt F)),
    reshape main_v32 main_v33 (rfl : (.f32 : EltTy) = .f32) shapeCasts_S4x4096x1024_S4x4096x16x64,
    binary main_v33 main_v33 main_v34 (mulf : (⟨S4x4096x16x64, .f32⟩ : BufTy).Contents (Elt F) → (⟨S4x4096x16x64, .f32⟩ : BufTy).Contents (Elt F) → (⟨S4x4096x16x64, .f32⟩ : BufTy).Contents (Elt F)),
    nullary main_cst_2 (constant S_ .f32 0x00000000#32),
    binary main_v34 main_cst_2 main_v35 ((fun x v => Host.reduceAdd x v reducesTo_S4x4096x16x64_S4x4096x16_d3 h_S_) : (⟨S4x4096x16x64, .f32⟩ : BufTy).Contents (Elt F) → (⟨S_, .f32⟩ : BufTy).Contents (Elt F) → (⟨S4x4096x16, .f32⟩ : BufTy).Contents (Elt F)),
    unary main_v35 main_v36 (broadcastInDim S4x4096x16x1 ![0, 1, 2] bcast_S4x4096x16_S4x4096x16x1_0_1_2 : (⟨S4x4096x16, .f32⟩ : BufTy).Contents (Elt F) → (⟨S4x4096x16x1, .f32⟩ : BufTy).Contents (Elt F)),
    unary main_v36 main_v37 (Host.sqrt : (⟨S4x4096x16x1, .f32⟩ : BufTy).Contents (Elt F) → (⟨S4x4096x16x1, .f32⟩ : BufTy).Contents (Elt F)),
    nullary main_cst_3 (constant S_ .f32 0x2B8CBCCC#32),
    unary main_cst_3 main_v38 (broadcastInDim S4x4096x16x1 ![] bcast_S_S4x4096x16x1 : (⟨S_, .f32⟩ : BufTy).Contents (Elt F) → (⟨S4x4096x16x1, .f32⟩ : BufTy).Contents (Elt F)),
    binary main_v37 main_v38 main_v39 (maximumf : (⟨S4x4096x16x1, .f32⟩ : BufTy).Contents (Elt F) → (⟨S4x4096x16x1, .f32⟩ : BufTy).Contents (Elt F) → (⟨S4x4096x16x1, .f32⟩ : BufTy).Contents (Elt F)),
    unary main_v39 main_v40 (broadcastInDim S4x4096x16x64 ![0, 1, 2, 3] bcast_S4x4096x16x1_S4x4096x16x64_0_1_2_3 : (⟨S4x4096x16x1, .f32⟩ : BufTy).Contents (Elt F) → (⟨S4x4096x16x64, .f32⟩ : BufTy).Contents (Elt F)),
    binary main_v33 main_v40 main_v41 (Host.divf : (⟨S4x4096x16x64, .f32⟩ : BufTy).Contents (Elt F) → (⟨S4x4096x16x64, .f32⟩ : BufTy).Contents (Elt F) → (⟨S4x4096x16x64, .f32⟩ : BufTy).Contents (Elt F)),
    reshape main_v41 main_v42 (rfl : (.f32 : EltTy) = .f32) shapeCasts_S4x4096x16x64_S4x4096x1024 ]

/-- The written keys. -/
abbrev keyOps : List (HloOp τ sig (Elt F)) :=
  [ unary main_v1 main_v43 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    nullary main_cst_4 (constant S_ .f32 0x3F800000#32),
    unary main_cst_4 main_v44 (broadcastInDim S2x4x4096x1024 ![] bcast_S_S2x4x4096x1024 : (⟨S_, .f32⟩ : BufTy).Contents (Elt F) → (⟨S2x4x4096x1024, .f32⟩ : BufTy).Contents (Elt F)),
    binary main_v29 main_v44 main_v45 (subf : (⟨S2x4x4096x1024, .f32⟩ : BufTy).Contents (Elt F) → (⟨S2x4x4096x1024, .f32⟩ : BufTy).Contents (Elt F) → (⟨S2x4x4096x1024, .f32⟩ : BufTy).Contents (Elt F)),
    unary main_arg7 main_v46 (broadcastInDim S1x1x1x1024 ![3] bcast_S1024_S1x1x1x1024_3 : (⟨S1024, .f32⟩ : BufTy).Contents (Elt F) → (⟨S1x1x1x1024, .f32⟩ : BufTy).Contents (Elt F)),
    unary main_v46 main_v47 (broadcastInDim S2x4x4096x1024 ![0, 1, 2, 3] bcast_S1x1x1x1024_S2x4x4096x1024_0_1_2_3 : (⟨S1x1x1x1024, .f32⟩ : BufTy).Contents (Elt F) → (⟨S2x4x4096x1024, .f32⟩ : BufTy).Contents (Elt F)),
    binary main_v45 main_v47 main_v48 (mulf : (⟨S2x4x4096x1024, .f32⟩ : BufTy).Contents (Elt F) → (⟨S2x4x4096x1024, .f32⟩ : BufTy).Contents (Elt F) → (⟨S2x4x4096x1024, .f32⟩ : BufTy).Contents (Elt F)),
    nullary main_cst_5 (constant S_ .f32 0x3F800000#32),
    unary main_cst_5 main_v49 (broadcastInDim S2x4x4096x1024 ![] bcast_S_S2x4x4096x1024 : (⟨S_, .f32⟩ : BufTy).Contents (Elt F) → (⟨S2x4x4096x1024, .f32⟩ : BufTy).Contents (Elt F)),
    binary main_v49 main_v48 main_v50 (addf : (⟨S2x4x4096x1024, .f32⟩ : BufTy).Contents (Elt F) → (⟨S2x4x4096x1024, .f32⟩ : BufTy).Contents (Elt F) → (⟨S2x4x4096x1024, .f32⟩ : BufTy).Contents (Elt F)),
    unary main_v43 main_v51 (broadcastInDim S2x4x4096x1024 ![0, 1, 2, 3] bcast_S1x4x4096x1024_S2x4x4096x1024_0_1_2_3 : (⟨S1x4x4096x1024, .f32⟩ : BufTy).Contents (Elt F) → (⟨S2x4x4096x1024, .f32⟩ : BufTy).Contents (Elt F)),
    binary main_v51 main_v50 main_v52 (mulf : (⟨S2x4x4096x1024, .f32⟩ : BufTy).Contents (Elt F) → (⟨S2x4x4096x1024, .f32⟩ : BufTy).Contents (Elt F) → (⟨S2x4x4096x1024, .f32⟩ : BufTy).Contents (Elt F)) ]

/-- The replacement keys. -/
abbrev replaceOps : List (HloOp τ sig (Elt F)) :=
  [ unary main_v42 main_v53 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v53 main_v54 (broadcastInDim S2x4x4096x1024 ![0, 1, 2, 3] bcast_S1x4x4096x1024_S2x4x4096x1024_0_1_2_3 : (⟨S1x4x4096x1024, .f32⟩ : BufTy).Contents (Elt F) → (⟨S2x4x4096x1024, .f32⟩ : BufTy).Contents (Elt F)),
    binary main_v54 main_v29 main_v55 (mulf : (⟨S2x4x4096x1024, .f32⟩ : BufTy).Contents (Elt F) → (⟨S2x4x4096x1024, .f32⟩ : BufTy).Contents (Elt F) → (⟨S2x4x4096x1024, .f32⟩ : BufTy).Contents (Elt F)) ]

/-- The receptances in the order of the steps. -/
abbrev rOps : List (HloOp τ sig (Elt F)) :=
  [ unary main_v0 main_v56 (Host.reverse [1] : (⟨S4x4096x1024, .f32⟩ : BufTy).Contents (Elt F) → (⟨S4x4096x1024, .f32⟩ : BufTy).Contents (Elt F)),
    unary main_v0 main_v57 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v56 main_v58 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v57 main_v58 main_v59 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v59 main_v60 (rfl : (.f32 : EltTy) = .f32) shapeCasts_S2x4x4096x1024_S2x4x4096x16x64,
    unary main_v60 main_v61 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- The decays in the order of the steps. -/
abbrev wOps : List (HloOp τ sig (Elt F)) :=
  [ unary main_v19 main_v62 ((extractStridedSlice S1x4x4096x1024 ![0, 0, 0, 0] · slices_S2x4x4096x1024_S1x4x4096x1024_0_0_0_0) : (⟨S2x4x4096x1024, .f32⟩ : BufTy).Contents (Elt F) → (⟨S1x4x4096x1024, .f32⟩ : BufTy).Contents (Elt F)),
    reshape main_v62 main_v63 (rfl : (.f32 : EltTy) = .f32) shapeCasts_S1x4x4096x1024_S4x4096x1024,
    unary main_v19 main_v64 ((extractStridedSlice S1x4x4096x1024 ![1, 0, 0, 0] · slices_S2x4x4096x1024_S1x4x4096x1024_1_0_0_0) : (⟨S2x4x4096x1024, .f32⟩ : BufTy).Contents (Elt F) → (⟨S1x4x4096x1024, .f32⟩ : BufTy).Contents (Elt F)),
    reshape main_v64 main_v65 (rfl : (.f32 : EltTy) = .f32) shapeCasts_S1x4x4096x1024_S4x4096x1024,
    unary main_v65 main_v66 (Host.reverse [1] : (⟨S4x4096x1024, .f32⟩ : BufTy).Contents (Elt F) → (⟨S4x4096x1024, .f32⟩ : BufTy).Contents (Elt F)),
    unary main_v63 main_v67 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v66 main_v68 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v67 main_v68 main_v69 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v69 main_v70 (rfl : (.f32 : EltTy) = .f32) shapeCasts_S2x4x4096x1024_S2x4x4096x16x64,
    unary main_v70 main_v71 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- The keys in the order of the steps. -/
abbrev kOps : List (HloOp τ sig (Elt F)) :=
  [ unary main_v52 main_v72 ((extractStridedSlice S1x4x4096x1024 ![0, 0, 0, 0] · slices_S2x4x4096x1024_S1x4x4096x1024_0_0_0_0) : (⟨S2x4x4096x1024, .f32⟩ : BufTy).Contents (Elt F) → (⟨S1x4x4096x1024, .f32⟩ : BufTy).Contents (Elt F)),
    reshape main_v72 main_v73 (rfl : (.f32 : EltTy) = .f32) shapeCasts_S1x4x4096x1024_S4x4096x1024,
    unary main_v52 main_v74 ((extractStridedSlice S1x4x4096x1024 ![1, 0, 0, 0] · slices_S2x4x4096x1024_S1x4x4096x1024_1_0_0_0) : (⟨S2x4x4096x1024, .f32⟩ : BufTy).Contents (Elt F) → (⟨S1x4x4096x1024, .f32⟩ : BufTy).Contents (Elt F)),
    reshape main_v74 main_v75 (rfl : (.f32 : EltTy) = .f32) shapeCasts_S1x4x4096x1024_S4x4096x1024,
    unary main_v75 main_v76 (Host.reverse [1] : (⟨S4x4096x1024, .f32⟩ : BufTy).Contents (Elt F) → (⟨S4x4096x1024, .f32⟩ : BufTy).Contents (Elt F)),
    unary main_v73 main_v77 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v76 main_v78 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v77 main_v78 main_v79 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v79 main_v80 (rfl : (.f32 : EltTy) = .f32) shapeCasts_S2x4x4096x1024_S2x4x4096x16x64,
    unary main_v80 main_v81 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- The values in the order of the steps. -/
abbrev vOps : List (HloOp τ sig (Elt F)) :=
  [ unary main_v2 main_v82 (Host.reverse [1] : (⟨S4x4096x1024, .f32⟩ : BufTy).Contents (Elt F) → (⟨S4x4096x1024, .f32⟩ : BufTy).Contents (Elt F)),
    unary main_v2 main_v83 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v82 main_v84 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v83 main_v84 main_v85 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v85 main_v86 (rfl : (.f32 : EltTy) = .f32) shapeCasts_S2x4x4096x1024_S2x4x4096x16x64,
    unary main_v86 main_v87 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- The removal keys in the order of the steps. -/
abbrev kkOps : List (HloOp τ sig (Elt F)) :=
  [ unary main_v42 main_v88 (Host.reverse [1] : (⟨S4x4096x1024, .f32⟩ : BufTy).Contents (Elt F) → (⟨S4x4096x1024, .f32⟩ : BufTy).Contents (Elt F)),
    unary main_v42 main_v89 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v88 main_v90 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v89 main_v90 main_v91 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v91 main_v92 (rfl : (.f32 : EltTy) = .f32) shapeCasts_S2x4x4096x1024_S2x4x4096x16x64,
    unary main_v92 main_v93 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- The replacement keys in the order of the steps. -/
abbrev aOps : List (HloOp τ sig (Elt F)) :=
  [ unary main_v55 main_v94 ((extractStridedSlice S1x4x4096x1024 ![0, 0, 0, 0] · slices_S2x4x4096x1024_S1x4x4096x1024_0_0_0_0) : (⟨S2x4x4096x1024, .f32⟩ : BufTy).Contents (Elt F) → (⟨S1x4x4096x1024, .f32⟩ : BufTy).Contents (Elt F)),
    reshape main_v94 main_v95 (rfl : (.f32 : EltTy) = .f32) shapeCasts_S1x4x4096x1024_S4x4096x1024,
    unary main_v55 main_v96 ((extractStridedSlice S1x4x4096x1024 ![1, 0, 0, 0] · slices_S2x4x4096x1024_S1x4x4096x1024_1_0_0_0) : (⟨S2x4x4096x1024, .f32⟩ : BufTy).Contents (Elt F) → (⟨S1x4x4096x1024, .f32⟩ : BufTy).Contents (Elt F)),
    reshape main_v96 main_v97 (rfl : (.f32 : EltTy) = .f32) shapeCasts_S1x4x4096x1024_S4x4096x1024,
    unary main_v97 main_v98 (Host.reverse [1] : (⟨S4x4096x1024, .f32⟩ : BufTy).Contents (Elt F) → (⟨S4x4096x1024, .f32⟩ : BufTy).Contents (Elt F)),
    unary main_v95 main_v99 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v98 main_v100 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v99 main_v100 main_v101 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)),
    reshape main_v101 main_v102 (rfl : (.f32 : EltTy) = .f32) shapeCasts_S2x4x4096x1024_S2x4x4096x16x64,
    unary main_v102 main_v103 ((transpose S4096x2x4x16x64 [2, 0, 1, 3, 4] · transposes_S2x4x4096x16x64_S4096x2x4x16x64_2_0_1_3_4) : (⟨S2x4x4096x16x64, .f32⟩ : BufTy).Contents (Elt F) → (⟨S4096x2x4x16x64, .f32⟩ : BufTy).Contents (Elt F)) ]

/-- What the loop starts from. -/
abbrev zeroOps : List (HloOp τ sig (Elt F)) :=
  [ nullary main_cst_6 (constant S_ .f32 0x00000000#32),
    unary main_cst_6 main_v104 (broadcastInDim S2x4x16x64x64 ![] bcast_S_S2x4x16x64x64 : (⟨S_, .f32⟩ : BufTy).Contents (Elt F) → (⟨S2x4x16x64x64, .f32⟩ : BufTy).Contents (Elt F)),
    nullary main_cst_7 (constant S_ .f32 0x00000000#32),
    unary main_cst_7 main_v105 (broadcastInDim S4096x2x4x16x64 ![] bcast_S_S4096x2x4x16x64 : (⟨S_, .f32⟩ : BufTy).Contents (Elt F) → (⟨S4096x2x4x16x64, .f32⟩ : BufTy).Contents (Elt F)),
    nullary main_c (constantI S_ 32 0#32) ]

/-- The loop's operands. -/
abbrev startOps : List (HloOp τ sig (Elt F)) :=
  [ unary main_v61 main_v106_0 id,
    unary main_v71 main_v106_1 id,
    unary main_v81 main_v106_2 id,
    unary main_v87 main_v106_3 id,
    unary main_v93 main_v106_4 id,
    unary main_v103 main_v106_5 id,
    unary main_c main_v106_6 id,
    unary main_v104 main_v106_7 id,
    unary main_v105 main_v106_8 id ]

/-- The stretches before the loop. -/
abbrev preI : List (List (HloOp τ sig (Elt F))) := [logitOps, softOps (.of main_v12) main_call0, decayOps, rateOps, unitOps, keyOps, replaceOps, rOps, wOps, kOps, vOps, kkOps, aOps, zeroOps, startOps]

/-- The outputs, back in the order of the tokens. -/
abbrev backOps : List (HloOp τ sig (Elt F)) :=
  [ unary main_v106_8 main_v107 ((transpose S2x4x4096x16x64 [1, 2, 0, 3, 4] · transposes_S4096x2x4x16x64_S2x4x4096x16x64_1_2_0_3_4) : (⟨S4096x2x4x16x64, .f32⟩ : BufTy).Contents (Elt F) → (⟨S2x4x4096x16x64, .f32⟩ : BufTy).Contents (Elt F)),
    reshape main_v107 main_v108 (rfl : (.f32 : EltTy) = .f32) shapeCasts_S2x4x4096x16x64_S2x4x4096x1024,
    unary main_v108 main_v109 ((extractStridedSlice S1x4x4096x1024 ![0, 0, 0, 0] · slices_S2x4x4096x1024_S1x4x4096x1024_0_0_0_0) : (⟨S2x4x4096x1024, .f32⟩ : BufTy).Contents (Elt F) → (⟨S1x4x4096x1024, .f32⟩ : BufTy).Contents (Elt F)),
    reshape main_v109 main_v110 (rfl : (.f32 : EltTy) = .f32) shapeCasts_S1x4x4096x1024_S4x4096x1024,
    unary main_v108 main_v111 ((extractStridedSlice S1x4x4096x1024 ![1, 0, 0, 0] · slices_S2x4x4096x1024_S1x4x4096x1024_1_0_0_0) : (⟨S2x4x4096x1024, .f32⟩ : BufTy).Contents (Elt F) → (⟨S1x4x4096x1024, .f32⟩ : BufTy).Contents (Elt F)),
    reshape main_v111 main_v112 (rfl : (.f32 : EltTy) = .f32) shapeCasts_S1x4x4096x1024_S4x4096x1024,
    unary main_v112 main_v113 (Host.reverse [1] : (⟨S4x4096x1024, .f32⟩ : BufTy).Contents (Elt F) → (⟨S4x4096x1024, .f32⟩ : BufTy).Contents (Elt F)),
    unary main_v110 main_v114 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    unary main_v113 main_v115 (broadcastInDim S1x4x4096x1024 ![1, 2, 3] bcast_S4x4096x1024_S1x4x4096x1024_1_2_3 : (⟨S4x4096x1024, .f32⟩ : BufTy).Contents (Elt F) → (⟨S1x4x4096x1024, .f32⟩ : BufTy).Contents (Elt F)),
    binary main_v114 main_v115 main_v116 ((fun a b => concatenate S2x4x4096x1024 0 [⟨S1x4x4096x1024, a⟩, ⟨S1x4x4096x1024, b⟩] concatenates_S1x4x4096x1024_S1x4x4096x1024_S2x4x4096x1024_d0) : (⟨S1x4x4096x1024, .f32⟩ : BufTy).Contents (Elt F) → (⟨S1x4x4096x1024, .f32⟩ : BufTy).Contents (Elt F) → (⟨S2x4x4096x1024, .f32⟩ : BufTy).Contents (Elt F)) ]

/-- The norm, and the tokens' own contributions. -/
abbrev finishOps : List (HloOp τ sig (Elt F)) :=
  [ unary main_v116 main_v117 ((extractStridedSlice S1x4x4096x1024 ![0, 0, 0, 0] · slices_S2x4x4096x1024_S1x4x4096x1024_0_0_0_0) : (⟨S2x4x4096x1024, .f32⟩ : BufTy).Contents (Elt F) → (⟨S1x4x4096x1024, .f32⟩ : BufTy).Contents (Elt F)),
    reshape main_v117 main_v118 (rfl : (.f32 : EltTy) = .f32) shapeCasts_S1x4x4096x1024_S4x4096x1024,
    unary main_v116 main_v119 ((extractStridedSlice S1x4x4096x1024 ![1, 0, 0, 0] · slices_S2x4x4096x1024_S1x4x4096x1024_1_0_0_0) : (⟨S2x4x4096x1024, .f32⟩ : BufTy).Contents (Elt F) → (⟨S1x4x4096x1024, .f32⟩ : BufTy).Contents (Elt F)),
    reshape main_v119 main_v120 (rfl : (.f32 : EltTy) = .f32) shapeCasts_S1x4x4096x1024_S4x4096x1024,
    binary main_v118 main_v120 main_v121 (addf : (⟨S4x4096x1024, .f32⟩ : BufTy).Contents (Elt F) → (⟨S4x4096x1024, .f32⟩ : BufTy).Contents (Elt F) → (⟨S4x4096x1024, .f32⟩ : BufTy).Contents (Elt F)),
    reshape main_v121 main_v122 (rfl : (.f32 : EltTy) = .f32) shapeCasts_S4x4096x1024_S4x4096x16x64,
    nullary main_cst_8 (constant S_ .f32 0x00000000#32),
    binary main_v122 main_cst_8 main_v123 ((fun x v => Host.reduceAdd x v reducesTo_S4x4096x16x64_S4x4096x16_d3 h_S_) : (⟨S4x4096x16x64, .f32⟩ : BufTy).Contents (Elt F) → (⟨S_, .f32⟩ : BufTy).Contents (Elt F) → (⟨S4x4096x16, .f32⟩ : BufTy).Contents (Elt F)),
    unary main_v123 main_v124 (broadcastInDim S4x4096x16x1 ![0, 1, 2] bcast_S4x4096x16_S4x4096x16x1_0_1_2 : (⟨S4x4096x16, .f32⟩ : BufTy).Contents (Elt F) → (⟨S4x4096x16x1, .f32⟩ : BufTy).Contents (Elt F)),
    nullary main_cst_9 (constant S_ .f32 0x42800000#32),
    unary main_cst_9 main_v125 (broadcastInDim S4x4096x16x1 ![] bcast_S_S4x4096x16x1 : (⟨S_, .f32⟩ : BufTy).Contents (Elt F) → (⟨S4x4096x16x1, .f32⟩ : BufTy).Contents (Elt F)),
    binary main_v124 main_v125 main_v126 (Host.divf : (⟨S4x4096x16x1, .f32⟩ : BufTy).Contents (Elt F) → (⟨S4x4096x16x1, .f32⟩ : BufTy).Contents (Elt F) → (⟨S4x4096x16x1, .f32⟩ : BufTy).Contents (Elt F)),
    unary main_v126 main_v127 (broadcastInDim S4x4096x16x64 ![0, 1, 2, 3] bcast_S4x4096x16x1_S4x4096x16x64_0_1_2_3 : (⟨S4x4096x16x1, .f32⟩ : BufTy).Contents (Elt F) → (⟨S4x4096x16x64, .f32⟩ : BufTy).Contents (Elt F)),
    binary main_v122 main_v127 main_v128 (subf : (⟨S4x4096x16x64, .f32⟩ : BufTy).Contents (Elt F) → (⟨S4x4096x16x64, .f32⟩ : BufTy).Contents (Elt F) → (⟨S4x4096x16x64, .f32⟩ : BufTy).Contents (Elt F)),
    binary main_v128 main_v128 main_v129 (mulf : (⟨S4x4096x16x64, .f32⟩ : BufTy).Contents (Elt F) → (⟨S4x4096x16x64, .f32⟩ : BufTy).Contents (Elt F) → (⟨S4x4096x16x64, .f32⟩ : BufTy).Contents (Elt F)),
    nullary main_cst_10 (constant S_ .f32 0x00000000#32),
    binary main_v129 main_cst_10 main_v130 ((fun x v => Host.reduceAdd x v reducesTo_S4x4096x16x64_S4x4096x16_d3 h_S_) : (⟨S4x4096x16x64, .f32⟩ : BufTy).Contents (Elt F) → (⟨S_, .f32⟩ : BufTy).Contents (Elt F) → (⟨S4x4096x16, .f32⟩ : BufTy).Contents (Elt F)),
    unary main_v130 main_v131 (broadcastInDim S4x4096x16x1 ![0, 1, 2] bcast_S4x4096x16_S4x4096x16x1_0_1_2 : (⟨S4x4096x16, .f32⟩ : BufTy).Contents (Elt F) → (⟨S4x4096x16x1, .f32⟩ : BufTy).Contents (Elt F)),
    nullary main_cst_11 (constant S_ .f32 0x42800000#32),
    unary main_cst_11 main_v132 (broadcastInDim S4x4096x16x1 ![] bcast_S_S4x4096x16x1 : (⟨S_, .f32⟩ : BufTy).Contents (Elt F) → (⟨S4x4096x16x1, .f32⟩ : BufTy).Contents (Elt F)),
    binary main_v131 main_v132 main_v133 (Host.divf : (⟨S4x4096x16x1, .f32⟩ : BufTy).Contents (Elt F) → (⟨S4x4096x16x1, .f32⟩ : BufTy).Contents (Elt F) → (⟨S4x4096x16x1, .f32⟩ : BufTy).Contents (Elt F)),
    unary main_v126 main_v134 (broadcastInDim S4x4096x16x64 ![0, 1, 2, 3] bcast_S4x4096x16x1_S4x4096x16x64_0_1_2_3 : (⟨S4x4096x16x1, .f32⟩ : BufTy).Contents (Elt F) → (⟨S4x4096x16x64, .f32⟩ : BufTy).Contents (Elt F)),
    binary main_v122 main_v134 main_v135 (subf : (⟨S4x4096x16x64, .f32⟩ : BufTy).Contents (Elt F) → (⟨S4x4096x16x64, .f32⟩ : BufTy).Contents (Elt F) → (⟨S4x4096x16x64, .f32⟩ : BufTy).Contents (Elt F)),
    nullary main_cst_12 (constant S_ .f32 0x3A27C5AC#32),
    unary main_cst_12 main_v136 (broadcastInDim S4x4096x16x1 ![] bcast_S_S4x4096x16x1 : (⟨S_, .f32⟩ : BufTy).Contents (Elt F) → (⟨S4x4096x16x1, .f32⟩ : BufTy).Contents (Elt F)),
    binary main_v133 main_v136 main_v137 (addf : (⟨S4x4096x16x1, .f32⟩ : BufTy).Contents (Elt F) → (⟨S4x4096x16x1, .f32⟩ : BufTy).Contents (Elt F) → (⟨S4x4096x16x1, .f32⟩ : BufTy).Contents (Elt F)),
    unary main_v137 main_v138 (Host.rsqrt : (⟨S4x4096x16x1, .f32⟩ : BufTy).Contents (Elt F) → (⟨S4x4096x16x1, .f32⟩ : BufTy).Contents (Elt F)),
    unary main_v138 main_v139 (broadcastInDim S4x4096x16x64 ![0, 1, 2, 3] bcast_S4x4096x16x1_S4x4096x16x64_0_1_2_3 : (⟨S4x4096x16x1, .f32⟩ : BufTy).Contents (Elt F) → (⟨S4x4096x16x64, .f32⟩ : BufTy).Contents (Elt F)),
    binary main_v135 main_v139 main_v140 (mulf : (⟨S4x4096x16x64, .f32⟩ : BufTy).Contents (Elt F) → (⟨S4x4096x16x64, .f32⟩ : BufTy).Contents (Elt F) → (⟨S4x4096x16x64, .f32⟩ : BufTy).Contents (Elt F)),
    reshape main_v140 main_v141 (rfl : (.f32 : EltTy) = .f32) shapeCasts_S4x4096x16x64_S4x4096x1024,
    unary main_arg9 main_v142 (broadcastInDim S1x1x1024 ![2] bcast_S1024_S1x1x1024_2 : (⟨S1024, .f32⟩ : BufTy).Contents (Elt F) → (⟨S1x1x1024, .f32⟩ : BufTy).Contents (Elt F)),
    unary main_v142 main_v143 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v141 main_v143 main_v144 (mulf : (⟨S4x4096x1024, .f32⟩ : BufTy).Contents (Elt F) → (⟨S4x4096x1024, .f32⟩ : BufTy).Contents (Elt F) → (⟨S4x4096x1024, .f32⟩ : BufTy).Contents (Elt F)),
    unary main_arg10 main_v145 (broadcastInDim S1x1x1024 ![2] bcast_S1024_S1x1x1024_2 : (⟨S1024, .f32⟩ : BufTy).Contents (Elt F) → (⟨S1x1x1024, .f32⟩ : BufTy).Contents (Elt F)),
    unary main_v145 main_v146 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v144 main_v146 main_v147 (addf : (⟨S4x4096x1024, .f32⟩ : BufTy).Contents (Elt F) → (⟨S4x4096x1024, .f32⟩ : BufTy).Contents (Elt F) → (⟨S4x4096x1024, .f32⟩ : BufTy).Contents (Elt F)),
    reshape main_v0 main_v148 (rfl : (.f32 : EltTy) = .f32) shapeCasts_S4x4096x1024_S4x4096x16x64,
    reshape main_v2 main_v149 (rfl : (.f32 : EltTy) = .f32) shapeCasts_S4x4096x1024_S4x4096x16x64,
    unary main_v148 main_v150 (broadcastInDim S1x4x4096x16x64 ![1, 2, 3, 4] bcast_S4x4096x16x64_S1x4x4096x16x64_1_2_3_4 : (⟨S4x4096x16x64, .f32⟩ : BufTy).Contents (Elt F) → (⟨S1x4x4096x16x64, .f32⟩ : BufTy).Contents (Elt F)),
    reshape main_v52 main_v151 (rfl : (.f32 : EltTy) = .f32) shapeCasts_S2x4x4096x1024_S2x4x4096x16x64,
    unary main_v150 main_v152 (broadcastInDim S2x4x4096x16x64 ![0, 1, 2, 3, 4] bcast_S1x4x4096x16x64_S2x4x4096x16x64_0_1_2_3_4 : (⟨S1x4x4096x16x64, .f32⟩ : BufTy).Contents (Elt F) → (⟨S2x4x4096x16x64, .f32⟩ : BufTy).Contents (Elt F)),
    binary main_v152 main_v151 main_v153 (mulf : (⟨S2x4x4096x16x64, .f32⟩ : BufTy).Contents (Elt F) → (⟨S2x4x4096x16x64, .f32⟩ : BufTy).Contents (Elt F) → (⟨S2x4x4096x16x64, .f32⟩ : BufTy).Contents (Elt F)),
    unary main_arg8 main_v154 (broadcastInDim S2x1x1x16x64 ![0, 3, 4] bcast_S2x16x64_S2x1x1x16x64_0_3_4 : (⟨S2x16x64, .f32⟩ : BufTy).Contents (Elt F) → (⟨S2x1x1x16x64, .f32⟩ : BufTy).Contents (Elt F)),
    unary main_v154 main_v155 (broadcastInDim S2x4x4096x16x64 ![0, 1, 2, 3, 4] bcast_S2x1x1x16x64_S2x4x4096x16x64_0_1_2_3_4 : (⟨S2x1x1x16x64, .f32⟩ : BufTy).Contents (Elt F) → (⟨S2x4x4096x16x64, .f32⟩ : BufTy).Contents (Elt F)),
    binary main_v153 main_v155 main_v156 (mulf : (⟨S2x4x4096x16x64, .f32⟩ : BufTy).Contents (Elt F) → (⟨S2x4x4096x16x64, .f32⟩ : BufTy).Contents (Elt F) → (⟨S2x4x4096x16x64, .f32⟩ : BufTy).Contents (Elt F)),
    nullary main_cst_13 (constant S_ .f32 0x00000000#32),
    binary main_v156 main_cst_13 main_v157 ((fun x v => Host.reduceAdd x v reducesTo_S2x4x4096x16x64_S2x4x4096x16_d4 h_S_) : (⟨S2x4x4096x16x64, .f32⟩ : BufTy).Contents (Elt F) → (⟨S_, .f32⟩ : BufTy).Contents (Elt F) → (⟨S2x4x4096x16, .f32⟩ : BufTy).Contents (Elt F)),
    unary main_v157 main_v158 (broadcastInDim S2x4x4096x16x1 ![0, 1, 2, 3] bcast_S2x4x4096x16_S2x4x4096x16x1_0_1_2_3 : (⟨S2x4x4096x16, .f32⟩ : BufTy).Contents (Elt F) → (⟨S2x4x4096x16x1, .f32⟩ : BufTy).Contents (Elt F)),
    unary main_v149 main_v159 (broadcastInDim S1x4x4096x16x64 ![1, 2, 3, 4] bcast_S4x4096x16x64_S1x4x4096x16x64_1_2_3_4 : (⟨S4x4096x16x64, .f32⟩ : BufTy).Contents (Elt F) → (⟨S1x4x4096x16x64, .f32⟩ : BufTy).Contents (Elt F)),
    unary main_v158 main_v160 (broadcastInDim S2x4x4096x16x64 ![0, 1, 2, 3, 4] bcast_S2x4x4096x16x1_S2x4x4096x16x64_0_1_2_3_4 : (⟨S2x4x4096x16x1, .f32⟩ : BufTy).Contents (Elt F) → (⟨S2x4x4096x16x64, .f32⟩ : BufTy).Contents (Elt F)),
    unary main_v159 main_v161 (broadcastInDim S2x4x4096x16x64 ![0, 1, 2, 3, 4] bcast_S1x4x4096x16x64_S2x4x4096x16x64_0_1_2_3_4 : (⟨S1x4x4096x16x64, .f32⟩ : BufTy).Contents (Elt F) → (⟨S2x4x4096x16x64, .f32⟩ : BufTy).Contents (Elt F)),
    binary main_v160 main_v161 main_v162 (mulf : (⟨S2x4x4096x16x64, .f32⟩ : BufTy).Contents (Elt F) → (⟨S2x4x4096x16x64, .f32⟩ : BufTy).Contents (Elt F) → (⟨S2x4x4096x16x64, .f32⟩ : BufTy).Contents (Elt F)),
    nullary main_cst_14 (constant S_ .f32 0x00000000#32),
    binary main_v162 main_cst_14 main_v163 ((fun x v => Host.reduceAdd x v reducesTo_S2x4x4096x16x64_S4x4096x16x64_d0 h_S_) : (⟨S2x4x4096x16x64, .f32⟩ : BufTy).Contents (Elt F) → (⟨S_, .f32⟩ : BufTy).Contents (Elt F) → (⟨S4x4096x16x64, .f32⟩ : BufTy).Contents (Elt F)),
    reshape main_v163 main_v164 (rfl : (.f32 : EltTy) = .f32) shapeCasts_S4x4096x16x64_S4x4096x1024,
    binary main_v147 main_v164 main_v165 (addf : (⟨S4x4096x1024, .f32⟩ : BufTy).Contents (Elt F) → (⟨S4x4096x1024, .f32⟩ : BufTy).Contents (Elt F) → (⟨S4x4096x1024, .f32⟩ : BufTy).Contents (Elt F)) ]

theorem main_chain (c : Dev nD) : main (F := F) c = Pipeline.chain ((preI.map fun ops => (seq ops : Prog _ PUnit)) ++ HostLoop.enter 0 :: [backOps, finishOps].map fun ops => (seq ops : Prog _ PUnit)) := by
  chain_rfl

theorem body_chain : main_while0_body (F := F) = Pipeline.chain (bodyI.map fun ops => (seq ops : Prog _ PUnit)) := by
  chain_rfl

theorem pre_plain : Plain (preI (F := F)) :=
  .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) .nil

theorem body_plain : Plain (bodyI (F := F)) :=
  .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) <| .cons (by simp [List.Forall]) .nil

theorem post_plain : Plain ([backOps, finishOps] : List (List (HloOp τ sig (Elt F)))) :=
  .cons (by simp [List.Forall]) <| .cons (by simp [List.Forall]) .nil

/-! ## The counter -/

variable (V : Valuation τ sig (Elt F))

/-- A step's operations, with the condition's before them. -/
abbrev trip (V : Valuation τ sig (Elt F)) : Valuation τ sig (Elt F) := afterL bodyI (after condOps V)

set_option maxHeartbeats 1000000 in
/-- A step raises the counter by one. -/
theorem trip_counter : trip V (Proc.devRef .tc main_v106_6) = (addi (V (Proc.devRef .tc main_v106_6) : IVec S_ 32) (constantI S_ 32 1#32) : IVec S_ 32) := by
  unfold trip
  simp only [afterL_cons, afterL_nil]
  after_results_simp
  rfl

/-- What a step does not write stays: the arguments, and the arrays that the steps read. -/
theorem trip_kept (b : Ref sig .tc) (hb : b ∈ [main_arg0, main_arg1, main_arg2, main_arg3, main_arg4, main_arg5, main_arg6, main_arg7, main_arg8, main_arg9, main_arg10, main_v0, main_v2, main_v52, main_v106_0, main_v106_1, main_v106_2, main_v106_3, main_v106_4, main_v106_5]) :
    trip V (Proc.devRef .tc b) = V (Proc.devRef .tc b) := by
  unfold trip
  simp only [List.mem_cons, List.not_mem_nil, or_false] at hb
  rcases hb with rfl | rfl | rfl | rfl | rfl | rfl | rfl | rfl | rfl | rfl | rfl | rfl | rfl | rfl | rfl | rfl | rfl | rfl | rfl | rfl <;>
  · simp only [afterL_cons, afterL_nil]
    after_results_simp

/-! ## A step's values -/

/-- The start of step `i`'s slice. -/
def starts (i : IVec S_ 32) (k : Fin 5) : ℤ :=
  ((![i, constantI S_ 32 0#32, constantI S_ 32 0#32, constantI S_ 32 0#32, constantI S_ 32 0#32] : Fin 5 → IVec S_ 32) k (Shape.Idx.first h_S_)).toInt

/-- Step `i` of an array in the order of the steps. -/
def pick (x : FVec F S4096x2x4x16x64 .f32) (i : IVec S_ 32) : FVec F S2x4x16x64 .f32 :=
  shapeCast S2x4x16x64 (Host.dynamicSlice S1x2x4x16x64 x (starts i) sliceFits_S4096x2x4x16x64_S1x2x4x16x64) shapeCasts_S1x2x4x16x64_S2x4x16x64

/-- A state's products with a key. -/
def under (S : FVec F S2x4x16x64x64 .f32) (k : FVec F S2x4x16x64 .f32) : FVec F S2x4x16x64 .f32 :=
  Host.dotGeneral dot_S2x4x16x64x64_S2x4x16x64_S2x4x16x64_4_3_3_n_012_012 none S k

/-- A key, along every value lane. -/
def keyed (k : FVec F S2x4x16x64 .f32) : FVec F S2x4x16x64x64 .f32 :=
  broadcastInDim S2x4x16x64x64 ![0, 1, 2, 3, 4] bcast_S2x4x16x1x64_S2x4x16x64x64_0_1_2_3_4 (broadcastInDim S2x4x16x1x64 ![0, 1, 2, 4] bcast_S2x4x16x64_S2x4x16x1x64_0_1_2_4 k)

/-- A value, along every key lane. -/
def valued (v : FVec F S2x4x16x64 .f32) : FVec F S2x4x16x64x64 .f32 :=
  broadcastInDim S2x4x16x64x64 ![0, 1, 2, 3, 4] bcast_S2x4x16x64x1_S2x4x16x64x64_0_1_2_3_4 (broadcastInDim S2x4x16x64x1 ![0, 1, 2, 3] bcast_S2x4x16x64_S2x4x16x64x1_0_1_2_3 v)

/-- The state after a step. -/
def next (S : FVec F S2x4x16x64x64 .f32) (w k v kk a : FVec F S2x4x16x64 .f32) : FVec F S2x4x16x64x64 .f32 :=
  addf (subf (mulf S (keyed w)) (mulf (valued (under S kk)) (keyed a))) (mulf (valued v) (keyed k))

/-- The outputs with step `i`'s put in. -/
def put (y : FVec F S4096x2x4x16x64 .f32) (u : FVec F S2x4x16x64 .f32) (i : IVec S_ 32) : FVec F S4096x2x4x16x64 .f32 :=
  Host.dynamicUpdateSlice y (broadcastInDim S1x2x4x16x64 ![1, 2, 3, 4] bcast_S2x4x16x64_S1x2x4x16x64_1_2_3_4 u) (starts i) updateFits_S4096x2x4x16x64_S1x2x4x16x64

theorem pick0 : after (pickOps (.of main_v106_0) (.of main_v106_6) main_while0b_call1) V (Proc.devRef .tc main_while0b_v166) = pick (V (Proc.devRef .tc main_v106_0)) (V (Proc.devRef .tc main_v106_6)) := by
  after_results_simp_entrywise; rfl
theorem pick1 : after (pickOps (.of main_v106_1) (.of main_v106_6) main_while0b_call2) V (Proc.devRef .tc main_while0b_v167) = pick (V (Proc.devRef .tc main_v106_1)) (V (Proc.devRef .tc main_v106_6)) := by
  after_results_simp_entrywise; rfl
theorem pick2 : after (pickOps (.of main_v106_2) (.of main_v106_6) main_while0b_call3) V (Proc.devRef .tc main_while0b_v168) = pick (V (Proc.devRef .tc main_v106_2)) (V (Proc.devRef .tc main_v106_6)) := by
  after_results_simp_entrywise; rfl
theorem pick3 : after (pickOps (.of main_v106_3) (.of main_v106_6) main_while0b_call4) V (Proc.devRef .tc main_while0b_v169) = pick (V (Proc.devRef .tc main_v106_3)) (V (Proc.devRef .tc main_v106_6)) := by
  after_results_simp_entrywise; rfl
theorem pick4 : after (pickOps (.of main_v106_4) (.of main_v106_6) main_while0b_call5) V (Proc.devRef .tc main_while0b_v170) = pick (V (Proc.devRef .tc main_v106_4)) (V (Proc.devRef .tc main_v106_6)) := by
  after_results_simp_entrywise; rfl
theorem pick5 : after (pickOps (.of main_v106_5) (.of main_v106_6) main_while0b_call6) V (Proc.devRef .tc main_while0b_v171) = pick (V (Proc.devRef .tc main_v106_5)) (V (Proc.devRef .tc main_v106_6)) := by
  after_results_simp_entrywise; rfl

set_option maxHeartbeats 4000000 in
/-- A step's state. -/
theorem trip_state : trip V (Proc.devRef .tc main_v106_7) = next (V (Proc.devRef .tc main_v106_7)) (pick (V (Proc.devRef .tc main_v106_1)) (V (Proc.devRef .tc main_v106_6)))
    (pick (V (Proc.devRef .tc main_v106_2)) (V (Proc.devRef .tc main_v106_6))) (pick (V (Proc.devRef .tc main_v106_3)) (V (Proc.devRef .tc main_v106_6)))
    (pick (V (Proc.devRef .tc main_v106_4)) (V (Proc.devRef .tc main_v106_6))) (pick (V (Proc.devRef .tc main_v106_5)) (V (Proc.devRef .tc main_v106_6))) := by
  unfold trip
  simp only [afterL_cons, afterL_nil]
  after_results_simp_entrywise
  rfl

set_option maxHeartbeats 4000000 in
/-- A step's outputs. -/
theorem trip_out : trip V (Proc.devRef .tc main_v106_8) = put (V (Proc.devRef .tc main_v106_8))
    (under (next (V (Proc.devRef .tc main_v106_7)) (pick (V (Proc.devRef .tc main_v106_1)) (V (Proc.devRef .tc main_v106_6)))
      (pick (V (Proc.devRef .tc main_v106_2)) (V (Proc.devRef .tc main_v106_6))) (pick (V (Proc.devRef .tc main_v106_3)) (V (Proc.devRef .tc main_v106_6)))
      (pick (V (Proc.devRef .tc main_v106_4)) (V (Proc.devRef .tc main_v106_6))) (pick (V (Proc.devRef .tc main_v106_5)) (V (Proc.devRef .tc main_v106_6))))
      (pick (V (Proc.devRef .tc main_v106_0)) (V (Proc.devRef .tc main_v106_6)))) (V (Proc.devRef .tc main_v106_6)) := by
  unfold trip
  simp only [afterL_cons, afterL_nil]
  after_results_simp_entrywise
  rfl

/-! ## The loop's run -/

/-- The contents before trip `k`, from any contents at the loop's entry. -/
abbrev before (W : Dev nD → Valuation τ sig (Elt F)) (k : ℕ) (c : Dev nD) : Valuation τ sig (Elt F) := atTrip condOps bodyI W k c

theorem before_counter (W : Dev nD → Valuation τ sig (Elt F)) (hW : ∀ c, W c (Proc.devRef .tc main_v106_6) = (constantI S_ 32 0#32 : IVec S_ 32)) (c : Dev nD) :
    ∀ k : ℕ, before W k c (Proc.devRef .tc main_v106_6) = fun _ => Scf.iv (0#32) (1#32) k
  | 0 => (hW c).trans (funext fun _ => (Scf.iv_zero _ _).symm)
  | k + 1 => by
    refine (trip_counter (before W k c)).trans ?_
    rw [before_counter W hW c k]
    funext _
    exact (Scf.iv_succ _ _ _).symm

theorem cond_spec (W : Dev nD → Valuation τ sig (Elt F)) (hW : ∀ c, W c (Proc.devRef .tc main_v106_6) = (constantI S_ 32 0#32 : IVec S_ 32)) :
    CondSpec pcfgs defs₀ loops main_while0_cond condOps bodyI W 4096 := by
  intro k hk c bd
  have hctr := before_counter W hW c k
  unfold main_while0_cond
  simp only [bind_pure]
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  erw [HostLoop.elt_apply]
  rw [wp_ret]; imodintro
  isplitr
  · ipureintro
    show Iff (IntOp.cmpi .slt (HloOp.result _ (before W k c) main_v106_6 HostLoop.idx0)
        (HloOp.result _ (before W k c) main_while0c_c_23 HostLoop.idx0) = 1#1) (k < 4096)
    rw [StableHlo.nullary_result_ne _ _ _ _ (by decide), StableHlo.nullary_result, hctr]
    exact Scf.cmpi_slt_iv_ub_iff main_while0_ok (le_of_le_of_eq hk (by decide))
  isplitl [Hb]; · iexact Hb
  rw [StableHlo.after_cons, StableHlo.after_cons, StableHlo.after_nil]; iexact Hh

/-! ## Before the loop and after it -/

/-- A sequence's tokens in the order of the first direction's steps, and another's in the second's, by heads. -/
def ordered (x y : FVec F S4x4096x1024 .f32) : FVec F S4096x2x4x16x64 .f32 :=
  transpose S4096x2x4x16x64 [2, 0, 1, 3, 4]
    (shapeCast S2x4x4096x16x64
      (concatenate S2x4x4096x1024 0 [⟨S1x4x4096x1024, broadcastInDim S1x4x4096x1024 ![1, 2, 3] bcast_S4x4096x1024_S1x4x4096x1024_1_2_3 x⟩,
        ⟨S1x4x4096x1024, broadcastInDim S1x4x4096x1024 ![1, 2, 3] bcast_S4x4096x1024_S1x4x4096x1024_1_2_3 (Host.reverse [1] y)⟩]
        concatenates_S1x4x4096x1024_S1x4x4096x1024_S2x4x4096x1024_d0) shapeCasts_S2x4x4096x1024_S2x4x4096x16x64)
    transposes_S2x4x4096x16x64_S4096x2x4x16x64_2_0_1_3_4

/-- The directions of an array. -/
def forth (x : FVec F S2x4x4096x1024 .f32) : FVec F S4x4096x1024 .f32 :=
  shapeCast S4x4096x1024 (extractStridedSlice S1x4x4096x1024 ![0, 0, 0, 0] x slices_S2x4x4096x1024_S1x4x4096x1024_0_0_0_0) shapeCasts_S1x4x4096x1024_S4x4096x1024
def back (x : FVec F S2x4x4096x1024 .f32) : FVec F S4x4096x1024 .f32 :=
  shapeCast S4x4096x1024 (extractStridedSlice S1x4x4096x1024 ![1, 0, 0, 0] x slices_S2x4x4096x1024_S1x4x4096x1024_1_0_0_0) shapeCasts_S1x4x4096x1024_S4x4096x1024

/-- The outputs in the order of the tokens. -/
def unordered (y : FVec F S4096x2x4x16x64 .f32) : FVec F S2x4x4096x1024 .f32 :=
  let z := shapeCast S2x4x4096x1024 (transpose S2x4x4096x16x64 [1, 2, 0, 3, 4] y transposes_S4096x2x4x16x64_S2x4x4096x16x64_1_2_0_3_4) shapeCasts_S2x4x4096x16x64_S2x4x4096x1024
  concatenate S2x4x4096x1024 0 [⟨S1x4x4096x1024, broadcastInDim S1x4x4096x1024 ![1, 2, 3] bcast_S4x4096x1024_S1x4x4096x1024_1_2_3 (forth z)⟩,
    ⟨S1x4x4096x1024, broadcastInDim S1x4x4096x1024 ![1, 2, 3] bcast_S4x4096x1024_S1x4x4096x1024_1_2_3 (Host.reverse [1] (back z))⟩]
    concatenates_S1x4x4096x1024_S1x4x4096x1024_S2x4x4096x1024_d0

abbrev entry (V : Valuation τ sig (Elt F)) : Valuation τ sig (Elt F) := afterL preI V

theorem entry_r : entry V (Proc.devRef .tc main_v0) = receptance (V (Proc.devRef .tc main_arg0)) := by
  unfold entry; simp only [afterL_cons, afterL_nil]; after_results_simp; rfl
theorem entry_v : entry V (Proc.devRef .tc main_v2) = value (V (Proc.devRef .tc main_arg0)) := by
  unfold entry; simp only [afterL_cons, afterL_nil]; after_results_simp; rfl
theorem entry_k : entry V (Proc.devRef .tc main_v52) = written (key (V (Proc.devRef .tc main_arg0))) (rate (V (Proc.devRef .tc main_arg1)) (V (Proc.devRef .tc main_arg4)) (V (Proc.devRef .tc main_arg5))) (V (Proc.devRef .tc main_arg7)) := by
  unfold entry; simp only [afterL_cons, afterL_nil]; after_results_simp; rfl
theorem entry0 : entry V (Proc.devRef .tc main_v106_0) = ordered (receptance (V (Proc.devRef .tc main_arg0))) (receptance (V (Proc.devRef .tc main_arg0))) := by
  unfold entry; simp only [afterL_cons, afterL_nil]; after_results_simp; rfl
theorem entry1 : entry V (Proc.devRef .tc main_v106_1) = ordered (forth (Host.exp (logDecay (decayLogit (V (Proc.devRef .tc main_arg1)) (V (Proc.devRef .tc main_arg2)) (V (Proc.devRef .tc main_arg3)))))) (back (Host.exp (logDecay (decayLogit (V (Proc.devRef .tc main_arg1)) (V (Proc.devRef .tc main_arg2)) (V (Proc.devRef .tc main_arg3)))))) := by
  unfold entry; simp only [afterL_cons, afterL_nil]; after_results_simp_entrywise; rfl
theorem entry2 : entry V (Proc.devRef .tc main_v106_2) = ordered (forth (written (key (V (Proc.devRef .tc main_arg0))) (rate (V (Proc.devRef .tc main_arg1)) (V (Proc.devRef .tc main_arg4)) (V (Proc.devRef .tc main_arg5))) (V (Proc.devRef .tc main_arg7)))) (back (written (key (V (Proc.devRef .tc main_arg0))) (rate (V (Proc.devRef .tc main_arg1)) (V (Proc.devRef .tc main_arg4)) (V (Proc.devRef .tc main_arg5))) (V (Proc.devRef .tc main_arg7)))) := by
  unfold entry; simp only [afterL_cons, afterL_nil]; after_results_simp; rfl
theorem entry3 : entry V (Proc.devRef .tc main_v106_3) = ordered (value (V (Proc.devRef .tc main_arg0))) (value (V (Proc.devRef .tc main_arg0))) := by
  unfold entry; simp only [afterL_cons, afterL_nil]; after_results_simp; rfl
theorem entry4 : entry V (Proc.devRef .tc main_v106_4) = ordered (unit (scaled (key (V (Proc.devRef .tc main_arg0))) (V (Proc.devRef .tc main_arg6)))) (unit (scaled (key (V (Proc.devRef .tc main_arg0))) (V (Proc.devRef .tc main_arg6)))) := by
  unfold entry; simp only [afterL_cons, afterL_nil]; after_results_simp; rfl
theorem entry5 : entry V (Proc.devRef .tc main_v106_5) = ordered (forth (replacing (unit (scaled (key (V (Proc.devRef .tc main_arg0))) (V (Proc.devRef .tc main_arg6)))) (rate (V (Proc.devRef .tc main_arg1)) (V (Proc.devRef .tc main_arg4)) (V (Proc.devRef .tc main_arg5))))) (back (replacing (unit (scaled (key (V (Proc.devRef .tc main_arg0))) (V (Proc.devRef .tc main_arg6)))) (rate (V (Proc.devRef .tc main_arg1)) (V (Proc.devRef .tc main_arg4)) (V (Proc.devRef .tc main_arg5))))) := by
  unfold entry; simp only [afterL_cons, afterL_nil]; after_results_simp; rfl
theorem entry6 : entry V (Proc.devRef .tc main_v106_6) = (constantI S_ 32 0#32 : IVec S_ 32) := by
  unfold entry; simp only [afterL_cons, afterL_nil]; after_results_simp; rfl
theorem entry7 : entry V (Proc.devRef .tc main_v106_7) = broadcastInDim S2x4x16x64x64 ![] bcast_S_S2x4x16x64x64 (constant (F := F) S_ .f32 0x00000000#32) := by
  unfold entry; simp only [afterL_cons, afterL_nil]; after_results_simp; rfl
theorem entry8 : entry V (Proc.devRef .tc main_v106_8) = broadcastInDim S4096x2x4x16x64 ![] bcast_S_S4096x2x4x16x64 (constant (F := F) S_ .f32 0x00000000#32) := by
  unfold entry; simp only [afterL_cons, afterL_nil]; after_results_simp; rfl

theorem entry_args (b : Ref sig .tc) (hb : b ∈ [main_arg0, main_arg1, main_arg2, main_arg3, main_arg4, main_arg5, main_arg6, main_arg7, main_arg8, main_arg9, main_arg10]) :
    entry V (Proc.devRef .tc b) = V (Proc.devRef .tc b) := by
  unfold entry
  simp only [List.mem_cons, List.not_mem_nil, or_false] at hb
  rcases hb with rfl | rfl | rfl | rfl | rfl | rfl | rfl | rfl | rfl | rfl | rfl <;>
  · simp only [afterL_cons, afterL_nil]
    after_results_simp

theorem back_value : after backOps V (Proc.devRef .tc main_v116) = unordered (V (Proc.devRef .tc main_v106_8)) := by
  after_results_simp; rfl

set_option maxHeartbeats 4000000 in
theorem finish_value : after finishOps V (Proc.devRef .tc main_v165)
    = finish (V (Proc.devRef .tc main_v116)) (V (Proc.devRef .tc main_v0)) (V (Proc.devRef .tc main_v2)) (V (Proc.devRef .tc main_v52)) (V (Proc.devRef .tc main_arg8)) (V (Proc.devRef .tc main_arg9)) (V (Proc.devRef .tc main_arg10)) := by
  after_results_simp
  dsimp only [finish, groupNorm, Cert.Kernel5Ideal.Host.own, bothWays, mean, total, each, along, lanes]
  rfl

theorem exit_kept (b : Ref sig .tc) (hb : b ∈ [main_arg0, main_arg1, main_arg2, main_arg3, main_arg4, main_arg5, main_arg6, main_arg7, main_arg8, main_arg9, main_arg10, main_v0, main_v2, main_v52]) :
    after backOps (after condOps V) (Proc.devRef .tc b) = V (Proc.devRef .tc b) := by
  simp only [List.mem_cons, List.not_mem_nil, or_false] at hb
  rcases hb with rfl | rfl | rfl | rfl | rfl | rfl | rfl | rfl | rfl | rfl | rfl | rfl | rfl | rfl <;>
  · after_results_simp

theorem exit_out : after condOps V (Proc.devRef .tc main_v106_8) = V (Proc.devRef .tc main_v106_8) := by after_results_simp

/-- The result, from the contents after the steps. -/
theorem exit_value : afterL [backOps, finishOps] (after condOps V) (Proc.devRef .tc main_v165) = finish (unordered (V (Proc.devRef .tc main_v106_8))) (V (Proc.devRef .tc main_v0)) (V (Proc.devRef .tc main_v2)) (V (Proc.devRef .tc main_v52)) (V (Proc.devRef .tc main_arg8)) (V (Proc.devRef .tc main_arg9)) (V (Proc.devRef .tc main_arg10)) := by
  simp only [afterL_cons, afterL_nil]
  refine (finish_value _).trans ?_
  rw [back_value, exit_out, exit_kept V main_v0 (by simp), exit_kept V main_v2 (by simp), exit_kept V main_v52 (by simp), exit_kept V main_arg8 (by simp),
    exit_kept V main_arg9 (by simp), exit_kept V main_arg10 (by simp)]

theorem exit_args (b : Ref sig .tc) (hb : b ∈ [main_arg0, main_arg1, main_arg2, main_arg3, main_arg4, main_arg5, main_arg6, main_arg7, main_arg8, main_arg9, main_arg10]) :
    afterL [backOps, finishOps] (after condOps V) (Proc.devRef .tc b) = V (Proc.devRef .tc b) := by
  simp only [List.mem_cons, List.not_mem_nil, or_false] at hb
  rcases hb with rfl | rfl | rfl | rfl | rfl | rfl | rfl | rfl | rfl | rfl | rfl <;>
  · simp only [afterL_cons, afterL_nil]
    after_results_simp

theorem before_args (W : Dev nD → Valuation τ sig (Elt F)) (c : Dev nD) (b : Ref sig .tc)
    (hb : b ∈ [main_arg0, main_arg1, main_arg2, main_arg3, main_arg4, main_arg5, main_arg6, main_arg7, main_arg8, main_arg9, main_arg10, main_v0, main_v2, main_v52, main_v106_0, main_v106_1, main_v106_2, main_v106_3, main_v106_4, main_v106_5]) :
    ∀ k, before W k c (Proc.devRef .tc b) = W c (Proc.devRef .tc b)
  | 0 => rfl
  | k + 1 => (trip_kept (before W k c) b hb).trans (before_args W c b hb k)

/-- The whole run: the result is the norm of the outputs after the 4096 steps and the tokens' own contributions, and the arguments are
    unchanged. -/
theorem run [∀ e, Nonempty (Elt F e)] (m : (ℓ : Loc nD τ sig) → Buf (Elt F) ℓ) (ρ : Dev nD → PrngReg) :
    θ_run (defs (F := F)) (onTc (τ := τ) main) ⟨m, fun _ => 0, ρ⟩ fun r => ∀ c : Dev nD,
      r.2.mem ((c.tc : Thread nD τ).loc main_v165)
        = finish (F := F) (unordered (before (entryContents preI m) 4096 c (Proc.devRef .tc main_v106_8))) (receptance (m ((c.tc : Thread nD τ).loc main_arg0))) (value (m ((c.tc : Thread nD τ).loc main_arg0)))
            (written (key (m ((c.tc : Thread nD τ).loc main_arg0))) (rate (m ((c.tc : Thread nD τ).loc main_arg1)) (m ((c.tc : Thread nD τ).loc main_arg4)) (m ((c.tc : Thread nD τ).loc main_arg5))) (m ((c.tc : Thread nD τ).loc main_arg7))) (m ((c.tc : Thread nD τ).loc main_arg8)) (m ((c.tc : Thread nD τ).loc main_arg9)) (m ((c.tc : Thread nD τ).loc main_arg10)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) := by
  have kept : ∀ (c : Dev nD) (b : Ref sig .tc), b ∈ [main_arg0, main_arg1, main_arg2, main_arg3, main_arg4, main_arg5, main_arg6, main_arg7, main_arg8, main_arg9, main_arg10, main_v0, main_v2, main_v52, main_v106_0, main_v106_1, main_v106_2, main_v106_3, main_v106_4, main_v106_5] →
      before (entryContents preI m) 4096 c (Proc.devRef .tc b) = entry (launchContents m c) (Proc.devRef .tc b) := fun c b hb =>
    before_args (entryContents preI m) c b hb 4096
  have stays : ∀ c : Dev nD, ∀ b ∈ [main_arg0, main_arg1, main_arg2, main_arg3, main_arg4, main_arg5, main_arg6, main_arg7, main_arg8, main_arg9, main_arg10],
      finalContents condOps preI bodyI [backOps, finishOps] 4096 m c (Proc.devRef .tc b) = m ((c.tc : Thread nD τ).loc b) := fun c b hb =>
    (exit_args _ b hb).trans ((kept c b (List.mem_append_left [main_v0, main_v2, main_v52, main_v106_0, main_v106_1, main_v106_2, main_v106_3, main_v106_4, main_v106_5] hb)).trans
      (entry_args (launchContents m c) b hb))
  have result : ∀ c : Dev nD, finalContents condOps preI bodyI [backOps, finishOps] 4096 m c (Proc.devRef .tc main_v165)
      = finish (F := F) (unordered (before (entryContents preI m) 4096 c (Proc.devRef .tc main_v106_8))) (receptance (m ((c.tc : Thread nD τ).loc main_arg0))) (value (m ((c.tc : Thread nD τ).loc main_arg0)))
          (written (key (m ((c.tc : Thread nD τ).loc main_arg0))) (rate (m ((c.tc : Thread nD τ).loc main_arg1)) (m ((c.tc : Thread nD τ).loc main_arg4)) (m ((c.tc : Thread nD τ).loc main_arg5))) (m ((c.tc : Thread nD τ).loc main_arg7))) (m ((c.tc : Thread nD τ).loc main_arg8)) (m ((c.tc : Thread nD τ).loc main_arg9)) (m ((c.tc : Thread nD τ).loc main_arg10)) := fun c => by
    refine (exit_value (before (entryContents preI m) 4096 c)).trans ?_
    rw [kept c main_v0 (by simp), kept c main_v2 (by simp), kept c main_v52 (by simp), kept c main_arg8 (by simp), kept c main_arg9 (by simp), kept c main_arg10 (by simp),
      entry_r, entry_v, entry_k, entry_args _ main_arg8 (by simp), entry_args _ main_arg9 (by simp), entry_args _ main_arg10 (by simp)]
  refine (θ_run (defs (F := F)) _ _).mono (fun r h c => ⟨(h c main_v165 (by decide)).trans (result c), ?_, ?_, ?_, ?_, ?_, ?_, ?_, ?_, ?_, ?_, ?_⟩)
    (run_loop pcfgs defs₀ loops main 0 main_while0_cond main_while0_body rfl preI bodyI [backOps, finishOps] condOps pre_plain body_plain post_plain main_chain
      body_chain 4096 m ρ (cond_spec _ fun c => entry6 (launchContents m c)))
  all_goals exact (h c _ (by decide)).trans (stays c _ (by simp))

end Cert.Reference5Ideal.Wkv

end
-- ==== Proof.WkvReference.lean ====
/- The plain recurrence read entry by entry: after each step its states and outputs are those of the recurrence on the reals, so its
   run ends with the same function of the arguments as the kernel's. -/
module

public import proofs.«01_k».proof.Proof.WkvLoop
public import proofs.«01_k».proof.Proof.WkvRun
public import Idealize.ShloMosaic.Lib.DynamicIndex
public import Idealize.ShloMosaic.Lib.Pipeline.Value

@[expose] public section

set_option maxRecDepth 16384

noncomputable section

namespace Cert.Reference5Ideal.Wkv

open Cert.Reference5Ideal Cert.Reference5Ideal.Gen
open Idealize.ShloMosaic Idealize.ShloMosaic.TcCoe Idealize.SL.Sem Idealize.ShloMosaic.StableHlo
open Cert.Recurrence (Finite Inputs inputs lane token number state state_succ readout headOf within out result token_number)
open Cert.Kernel5Ideal.Val (coe_sum)
open Cert.Kernel5Ideal.Host hiding entry

/-! ## The order of the steps -/

theorem turned (y : FVec Ideal S4x4096x1024 .f32) (b : Fin 4) (T : Fin 4096) (l : Fin 1024) : Host.reverse [1] y (ix3 b T l) = y (ix3 b T.rev l) := by
  pointwise
  simp

theorem joined (x y : FVec Ideal S4x4096x1024 .f32) (d : Fin 2) (b : Fin 4) (T : Fin 4096) (l : Fin 1024) :
    concatenate S2x4x4096x1024 0 [⟨S1x4x4096x1024, broadcastInDim S1x4x4096x1024 ![1, 2, 3] bcast_S4x4096x1024_S1x4x4096x1024_1_2_3 x⟩,
        ⟨S1x4x4096x1024, broadcastInDim S1x4x4096x1024 ![1, 2, 3] bcast_S4x4096x1024_S1x4x4096x1024_1_2_3 y⟩]
        concatenates_S1x4x4096x1024_S1x4x4096x1024_S2x4x4096x1024_d0 (ix4 d b T l) = (if d = 0 then x else y) (ix3 b T l) := by
  pointwise
  match d with
  | 0 => rfl
  | 1 => rfl

theorem split (z : FVec Ideal S2x4x4096x1024 .f32) (d : Fin 2) (b : Fin 4) (T : Fin 4096) (h : Fin 16) (e : Fin 64) :
    shapeCast S2x4x4096x16x64 z shapeCasts_S2x4x4096x1024_S2x4x4096x16x64 (ix5 d b T h e) = z (ix4 d b T (lane h e)) := by
  pointwise
  exact congrArg (fun l => z (ix4 d b T l)) (Fin.ext (by show h.val * 64 + e.val = 64 * h.val + e.val; omega))

theorem merged (z : FVec Ideal S2x4x4096x16x64 .f32) (d : Fin 2) (b : Fin 4) (T : Fin 4096) (l : Fin 1024) :
    shapeCast S2x4x4096x1024 z shapeCasts_S2x4x4096x16x64_S2x4x4096x1024 (ix4 d b T l) = z (ix5 d b T (headOf l) (within l)) := by
  pointwise
  rfl

theorem forth_apply (x : FVec Ideal S2x4x4096x1024 .f32) (b : Fin 4) (T : Fin 4096) (l : Fin 1024) : forth x (ix3 b T l) = x (ix4 0 b T l) := by
  pointwise [forth]
  done

theorem back_apply (x : FVec Ideal S2x4x4096x1024 .f32) (b : Fin 4) (T : Fin 4096) (l : Fin 1024) : back x (ix3 b T l) = x (ix4 1 b T l) := by
  pointwise [back]
  done

theorem places_in (z : FVec Ideal S2x4x4096x16x64 .f32) (n : Fin 4096) (d : Fin 2) (b : Fin 4) (h : Fin 16) (e : Fin 64) :
    transpose S4096x2x4x16x64 [2, 0, 1, 3, 4] z transposes_S2x4x4096x16x64_S4096x2x4x16x64_2_0_1_3_4 (ix5 n d b h e) = z (ix5 d b n h e) := by
  pointwise
  done

theorem places_out (z : FVec Ideal S4096x2x4x16x64 .f32) (d : Fin 2) (b : Fin 4) (T : Fin 4096) (h : Fin 16) (e : Fin 64) :
    transpose S2x4x4096x16x64 [1, 2, 0, 3, 4] z transposes_S4096x2x4x16x64_S2x4x4096x16x64_1_2_0_3_4 (ix5 d b T h e) = z (ix5 T d b h e) := by
  pointwise
  done

theorem token_eq (d : Fin 2) (n : Fin 4096) : token d n.val = if d = 0 then n else n.rev := Fin.ext (by
  have := n.isLt
  unfold token
  split_ifs
  · show n.val % 4096 = n.val; omega
  · show (4095 - n.val) % 4096 = 4096 - (n.val + 1); omega)

theorem ordered_apply (x y : FVec Ideal S4x4096x1024 .f32) (n : Fin 4096) (d : Fin 2) (b : Fin 4) (h : Fin 16) (e : Fin 64) :
    ordered x y (ix5 n d b h e) = (if d = 0 then x else y) (ix3 b (token d n.val) (lane h e)) := by
  unfold ordered
  refine (places_in _ n d b h e).trans ((split _ d b n h e).trans ((joined x (Host.reverse [1] y) d b n (lane h e)).trans ?_))
  rw [token_eq]
  split_ifs
  · rfl
  · exact turned y b n (lane h e)

theorem number_lt (d : Fin 2) (T : Fin 4096) : number d T < 4096 := by
  have := T.isLt
  unfold number
  split_ifs <;> omega

theorem unordered_apply (y : FVec Ideal S4096x2x4x16x64 .f32) (d : Fin 2) (b : Fin 4) (T : Fin 4096) (l : Fin 1024) :
    unordered y (ix4 d b T l) = y (ix5 ⟨number d T, number_lt d T⟩ d b (headOf l) (within l)) := by
  unfold unordered
  refine (joined _ _ d b T l).trans ?_
  match d with
  | 0 => exact (forth_apply _ b T l).trans ((merged _ 0 b T l).trans (places_out y 0 b T (headOf l) (within l)))
  | 1 =>
    refine (turned _ b T l).trans ((back_apply _ b T.rev l).trans ((merged _ 1 b T.rev l).trans ((places_out y 1 b T.rev (headOf l) (within l)).trans ?_)))
    exact congrArg (fun n => y (ix5 n 1 b (headOf l) (within l))) (Fin.ext (by show 4096 - (T.val + 1) = 4095 - T.val; omega))

/-! ## A step's values -/

theorem under_apply (S : FVec Ideal S2x4x16x64x64 .f32) (k : FVec Ideal S2x4x16x64 .f32) (d : Fin 2) (b : Fin 4) (h : Fin 16) (e : Fin 64) :
    under S k (ix4 d b h e) = ∑ l : Fin 64, S (ix5 d b h e l) * k (ix4 d b h l) := by
  pointwise [under]
  done

theorem next_apply (S : FVec Ideal S2x4x16x64x64 .f32) (w k v kk a : FVec Ideal S2x4x16x64 .f32) (d : Fin 2) (b : Fin 4) (h : Fin 16) (e l : Fin 64) :
    next S w k v kk a (ix5 d b h e l) = S (ix5 d b h e l) * w (ix4 d b h l) - (∑ i : Fin 64, S (ix5 d b h e i) * kk (ix4 d b h i)) * a (ix4 d b h l)
      + v (ix4 d b h e) * k (ix4 d b h l) := by
  pointwise [next, keyed, valued, under_apply]
  done

/-- The counter before step `n`. -/
abbrev counter (n : ℕ) : IVec S_ 32 := fun _ => Scf.iv (0#32) (1#32) n

theorem starts_eq (n : ℕ) (hn : n < 4096) (k : Fin 5) : starts (counter n) k = (((![n, 0, 0, 0, 0] : Fin 5 → ℕ) k : ℕ) : ℤ) := by
  fin_cases k
  · show (Scf.iv (0#32) (1#32) n).toInt = (n : ℤ)
    have h : Scf.iv (0#32) (1#32) n = BitVec.ofNat 32 n := by unfold Scf.iv; rw [BitVec.mul_one, BitVec.zero_add]
    have h' : (BitVec.ofNat 32 n).toNat = n := by rw [BitVec.toNat_ofNat]; omega
    rw [h, BitVec.toInt_eq_toNat_of_lt (by rw [h']; omega), h']
  all_goals rfl

theorem fits (n : Fin 4096) : S4096x2x4x16x64.Slices (![n.val, 0, 0, 0, 0] : Fin 5 → ℕ) S1x2x4x16x64 :=
  ⟨rfl, fun a => by have := n.isLt; fin_cases a <;> simp [S4096x2x4x16x64, S1x2x4x16x64, Shape.size] <;> omega⟩

theorem pick_apply (x : FVec Ideal S4096x2x4x16x64 .f32) (n : Fin 4096) (d : Fin 2) (b : Fin 4) (h : Fin 16) (e : Fin 64) :
    pick x (counter n.val) (ix4 d b h e) = x (ix5 n d b h e) := by
  unfold pick
  rw [Host.dynamicSlice_eq_extractStridedSlice S1x2x4x16x64 x _ ![n.val, 0, 0, 0, 0] sliceFits_S4096x2x4x16x64_S1x2x4x16x64 (fits n) (starts_eq n.val n.isLt)]
  pointwise

theorem put_apply (y : FVec Ideal S4096x2x4x16x64 .f32) (u : FVec Ideal S2x4x16x64 .f32) (n n' : Fin 4096) (d : Fin 2) (b : Fin 4) (h : Fin 16) (e : Fin 64) :
    put y u (counter n.val) (ix5 n' d b h e) = if n' = n then u (ix4 d b h e) else y (ix5 n' d b h e) := by
  unfold put
  rw [Host.dynamicUpdateSlice_eq_updateSlice y _ _ updateFits_S4096x2x4x16x64_S1x2x4x16x64 ![n.val, 0, 0, 0, 0]
    (fun a => by have := (fits n).2 a; rw [starts_eq n.val n.isLt]; omega) (fits n)]
  pointwise
  by_cases hn : n' = n
  · subst hn
    rw [if_pos rfl, dif_pos ⟨le_refl _, Nat.lt_succ_self _⟩]
  · rw [if_neg hn, dif_neg fun h => hn (Fin.ext (by omega))]

/-! ## The values before a step -/

variable (m : (ℓ : Loc nD τ sig) → Buf (Elt Ideal) ℓ) (c : Dev nD)

/-- The receptances, keys and values and the written keys' scales are real numbers. -/
structure AllReal : Prop where
  h0 : Finite (m ((c.tc : Thread nD τ).loc main_arg0) : S4x4096x3072.Idx → EReal)
  h7 : Finite (m ((c.tc : Thread nD τ).loc main_arg7) : S1024.Idx → EReal)

/-- The recurrence's inputs, from the arguments. -/
def given : Inputs :=
  Cert.Kernel5Ideal.Val.given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The contents before step `k`. -/
abbrev held (k : ℕ) : Valuation τ sig (Elt Ideal) := before (entryContents preI m) k c

theorem held_counter (k : ℕ) : held m c k (Proc.devRef .tc main_v106_6) = counter k :=
  before_counter (entryContents preI m) (fun c => entry6 (launchContents m c)) c k

theorem held_r (k : ℕ) : held m c k (Proc.devRef .tc main_v106_0) = ordered (F := Ideal) (receptance (F := Ideal) (m ((c.tc : Thread nD τ).loc main_arg0))) (receptance (F := Ideal) (m ((c.tc : Thread nD τ).loc main_arg0))) :=
  (before_args _ c main_v106_0 (by simp) k).trans (entry0 (launchContents m c))
theorem held_w (k : ℕ) : held m c k (Proc.devRef .tc main_v106_1) = ordered (F := Ideal) (forth (Host.exp (F := Ideal) (logDecay (decayLogit (m ((c.tc : Thread nD τ).loc main_arg1)) (m ((c.tc : Thread nD τ).loc main_arg2)) (m ((c.tc : Thread nD τ).loc main_arg3)))))) (back (Host.exp (F := Ideal) (logDecay (decayLogit (m ((c.tc : Thread nD τ).loc main_arg1)) (m ((c.tc : Thread nD τ).loc main_arg2)) (m ((c.tc : Thread nD τ).loc main_arg3)))))) :=
  (before_args _ c main_v106_1 (by simp) k).trans (entry1 (launchContents m c))
theorem held_k (k : ℕ) : held m c k (Proc.devRef .tc main_v106_2) = ordered (F := Ideal) (forth (written (F := Ideal) (key (m ((c.tc : Thread nD τ).loc main_arg0))) (rate (F := Ideal) (m ((c.tc : Thread nD τ).loc main_arg1)) (m ((c.tc : Thread nD τ).loc main_arg4)) (m ((c.tc : Thread nD τ).loc main_arg5))) (m ((c.tc : Thread nD τ).loc main_arg7)))) (back (written (F := Ideal) (key (m ((c.tc : Thread nD τ).loc main_arg0))) (rate (F := Ideal) (m ((c.tc : Thread nD τ).loc main_arg1)) (m ((c.tc : Thread nD τ).loc main_arg4)) (m ((c.tc : Thread nD τ).loc main_arg5))) (m ((c.tc : Thread nD τ).loc main_arg7)))) :=
  (before_args _ c main_v106_2 (by simp) k).trans (entry2 (launchContents m c))
theorem held_v (k : ℕ) : held m c k (Proc.devRef .tc main_v106_3) = ordered (F := Ideal) (value (F := Ideal) (m ((c.tc : Thread nD τ).loc main_arg0))) (value (F := Ideal) (m ((c.tc : Thread nD τ).loc main_arg0))) :=
  (before_args _ c main_v106_3 (by simp) k).trans (entry3 (launchContents m c))
theorem held_kk (k : ℕ) : held m c k (Proc.devRef .tc main_v106_4) = ordered (F := Ideal) (unit (F := Ideal) (scaled (key (m ((c.tc : Thread nD τ).loc main_arg0))) (m ((c.tc : Thread nD τ).loc main_arg6)))) (unit (F := Ideal) (scaled (key (m ((c.tc : Thread nD τ).loc main_arg0))) (m ((c.tc : Thread nD τ).loc main_arg6)))) :=
  (before_args _ c main_v106_4 (by simp) k).trans (entry4 (launchContents m c))
theorem held_a (k : ℕ) : held m c k (Proc.devRef .tc main_v106_5) = ordered (F := Ideal) (forth (replacing (F := Ideal) (unit (F := Ideal) (scaled (key (m ((c.tc : Thread nD τ).loc main_arg0))) (m ((c.tc : Thread nD τ).loc main_arg6)))) (rate (F := Ideal) (m ((c.tc : Thread nD τ).loc main_arg1)) (m ((c.tc : Thread nD τ).loc main_arg4)) (m ((c.tc : Thread nD τ).loc main_arg5))))) (back (replacing (F := Ideal) (unit (F := Ideal) (scaled (key (m ((c.tc : Thread nD τ).loc main_arg0))) (m ((c.tc : Thread nD τ).loc main_arg6)))) (rate (F := Ideal) (m ((c.tc : Thread nD τ).loc main_arg1)) (m ((c.tc : Thread nD τ).loc main_arg4)) (m ((c.tc : Thread nD τ).loc main_arg5))))) :=
  (before_args _ c main_v106_5 (by simp) k).trans (entry5 (launchContents m c))

/-- An array of both directions, in the order of the steps. -/
theorem both (x : FVec Ideal S2x4x4096x1024 .f32) (n : Fin 4096) (d : Fin 2) (b : Fin 4) (h : Fin 16) (e : Fin 64) :
    ordered (forth x) (back x) (ix5 n d b h e) = x (ix4 d b (token d n.val) (lane h e)) := by
  rw [ordered_apply]
  match d with
  | 0 => exact forth_apply x b _ _
  | 1 => exact back_apply x b _ _

/-- One array, in the order of the steps of both directions. -/
theorem same (x : FVec Ideal S4x4096x1024 .f32) (n : Fin 4096) (d : Fin 2) (b : Fin 4) (h : Fin 16) (e : Fin 64) :
    ordered x x (ix5 n d b h e) = x (ix3 b (token d n.val) (lane h e)) := by
  rw [ordered_apply, ite_self]

variable {m c}
variable (hx : AllReal m c) (n : Fin 4096) (d : Fin 2) (b : Fin 4) (h : Fin 16)
include hx

theorem step_r (e : Fin 64) : pick (F := Ideal) (held m c n.val (Proc.devRef .tc main_v106_0)) (held m c n.val (Proc.devRef .tc main_v106_6)) (ix4 d b h e)
    = (((given m c).r b (token d n.val) (lane h e) : ℝ) : EReal) := by
  rw [held_counter, held_r, pick_apply, same]
  exact receptance_real hx.h0 _
theorem step_w (e : Fin 64) : pick (F := Ideal) (held m c n.val (Proc.devRef .tc main_v106_1)) (held m c n.val (Proc.devRef .tc main_v106_6)) (ix4 d b h e)
    = ((Real.exp ((given m c).lw d b (token d n.val) (lane h e)) : ℝ) : EReal) := by
  rw [held_counter, held_w, pick_apply, both]
  exact congrArg Ideal.exp (logDecay_real _ _)
theorem step_k (e : Fin 64) : pick (F := Ideal) (held m c n.val (Proc.devRef .tc main_v106_2)) (held m c n.val (Proc.devRef .tc main_v106_6)) (ix4 d b h e)
    = (((given m c).k d b (token d n.val) (lane h e) : ℝ) : EReal) := by
  rw [held_counter, held_k, pick_apply, both]
  exact written_real (key_real hx.h0) (rate_real _ _ _) hx.h7 _
theorem step_v (e : Fin 64) : pick (F := Ideal) (held m c n.val (Proc.devRef .tc main_v106_3)) (held m c n.val (Proc.devRef .tc main_v106_6)) (ix4 d b h e)
    = (((given m c).v b (token d n.val) (lane h e) : ℝ) : EReal) := by
  rw [held_counter, held_v, pick_apply, same]
  exact value_real hx.h0 _
theorem step_kk (e : Fin 64) : pick (F := Ideal) (held m c n.val (Proc.devRef .tc main_v106_4)) (held m c n.val (Proc.devRef .tc main_v106_6)) (ix4 d b h e)
    = (((given m c).kk b (token d n.val) (lane h e) : ℝ) : EReal) := by
  rw [held_counter, held_kk, pick_apply, same]
  exact unit_real _ _
theorem step_a (e : Fin 64) : pick (F := Ideal) (held m c n.val (Proc.devRef .tc main_v106_5)) (held m c n.val (Proc.devRef .tc main_v106_6)) (ix4 d b h e)
    = (((given m c).a d b (token d n.val) (lane h e) : ℝ) : EReal) := by
  rw [held_counter, held_a, pick_apply, both]
  exact replacing_real (unit_real _) (rate_real _ _ _) _

/-! ## The recurrence -/

/-- The state after a step, from the recurrence's before it. -/
theorem next_state (S : FVec Ideal S2x4x16x64x64 .f32) (hS : ∀ d b h e l, S (ix5 d b h e l) = ((state (given m c) d b h n.val e l : ℝ) : EReal)) (e l : Fin 64) :
    next S (pick (F := Ideal) (held m c n.val (Proc.devRef .tc main_v106_1)) (held m c n.val (Proc.devRef .tc main_v106_6)))
      (pick (held m c n.val (Proc.devRef .tc main_v106_2)) (held m c n.val (Proc.devRef .tc main_v106_6)))
      (pick (held m c n.val (Proc.devRef .tc main_v106_3)) (held m c n.val (Proc.devRef .tc main_v106_6)))
      (pick (held m c n.val (Proc.devRef .tc main_v106_4)) (held m c n.val (Proc.devRef .tc main_v106_6)))
      (pick (held m c n.val (Proc.devRef .tc main_v106_5)) (held m c n.val (Proc.devRef .tc main_v106_6))) (ix5 d b h e l)
      = ((state (given m c) d b h (n.val + 1) e l : ℝ) : EReal) := by
  rw [next_apply, step_w hx, step_k hx, step_v hx, step_a hx, state_succ, EReal.coe_add, EReal.coe_sub, EReal.coe_mul, EReal.coe_mul, EReal.coe_mul, coe_sum]
  simp only [step_kk hx, hS, EReal.coe_mul]

/-- Before step `k` the loop holds the recurrence's states, and the outputs of the steps before. -/
theorem held_state : ∀ k, k ≤ 4096 →
    (∀ d b h e l, held m c k (Proc.devRef .tc main_v106_7) (ix5 d b h e l) = ((state (given m c) d b h k e l : ℝ) : EReal))
    ∧ ∀ (n : Fin 4096) d b h e, n.val < k → held m c k (Proc.devRef .tc main_v106_8) (ix5 n d b h e) = ((readout (given m c) d b h n.val e : ℝ) : EReal)
  | 0, _ => ⟨fun d b h e l => by
      refine (congrFun (entry7 (F := Ideal) (launchContents m c)) (ix5 d b h e l)).trans ?_
      pointwise
      simp [state], fun n _ _ _ _ hn => absurd hn (Nat.not_lt_zero _)⟩
  | k + 1, hk => by
    obtain ⟨hS, hY⟩ := held_state k (by omega)
    have hk' : k < 4096 := by omega
    have hN : ∀ d b h e l, _ = _ := fun d b h e l => next_state hx ⟨k, hk'⟩ d b h (held m c k (Proc.devRef .tc main_v106_7)) hS e l
    refine ⟨fun d b h e l => (congrFun (trip_state (held m c k)) (ix5 d b h e l)).trans (hN d b h e l), fun n d b h e hn => ?_⟩
    refine (congrFun (trip_out (held m c k)) (ix5 n d b h e)).trans ?_
    refine (congrFun (congrArg (put _ _) (held_counter m c k)) _).trans ((put_apply _ _ ⟨k, hk'⟩ n d b h e).trans ?_)
    by_cases hnk : n = ⟨k, hk'⟩
    · subst hnk
      rw [if_pos rfl, under_apply]
      show _ = ((∑ l, _ : ℝ) : EReal)
      rw [coe_sum]
      refine Finset.sum_congr rfl fun l _ => ?_
      rw [EReal.coe_mul]
      exact congrArg₂ (· * ·) (hN d b h e l) (step_r hx ⟨k, hk'⟩ d b h l)
    · rw [if_neg hnk]
      exact hY n d b h e (by have : n.val ≠ k := fun hc => hnk (Fin.ext hc); omega)

/-- The outputs after the loop are the recurrence's. -/
theorem held_out : unordered (F := Ideal) (held m c 4096 (Proc.devRef .tc main_v106_8)) = result (given m c) := by
  funext i
  idx_vars i
  refine (unordered_apply _ _ _ _ _).trans ?_
  exact (held_state hx 4096 (le_refl _)).2 ⟨number _ _, number_lt _ _⟩ _ _ _ _ (number_lt _ _)

omit hx in
/-- The reference ends with the kernel's function of its arguments, which it leaves unchanged. -/
theorem run_layer (m : (ℓ : Loc nD τ sig) → Buf (Elt Ideal) ℓ) (ρ : Dev nD → PrngReg) (hx : ∀ c, AllReal m c) :
    θ_run defs (onTc (τ := τ) (main (F := Ideal))) ⟨m, fun _ => 0, ρ⟩ fun r => ∀ c : Dev nD,
      r.2.mem ((c.tc : Thread nD τ).loc main_v165) = Cert.Kernel5Ideal.Val.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (congrArg
    (fun y => finish (F := Ideal) y (receptance (F := Ideal) (m ((c.tc : Thread nD τ).loc main_arg0))) (value (F := Ideal) (m ((c.tc : Thread nD τ).loc main_arg0))) (written (F := Ideal) (key (m ((c.tc : Thread nD τ).loc main_arg0))) (rate (F := Ideal) (m ((c.tc : Thread nD τ).loc main_arg1)) (m ((c.tc : Thread nD τ).loc main_arg4)) (m ((c.tc : Thread nD τ).loc main_arg5))) (m ((c.tc : Thread nD τ).loc main_arg7))) (m ((c.tc : Thread nD τ).loc main_arg8)) (m ((c.tc : Thread nD τ).loc main_arg9)) (m ((c.tc : Thread nD τ).loc main_arg10))) (held_out (hx c))), (h c).2⟩) (run m ρ)

end Cert.Reference5Ideal.Wkv

end
-- ==== Proof.Mm6.lean ====
/- The matrix product of `Kernel6Ideal`: what its region leaves in the output array. A grid point takes 1024 rows of the
   left matrix and 512 columns of the right one whole along the contracted axis, so every block it writes back is that block
   of the product. -/
module

public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Mm

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-! ## Region 0: 16384×160 times 160×1024 -/

/-- The product of the two matrices. -/
def product0 (X : Vec Ideal S16384x160 .bf16) (W : Vec Ideal S160x1024 .bf16) : Vec Ideal S16384x1024 .f32 :=
  fun i => ∑ j : Fin 160, X (ix2 (i 0) j) * W (ix2 j (i 1))

/-- The body's stored value, entry by entry. -/
theorem pay0_apply (x0 : Vec Ideal S1024x160 .bf16) (x1 : Vec Ideal S160x512 .bf16) (a : Fin 1024) (b : Fin 512) :
    k0_pay1 x0 x1 (ix2 a b) = ∑ j : Fin 160, x0 (ix2 a j) * x1 (ix2 j b) := by
  pointwise [k0_pay1]

theorem idx0_0 : ∀ t : Fin cfg0.N, win0_0.index t = ![t.val / 2, 0] := (by decide +kernel : ∀ t : Fin grid0.N, _)
theorem idx0_1 : ∀ t : Fin cfg0.N, win0_1.index t = ![0, t.val % 2] := (by decide +kernel : ∀ t : Fin grid0.N, _)
theorem idx0_2 : ∀ t : Fin cfg0.N, win0_2.index t = ![t.val / 2, t.val % 2] := (by decide +kernel : ∀ t : Fin grid0.N, _)

/-- Row `a` of the left block at point `t` is row `R` of the left matrix. -/
theorem left0 (A : Vec Ideal S16384x160 .bf16) (t : Fin cfg0.N) (a : Fin 1024) (R : Fin 16384) (hR : R.val = t.val / 2 * 1024 + a.val) (j : Fin 160) :
    (((cfg0.win 0).blk t).view.read (Elt Ideal) A : Vec Ideal S1024x160 .bf16) (ix2 a j) = A (ix2 R j) := by
  rw [View.read_apply]
  show A _ = A _
  congr 1
  funext d
  apply Fin.ext
  match d with
  | ⟨0, _⟩ => show win0_0.index t 0 * 1024 + 1 * a.val = R.val; rw [idx0_0]; show t.val / 2 * 1024 + 1 * a.val = _; omega
  | ⟨1, _⟩ => show win0_0.index t 1 * 160 + 1 * j.val = j.val; rw [idx0_0]; show 0 * 160 + 1 * j.val = _; omega

/-- Column `b` of the right block at point `t` is column `C` of the right matrix. -/
theorem right0 (A : Vec Ideal S160x1024 .bf16) (t : Fin cfg0.N) (b : Fin 512) (C : Fin 1024) (hC : C.val = t.val % 2 * 512 + b.val) (j : Fin 160) :
    (((cfg0.win 1).blk t).view.read (Elt Ideal) A : Vec Ideal S160x512 .bf16) (ix2 j b) = A (ix2 j C) := by
  rw [View.read_apply]
  show A _ = A _
  congr 1
  funext d
  apply Fin.ext
  match d with
  | ⟨0, _⟩ => show win0_1.index t 0 * 160 + 1 * j.val = j.val; rw [idx0_1]; show 0 * 160 + 1 * j.val = _; omega
  | ⟨1, _⟩ => show win0_1.index t 1 * 512 + 1 * b.val = C.val; rw [idx0_1]; show t.val % 2 * 512 + 1 * b.val = _; omega

/-- The region's output array after the run. -/
theorem final0 (c : Dev nD) : (dats m 0 c).arrAt 2 cfg0.N = product0 (V m c main_v9) (V m c main_v7) := by
  refine (dats m 0 c).arrAt_eq_of_covers 2 _ (by decide +kernel) fun t hf y => ?_
  blk_simp
  rw [after0_2]
  frame_out
  have hN : t.val < 32 := lt_of_lt_of_eq t.isLt (show cfg0.N = 32 from N_0)
  have hy0 : (y 0).val < 1024 := (y 0).isLt
  have hy1 : (y 1).val < 512 := (y 1).isLt
  have h0 : (((win0_2.blk t).view.emb y) 0).val = t.val / 2 * 1024 + (y 0).val := by
    show win0_2.index t 0 * 1024 + 1 * (y 0).val = _; rw [idx0_2]; show t.val / 2 * 1024 + 1 * (y 0).val = _; omega
  have h1 : (((win0_2.blk t).view.emb y) 1).val = t.val % 2 * 512 + (y 1).val := by
    show win0_2.index t 1 * 512 + 1 * (y 1).val = _; rw [idx0_2]; show t.val % 2 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  exact congrArg₂ (· * ·) (left0 (V m c main_v9) t (y 0) (((win0_2.blk t).view.emb y) 0) h0 j) (right0 (V m c main_v7) t (y 1) (((win0_2.blk t).view.emb y) 1) h1 j)

end Cert.Kernel6Ideal.Mm

end
-- ==== Proof.Gate.lean ====
/- The recurrent branch's output gate: a sigmoid of the low-rank map's last 160 columns, a matrix product to the branch's width, and
   the product with the branch. -/
module

public import proofs.«01_k».proof.Proof.Mm6
public import Idealize.ShloMosaic.Lib.StableHlo.Run

@[expose] public section

set_option maxRecDepth 16384

noncomputable section

namespace Cert.Kernel6Ideal.Gate

open Cert.Kernel6Ideal Cert.Kernel6Ideal.Gen Cert.Kernel6Ideal.Mm Idealize.ShloMosaic Idealize.ShloMosaic.TcCoe Idealize.SL.Sem Idealize.ShloMosaic.StableHlo

/-! ## What the program computes -/

section Lines
variable {F : FTy → Type} [FloatOps F]

/-- The sigmoid of the low-rank map's last 160 columns. -/
def opened (lo : FVec F S4x4096x416 .f32) : FVec F S4x4096x160 .f32 :=
  Host.divf (broadcastInDim S4x4096x160 ![] bcast_S_S4x4096x160 (constant S_ .f32 0x3F800000#32 : FVec F S_ .f32))
    (addf (broadcastInDim S4x4096x160 ![] bcast_S_S4x4096x160 (constant S_ .f32 0x3F800000#32 : FVec F S_ .f32))
      (Host.exp (Host.negf (extractStridedSlice S4x4096x160 ![0, 0, 256] lo slices_S4x4096x416_S4x4096x160_0_0_256))))

end Lines

/-- The map of the opened columns to the branch's width. -/
def project (a : FVec Ideal S4x4096x160 .f32) (w : FVec Ideal S160x1024 .f32) : FVec Ideal S4x4096x1024 .f32 :=
  fun i => ∑ j : Fin 160, a (ix3 (i 0) (i 1) j) * w (ix2 j (i 2))

/-- The branch times its gate. -/
def layer (y : FVec Ideal S4x4096x1024 .f32) (lo : FVec Ideal S4x4096x416 .f32) (g2 : FVec Ideal S160x1024 .f32) : FVec Ideal S4x4096x1024 .f32 :=
  mulf (F := Ideal) y (project (opened (F := Ideal) lo) g2)

/-- The kernel's product of the rows is that map. -/
theorem project_eq (a : FVec Ideal S4x4096x160 .f32) (w : FVec Ideal S160x1024 .f32) :
    shapeCast (α := EReal) S4x4096x1024 (product0 (shapeCast (α := EReal) S16384x160 a shapeCasts_S4x4096x160_S16384x160) w) shapeCasts_S16384x1024_S4x4096x1024 = project a w := by
  funext i
  idx_vars i
  pointwise [product0, project]
  done

/-! ## The host stretches, from any contents -/

section Host
variable (W : Valuation τ sig (Elt Ideal))

theorem head_rows : after hostOps0 W (Proc.devRef .tc main_v9)
    = shapeCast (α := EReal) S16384x160 (opened (F := Ideal) (W (Proc.devRef .tc main_arg1))) shapeCasts_S4x4096x160_S16384x160 := by
  simp only [hostOps0]; after_results_simp; rfl

theorem head_weight : after hostOps0 W (Proc.devRef .tc main_v7) = W (Proc.devRef .tc main_arg2) := by
  simp only [hostOps0]; after_results_simp; rfl

theorem tail_result : after hostOps1 W (Proc.devRef .tc main_v12)
    = mulf (F := Ideal) (φ := .f32) (W (Proc.devRef .tc main_arg0)) (shapeCast (α := EReal) S4x4096x1024 (W (Proc.devRef .tc main_v10)) shapeCasts_S16384x1024_S4x4096x1024) := by
  simp only [hostOps1]; after_results_simp; rfl

end Host

/-! ## From the launch to the result -/

variable (m : (ℓ : Loc nD τ sig) → Buf (Elt Ideal) ℓ)

theorem V_rows (c : Dev nD) : V m c main_v9
    = shapeCast (α := EReal) S16384x160 (opened (F := Ideal) (m ((c.tc : Thread nD τ).loc main_arg1))) shapeCasts_S4x4096x160_S16384x160 := by
  unfold V V0
  simp only [List.flatten_cons, List.flatten_nil, List.append_nil]
  exact head_rows _

theorem V_weight (c : Dev nD) : V m c main_v7 = m ((c.tc : Thread nD τ).loc main_arg2) := by
  unfold V V0
  simp only [List.flatten_cons, List.flatten_nil, List.append_nil]
  exact head_weight _

/-- The result after the host lines. -/
theorem tail_layer (c : Dev nD) : Pipeline.afterTail₀ cfgs (dats m) 0 (V0 m) [hostOps1] c main_v12
    = layer (m ((c.tc : Thread nD τ).loc main_arg0)) (m ((c.tc : Thread nD τ).loc main_arg1)) (m ((c.tc : Thread nD τ).loc main_arg2)) := by
  have arr : Pipeline.withArrays spec0 c (V0 m c) (fun w => (dats m 0 c).arrAt w cfg0.N) (Proc.devRef .tc main_v10)
      = product0 (V m c main_v9) (V m c main_v7) :=
    (Pipeline.withArrays_arr spec0 (by decide) c (V0 m c) _ 2).trans (final0 m c)
  have kept : Pipeline.withArrays spec0 c (V0 m c) (fun w => (dats m 0 c).arrAt w cfg0.N) (Proc.devRef .tc main_arg0) = m ((c.tc : Thread nD τ).loc main_arg0) :=
    (Pipeline.withArrays_of_ne spec0 c (V0 m c) _ main_arg0 (by decide)).trans (V_main_arg0 m c)
  rw [V_rows m c, V_weight m c] at arr
  unfold Pipeline.afterTail₀
  simp only [List.flatten_cons, List.flatten_nil, List.append_nil]
  refine (tail_result _).trans ?_
  rw [arr, kept, project_eq]
  rfl

/-- The kernel ends with `layer` of its arguments, which it leaves unchanged. -/
theorem run_layer (ρ : Dev nD → PrngReg) :
    θ_run defs (onTc (τ := τ) (main (F := Ideal))) ⟨m, fun _ => 0, ρ⟩ fun r => ∀ c : Dev nD,
      r.2.mem ((c.tc : Thread nD τ).loc main_v12) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv := (θ_run defs _ _).mono (fun _ h (c : Dev nD) =>
    ((h c).2 main_v12 (Pipeline.mem_restRefs_of main_v12 (by decide) (by decide))).trans (tail_layer m c)) (run_main m ρ)
  exact (θ_run defs _ _).mono (fun _ h c => ⟨h.1 c, h.2 c⟩) (θ_run_and hv (unchanged m ρ))

end Cert.Kernel6Ideal.Gate

end
-- ==== Proof.GateReference.lean ====
/- The gate's reference: its run ends with the same function of the arguments as the kernel's. -/
module

public import proofs.«01_k».proof.Proof.Gate
public import proofs.«01_k».proof.Proof.Gen.Reference6Ideal.Run

@[expose] public section

set_option maxRecDepth 16384

noncomputable section

namespace Cert.Reference6Ideal.Gate

open Cert.Reference6Ideal Cert.Reference6Ideal.Gen Idealize.ShloMosaic Idealize.ShloMosaic.TcCoe Idealize.SL.Sem Idealize.ShloMosaic.StableHlo
open Cert.Kernel6Ideal.Gate (layer project)

theorem project_eq (a : FVec Ideal S4x4096x160 .f32) (w : FVec Ideal S160x1024 .f32) :
    Host.dotGeneral dot_S4x4096x160_S160x1024_S4x4096x1024_2_0_01_1_n_n none a w = project a w := by
  funext i
  idx_vars i
  pointwise [project]
  done

/-- The reference ends with `layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  rw [project_eq]
  rfl

end Cert.Reference6Ideal.Gate

end
-- ==== Proof.SampleMoeRegion.lean ====
/- The experts' feed-forward kernel: what its output array holds after the run. Each block of 1024 rows of an expert is
   accumulated over 16 blocks of 256 hidden units, and the accumulated sum is the expert's whole feed-forward network
   `(silu (x @ gate) * (x @ up)) @ down` over all 4096 hidden units. -/
module

public import proofs.«01_k».proof.Proof.Sums
public import proofs.«01_k».proof.Proof.Gen.Kernel7Ideal.Frame
public import Idealize.ShloMosaic.Lib.Pipeline.ValueKit
public import Idealize.ShloMosaic.Lib.Pointwise

@[expose] public section

set_option maxRecDepth 16384

noncomputable section

namespace Cert.Kernel7Ideal.Moe

open Cert.Kernel7Ideal Cert.Kernel7Ideal.Gen Idealize.ShloMosaic Idealize.ShloMosaic.TcCoe Idealize.SL.Sem
open Idealize.ShloMosaic.Pipeline (Dat)

/-- The value of hidden unit `k` of expert `e` at its row `r`: `silu (x @ gate) * (x @ up)`. -/
def hidden (X : Vec Ideal S16x4096x2048 .f32) (G U : Vec Ideal S16x2048x4096 .f32) (e : Fin 16) (r : Fin 4096) (k : Fin 4096) : EReal :=
  (∑ j : Fin 2048, X (ix3 e r j) * G (ix3 e j k)) * Ideal.logistic (∑ j : Fin 2048, X (ix3 e r j) * G (ix3 e j k))
    * ∑ j : Fin 2048, X (ix3 e r j) * U (ix3 e j k)

/-- The experts' feed-forward networks: row `r` of expert `e` through that expert's three matrices. -/
def ffn (X : Vec Ideal S16x4096x2048 .f32) (G U : Vec Ideal S16x2048x4096 .f32) (D : Vec Ideal S16x4096x2048 .f32) :
    Vec Ideal S16x4096x2048 .f32 :=
  fun i => ∑ k : Fin 4096, hidden X G U (i 0) (i 1) k * D (ix3 (i 0) k (i 2))

/-- What one grid point adds to row `r`, column `d` of its block: 256 hidden units of the feed-forward network. -/
def addend (x0 : Vec Ideal S1x1024x2048 .bf16) (x1 x2 : Vec Ideal S1x2048x256 .f32) (x3 : Vec Ideal S1x256x2048 .f32)
    (r : Fin 1024) (d : Fin 2048) : EReal :=
  ∑ k : Fin 256, ((∑ j : Fin 2048, x0 (ix3 0 r j) * x1 (ix3 0 j k)) * Ideal.logistic (∑ j : Fin 2048, x0 (ix3 0 r j) * x1 (ix3 0 j k))
    * ∑ j : Fin 2048, x0 (ix3 0 r j) * x2 (ix3 0 j k)) * x3 (ix3 0 k d)

/-- The body's stored value: the block before it, plus the point's addend. -/
theorem pay_apply (x0 : Vec Ideal S1x1024x2048 .bf16) (x1 x2 : Vec Ideal S1x2048x256 .f32) (acc : Vec Ideal S1x1024x2048 .f32)
    (x3 : Vec Ideal S1x256x2048 .f32) (i : S1x1024x2048.Idx) :
    k0_pay2 x0 x1 x2 acc x3 i = acc i + addend x0 x1 x2 x3 (i 1) (i 2) := by
  idx_vars i
  obtain rfl : i0 = 0 := Subsingleton.elim _ _
  pointwise [k0_pay2, addend]

theorem pay_zero (i : S1x1024x2048.Idx) : k0_pay1 (F := Ideal) i = 0 := by
  pointwise [k0_pay1]

variable (m : (ℓ : Loc nD τ sig) → Buf (Elt Ideal) ℓ)

theorem idx0 : ∀ t : Fin cfg0.N, win0_0.index t = ![t.val / 64, t.val / 16 % 4, 0] := (by decide +kernel : ∀ t : Fin grid0.N, _)
theorem idx1 : ∀ t : Fin cfg0.N, win0_1.index t = ![t.val / 64, 0, t.val % 16] := (by decide +kernel : ∀ t : Fin grid0.N, _)
theorem idx2 : ∀ t : Fin cfg0.N, win0_2.index t = ![t.val / 64, 0, t.val % 16] := (by decide +kernel : ∀ t : Fin grid0.N, _)
theorem idx3 : ∀ t : Fin cfg0.N, win0_3.index t = ![t.val / 64, t.val % 16, 0] := (by decide +kernel : ∀ t : Fin grid0.N, _)
theorem idx4 : ∀ t : Fin cfg0.N, win0_4.index t = ![t.val / 64, t.val / 16 % 4, 0] := (by decide +kernel : ∀ t : Fin grid0.N, _)

/-- The addend of point `n` of the grid, at an index of its block. -/
def term (c : Dev nD) (n : ℕ) (i : S1x1024x2048.Idx) : EReal :=
  if h : n < cfg0.N then addend (iblk m c 0 ⟨n, h⟩) (iblk m c 1 ⟨n, h⟩) (iblk m c 2 ⟨n, h⟩) (iblk m c 3 ⟨n, h⟩) (i 1) (i 2) else 0

/-- After the last point of a run the block holds the sum of the run's 16 addends. -/
theorem outs_eq (c : Dev nD) (t : Fin cfg0.N) (ht : t.val % 16 = 15) (i : S1x1024x2048.Idx) :
    outsAt0 m c t.val t.isLt i = 0 + ∑ s ∈ Finset.range (15 + 1), term m c (16 * (t.val / 16) + s) i :=
  Pipeline.eq_sum_of_reset_step_apply_of_mod (fun n h => outsAt0 m c n h) 16 (fun _ => (0 : EReal)) (term m c)
    (fun t h i => by
      rw [outsAt0_A m c t h]; frame_out
      rw [pay_apply, pay_zero, term, dif_pos t.isLt])
    (fun t h i => by
      rw [outsAt0_B m c t h]; frame_out
      rw [pay_apply, term, dif_pos t.isLt]) t ht i

/-- Row `r` of the rows' block at point `t` is row `R` of expert `e`. -/
theorem blk0 (c : Dev nD) (t : Fin cfg0.N) (e : Fin 16) (R : Fin 4096) (he : e.val = t.val / 64) (r : Fin 1024)
    (hR : R.val = t.val / 16 % 4 * 1024 + r.val) (j : Fin 2048) :
    (iblk m c 0 t : Vec Ideal S1x1024x2048 .bf16) (ix3 0 r j) = V m c main_v21 (ix3 e R j) := by
  unfold iblk
  rw [View.read_apply]
  show V m c main_v21 _ = V m c main_v21 _
  congr 1
  funext a
  apply Fin.ext
  match a with
  | ⟨0, _⟩ => show win0_0.index t 0 * 1 + 1 * 0 = e.val; rw [idx0]; show t.val / 64 * 1 + 1 * 0 = _; omega
  | ⟨1, _⟩ => show win0_0.index t 1 * 1024 + 1 * r.val = R.val; rw [idx0]; show t.val / 16 % 4 * 1024 + 1 * r.val = _; omega
  | ⟨2, _⟩ => show win0_0.index t 2 * 2048 + 1 * j.val = j.val; rw [idx0]; show 0 * 2048 + 1 * j.val = _; omega

/-- Column `k` of the first matrix' block at point `t` is column `K` of expert `e`'s matrix. -/
theorem blk1 (c : Dev nD) (t : Fin cfg0.N) (e : Fin 16) (K : Fin 4096) (he : e.val = t.val / 64) (k : Fin 256)
    (hK : K.val = t.val % 16 * 256 + k.val) (j : Fin 2048) :
    (iblk m c 1 t : Vec Ideal S1x2048x256 .f32) (ix3 0 j k) = V m c main_arg2 (ix3 e j K) := by
  unfold iblk
  rw [View.read_apply]
  show V m c main_arg2 _ = V m c main_arg2 _
  congr 1
  funext a
  apply Fin.ext
  match a with
  | ⟨0, _⟩ => show win0_1.index t 0 * 1 + 1 * 0 = e.val; rw [idx1]; show t.val / 64 * 1 + 1 * 0 = _; omega
  | ⟨1, _⟩ => show win0_1.index t 1 * 2048 + 1 * j.val = j.val; rw [idx1]; show 0 * 2048 + 1 * j.val = _; omega
  | ⟨2, _⟩ => show win0_1.index t 2 * 256 + 1 * k.val = K.val; rw [idx1]; show t.val % 16 * 256 + 1 * k.val = _; omega

/-- Column `k` of the second matrix' block at point `t` is column `K` of expert `e`'s matrix. -/
theorem blk2 (c : Dev nD) (t : Fin cfg0.N) (e : Fin 16) (K : Fin 4096) (he : e.val = t.val / 64) (k : Fin 256)
    (hK : K.val = t.val % 16 * 256 + k.val) (j : Fin 2048) :
    (iblk m c 2 t : Vec Ideal S1x2048x256 .f32) (ix3 0 j k) = V m c main_arg3 (ix3 e j K) := by
  unfold iblk
  rw [View.read_apply]
  show V m c main_arg3 _ = V m c main_arg3 _
  congr 1
  funext a
  apply Fin.ext
  match a with
  | ⟨0, _⟩ => show win0_2.index t 0 * 1 + 1 * 0 = e.val; rw [idx2]; show t.val / 64 * 1 + 1 * 0 = _; omega
  | ⟨1, _⟩ => show win0_2.index t 1 * 2048 + 1 * j.val = j.val; rw [idx2]; show 0 * 2048 + 1 * j.val = _; omega
  | ⟨2, _⟩ => show win0_2.index t 2 * 256 + 1 * k.val = K.val; rw [idx2]; show t.val % 16 * 256 + 1 * k.val = _; omega

/-- Row `k` of the third matrix' block at point `t` is row `K` of expert `e`'s matrix. -/
theorem blk3 (c : Dev nD) (t : Fin cfg0.N) (e : Fin 16) (K : Fin 4096) (he : e.val = t.val / 64) (k : Fin 256)
    (hK : K.val = t.val % 16 * 256 + k.val) (d : Fin 2048) :
    (iblk m c 3 t : Vec Ideal S1x256x2048 .f32) (ix3 0 k d) = V m c main_arg4 (ix3 e K d) := by
  unfold iblk
  rw [View.read_apply]
  show V m c main_arg4 _ = V m c main_arg4 _
  congr 1
  funext a
  apply Fin.ext
  match a with
  | ⟨0, _⟩ => show win0_3.index t 0 * 1 + 1 * 0 = e.val; rw [idx3]; show t.val / 64 * 1 + 1 * 0 = _; omega
  | ⟨1, _⟩ => show win0_3.index t 1 * 256 + 1 * k.val = K.val; rw [idx3]; show t.val % 16 * 256 + 1 * k.val = _; omega
  | ⟨2, _⟩ => show win0_3.index t 2 * 2048 + 1 * d.val = d.val; rw [idx3]; show 0 * 2048 + 1 * d.val = _; omega

/-- The addend of point `t` is the feed-forward network's sum over the point's 256 hidden units. -/
theorem addend_eq (c : Dev nD) (t : Fin cfg0.N) (e : Fin 16) (R : Fin 4096) (he : e.val = t.val / 64) (r : Fin 1024)
    (hR : R.val = t.val / 16 % 4 * 1024 + r.val) (d : Fin 2048) (s : ℕ) (hs : t.val % 16 = s) :
    addend (iblk m c 0 t) (iblk m c 1 t) (iblk m c 2 t) (iblk m c 3 t) r d
      = ∑ k : Fin 256, Sums.ext (fun K : Fin 4096 =>
          hidden (V m c main_v21) (V m c main_arg2) (V m c main_arg3) e R K * (V m c main_arg4 : Vec Ideal S16x4096x2048 .f32) (ix3 e K d)) (256 * s + k) := by
  unfold addend
  refine Finset.sum_congr rfl fun k _ => ?_
  have hk := k.isLt
  rw [Sums.ext_of_lt _ _ (by omega)]
  set K : Fin 4096 := ⟨256 * s + k, by omega⟩ with hKdef
  have hK : K.val = t.val % 16 * 256 + k.val := by rw [hKdef]; show 256 * s + k.val = _; omega
  unfold hidden
  rw [blk3 m c t e K he k hK d]
  simp only [blk0 m c t e R he r hR, blk1 m c t e K he k hK, blk2 m c t e K he k hK]

/-- The output array after the run: the experts' feed-forward networks of the gathered rows. -/
theorem final (c : Dev nD) : (dats m 0 c).arrAt 4 cfg0.N
    = ffn (V m c main_v21) (V m c main_arg2) (V m c main_arg3) (V m c main_arg4) := by
  refine (dats m 0 c).arrAt_eq_of_covers 4 _ (by decide +kernel) fun t hf y => ?_
  blk_simp
  rw [after0_4]
  have ht : t.val % 16 = 15 := (flush0_4 t).mp hf
  have hN : t.val < 1024 := lt_of_lt_of_eq t.isLt (show cfg0.N = 1024 from N_0)
  have hy0 : (y 0).val < 1 := (y 0).isLt
  have hy1 : (y 1).val < 1024 := (y 1).isLt
  have h0 : (((win0_4.blk t).view.emb y) 0).val = t.val / 64 := by
    show win0_4.index t 0 * 1 + 1 * (y 0).val = _; rw [idx4]; show t.val / 64 * 1 + 1 * (y 0).val = _; omega
  have h1 : (((win0_4.blk t).view.emb y) 1).val = t.val / 16 % 4 * 1024 + (y 1).val := by
    show win0_4.index t 1 * 1024 + 1 * (y 1).val = _; rw [idx4]; show t.val / 16 % 4 * 1024 + 1 * (y 1).val = _; omega
  have h2 : ((win0_4.blk t).view.emb y) 2 = y 2 := by
    apply Fin.ext
    show win0_4.index t 2 * 2048 + 1 * (y 2).val = _; rw [idx4]; show 0 * 2048 + 1 * (y 2).val = _; omega
  refine (outs_eq m c t ht y).trans ?_
  rw [zero_add]
  unfold ffn
  refine Eq.trans ?_ (Sums.fin_blocks _ 16 256 rfl).symm
  refine Finset.sum_congr rfl fun s hs => ?_
  have hs' : s < 16 := Finset.mem_range.mp hs
  have hn : 16 * (t.val / 16) + s < cfg0.N := by rw [show cfg0.N = 1024 from N_0]; omega
  unfold term
  rw [dif_pos hn, h2]
  exact addend_eq m c ⟨_, hn⟩ (((win0_4.blk t).view.emb y) 0) (((win0_4.blk t).view.emb y) 1) (by rw [h0]; dsimp only; omega) (y 1)
    (by rw [h1]; dsimp only; omega) (y 2) s (by dsimp only; omega)

end Cert.Kernel7Ideal.Moe

end
-- ==== Proof.SampleMoeHost.lean ====
/- The host lines around the experts' kernel: the router's softmax and top-k and the gather of each expert's rows before it,
   the weighting, the scatter-add back to the tokens and the layer norm after it — each named once, as a function of what it reads,
   and the program's buffers read as these functions. -/
module

public import proofs.«01_k».proof.Proof.SampleMoeRegion
public import Idealize.ShloMosaic.Lib.StableHlo.Run

@[expose] public section

set_option maxRecDepth 16384

noncomputable section

namespace Cert.Kernel7Ideal.Moe

open Cert.Kernel7Ideal Cert.Kernel7Ideal.Gen Idealize.ShloMosaic Idealize.ShloMosaic.TcCoe Idealize.SL.Sem Idealize.ShloMosaic.StableHlo

variable {F : FTy → Type} [FloatOps F]

/-- The tokens as rows. -/
def rows (x : FVec F S16x2048x2048 .f32) : FVec F S32768x2048 .f32 :=
  shapeCast _ x shapeCasts_S16x2048x2048_S32768x2048

/-- Exponentials of the router's logits, shifted by each token's largest. -/
def expShifted (z : FVec F S32768x16 .f32) : FVec F S32768x16 .f32 :=
  Host.exp (subf z (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf z (constant S_ .f32 0xFF800000#32) reducesTo_S32768x16_S32768_d1 h_S_)))))

/-- The affinities of experts to tokens: each token's softmax over the experts, transposed. -/
def affinity (x : FVec F S16x2048x2048 .f32) (w : FVec F S2048x16 .f32) : FVec F S16x32768 .f32 :=
  let e := expShifted (Host.dotGeneral dot_S32768x2048_S2048x16_S32768x16_1_0_0_1_n_n none (rows x) w)
  transpose S16x32768 [1, 0] (Host.divf e (broadcastInDim S32768x16 ![0, 1] bcast_S32768x1_S32768x16_0_1 (broadcastInDim S32768x1 ![0] bcast_S32768_S32768x1_0 (Host.reduceAdd e (constant S_ .f32 0x00000000#32) reducesTo_S32768x16_S32768_d1 h_S_)))) transposes_S32768x16_S16x32768_1_0

/-- Each expert's largest affinities. -/
def best (a : FVec F S16x32768 .f32) : FVec F S16x4096 .f32 :=
  (Host.topK S16x4096 1 (FloatOps.cmpfTotal .gt) a sliceFits_S16x32768_S16x4096).1

/-- The tokens that have them. -/
def chosen (a : FVec F S16x32768 .f32) : IVec S16x4096 32 :=
  (Host.topK S16x4096 1 (FloatOps.cmpfTotal .gt) a sliceFits_S16x32768_S16x4096).2

/-- The chosen tokens' rows, expert by expert. -/
def gathered (x : FVec F S16x2048x2048 .f32) (idx : IVec S16x4096 32) : FVec F S16x4096x2048 .f32 :=
  Host.gather gather_S32768x2048_S16x4096x1_S16x4096x2048_2_0_n_n_0_2_12048 (rows x) (broadcastInDim S16x4096x1 ![0, 1] bcast_S16x4096_S16x4096x1_0_1 (select (cmpi .slt idx (broadcastInDim S16x4096 ![] bcast_S_S16x4096 (constantI S_ 32 0#32))) (addi idx (broadcastInDim S16x4096 ![] bcast_S_S16x4096 (constantI S_ 32 32768#32))) idx))

/-- The experts' rows weighted by their affinities, added up over each token's experts, and the residual connection. -/
def combine (x : FVec F S16x2048x2048 .f32) (val : FVec F S16x4096 .f32) (idx : IVec S16x4096 32)
    (o : FVec F S16x4096x2048 .f32) : FVec F S16x2048x2048 .f32 :=
  let flat : IVec S65536 32 := shapeCast _ idx shapeCasts_S16x4096_S65536
  addf (mulf (broadcastInDim S16x2048x2048 ![] bcast_S_S16x2048x2048 (constant S_ .f32 0x3F9837F0#32)) x) (shapeCast _ (Host.scatterAdd scatter_S32768x2048_S65536x1_S65536x2048_1_0_0_1 (broadcastInDim S32768x2048 ![] bcast_S_S32768x2048 (constant S_ .f32 0x00000000#32)) (broadcastInDim S65536x1 ![0] bcast_S65536_S65536x1_0 (select (cmpi .slt flat (broadcastInDim S65536 ![] bcast_S_S65536 (constantI S_ 32 0#32))) (addi flat (broadcastInDim S65536 ![] bcast_S_S65536 (constantI S_ 32 32768#32))) flat)) (shapeCast _ (mulf o (broadcastInDim S16x4096x2048 ![0, 1, 2] bcast_S16x4096x1_S16x4096x2048_0_1_2 (broadcastInDim S16x4096x1 ![0, 1] bcast_S16x4096_S16x4096x1_0_1 val))) shapeCasts_S16x4096x2048_S65536x2048)) shapeCasts_S32768x2048_S16x2048x2048)

/-- Each row's mean. -/
def mean (y : FVec F S16x2048x2048 .f32) : FVec F S16x2048x1 .f32 :=
  Host.divf (broadcastInDim S16x2048x1 ![0, 1] bcast_S16x2048_S16x2048x1_0_1 (Host.reduceAdd y (constant S_ .f32 0x00000000#32) reducesTo_S16x2048x2048_S16x2048_d2 h_S_)) (broadcastInDim S16x2048x1 ![] bcast_S_S16x2048x1 (constant S_ .f32 0x45000000#32))

/-- The layer norm of each row. -/
def layerNorm (y : FVec F S16x2048x2048 .f32) (g b : FVec F S2048 .f32) : FVec F S16x2048x2048 .f32 :=
  let z := subf y (broadcastInDim S16x2048x2048 ![0, 1, 2] bcast_S16x2048x1_S16x2048x2048_0_1_2 (mean y))
  addf (mulf (mulf z (broadcastInDim S16x2048x2048 ![0, 1, 2] bcast_S16x2048x1_S16x2048x2048_0_1_2 (Host.rsqrt (addf (mean (mulf z z)) (broadcastInDim S16x2048x1 ![] bcast_S_S16x2048x1 (constant S_ .f32 0x3727C5AC#32)))))) (broadcastInDim S16x2048x2048 ![0, 1, 2] bcast_S1x1x2048_S16x2048x2048_0_1_2 (broadcastInDim S1x1x2048 ![2] bcast_S2048_S1x1x2048_2 g))) (broadcastInDim S16x2048x2048 ![0, 1, 2] bcast_S1x1x2048_S16x2048x2048_0_1_2 (broadcastInDim S1x1x2048 ![2] bcast_S2048_S1x1x2048_2 b))

variable (W : Valuation τ sig (Elt Ideal))

set_option maxHeartbeats 4000000 in
/-- The lines after the region, from any contents before them. -/
theorem tail_eq : after hostOps1 W (Proc.devRef .tc main_v63)
    = layerNorm (F := Ideal) (combine (W (Proc.devRef .tc main_arg0)) (W (Proc.devRef .tc main_values)) (W (Proc.devRef .tc main_indices)) (W (Proc.devRef .tc main_v22)))
        (W (Proc.devRef .tc main_arg5)) (W (Proc.devRef .tc main_arg6)) := by
  simp only [hostOps1]
  after_results_simp
  dsimp only [layerNorm, mean, combine]
  rfl

set_option maxHeartbeats 4000000 in
theorem head_values : after hostOps0 W (Proc.devRef .tc main_values)
    = best (affinity (F := Ideal) (W (Proc.devRef .tc main_arg0)) (W (Proc.devRef .tc main_arg1))) := by
  simp only [hostOps0]
  after_results_simp
  dsimp only [best, chosen, gathered, affinity, expShifted, rows]
  rfl

set_option maxHeartbeats 4000000 in
theorem head_indices : after hostOps0 W (Proc.devRef .tc main_indices)
    = chosen (affinity (F := Ideal) (W (Proc.devRef .tc main_arg0)) (W (Proc.devRef .tc main_arg1))) := by
  simp only [hostOps0]
  after_results_simp
  dsimp only [best, chosen, gathered, affinity, expShifted, rows]
  rfl

set_option maxHeartbeats 4000000 in
theorem head_rows : after hostOps0 W (Proc.devRef .tc main_v21)
    = gathered (F := Ideal) (W (Proc.devRef .tc main_arg0)) (chosen (affinity (F := Ideal) (W (Proc.devRef .tc main_arg0)) (W (Proc.devRef .tc main_arg1)))) := by
  simp only [hostOps0]
  after_results_simp
  dsimp only [best, chosen, gathered, affinity, expShifted, rows]
  rfl

/-- What the program computes: route, run the experts on the chosen rows, add their weighted rows back, normalise. -/
def layer (x : FVec Ideal S16x2048x2048 .f32) (w : FVec Ideal S2048x16 .f32) (G U : FVec Ideal S16x2048x4096 .f32)
    (D : FVec Ideal S16x4096x2048 .f32) (g b : FVec Ideal S2048 .f32) : FVec Ideal S16x2048x2048 .f32 :=
  layerNorm (combine x (best (affinity x w)) (chosen (affinity x w)) (ffn (gathered x (chosen (affinity x w))) G U D)) g b

end Cert.Kernel7Ideal.Moe

end
-- ==== Proof.SampleMoeRun.lean ====
/- The kernel's run: the experts' region ends with `Moe.ffn` of the gathered rows, and the host lines after it turn that into
   `Moe.layer` of the arguments. -/
module

public import proofs.«01_k».proof.Proof.SampleMoeHost

@[expose] public section

set_option maxRecDepth 16384

noncomputable section

namespace Cert.Kernel7Ideal.Moe

open Cert.Kernel7Ideal Cert.Kernel7Ideal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The arrays before the region, as functions of the launch's. -/
theorem V_values (c : Dev nD) : V0 m c (Proc.devRef .tc main_values)
    = best (affinity (F := Ideal) (m ((c.tc : Thread nD τ).loc main_arg0)) (m ((c.tc : Thread nD τ).loc main_arg1))) := by
  unfold V0
  simp only [List.flatten_cons, List.flatten_nil, List.append_nil]
  exact head_values _

theorem V_indices (c : Dev nD) : V0 m c (Proc.devRef .tc main_indices)
    = chosen (affinity (F := Ideal) (m ((c.tc : Thread nD τ).loc main_arg0)) (m ((c.tc : Thread nD τ).loc main_arg1))) := by
  unfold V0
  simp only [List.flatten_cons, List.flatten_nil, List.append_nil]
  exact head_indices _

theorem V_rows (c : Dev nD) : V m c main_v21
    = gathered (F := Ideal) (m ((c.tc : Thread nD τ).loc main_arg0))
        (chosen (affinity (F := Ideal) (m ((c.tc : Thread nD τ).loc main_arg0)) (m ((c.tc : Thread nD τ).loc main_arg1)))) := by
  unfold V V0
  simp only [List.flatten_cons, List.flatten_nil, List.append_nil]
  exact head_rows _

/-- The result after the host lines. -/
theorem tail_layer (c : Dev nD) : Pipeline.afterTail₀ cfgs (dats m) 0 (V0 m) [hostOps1] c main_v63
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  have arr : Pipeline.withArrays spec0 c (V0 m c) (fun w => (dats m 0 c).arrAt w cfg0.N) (Proc.devRef .tc main_v22)
      = ffn (gathered (F := Ideal) (m ((c.tc : Thread nD τ).loc main_arg0))
          (chosen (affinity (F := Ideal) (m ((c.tc : Thread nD τ).loc main_arg0)) (m ((c.tc : Thread nD τ).loc main_arg1)))))
          (m ((c.tc : Thread nD τ).loc main_arg2)) (m ((c.tc : Thread nD τ).loc main_arg3)) (m ((c.tc : Thread nD τ).loc main_arg4)) := by
    rw [← V_rows, ← V_main_arg2 m c, ← V_main_arg3 m c, ← V_main_arg4 m c, ← final m c]
    exact Pipeline.withArrays_arr spec0 (by decide) c (V0 m c) _ 4
  have rest : ∀ b : Ref sig .tc, (∀ w, Pipeline.arrRef spec0 w ≠ b) →
      Pipeline.withArrays spec0 c (V0 m c) (fun w => (dats m 0 c).arrAt w cfg0.N) (Proc.devRef .tc b) = V0 m c (Proc.devRef .tc b) :=
    fun b hb => Pipeline.withArrays_of_ne spec0 c (V0 m c) _ b hb
  unfold Pipeline.afterTail₀
  simp only [List.flatten_cons, List.flatten_nil, List.append_nil]
  refine (tail_eq _).trans ?_
  unfold layer
  have e0 := (rest main_arg0 (by decide)).trans (V_main_arg0 m c)
  have e5 := (rest main_arg5 (by decide)).trans (V_main_arg5 m c)
  have e6 := (rest main_arg6 (by decide)).trans (V_main_arg6 m c)
  have ev := (rest main_values (by decide)).trans (V_values m c)
  have ei := (rest main_indices (by decide)).trans (V_indices m c)
  exact congr (congr (congrArg layerNorm (congr (congr (congr (congrArg combine e0) ev) ei) arr)) e5) e6

/-- The kernel ends with `Moe.layer` of its arguments, which it leaves unchanged. -/
theorem run_layer : θ_run defs (onTc (τ := τ) (main (F := Ideal))) ⟨m, fun _ => 0, ρ⟩ fun r => ∀ c : Dev nD,
      r.2.mem ((c.tc : Thread nD τ).loc main_v63)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hv := (θ_run defs _ _).mono (fun _ h (c : Dev nD) =>
    ((h c).2 main_v63 (Pipeline.mem_restRefs_of main_v63 (by decide) (by decide))).trans (tail_layer m c)) (run_main m ρ)
  exact (θ_run defs _ _).mono (fun _ h c => ⟨h.1 c, h.2 c⟩) (θ_run_and hv (unchanged m ρ))

end Cert.Kernel7Ideal.Moe

end
-- ==== Proof.SampleMoeReference.lean ====
/- The reference's side of the experts' claim: its three batched products and the SiLU between them, entry by entry, are the
   function `Moe.ffn` the kernel's blocks add up to; so its result is `Moe.layer` of its arguments. -/
module

public import proofs.«01_k».proof.Proof.SampleMoeHost
public import proofs.«01_k».proof.Proof.Gen.Reference7Ideal.Run

@[expose] public section

set_option maxRecDepth 16384

noncomputable section

namespace Cert.Reference7Ideal.Moe

open Cert.Reference7Ideal Cert.Reference7Ideal.Gen Cert.Reference7Ideal.Value Idealize.ShloMosaic Idealize.ShloMosaic.TcCoe Idealize.SL.Sem Idealize.ShloMosaic.StableHlo
open Cert.Kernel7Ideal.Moe (ffn layer)

/-- The reference's experts: both up projections, the gate's SiLU, the product and the down projection. -/
theorem experts_eq (X : FVec Ideal S16x4096x2048 .f32) (G U : FVec Ideal S16x2048x4096 .f32) (D : FVec Ideal S16x4096x2048 .f32) :
    Host.dotGeneral dot_S16x4096x4096_S16x4096x2048_S16x4096x2048_2_1_1_2_0_0 none
      (mulf (mulf (Host.dotGeneral dot_S16x4096x2048_S16x2048x4096_S16x4096x4096_2_1_1_2_0_0 none X G)
          (Host.divf (broadcastInDim S16x4096x4096 ![] bcast_S_S16x4096x4096 (constant S_ .f32 0x3F800000#32))
            (addf (broadcastInDim S16x4096x4096 ![] bcast_S_S16x4096x4096 (constant S_ .f32 0x3F800000#32))
              (Host.exp (Host.negf (Host.dotGeneral dot_S16x4096x2048_S16x2048x4096_S16x4096x4096_2_1_1_2_0_0 none X G))))))
        (Host.dotGeneral dot_S16x4096x2048_S16x2048x4096_S16x4096x4096_2_1_1_2_0_0 none X U)) D
      = ffn X G U D := by
  funext i
  idx_vars i
  unfold ffn Cert.Kernel7Ideal.Moe.hidden
  pointwise
  rfl

set_option maxHeartbeats 4000000 in
/-- The reference ends with `Moe.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run m ρ)
  simp only [res_main_v48, res_main_v46, res_main_v42, res_main_v30, res_main_v21]
  rw [experts_eq]
  rfl

end Cert.Reference7Ideal.Moe

end
-- ==== Proof.Mm8.lean ====
/- The matrix products of `Kernel8Ideal`: what each `mm` region leaves in its output array. A grid point takes 1024 rows of the
   left matrix and 512 columns of the right one whole along the contracted axis, so every block it writes back is that block
   of the product. -/
module

public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Kernel8Ideal.Mm

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-! ## Region 0: 32768×2048 times 2048×13824 -/

/-- The product of the two matrices. -/
def product0 (X : Vec Ideal S32768x2048 .bf16) (W : Vec Ideal S2048x13824 .bf16) : Vec Ideal S32768x13824 .f32 :=
  fun i => ∑ j : Fin 2048, X (ix2 (i 0) j) * W (ix2 j (i 1))

/-- The body's stored value, entry by entry. -/
theorem pay0_apply (x0 : Vec Ideal S1024x2048 .bf16) (x1 : Vec Ideal S2048x512 .bf16) (a : Fin 1024) (b : Fin 512) :
    k0_pay1 x0 x1 (ix2 a b) = ∑ j : Fin 2048, x0 (ix2 a j) * x1 (ix2 j b) := by
  pointwise [k0_pay1]

theorem idx0_0 : ∀ t : Fin cfg0.N, win0_0.index t = ![t.val / 27, 0] := (by decide +kernel : ∀ t : Fin grid0.N, _)
theorem idx0_1 : ∀ t : Fin cfg0.N, win0_1.index t = ![0, t.val % 27] := (by decide +kernel : ∀ t : Fin grid0.N, _)
theorem idx0_2 : ∀ t : Fin cfg0.N, win0_2.index t = ![t.val / 27, t.val % 27] := (by decide +kernel : ∀ t : Fin grid0.N, _)

/-- Row `a` of the left block at point `t` is row `R` of the left matrix. -/
theorem left0 (c : Dev nD) (t : Fin cfg0.N) (a : Fin 1024) (R : Fin 32768) (hR : R.val = t.val / 27 * 1024 + a.val) (j : Fin 2048) :
    (iblk m c 0 t : Vec Ideal S1024x2048 .bf16) (ix2 a j) = (V m c main_v6 : Vec Ideal S32768x2048 .bf16) (ix2 R j) := by
  unfold iblk
  rw [View.read_apply]
  show V m c main_v6 _ = V m c main_v6 _
  congr 1
  funext d
  apply Fin.ext
  match d with
  | ⟨0, _⟩ => show win0_0.index t 0 * 1024 + 1 * a.val = R.val; rw [idx0_0]; show t.val / 27 * 1024 + 1 * a.val = _; omega
  | ⟨1, _⟩ => show win0_0.index t 1 * 2048 + 1 * j.val = j.val; rw [idx0_0]; show 0 * 2048 + 1 * j.val = _; omega

/-- Column `b` of the right block at point `t` is column `C` of the right matrix. -/
theorem right0 (c : Dev nD) (t : Fin cfg0.N) (b : Fin 512) (C : Fin 13824) (hC : C.val = t.val % 27 * 512 + b.val) (j : Fin 2048) :
    (iblk m c 1 t : Vec Ideal S2048x512 .bf16) (ix2 j b) = (V m c main_v4 : Vec Ideal S2048x13824 .bf16) (ix2 j C) := by
  unfold iblk
  rw [View.read_apply]
  show V m c main_v4 _ = V m c main_v4 _
  congr 1
  funext d
  apply Fin.ext
  match d with
  | ⟨0, _⟩ => show win0_1.index t 0 * 2048 + 1 * j.val = j.val; rw [idx0_1]; show 0 * 2048 + 1 * j.val = _; omega
  | ⟨1, _⟩ => show win0_1.index t 1 * 512 + 1 * b.val = C.val; rw [idx0_1]; show t.val % 27 * 512 + 1 * b.val = _; omega

/-- The region's output array after the run. -/
theorem final0 (c : Dev nD) : (dats m 0 c).arrAt 2 cfg0.N = product0 (V m c main_v6) (V m c main_v4) := by
  refine (dats m 0 c).arrAt_eq_of_covers 2 _ (by decide +kernel) fun t hf y => ?_
  blk_simp
  rw [after0_2]
  frame_out
  have hN : t.val < 864 := lt_of_lt_of_eq t.isLt (show cfg0.N = 864 from N_0)
  have hy0 : (y 0).val < 1024 := (y 0).isLt
  have hy1 : (y 1).val < 512 := (y 1).isLt
  have h0 : (((win0_2.blk t).view.emb y) 0).val = t.val / 27 * 1024 + (y 0).val := by
    show win0_2.index t 0 * 1024 + 1 * (y 0).val = _; rw [idx0_2]; show t.val / 27 * 1024 + 1 * (y 0).val = _; omega
  have h1 : (((win0_2.blk t).view.emb y) 1).val = t.val % 27 * 512 + (y 1).val := by
    show win0_2.index t 1 * 512 + 1 * (y 1).val = _; rw [idx0_2]; show t.val % 27 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 m c t (y 0) (((win0_2.blk t).view.emb y) 0) h0 j, right0 m c t (y 1) (((win0_2.blk t).view.emb y) 1) h1 j]

end Cert.Kernel8Ideal.Mm

end
-- ==== Proof.SampleStart.lean ====
/- The layer's start: the input projection and, from its columns, the short convolutions, the queries and the gates. The kernel's
   projection has 96 columns of zeros after the first 6560; no result reads them. -/
module

public import proofs.«01_k».proof.Proof.Mm8
public import Idealize.ShloMosaic.Lib.StableHlo.Run

@[expose] public section

set_option maxRecDepth 16384

noncomputable section

namespace Cert.Kernel8Ideal.Start

open Cert.Kernel8Ideal Cert.Kernel8Ideal.Gen Cert.Kernel8Ideal.Mm Idealize.ShloMosaic Idealize.ShloMosaic.TcCoe Idealize.SL.Sem Idealize.ShloMosaic.StableHlo

/-! ## The mathematics -/

/-- Column `n` of the input projection. -/
def column (x : FVec Ideal S16x2048x2048 .f32) (w : FVec Ideal S2048x13728 .f32) (b : Fin 16) (l : Fin 2048) (n : Fin 13728) : EReal :=
  ∑ j : Fin 2048, x (ix3 b l j) * w (ix2 j n)

/-- What stands before the first token and after the last one: zero, as the cast of the integer. -/
def outside : EReal := FloatOps.sitofp (F := Ideal) FTy.f32 0#32

/-- Column `n` of the short convolution over the tokens: the token before, the token and the token after. -/
def conv (x : FVec Ideal S16x2048x2048 .f32) (w : FVec Ideal S2048x13728 .f32) (k : FVec Ideal S3x6560 .f32) (b : Fin 16) (l : Fin 2048) (n : Fin 6560) : EReal :=
  (k (ix2 0 n) * (if h : 1 ≤ l.val ∧ l.val - 1 < 2048 then column x w b ⟨l.val - 1, h.2⟩ ⟨n.val, by omega⟩ else outside)
    + k (ix2 1 n) * column x w b l ⟨n.val, by omega⟩)
  + k (ix2 2 n) * (if h : 1 ≤ 2 + l.val ∧ 2 + l.val - 1 < 2048 then column x w b ⟨2 + l.val - 1, h.2⟩ ⟨n.val, by omega⟩ else outside)

/-- Columns 0 to 3071 of the short convolution. -/
def short_0 (x : FVec Ideal S16x2048x2048 .f32) (w : FVec Ideal S2048x13728 .f32) (k : FVec Ideal S3x6560 .f32) : FVec Ideal S16x2048x3072 .f32 :=
  fun i => conv x w k (i 0) (i 1) ⟨(i 2).val, by have h : (i 2).val < 3072 := (i 2).isLt; omega⟩

/-- Columns 3072 to 6143 of the short convolution. -/
def short_3072 (x : FVec Ideal S16x2048x2048 .f32) (w : FVec Ideal S2048x13728 .f32) (k : FVec Ideal S3x6560 .f32) : FVec Ideal S16x2048x3072 .f32 :=
  fun i => conv x w k (i 0) (i 1) ⟨3072 + (i 2).val, by have h : (i 2).val < 3072 := (i 2).isLt; omega⟩

/-- Columns 6144 to 6559 of the short convolution. -/
def short_6144 (x : FVec Ideal S16x2048x2048 .f32) (w : FVec Ideal S2048x13728 .f32) (k : FVec Ideal S3x6560 .f32) : FVec Ideal S16x2048x416 .f32 :=
  fun i => conv x w k (i 0) (i 1) ⟨6144 + (i 2).val, by have h : (i 2).val < 416 := (i 2).isLt; omega⟩

/-- The queries of the memory attention. -/
def queries (x : FVec Ideal S16x2048x2048 .f32) (w : FVec Ideal S2048x13728 .f32) : FVec Ideal S16x2048x1024 .f32 :=
  fun i => column x w (i 0) (i 1) ⟨6560 + (i 2).val, by have h : (i 2).val < 1024 := (i 2).isLt; omega⟩

/-- The logistic function. -/
def logistic (t : EReal) : EReal :=
  Ideal.div 1 (1 + Ideal.exp (-t))

/-- The branches' gates before they are split by branch. -/
def gates (x : FVec Ideal S16x2048x2048 .f32) (w : FVec Ideal S2048x13728 .f32) : FVec Ideal S16x2048x6144 .f32 :=
  fun i => logistic (column x w (i 0) (i 1) ⟨7584 + (i 2).val, by have h : (i 2).val < 6144 := (i 2).isLt; omega⟩)

/-! ## The kernel's host lines -/

section Lines
variable {F : FTy → Type} [FloatOps F]

/-- The projection's weight with 96 columns of zeros after the first 6560. -/
def weight (w : FVec F S2048x13728 .f32) : FVec F S2048x13824 .f32 :=
  concatenate S2048x13824 1 [⟨S2048x6560, extractStridedSlice S2048x6560 ![0, 0] w slices_S2048x13728_S2048x6560_0_0⟩,
    ⟨S2048x96, broadcastInDim S2048x96 ![] bcast_S_S2048x96 (constant S_ .f32 0x00000000#32 : FVec F S_ .f32)⟩,
    ⟨S2048x7168, extractStridedSlice S2048x7168 ![0, 6560] w slices_S2048x13728_S2048x7168_0_6560⟩] concatenates_S2048x6560_S2048x96_S2048x7168_S2048x13824_d1

/-- Zero padding along the tokens, 3072 columns. -/
def padded3072 (u : FVec F S16x2048x3072 .f32) : FVec F S16x2050x3072 .f32 :=
  pad S16x2050x3072 ![0, 1, 0] ![0, 1, 0] ![0, 0, 0] u (sitofp .f32 (constantI S_ 32 0#32) : FVec F S_ .f32) pads_S16x2048x3072_S16x2050x3072_000_110_000 h_S_

/-- One tap of a short convolution of 3072 columns: the tap's weights times the shifted tokens. -/
def tap3072 (w : FVec F S3072 .f32) (u : FVec F S16x2048x3072 .f32) : FVec F S16x2048x3072 .f32 :=
  mulf (broadcastInDim S16x2048x3072 ![0, 1, 2] bcast_S1x1x3072_S16x2048x3072_0_1_2 (broadcastInDim S1x1x3072 ![2] bcast_S3072_S1x1x3072_2 w)) u

/-- The short convolution of 3072 columns, the host's lines. -/
def conv3072 (u : FVec F S16x2048x3072 .f32) (k : FVec F S3x3072 .f32) : FVec F S16x2048x3072 .f32 :=
  addf (addf (tap3072 (shapeCast _ (extractStridedSlice S1x3072 ![0, 0] k slices_S3x3072_S1x3072_0_0) shapeCasts_S1x3072_S3072)
        (extractStridedSlice S16x2048x3072 ![0, 0, 0] (padded3072 u) slices_S16x2050x3072_S16x2048x3072_0_0_0))
      (tap3072 (shapeCast _ (extractStridedSlice S1x3072 ![1, 0] k slices_S3x3072_S1x3072_1_0) shapeCasts_S1x3072_S3072)
        (extractStridedSlice S16x2048x3072 ![0, 1, 0] (padded3072 u) slices_S16x2050x3072_S16x2048x3072_0_1_0)))
    (tap3072 (shapeCast _ (extractStridedSlice S1x3072 ![2, 0] k slices_S3x3072_S1x3072_2_0) shapeCasts_S1x3072_S3072)
      (extractStridedSlice S16x2048x3072 ![0, 2, 0] (padded3072 u) slices_S16x2050x3072_S16x2048x3072_0_2_0))

/-- Zero padding along the tokens, 416 columns. -/
def padded416 (u : FVec F S16x2048x416 .f32) : FVec F S16x2050x416 .f32 :=
  pad S16x2050x416 ![0, 1, 0] ![0, 1, 0] ![0, 0, 0] u (sitofp .f32 (constantI S_ 32 0#32) : FVec F S_ .f32) pads_S16x2048x416_S16x2050x416_000_110_000 h_S_

/-- One tap of a short convolution of 416 columns: the tap's weights times the shifted tokens. -/
def tap416 (w : FVec F S416 .f32) (u : FVec F S16x2048x416 .f32) : FVec F S16x2048x416 .f32 :=
  mulf (broadcastInDim S16x2048x416 ![0, 1, 2] bcast_S1x1x416_S16x2048x416_0_1_2 (broadcastInDim S1x1x416 ![2] bcast_S416_S1x1x416_2 w)) u

/-- The short convolution of 416 columns, the host's lines. -/
def conv416 (u : FVec F S16x2048x416 .f32) (k : FVec F S3x416 .f32) : FVec F S16x2048x416 .f32 :=
  addf (addf (tap416 (shapeCast _ (extractStridedSlice S1x416 ![0, 0] k slices_S3x416_S1x416_0_0) shapeCasts_S1x416_S416)
        (extractStridedSlice S16x2048x416 ![0, 0, 0] (padded416 u) slices_S16x2050x416_S16x2048x416_0_0_0))
      (tap416 (shapeCast _ (extractStridedSlice S1x416 ![1, 0] k slices_S3x416_S1x416_1_0) shapeCasts_S1x416_S416)
        (extractStridedSlice S16x2048x416 ![0, 1, 0] (padded416 u) slices_S16x2050x416_S16x2048x416_0_1_0)))
    (tap416 (shapeCast _ (extractStridedSlice S1x416 ![2, 0] k slices_S3x416_S1x416_2_0) shapeCasts_S1x416_S416)
      (extractStridedSlice S16x2048x416 ![0, 2, 0] (padded416 u) slices_S16x2050x416_S16x2048x416_0_2_0))

/-- The gates' lines. -/
def gateLines (u : FVec F S16x2048x6144 .f32) : FVec F S16x2048x6144 .f32 :=
  Host.divf (broadcastInDim S16x2048x6144 ![] bcast_S_S16x2048x6144 (constant S_ .f32 0x3F800000#32))
    (addf (broadcastInDim S16x2048x6144 ![] bcast_S_S16x2048x6144 (constant S_ .f32 0x3F800000#32)) (Host.exp (Host.negf u)))

end Lines

/-- The projection as the region and the reshape after it leave it. -/
def wide (x : FVec Ideal S16x2048x2048 .f32) (w : FVec Ideal S2048x13728 .f32) : FVec Ideal S16x2048x13824 .f32 :=
  shapeCast (α := EReal) S16x2048x13824 (product0 (shapeCast (α := EReal) S32768x2048 x shapeCasts_S16x2048x2048_S32768x2048) (weight (F := Ideal) w)) shapeCasts_S32768x13824_S16x2048x13824

/-! ## The lines compute the mathematics -/

theorem weight_low (w : FVec Ideal S2048x13728 .f32) (j : Fin 2048) (n : Fin 13824) (h : n.val < 6560) :
    weight (F := Ideal) w (ix2 j n) = w (ix2 j ⟨n.val, by omega⟩) := by
  unfold weight
  pointwise
  rw [dif_pos h]

theorem weight_high (w : FVec Ideal S2048x13728 .f32) (j : Fin 2048) (n : Fin 13824) (h : 6656 ≤ n.val) :
    weight (F := Ideal) w (ix2 j n) = w (ix2 j ⟨n.val - 96, by omega⟩) := by
  unfold weight
  pointwise
  rw [dif_neg (by omega), dif_neg (by omega)]
  exact congrArg (fun n => w (ix2 j n)) (Fin.ext (by show 6560 + (n.val - 6560 - 96) = n.val - 96; omega))

theorem wide_apply (x : FVec Ideal S16x2048x2048 .f32) (w : FVec Ideal S2048x13728 .f32) (b : Fin 16) (l : Fin 2048) (n : Fin 13824) :
    wide x w (ix3 b l n) = ∑ j : Fin 2048, x (ix3 b l j) * weight (F := Ideal) w (ix2 j n) := by
  unfold wide
  pointwise [product0]
  done

theorem wide_low (x : FVec Ideal S16x2048x2048 .f32) (w : FVec Ideal S2048x13728 .f32) (b : Fin 16) (l : Fin 2048) (n : Fin 13824) (h : n.val < 6560) :
    wide x w (ix3 b l n) = column x w b l ⟨n.val, by omega⟩ := by
  rw [wide_apply]
  exact Finset.sum_congr rfl fun j _ => by rw [weight_low w j n h]

theorem wide_high (x : FVec Ideal S16x2048x2048 .f32) (w : FVec Ideal S2048x13728 .f32) (b : Fin 16) (l : Fin 2048) (n : Fin 13824) (h : 6656 ≤ n.val) :
    wide x w (ix3 b l n) = column x w b l ⟨n.val - 96, by omega⟩ := by
  rw [wide_apply]
  exact Finset.sum_congr rfl fun j _ => by rw [weight_high w j n h]

theorem conv3072_0 (x : FVec Ideal S16x2048x2048 .f32) (w : FVec Ideal S2048x13728 .f32) (k : FVec Ideal S3x6560 .f32) :
    conv3072 (F := Ideal) (extractStridedSlice S16x2048x3072 ![0, 0, 0] (wide x w) slices_S16x2048x13824_S16x2048x3072_0_0_0)
      (extractStridedSlice S3x3072 ![0, 0] k slices_S3x6560_S3x3072_0_0) = short_0 x w k := by
  funext i
  idx_vars i
  unfold conv3072 tap3072 padded3072 short_0 conv
  have e : ∀ (b : Fin 16) (l : Fin 2048), wide x w (ix3 b l ⟨i2.val, by omega⟩) = column x w b l ⟨i2.val, by omega⟩ :=
    fun b l => wide_low x w b l _ (by show i2.val < 6560; omega)
  pointwise
  simp only [e]
  rfl

theorem conv3072_3072 (x : FVec Ideal S16x2048x2048 .f32) (w : FVec Ideal S2048x13728 .f32) (k : FVec Ideal S3x6560 .f32) :
    conv3072 (F := Ideal) (extractStridedSlice S16x2048x3072 ![0, 0, 3072] (wide x w) slices_S16x2048x13824_S16x2048x3072_0_0_3072)
      (extractStridedSlice S3x3072 ![0, 3072] k slices_S3x6560_S3x3072_0_3072) = short_3072 x w k := by
  funext i
  idx_vars i
  unfold conv3072 tap3072 padded3072 short_3072 conv
  have e : ∀ (b : Fin 16) (l : Fin 2048), wide x w (ix3 b l ⟨3072 + i2.val, by omega⟩) = column x w b l ⟨3072 + i2.val, by omega⟩ :=
    fun b l => wide_low x w b l _ (by show 3072 + i2.val < 6560; omega)
  pointwise
  simp only [e]
  rfl

theorem conv416_6144 (x : FVec Ideal S16x2048x2048 .f32) (w : FVec Ideal S2048x13728 .f32) (k : FVec Ideal S3x6560 .f32) :
    conv416 (F := Ideal) (extractStridedSlice S16x2048x416 ![0, 0, 6144] (wide x w) slices_S16x2048x13824_S16x2048x416_0_0_6144)
      (extractStridedSlice S3x416 ![0, 6144] k slices_S3x6560_S3x416_0_6144) = short_6144 x w k := by
  funext i
  idx_vars i
  unfold conv416 tap416 padded416 short_6144 conv
  have e : ∀ (b : Fin 16) (l : Fin 2048), wide x w (ix3 b l ⟨6144 + i2.val, by omega⟩) = column x w b l ⟨6144 + i2.val, by omega⟩ :=
    fun b l => wide_low x w b l _ (by show 6144 + i2.val < 6560; omega)
  pointwise
  simp only [e]
  rfl

theorem queries_eq (x : FVec Ideal S16x2048x2048 .f32) (w : FVec Ideal S2048x13728 .f32) :
    extractStridedSlice S16x2048x1024 ![0, 0, 6656] (wide x w) slices_S16x2048x13824_S16x2048x1024_0_0_6656 = queries x w := by
  funext i
  idx_vars i
  unfold queries
  pointwise
  refine (wide_high x w i0 i1 _ (by show 6656 ≤ 6656 + i2.val; omega)).trans ?_
  exact congrArg (column x w i0 i1) (Fin.ext (by show 6656 + i2.val - 96 = 6560 + i2.val; omega))

theorem gates_eq (x : FVec Ideal S16x2048x2048 .f32) (w : FVec Ideal S2048x13728 .f32) :
    gateLines (F := Ideal) (extractStridedSlice S16x2048x6144 ![0, 0, 7680] (wide x w) slices_S16x2048x13824_S16x2048x6144_0_0_7680) = gates x w := by
  funext i
  idx_vars i
  unfold gates gateLines
  pointwise
  rw [wide_high x w i0 i1 _ (by show 6656 ≤ 7680 + i2.val; omega)]
  exact congrArg (fun n => logistic (column x w i0 i1 n)) (Fin.ext (by show 7680 + i2.val - 96 = 7584 + i2.val; omega))

end Cert.Kernel8Ideal.Start

end
-- ==== Proof.SampleStartRun.lean ====
/- The start's kernel: the projection's array after the region, the host lines after it, and the run with its five results. -/
module

public import proofs.«01_k».proof.Proof.SampleStart

@[expose] public section

set_option maxRecDepth 16384

noncomputable section

namespace Cert.Kernel8Ideal.Start

open Cert.Kernel8Ideal Cert.Kernel8Ideal.Gen Cert.Kernel8Ideal.Mm Idealize.ShloMosaic Idealize.ShloMosaic.TcCoe Idealize.SL.Sem Idealize.ShloMosaic.StableHlo

/-! ## The host stretches, from any contents -/

/-- The host lines after the region. -/
abbrev tail : List (HloOp τ sig (Elt Ideal)) :=
  List.flatten [hostOps1, hostOps1_1, hostOps1_2, hostOps1_3, hostOps1_4, hostOps1_5, hostOps1_6]

section Host
variable (W : Valuation τ sig (Elt Ideal))

theorem head_weight : after hostOps0 W (Proc.devRef .tc main_v4) = weight (F := Ideal) (W (Proc.devRef .tc main_arg1)) := by
  simp only [hostOps0]; after_results_simp; dsimp only [weight]; rfl

theorem head_rows : after hostOps0 W (Proc.devRef .tc main_v6)
    = shapeCast (α := EReal) S32768x2048 (W (Proc.devRef .tc main_arg0)) shapeCasts_S16x2048x2048_S32768x2048 := by
  simp only [hostOps0]; after_results_simp; rfl

set_option maxHeartbeats 4000000 in
theorem tail_hy : after tail W (Proc.devRef .tc main_v31)
    = conv3072 (F := Ideal) (extractStridedSlice S16x2048x3072 ![0, 0, 0] (shapeCast (α := EReal) S16x2048x13824 (W (Proc.devRef .tc main_v7)) shapeCasts_S32768x13824_S16x2048x13824) slices_S16x2048x13824_S16x2048x3072_0_0_0)
        (extractStridedSlice S3x3072 ![0, 0] (W (Proc.devRef .tc main_arg2)) slices_S3x6560_S3x3072_0_0) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv3072, tap3072, padded3072]
  rfl

set_option maxHeartbeats 4000000 in
theorem tail_rw : after tail W (Proc.devRef .tc main_v54)
    = conv3072 (F := Ideal) (extractStridedSlice S16x2048x3072 ![0, 0, 3072] (shapeCast (α := EReal) S16x2048x13824 (W (Proc.devRef .tc main_v7)) shapeCasts_S32768x13824_S16x2048x13824) slices_S16x2048x13824_S16x2048x3072_0_0_3072)
        (extractStridedSlice S3x3072 ![0, 3072] (W (Proc.devRef .tc main_arg2)) slices_S3x6560_S3x3072_0_3072) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv3072, tap3072, padded3072]
  rfl

set_option maxHeartbeats 4000000 in
theorem tail_lo : after tail W (Proc.devRef .tc main_v77)
    = conv416 (F := Ideal) (extractStridedSlice S16x2048x416 ![0, 0, 6144] (shapeCast (α := EReal) S16x2048x13824 (W (Proc.devRef .tc main_v7)) shapeCasts_S32768x13824_S16x2048x13824) slices_S16x2048x13824_S16x2048x416_0_0_6144)
        (extractStridedSlice S3x416 ![0, 6144] (W (Proc.devRef .tc main_arg2)) slices_S3x6560_S3x416_0_6144) := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [conv416, tap416, padded416]
  rfl

set_option maxHeartbeats 4000000 in
theorem tail_queries : after tail W (Proc.devRef .tc main_v86)
    = extractStridedSlice S16x2048x1024 ![0, 0, 6656] (shapeCast (α := EReal) S16x2048x13824 (W (Proc.devRef .tc main_v7)) shapeCasts_S32768x13824_S16x2048x13824) slices_S16x2048x13824_S16x2048x1024_0_0_6656 := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  rfl

set_option maxHeartbeats 4000000 in
theorem tail_gates : after tail W (Proc.devRef .tc main_v85)
    = shapeCast (α := EReal) S16x2048x3x2048 (gateLines (F := Ideal) (extractStridedSlice S16x2048x6144 ![0, 0, 7680] (shapeCast (α := EReal) S16x2048x13824 (W (Proc.devRef .tc main_v7)) shapeCasts_S32768x13824_S16x2048x13824) slices_S16x2048x13824_S16x2048x6144_0_0_7680)) shapeCasts_S16x2048x6144_S16x2048x3x2048 := by
  simp only [tail, hostOps1, hostOps1_1, hostOps1_2, hostOps1_3, hostOps1_4, hostOps1_5, hostOps1_6, List.flatten_cons, List.flatten_nil, List.append_nil,
    List.cons_append, List.nil_append, TRef.binary, TRef.unary, TRef.toBuf, TRef.ofBuf, cast_eq]
  after_results_simp
  dsimp only [gateLines]
  rfl

end Host

/-! ## From the launch to the results -/

variable (m : (ℓ : Loc nD τ sig) → Buf (Elt Ideal) ℓ) (ρ : Dev nD → PrngReg)

theorem V_rows (c : Dev nD) : V m c main_v6 = shapeCast (α := EReal) S32768x2048 (m ((c.tc : Thread nD τ).loc main_arg0)) shapeCasts_S16x2048x2048_S32768x2048 := by
  unfold V V0
  simp only [List.flatten_cons, List.flatten_nil, List.append_nil]
  exact head_rows _

theorem V_weight (c : Dev nD) : V m c main_v4 = weight (F := Ideal) (m ((c.tc : Thread nD τ).loc main_arg1)) := by
  unfold V V0
  simp only [List.flatten_cons, List.flatten_nil, List.append_nil]
  exact head_weight _

/-- A buffer the region does not write keeps its contents. -/
theorem rest (c : Dev nD) (b : Ref sig .tc) (hb : ∀ w, Pipeline.arrRef spec0 w ≠ b) :
    Pipeline.withArrays spec0 c (V0 m c) (fun w => (dats m 0 c).arrAt w cfg0.N) (Proc.devRef .tc b) = V0 m c (Proc.devRef .tc b) :=
  Pipeline.withArrays_of_ne spec0 c (V0 m c) _ b hb

/-- The projection, reshaped, after the region. -/
theorem product_end (c : Dev nD) :
    shapeCast (α := EReal) S16x2048x13824 (Pipeline.withArrays spec0 c (V0 m c) (fun w => (dats m 0 c).arrAt w cfg0.N) (Proc.devRef .tc main_v7)) shapeCasts_S32768x13824_S16x2048x13824
      = wide (m ((c.tc : Thread nD τ).loc main_arg0)) (m ((c.tc : Thread nD τ).loc main_arg1)) := by
  unfold wide
  rw [← V_rows m c, ← V_weight m c, ← final0 m c]
  exact congrArg (fun a => shapeCast (α := EReal) S16x2048x13824 a shapeCasts_S32768x13824_S16x2048x13824)
    (Pipeline.withArrays_arr spec0 (by decide) c (V0 m c) _ 2)

theorem end_hy (c : Dev nD) : Pipeline.afterTail₀ cfgs (dats m) 0 (V0 m) [hostOps1, hostOps1_1, hostOps1_2, hostOps1_3, hostOps1_4, hostOps1_5, hostOps1_6] c main_v31 = short_0 (m ((c.tc : Thread nD τ).loc main_arg0)) (m ((c.tc : Thread nD τ).loc main_arg1)) (m ((c.tc : Thread nD τ).loc main_arg2)) := by
  unfold Pipeline.afterTail₀
  refine (tail_hy _).trans ?_
  have e2 := (rest m c main_arg2 (by decide)).trans (V_main_arg2 m c)
  rw [product_end m c, e2]
  exact conv3072_0 _ _ _

theorem end_rw (c : Dev nD) : Pipeline.afterTail₀ cfgs (dats m) 0 (V0 m) [hostOps1, hostOps1_1, hostOps1_2, hostOps1_3, hostOps1_4, hostOps1_5, hostOps1_6] c main_v54 = short_3072 (m ((c.tc : Thread nD τ).loc main_arg0)) (m ((c.tc : Thread nD τ).loc main_arg1)) (m ((c.tc : Thread nD τ).loc main_arg2)) := by
  unfold Pipeline.afterTail₀
  refine (tail_rw _).trans ?_
  have e2 := (rest m c main_arg2 (by decide)).trans (V_main_arg2 m c)
  rw [product_end m c, e2]
  exact conv3072_3072 _ _ _

theorem end_lo (c : Dev nD) : Pipeline.afterTail₀ cfgs (dats m) 0 (V0 m) [hostOps1, hostOps1_1, hostOps1_2, hostOps1_3, hostOps1_4, hostOps1_5, hostOps1_6] c main_v77 = short_6144 (m ((c.tc : Thread nD τ).loc main_arg0)) (m ((c.tc : Thread nD τ).loc main_arg1)) (m ((c.tc : Thread nD τ).loc main_arg2)) := by
  unfold Pipeline.afterTail₀
  refine (tail_lo _).trans ?_
  have e2 := (rest m c main_arg2 (by decide)).trans (V_main_arg2 m c)
  rw [product_end m c, e2]
  exact conv416_6144 _ _ _

theorem end_queries (c : Dev nD) : Pipeline.afterTail₀ cfgs (dats m) 0 (V0 m) [hostOps1, hostOps1_1, hostOps1_2, hostOps1_3, hostOps1_4, hostOps1_5, hostOps1_6] c main_v86 = queries (m ((c.tc : Thread nD τ).loc main_arg0)) (m ((c.tc : Thread nD τ).loc main_arg1)) := by
  unfold Pipeline.afterTail₀
  refine (tail_queries _).trans ?_
  rw [product_end m c]
  exact queries_eq _ _

theorem end_gates (c : Dev nD) : Pipeline.afterTail₀ cfgs (dats m) 0 (V0 m) [hostOps1, hostOps1_1, hostOps1_2, hostOps1_3, hostOps1_4, hostOps1_5, hostOps1_6] c main_v85
    = shapeCast (α := EReal) S16x2048x3x2048 (gates (m ((c.tc : Thread nD τ).loc main_arg0)) (m ((c.tc : Thread nD τ).loc main_arg1))) shapeCasts_S16x2048x6144_S16x2048x3x2048 := by
  unfold Pipeline.afterTail₀
  refine (tail_gates _).trans ?_
  rw [product_end m c, gates_eq]

/-- The kernel ends with the five results of its arguments, which it leaves unchanged. -/
theorem run_layer : θ_run defs (onTc (τ := τ) (main (F := Ideal))) ⟨m, fun _ => 0, ρ⟩ fun r => ∀ c : Dev nD,
      r.2.mem ((c.tc : Thread nD τ).loc main_v31) = short_0 (m ((c.tc : Thread nD τ).loc main_arg0)) (m ((c.tc : Thread nD τ).loc main_arg1)) (m ((c.tc : Thread nD τ).loc main_arg2))
      ∧ r.2.mem ((c.tc : Thread nD τ).loc main_v54) = short_3072 (m ((c.tc : Thread nD τ).loc main_arg0)) (m ((c.tc : Thread nD τ).loc main_arg1)) (m ((c.tc : Thread nD τ).loc main_arg2))
      ∧ r.2.mem ((c.tc : Thread nD τ).loc main_v77) = short_6144 (m ((c.tc : Thread nD τ).loc main_arg0)) (m ((c.tc : Thread nD τ).loc main_arg1)) (m ((c.tc : Thread nD τ).loc main_arg2))
      ∧ r.2.mem ((c.tc : Thread nD τ).loc main_v86) = queries (m ((c.tc : Thread nD τ).loc main_arg0)) (m ((c.tc : Thread nD τ).loc main_arg1))
      ∧ r.2.mem ((c.tc : Thread nD τ).loc main_v85) = shapeCast (α := EReal) S16x2048x3x2048 (gates (m ((c.tc : Thread nD τ).loc main_arg0)) (m ((c.tc : Thread nD τ).loc main_arg1))) shapeCasts_S16x2048x6144_S16x2048x3x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv := (θ_run defs _ _).mono (fun _ h (c : Dev nD) =>
    And.intro (((h c).2 main_v31 (Pipeline.mem_restRefs_of main_v31 (by decide) (by decide))).trans (end_hy m c))
    (And.intro (((h c).2 main_v54 (Pipeline.mem_restRefs_of main_v54 (by decide) (by decide))).trans (end_rw m c))
    (And.intro (((h c).2 main_v77 (Pipeline.mem_restRefs_of main_v77 (by decide) (by decide))).trans (end_lo m c))
    (And.intro (((h c).2 main_v86 (Pipeline.mem_restRefs_of main_v86 (by decide) (by decide))).trans (end_queries m c))
      (((h c).2 main_v85 (Pipeline.mem_restRefs_of main_v85 (by decide) (by decide))).trans (end_gates m c)))))) (run_main m ρ)
  exact (θ_run defs _ _).mono (fun _ h c => ⟨(h.1 c).1, (h.1 c).2.1, (h.1 c).2.2.1, (h.1 c).2.2.2.1, (h.1 c).2.2.2.2, h.2 c⟩) (θ_run_and hv (unchanged m ρ))

end Cert.Kernel8Ideal.Start

end
-- ==== Proof.SampleStartReference.lean ====
/- The start's reference: its run ends with the same five functions of the arguments as the kernel's. -/
module

public import proofs.«01_k».proof.Proof.SampleStart
public import proofs.«01_k».proof.Proof.Gen.Reference8Ideal.Run

@[expose] public section

set_option maxRecDepth 16384

noncomputable section

namespace Cert.Reference8Ideal.Start

open Cert.Reference8Ideal Cert.Reference8Ideal.Gen Cert.Reference8Ideal.Value Idealize.ShloMosaic Idealize.ShloMosaic.TcCoe Idealize.SL.Sem Idealize.ShloMosaic.StableHlo
open Cert.Kernel8Ideal.Start (column outside conv short_0 short_3072 short_6144 queries gates)

/-- The reference's projection. -/
def projected (x : FVec Ideal S16x2048x2048 .f32) (w : FVec Ideal S2048x13728 .f32) : FVec Ideal S16x2048x13728 .f32 :=
  Host.dotGeneral dot_S16x2048x2048_S2048x13728_S16x2048x13728_2_0_01_1_n_n none x w

/-- The first 6560 columns with a zero token before the first and one after the last. -/
def paddedTokens (x : FVec Ideal S16x2048x2048 .f32) (w : FVec Ideal S2048x13728 .f32) : FVec Ideal S16x2050x6560 .f32 :=
  pad S16x2050x6560 ![0, 1, 0] ![0, 1, 0] ![0, 0, 0] (extractStridedSlice S16x2048x6560 ![0, 0, 0] (projected x w) slices_S16x2048x13728_S16x2048x6560_0_0_0)
    (sitofp .f32 (constantI S_ 32 0#32) : FVec Ideal S_ .f32) pads_S16x2048x6560_S16x2050x6560_000_110_000 h_S_

/-- The reference's short convolution of the first 6560 columns. -/
def shortConv (x : FVec Ideal S16x2048x2048 .f32) (w : FVec Ideal S2048x13728 .f32) (k : FVec Ideal S3x6560 .f32) : FVec Ideal S16x2048x6560 .f32 :=
  addf (addf (mulf (broadcastInDim S16x2048x6560 ![0, 1, 2] bcast_S1x1x6560_S16x2048x6560_0_1_2 (broadcastInDim S1x1x6560 ![2] bcast_S6560_S1x1x6560_2 (shapeCast _ (extractStridedSlice S1x6560 ![0, 0] k slices_S3x6560_S1x6560_0_0) shapeCasts_S1x6560_S6560))) (extractStridedSlice S16x2048x6560 ![0, 0, 0] (paddedTokens x w) slices_S16x2050x6560_S16x2048x6560_0_0_0))
      (mulf (broadcastInDim S16x2048x6560 ![0, 1, 2] bcast_S1x1x6560_S16x2048x6560_0_1_2 (broadcastInDim S1x1x6560 ![2] bcast_S6560_S1x1x6560_2 (shapeCast _ (extractStridedSlice S1x6560 ![1, 0] k slices_S3x6560_S1x6560_1_0) shapeCasts_S1x6560_S6560))) (extractStridedSlice S16x2048x6560 ![0, 1, 0] (paddedTokens x w) slices_S16x2050x6560_S16x2048x6560_0_1_0)))
    (mulf (broadcastInDim S16x2048x6560 ![0, 1, 2] bcast_S1x1x6560_S16x2048x6560_0_1_2 (broadcastInDim S1x1x6560 ![2] bcast_S6560_S1x1x6560_2 (shapeCast _ (extractStridedSlice S1x6560 ![2, 0] k slices_S3x6560_S1x6560_2_0) shapeCasts_S1x6560_S6560))) (extractStridedSlice S16x2048x6560 ![0, 2, 0] (paddedTokens x w) slices_S16x2050x6560_S16x2048x6560_0_2_0))

theorem projected_apply (x : FVec Ideal S16x2048x2048 .f32) (w : FVec Ideal S2048x13728 .f32) (b : Fin 16) (l : Fin 2048) (n : Fin 13728) :
    projected x w (ix3 b l n) = column x w b l n := by
  unfold projected
  pointwise [column]
  done

theorem shortConv_apply (x : FVec Ideal S16x2048x2048 .f32) (w : FVec Ideal S2048x13728 .f32) (k : FVec Ideal S3x6560 .f32)
    (b : Fin 16) (l : Fin 2048) (n : Fin 6560) : shortConv x w k (ix3 b l n) = conv x w k b l n := by
  unfold shortConv paddedTokens conv
  pointwise
  simp only [projected_apply]
  rfl

theorem hy_eq (x : FVec Ideal S16x2048x2048 .f32) (w : FVec Ideal S2048x13728 .f32) (k : FVec Ideal S3x6560 .f32) :
    extractStridedSlice S16x2048x3072 ![0, 0, 0] (shortConv x w k) slices_S16x2048x6560_S16x2048x3072_0_0_0 = short_0 x w k := by
  funext i
  idx_vars i
  unfold short_0
  pointwise [shortConv_apply]
  done

theorem rw_eq (x : FVec Ideal S16x2048x2048 .f32) (w : FVec Ideal S2048x13728 .f32) (k : FVec Ideal S3x6560 .f32) :
    extractStridedSlice S16x2048x3072 ![0, 0, 3072] (shortConv x w k) slices_S16x2048x6560_S16x2048x3072_0_0_3072 = short_3072 x w k := by
  funext i
  idx_vars i
  unfold short_3072
  pointwise [shortConv_apply]
  done

theorem lo_eq (x : FVec Ideal S16x2048x2048 .f32) (w : FVec Ideal S2048x13728 .f32) (k : FVec Ideal S3x6560 .f32) :
    extractStridedSlice S16x2048x416 ![0, 0, 6144] (shortConv x w k) slices_S16x2048x6560_S16x2048x416_0_0_6144 = short_6144 x w k := by
  funext i
  idx_vars i
  unfold short_6144
  pointwise [shortConv_apply]
  done

theorem queries_eq (x : FVec Ideal S16x2048x2048 .f32) (w : FVec Ideal S2048x13728 .f32) :
    extractStridedSlice S16x2048x1024 ![0, 0, 6560] (projected x w) slices_S16x2048x13728_S16x2048x1024_0_0_6560 = queries x w := by
  funext i
  idx_vars i
  unfold queries
  pointwise [projected_apply]
  done

theorem gates_eq (x : FVec Ideal S16x2048x2048 .f32) (w : FVec Ideal S2048x13728 .f32) :
    Host.divf (broadcastInDim S16x2048x6144 ![] bcast_S_S16x2048x6144 (constant S_ .f32 0x3F800000#32))
      (addf (broadcastInDim S16x2048x6144 ![] bcast_S_S16x2048x6144 (constant S_ .f32 0x3F800000#32))
        (Host.exp (Host.negf (extractStridedSlice S16x2048x6144 ![0, 0, 7584] (projected x w) slices_S16x2048x13728_S16x2048x6144_0_0_7584))))
      = gates x w := by
  funext i
  idx_vars i
  unfold gates Cert.Kernel8Ideal.Start.logistic
  pointwise [projected_apply]
  done

set_option maxHeartbeats 4000000 in
/-- The reference ends with the five results of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = short_0 (m ((c.tc : Thread nD τ).loc main_arg0)) (m ((c.tc : Thread nD τ).loc main_arg1)) (m ((c.tc : Thread nD τ).loc main_arg2))
      ∧ r.2.mem ((c.tc : Thread nD τ).loc main_v32) = short_3072 (m ((c.tc : Thread nD τ).loc main_arg0)) (m ((c.tc : Thread nD τ).loc main_arg1)) (m ((c.tc : Thread nD τ).loc main_arg2))
      ∧ r.2.mem ((c.tc : Thread nD τ).loc main_v33) = short_6144 (m ((c.tc : Thread nD τ).loc main_arg0)) (m ((c.tc : Thread nD τ).loc main_arg1)) (m ((c.tc : Thread nD τ).loc main_arg2))
      ∧ r.2.mem ((c.tc : Thread nD τ).loc main_v34) = queries (m ((c.tc : Thread nD τ).loc main_arg0)) (m ((c.tc : Thread nD τ).loc main_arg1))
      ∧ r.2.mem ((c.tc : Thread nD τ).loc main_v30) = shapeCast (α := EReal) S16x2048x3x2048 (gates (m ((c.tc : Thread nD τ).loc main_arg0)) (m ((c.tc : Thread nD τ).loc main_arg1))) shapeCasts_S16x2048x6144_S16x2048x3x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (hy_eq _ _ _), (h c).2.1.trans (rw_eq _ _ _), (h c).2.2.1.trans (lo_eq _ _ _),
    (h c).2.2.2.1.trans (queries_eq _ _), (h c).2.2.2.2.1.trans (congrArg (fun a => shapeCast (α := EReal) S16x2048x3x2048 a shapeCasts_S16x2048x6144_S16x2048x3x2048) (gates_eq _ _)),
    (h c).2.2.2.2.2⟩) (Value.run m ρ)

end Cert.Reference8Ideal.Start

end
-- ==== Proof.Mm9.lean ====
/- The matrix products of `Kernel9Ideal`: what each `mm` region leaves in its output array. A grid point takes 1024 rows of the
   left matrix and 512 columns of the right one whole along the contracted axis, so every block it writes back is that block
   of the product. -/
module

public import proofs.«01_k».proof.Proof.Gen.Kernel9Ideal.Frame
public import Idealize.ShloMosaic.Lib.Pipeline.ValueKit
public import Idealize.ShloMosaic.Lib.Pointwise

@[expose] public section

set_option maxRecDepth 16384

noncomputable section

namespace Cert.Kernel9Ideal.Mm

open Cert.Kernel9Ideal Cert.Kernel9Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Region 0: 4096×2048 times 2048×2048 -/

/-- The product of the two matrices. -/
def product0 (X : Vec Ideal S4096x2048 .bf16) (W : Vec Ideal S2048x2048 .bf16) : Vec Ideal S4096x2048 .f32 :=
  fun i => ∑ j : Fin 2048, X (ix2 (i 0) j) * W (ix2 j (i 1))

/-- The body's stored value, entry by entry. -/
theorem pay0_apply (x0 : Vec Ideal S1024x2048 .bf16) (x1 : Vec Ideal S2048x512 .bf16) (a : Fin 1024) (b : Fin 512) :
    k0_pay1 x0 x1 (ix2 a b) = ∑ j : Fin 2048, x0 (ix2 a j) * x1 (ix2 j b) := by
  pointwise [k0_pay1]

theorem idx0_0 : ∀ t : Fin cfg0.N, win0_0.index t = ![t.val / 4, 0] := (by decide +kernel : ∀ t : Fin grid0.N, _)
theorem idx0_1 : ∀ t : Fin cfg0.N, win0_1.index t = ![0, t.val % 4] := (by decide +kernel : ∀ t : Fin grid0.N, _)
theorem idx0_2 : ∀ t : Fin cfg0.N, win0_2.index t = ![t.val / 4, t.val % 4] := (by decide +kernel : ∀ t : Fin grid0.N, _)

/-- Row `a` of the left block at point `t` is row `R` of the left matrix. -/
theorem left0 (c : Dev nD) (t : Fin cfg0.N) (a : Fin 1024) (R : Fin 4096) (hR : R.val = t.val / 4 * 1024 + a.val) (j : Fin 2048) :
    (iblk0 V c 0 t : Vec Ideal S1024x2048 .bf16) (ix2 a j) = (V c main_v2 : Vec Ideal S4096x2048 .bf16) (ix2 R j) := by
  unfold iblk0
  rw [View.read_apply]
  show V c main_v2 _ = V c main_v2 _
  congr 1
  funext d
  apply Fin.ext
  match d with
  | ⟨0, _⟩ => show win0_0.index t 0 * 1024 + 1 * a.val = R.val; rw [idx0_0]; show t.val / 4 * 1024 + 1 * a.val = _; omega
  | ⟨1, _⟩ => show win0_0.index t 1 * 2048 + 1 * j.val = j.val; rw [idx0_0]; show 0 * 2048 + 1 * j.val = _; omega

/-- Column `b` of the right block at point `t` is column `C` of the right matrix. -/
theorem right0 (c : Dev nD) (t : Fin cfg0.N) (b : Fin 512) (C : Fin 2048) (hC : C.val = t.val % 4 * 512 + b.val) (j : Fin 2048) :
    (iblk0 V c 1 t : Vec Ideal S2048x512 .bf16) (ix2 j b) = (V c main_v0 : Vec Ideal S2048x2048 .bf16) (ix2 j C) := by
  unfold iblk0
  rw [View.read_apply]
  show V c main_v0 _ = V c main_v0 _
  congr 1
  funext d
  apply Fin.ext
  match d with
  | ⟨0, _⟩ => show win0_1.index t 0 * 2048 + 1 * j.val = j.val; rw [idx0_1]; show 0 * 2048 + 1 * j.val = _; omega
  | ⟨1, _⟩ => show win0_1.index t 1 * 512 + 1 * b.val = C.val; rw [idx0_1]; show t.val % 4 * 512 + 1 * b.val = _; omega

/-- The region's output array after the run. -/
theorem final0 (c : Dev nD) : (dat0 V c).arrAt 2 cfg0.N = product0 (V c main_v2) (V c main_v0) := by
  refine (dat0 V c).arrAt_eq_of_covers 2 _ (by decide +kernel) fun t hf y => ?_
  blk_simp
  rw [after0_2]
  frame_out
  have hN : t.val < 16 := lt_of_lt_of_eq t.isLt (show cfg0.N = 16 from N_0)
  have hy0 : (y 0).val < 1024 := (y 0).isLt
  have hy1 : (y 1).val < 512 := (y 1).isLt
  have h0 : (((win0_2.blk t).view.emb y) 0).val = t.val / 4 * 1024 + (y 0).val := by
    show win0_2.index t 0 * 1024 + 1 * (y 0).val = _; rw [idx0_2]; show t.val / 4 * 1024 + 1 * (y 0).val = _; omega
  have h1 : (((win0_2.blk t).view.emb y) 1).val = t.val % 4 * 512 + (y 1).val := by
    show win0_2.index t 1 * 512 + 1 * (y 1).val = _; rw [idx0_2]; show t.val % 4 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 V c t (y 0) (((win0_2.blk t).view.emb y) 0) h0 j, right0 V c t (y 1) (((win0_2.blk t).view.emb y) 1) h1 j]

/-! ## Region 1: 32768×1024 times 1024×2048 -/

/-- The product of the two matrices. -/
def product1 (X : Vec Ideal S32768x1024 .bf16) (W : Vec Ideal S1024x2048 .bf16) : Vec Ideal S32768x2048 .f32 :=
  fun i => ∑ j : Fin 1024, X (ix2 (i 0) j) * W (ix2 j (i 1))

/-- The body's stored value, entry by entry. -/
theorem pay1_apply (x0 : Vec Ideal S1024x1024 .bf16) (x1 : Vec Ideal S1024x512 .bf16) (a : Fin 1024) (b : Fin 512) :
    k1_pay1 x0 x1 (ix2 a b) = ∑ j : Fin 1024, x0 (ix2 a j) * x1 (ix2 j b) := by
  pointwise [k1_pay1]

theorem idx1_0 : ∀ t : Fin cfg1.N, win1_0.index t = ![t.val / 4, 0] := (by decide +kernel : ∀ t : Fin grid1.N, _)
theorem idx1_1 : ∀ t : Fin cfg1.N, win1_1.index t = ![0, t.val % 4] := (by decide +kernel : ∀ t : Fin grid1.N, _)
theorem idx1_2 : ∀ t : Fin cfg1.N, win1_2.index t = ![t.val / 4, t.val % 4] := (by decide +kernel : ∀ t : Fin grid1.N, _)

/-- Row `a` of the left block at point `t` is row `R` of the left matrix. -/
theorem left1 (c : Dev nD) (t : Fin cfg1.N) (a : Fin 1024) (R : Fin 32768) (hR : R.val = t.val / 4 * 1024 + a.val) (j : Fin 1024) :
    (iblk1 V c 0 t : Vec Ideal S1024x1024 .bf16) (ix2 a j) = (V c main_v29 : Vec Ideal S32768x1024 .bf16) (ix2 R j) := by
  unfold iblk1
  rw [View.read_apply]
  show V c main_v29 _ = V c main_v29 _
  congr 1
  funext d
  apply Fin.ext
  match d with
  | ⟨0, _⟩ => show win1_0.index t 0 * 1024 + 1 * a.val = R.val; rw [idx1_0]; show t.val / 4 * 1024 + 1 * a.val = _; omega
  | ⟨1, _⟩ => show win1_0.index t 1 * 1024 + 1 * j.val = j.val; rw [idx1_0]; show 0 * 1024 + 1 * j.val = _; omega

/-- Column `b` of the right block at point `t` is column `C` of the right matrix. -/
theorem right1 (c : Dev nD) (t : Fin cfg1.N) (b : Fin 512) (C : Fin 2048) (hC : C.val = t.val % 4 * 512 + b.val) (j : Fin 1024) :
    (iblk1 V c 1 t : Vec Ideal S1024x512 .bf16) (ix2 j b) = (V c main_v27 : Vec Ideal S1024x2048 .bf16) (ix2 j C) := by
  unfold iblk1
  rw [View.read_apply]
  show V c main_v27 _ = V c main_v27 _
  congr 1
  funext d
  apply Fin.ext
  match d with
  | ⟨0, _⟩ => show win1_1.index t 0 * 1024 + 1 * j.val = j.val; rw [idx1_1]; show 0 * 1024 + 1 * j.val = _; omega
  | ⟨1, _⟩ => show win1_1.index t 1 * 512 + 1 * b.val = C.val; rw [idx1_1]; show t.val % 4 * 512 + 1 * b.val = _; omega

/-- The region's output array after the run. -/
theorem final1 (c : Dev nD) : (dat1 V c).arrAt 2 cfg1.N = product1 (V c main_v29) (V c main_v27) := by
  refine (dat1 V c).arrAt_eq_of_covers 2 _ (by decide +kernel) fun t hf y => ?_
  blk_simp
  rw [after1_2]
  frame_out
  have hN : t.val < 128 := lt_of_lt_of_eq t.isLt (show cfg1.N = 128 from N_1)
  have hy0 : (y 0).val < 1024 := (y 0).isLt
  have hy1 : (y 1).val < 512 := (y 1).isLt
  have h0 : (((win1_2.blk t).view.emb y) 0).val = t.val / 4 * 1024 + (y 0).val := by
    show win1_2.index t 0 * 1024 + 1 * (y 0).val = _; rw [idx1_2]; show t.val / 4 * 1024 + 1 * (y 0).val = _; omega
  have h1 : (((win1_2.blk t).view.emb y) 1).val = t.val % 4 * 512 + (y 1).val := by
    show win1_2.index t 1 * 512 + 1 * (y 1).val = _; rw [idx1_2]; show t.val % 4 * 512 + 1 * (y 1).val = _; omega
  have hy : y = ix2 (y 0) (y 1) := by
    funext d
    match d with
    | ⟨0, _⟩ => rfl
    | ⟨1, _⟩ => rfl
  rw [hy]
  refine (pay1_apply _ _ (y 0) (y 1)).trans ?_
  unfold product1
  rw [← hy]
  refine Finset.sum_congr rfl fun j _ => ?_
  rw [left1 V c t (y 0) (((win1_2.blk t).view.emb y) 0) h0 j, right1 V c t (y 1) (((win1_2.blk t).view.emb y) 1) h1 j]

end Cert.Kernel9Ideal.Mm

end
-- ==== Proof.SampleAttention.lean ====
/- The memory attention: the host lines between its two matrix products, named once as functions of the queries and of the keys
   and values, and kernel and reference read as the same function `Attn.layer` of their arguments. -/
module

public import proofs.«01_k».proof.Proof.Mm9
public import proofs.«01_k».proof.Proof.Gen.Reference9Ideal.Run
public import Idealize.ShloMosaic.Lib.StableHlo.Run

@[expose] public section

set_option maxRecDepth 16384

noncomputable section

namespace Cert.Kernel9Ideal.Attn

open Cert.Kernel9Ideal Cert.Kernel9Ideal.Gen Cert.Kernel9Ideal.Mm Idealize.ShloMosaic Idealize.ShloMosaic.TcCoe Idealize.SL.Sem Idealize.ShloMosaic.StableHlo

variable {F : FTy → Type} [FloatOps F]

/-- The scaled scores of every query against every memory token, head by head. -/
def scores (q : FVec F S16x2048x1024 .f32) (kv : FVec F S16x256x2048 .f32) : FVec F S16x4x2048x256 .f32 :=
  mulf (Host.dotGeneral dot_S16x2048x4x256_S16x256x4x256_S16x4x2048x256_3_3_1_1_02_02 none
      (shapeCast S16x2048x4x256 q shapeCasts_S16x2048x1024_S16x2048x4x256)
      (shapeCast S16x256x4x256 (extractStridedSlice S16x256x1024 ![0, 0, 0] kv slices_S16x256x2048_S16x256x1024_0_0_0) shapeCasts_S16x256x1024_S16x256x4x256))
    (broadcastInDim S16x4x2048x256 ![] bcast_S_S16x4x2048x256 (constant S_ .f32 0x3D800000#32))

/-- Exponentials of the scores, shifted by each query's largest. -/
def expShifted (s : FVec F S16x4x2048x256 .f32) : FVec F S16x4x2048x256 .f32 :=
  Host.exp (subf s (broadcastInDim S16x4x2048x256 ![0, 1, 2, 3] bcast_S16x4x2048x1_S16x4x2048x256_0_1_2_3 (broadcastInDim S16x4x2048x1 ![0, 1, 2] bcast_S16x4x2048_S16x4x2048x1_0_1_2
    (maximumf (broadcastInDim S16x4x2048 ![] bcast_S_S16x4x2048 (constant S_ .f32 0xFF800000#32))
      (Host.reduce FloatOps.maximumf s (constant S_ .f32 0xFF800000#32) reducesTo_S16x4x2048x256_S16x4x2048_d3 h_S_)))))

/-- The attention's weights: each query's softmax over the memory. -/
def weights (s : FVec F S16x4x2048x256 .f32) : FVec F S16x4x2048x256 .f32 :=
  Host.divf (expShifted s) (broadcastInDim S16x4x2048x256 ![0, 1, 2, 3] bcast_S16x4x2048x1_S16x4x2048x256_0_1_2_3 (broadcastInDim S16x4x2048x1 ![0, 1, 2] bcast_S16x4x2048_S16x4x2048x1_0_1_2
    (Host.reduceAdd (expShifted s) (constant S_ .f32 0x00000000#32) reducesTo_S16x4x2048x256_S16x4x2048_d3 h_S_)))

/-- The attention of the queries over keys and values, the heads side by side again. -/
def attend (q : FVec F S16x2048x1024 .f32) (kv : FVec F S16x256x2048 .f32) : FVec F S16x2048x1024 .f32 :=
  shapeCast S16x2048x1024 (transpose S16x2048x4x256 [0, 3, 1, 2] (Host.dotGeneral dot_S16x256x4x256_S16x4x2048x256_S16x4x256x2048_1_3_3_2_02_01 none
      (shapeCast S16x256x4x256 (extractStridedSlice S16x256x1024 ![0, 0, 1024] kv slices_S16x256x2048_S16x256x1024_0_0_1024) shapeCasts_S16x256x1024_S16x256x4x256)
      (weights (scores q kv))) transposes_S16x4x256x2048_S16x2048x4x256_0_3_1_2) shapeCasts_S16x2048x4x256_S16x2048x1024

/-- Keys and values of the memory. -/
def memory (mem : FVec Ideal S16x256x2048 .f32) (w : FVec Ideal S2048x2048 .f32) : FVec Ideal S16x256x2048 .f32 :=
  fun i => ∑ j : Fin 2048, mem (ix3 (i 0) (i 1) j) * w (ix2 j (i 2))

/-- The output projection. -/
def project (a : FVec Ideal S16x2048x1024 .f32) (w : FVec Ideal S1024x2048 .f32) : FVec Ideal S16x2048x2048 .f32 :=
  fun i => ∑ j : Fin 1024, a (ix3 (i 0) (i 1) j) * w (ix2 j (i 2))

/-- What the program computes. -/
def layer (q : FVec Ideal S16x2048x1024 .f32) (mem : FVec Ideal S16x256x2048 .f32) (wkv : FVec Ideal S2048x2048 .f32)
    (wo : FVec Ideal S1024x2048 .f32) : FVec Ideal S16x2048x2048 .f32 :=
  project (attend q (memory mem wkv)) wo

/-! ## The kernel's products are these -/

theorem memory_eq (mem : FVec Ideal S16x256x2048 .f32) (w : FVec Ideal S2048x2048 .f32) :
    shapeCast (α := EReal) S16x256x2048 (product0 (shapeCast (α := EReal) S4096x2048 mem shapeCasts_S16x256x2048_S4096x2048) w) shapeCasts_S4096x2048_S16x256x2048 = memory mem w := by
  funext i
  idx_vars i
  pointwise [product0, memory]
  done

theorem project_eq (a : FVec Ideal S16x2048x1024 .f32) (w : FVec Ideal S1024x2048 .f32) :
    shapeCast (α := EReal) S16x2048x2048 (product1 (shapeCast (α := EReal) S32768x1024 a shapeCasts_S16x2048x1024_S32768x1024) w) shapeCasts_S32768x2048_S16x2048x2048 = project a w := by
  funext i
  idx_vars i
  pointwise [product1, project]
  done

end Cert.Kernel9Ideal.Attn

end
-- ==== Proof.SampleAttentionLaunch.lean ====
/- The attention program's launch: the segments of `main` run to the end with the result buffer at the value of the last
   boundary, the arguments unchanged. -/
module

public import proofs.«01_k».proof.Proof.Gen.Kernel9Ideal.Frame

@[expose] public section

set_option maxRecDepth 16384

noncomputable section

namespace Cert.Kernel9Ideal.Attn

open Cert.Kernel9Ideal Cert.Kernel9Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer as the last host stretch leaves it, and with the arguments as launched. -/
theorem run_kept : θ_run defs (onTc (τ := τ) (main (F := F))) ⟨m, fun _ => 0, ρ⟩ (fun r => (∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.Kernel9Ideal.Attn

end
-- ==== Proof.SampleAttentionRun.lean ====
/- The attention kernel's value: the boundaries of `main` read one after the other, from the launch to the result. -/
module

public import proofs.«01_k».proof.Proof.SampleAttention
public import proofs.«01_k».proof.Proof.SampleAttentionLaunch

@[expose] public section

set_option maxRecDepth 16384

noncomputable section

namespace Cert.Kernel9Ideal.Attn

open Cert.Kernel9Ideal Cert.Kernel9Ideal.Gen Cert.Kernel9Ideal.Mm Idealize.ShloMosaic Idealize.ShloMosaic.TcCoe Idealize.SL.Sem Idealize.ShloMosaic.StableHlo

/-! ## The host stretches, from any contents -/

section Host
variable (W : Valuation τ sig (Elt Ideal))

theorem head_weight : after hostOps0 W (Proc.devRef .tc main_v0) = (W (Proc.devRef .tc main_arg2) : FVec Ideal S2048x2048 .f32) := by
  simp only [hostOps0]; after_results_simp; rfl

theorem head_rows : after hostOps0 W (Proc.devRef .tc main_v2)
    = shapeCast (α := EReal) S4096x2048 (W (Proc.devRef .tc main_arg1)) shapeCasts_S16x256x2048_S4096x2048 := by
  simp only [hostOps0]; after_results_simp; rfl

set_option maxHeartbeats 2000000 in
theorem mid_weight : after hostOps1 W (Proc.devRef .tc main_v27) = (W (Proc.devRef .tc main_arg3) : FVec Ideal S1024x2048 .f32) := by
  simp only [hostOps1]; after_results_simp; rfl

set_option maxHeartbeats 2000000 in
theorem mid_rows : after hostOps1 W (Proc.devRef .tc main_v29)
    = shapeCast (α := EReal) S32768x1024 (attend (F := Ideal) (W (Proc.devRef .tc main_arg0))
        (shapeCast (α := EReal) S16x256x2048 (W (Proc.devRef .tc main_v3)) shapeCasts_S4096x2048_S16x256x2048)) shapeCasts_S16x2048x1024_S32768x1024 := by
  simp only [hostOps1]; after_results_simp; dsimp only [attend, weights, expShifted, scores]; rfl

theorem tail_result : after hostOps2 W (Proc.devRef .tc main_v31)
    = shapeCast (α := EReal) S16x2048x2048 (W (Proc.devRef .tc main_v30)) shapeCasts_S32768x2048_S16x2048x2048 := by
  simp only [hostOps2]; after_results_simp; rfl

end Host

/-! ## From the launch to the result -/

variable (m : (ℓ : Loc nD τ sig) → Buf (Elt Ideal) ℓ) (ρ : Dev nD → PrngReg)

/-- After the first product. -/
theorem W2_product (c : Dev nD) : W2 m ρ c (Proc.devRef .tc main_v3)
    = product0 (shapeCast (α := EReal) S4096x2048 (m ((c.tc : Thread nD τ).loc main_arg1)) shapeCasts_S16x256x2048_S4096x2048)
        (m ((c.tc : Thread nD τ).loc main_arg2)) := by
  refine (W2_arr m ρ c 2).trans ((final0 (V1 m ρ) c).trans ?_)
  exact congrArg₂ product0 (head_rows (W0 m ρ c)) (head_weight (W0 m ρ c))

/-- After the second product. -/
theorem W4_product (c : Dev nD) : W4 m ρ c (Proc.devRef .tc main_v30)
    = product1 (shapeCast (α := EReal) S32768x1024 (attend (F := Ideal) (m ((c.tc : Thread nD τ).loc main_arg0))
        (memory (m ((c.tc : Thread nD τ).loc main_arg1)) (m ((c.tc : Thread nD τ).loc main_arg2)))) shapeCasts_S16x2048x1024_S32768x1024)
        (m ((c.tc : Thread nD τ).loc main_arg3)) := by
  refine (W4_arr m ρ c 2).trans ((final1 (V3 m ρ) c).trans ?_)
  refine congrArg₂ product1 ((mid_rows (W2 m ρ c)).trans ?_) ((mid_weight (W2 m ρ c)).trans (W2_args m ρ c main_arg3 (by decide)))
  rw [W2_product, memory_eq]
  exact congrArg (fun q => shapeCast (α := EReal) S32768x1024 (attend (F := Ideal) q _) shapeCasts_S16x2048x1024_S32768x1024)
    (W2_args m ρ c main_arg0 (by decide))

/-- The result at the end. -/
theorem W5_result (c : Dev nD) : W5 m ρ c (Proc.devRef .tc main_v31)
    = layer (m ((c.tc : Thread nD τ).loc main_arg0)) (m ((c.tc : Thread nD τ).loc main_arg1)) (m ((c.tc : Thread nD τ).loc main_arg2))
        (m ((c.tc : Thread nD τ).loc main_arg3)) := by
  refine (tail_result (W4 m ρ c)).trans ?_
  rw [W4_product, project_eq]
  rfl

/-- The kernel ends with `Attn.layer` of its arguments, which it leaves unchanged. -/
theorem run_layer : θ_run defs (onTc (τ := τ) (main (F := Ideal))) ⟨m, fun _ => 0, ρ⟩ fun r => ∀ c : Dev nD,
      r.2.mem ((c.tc : Thread nD τ).loc main_v31)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1.trans (W5_result m ρ c), (h.1 c).2⟩) (run_kept m ρ)

end Cert.Kernel9Ideal.Attn

end
-- ==== Proof.SampleAttentionReference.lean ====
/- The attention's reference: its run ends with the same function of the arguments as the kernel's. -/
module

public import proofs.«01_k».proof.Proof.SampleAttention

@[expose] public section

set_option maxRecDepth 16384

noncomputable section

namespace Cert.Reference9Ideal.Attn

open Cert.Reference9Ideal Cert.Reference9Ideal.Gen Cert.Reference9Ideal.Value Idealize.ShloMosaic Idealize.ShloMosaic.TcCoe Idealize.SL.Sem Idealize.ShloMosaic.StableHlo
open Cert.Kernel9Ideal.Attn (layer memory project)

theorem memory_eq (mem : FVec Ideal S16x256x2048 .f32) (w : FVec Ideal S2048x2048 .f32) :
    Host.dotGeneral dot_S16x256x2048_S2048x2048_S16x256x2048_2_0_01_1_n_n none mem w = memory mem w := by
  funext i
  idx_vars i
  pointwise [memory]
  done

theorem project_eq (a : FVec Ideal S16x2048x1024 .f32) (w : FVec Ideal S1024x2048 .f32) :
    Host.dotGeneral dot_S16x2048x1024_S1024x2048_S16x2048x2048_2_0_01_1_n_n none a w = project a w := by
  funext i
  idx_vars i
  pointwise [project]
  done

set_option maxHeartbeats 4000000 in
/-- The reference ends with `Attn.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  rw [memory_eq, project_eq]
  rfl

end Cert.Reference9Ideal.Attn

end
-- ==== Proof.Mm10.lean ====
/- The matrix products of `Kernel10Ideal`: what each `mm` region leaves in its output array. A grid point takes 1024 rows of the
   left matrix and 512 columns of the right one whole along the contracted axis, so every block it writes back is that block
   of the product. -/
module

public import proofs.«01_k».proof.Proof.Gen.Kernel10Ideal.Frame
public import Idealize.ShloMosaic.Lib.Pipeline.ValueKit
public import Idealize.ShloMosaic.Lib.Pointwise

@[expose] public section

set_option maxRecDepth 16384

noncomputable section

namespace Cert.Kernel10Ideal.Mm

open Cert.Kernel10Ideal Cert.Kernel10Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Region 0: 32768×1024 times 1024×2048 -/

/-- The product of the two matrices. -/
def product0 (X : Vec Ideal S32768x1024 .bf16) (W : Vec Ideal S1024x2048 .bf16) : Vec Ideal S32768x2048 .f32 :=
  fun i => ∑ j : Fin 1024, X (ix2 (i 0) j) * W (ix2 j (i 1))

/-- The body's stored value, entry by entry. -/
theorem pay0_apply (x0 : Vec Ideal S1024x1024 .bf16) (x1 : Vec Ideal S1024x512 .bf16) (a : Fin 1024) (b : Fin 512) :
    k0_pay1 x0 x1 (ix2 a b) = ∑ j : Fin 1024, x0 (ix2 a j) * x1 (ix2 j b) := by
  pointwise [k0_pay1]

theorem idx0_0 : ∀ t : Fin cfg0.N, win0_0.index t = ![t.val / 4, 0] := (by decide +kernel : ∀ t : Fin grid0.N, _)
theorem idx0_1 : ∀ t : Fin cfg0.N, win0_1.index t = ![0, t.val % 4] := (by decide +kernel : ∀ t : Fin grid0.N, _)
theorem idx0_2 : ∀ t : Fin cfg0.N, win0_2.index t = ![t.val / 4, t.val % 4] := (by decide +kernel : ∀ t : Fin grid0.N, _)

/-- Row `a` of the left block at point `t` is row `R` of the left matrix. -/
theorem left0 (c : Dev nD) (t : Fin cfg0.N) (a : Fin 1024) (R : Fin 32768) (hR : R.val = t.val / 4 * 1024 + a.val) (j : Fin 1024) :
    (iblk0 V c 0 t : Vec Ideal S1024x1024 .bf16) (ix2 a j) = (V c main_v2 : Vec Ideal S32768x1024 .bf16) (ix2 R j) := by
  unfold iblk0
  rw [View.read_apply]
  show V c main_v2 _ = V c main_v2 _
  congr 1
  funext d
  apply Fin.ext
  match d with
  | ⟨0, _⟩ => show win0_0.index t 0 * 1024 + 1 * a.val = R.val; rw [idx0_0]; show t.val / 4 * 1024 + 1 * a.val = _; omega
  | ⟨1, _⟩ => show win0_0.index t 1 * 1024 + 1 * j.val = j.val; rw [idx0_0]; show 0 * 1024 + 1 * j.val = _; omega

/-- Column `b` of the right block at point `t` is column `C` of the right matrix. -/
theorem right0 (c : Dev nD) (t : Fin cfg0.N) (b : Fin 512) (C : Fin 2048) (hC : C.val = t.val % 4 * 512 + b.val) (j : Fin 1024) :
    (iblk0 V c 1 t : Vec Ideal S1024x512 .bf16) (ix2 j b) = (V c main_v0 : Vec Ideal S1024x2048 .bf16) (ix2 j C) := by
  unfold iblk0
  rw [View.read_apply]
  show V c main_v0 _ = V c main_v0 _
  congr 1
  funext d
  apply Fin.ext
  match d with
  | ⟨0, _⟩ => show win0_1.index t 0 * 1024 + 1 * j.val = j.val; rw [idx0_1]; show 0 * 1024 + 1 * j.val = _; omega
  | ⟨1, _⟩ => show win0_1.index t 1 * 512 + 1 * b.val = C.val; rw [idx0_1]; show t.val % 4 * 512 + 1 * b.val = _; omega

/-- The region's output array after the run. -/
theorem final0 (c : Dev nD) : (dat0 V c).arrAt 2 cfg0.N = product0 (V c main_v2) (V c main_v0) := by
  refine (dat0 V c).arrAt_eq_of_covers 2 _ (by decide +kernel) fun t hf y => ?_
  blk_simp
  rw [after0_2]
  frame_out
  have hN : t.val < 128 := lt_of_lt_of_eq t.isLt (show cfg0.N = 128 from N_0)
  have hy0 : (y 0).val < 1024 := (y 0).isLt
  have hy1 : (y 1).val < 512 := (y 1).isLt
  have h0 : (((win0_2.blk t).view.emb y) 0).val = t.val / 4 * 1024 + (y 0).val := by
    show win0_2.index t 0 * 1024 + 1 * (y 0).val = _; rw [idx0_2]; show t.val / 4 * 1024 + 1 * (y 0).val = _; omega
  have h1 : (((win0_2.blk t).view.emb y) 1).val = t.val % 4 * 512 + (y 1).val := by
    show win0_2.index t 1 * 512 + 1 * (y 1).val = _; rw [idx0_2]; show t.val % 4 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  rw [left0 V c t (y 0) (((win0_2.blk t).view.emb y) 0) h0 j, right0 V c t (y 1) (((win0_2.blk t).view.emb y) 1) h1 j]

/-! ## Region 1: 32768×1024 times 1024×2048 -/

/-- The product of the two matrices. -/
def product1 (X : Vec Ideal S32768x1024 .bf16) (W : Vec Ideal S1024x2048 .bf16) : Vec Ideal S32768x2048 .f32 :=
  fun i => ∑ j : Fin 1024, X (ix2 (i 0) j) * W (ix2 j (i 1))

/-- The body's stored value, entry by entry. -/
theorem pay1_apply (x0 : Vec Ideal S1024x1024 .bf16) (x1 : Vec Ideal S1024x512 .bf16) (a : Fin 1024) (b : Fin 512) :
    k1_pay1 x0 x1 (ix2 a b) = ∑ j : Fin 1024, x0 (ix2 a j) * x1 (ix2 j b) := by
  pointwise [k1_pay1]

theorem idx1_0 : ∀ t : Fin cfg1.N, win1_0.index t = ![t.val / 4, 0] := (by decide +kernel : ∀ t : Fin grid1.N, _)
theorem idx1_1 : ∀ t : Fin cfg1.N, win1_1.index t = ![0, t.val % 4] := (by decide +kernel : ∀ t : Fin grid1.N, _)
theorem idx1_2 : ∀ t : Fin cfg1.N, win1_2.index t = ![t.val / 4, t.val % 4] := (by decide +kernel : ∀ t : Fin grid1.N, _)

/-- Row `a` of the left block at point `t` is row `R` of the left matrix. -/
theorem left1 (c : Dev nD) (t : Fin cfg1.N) (a : Fin 1024) (R : Fin 32768) (hR : R.val = t.val / 4 * 1024 + a.val) (j : Fin 1024) :
    (iblk1 V c 0 t : Vec Ideal S1024x1024 .bf16) (ix2 a j) = (V c main_v7 : Vec Ideal S32768x1024 .bf16) (ix2 R j) := by
  unfold iblk1
  rw [View.read_apply]
  show V c main_v7 _ = V c main_v7 _
  congr 1
  funext d
  apply Fin.ext
  match d with
  | ⟨0, _⟩ => show win1_0.index t 0 * 1024 + 1 * a.val = R.val; rw [idx1_0]; show t.val / 4 * 1024 + 1 * a.val = _; omega
  | ⟨1, _⟩ => show win1_0.index t 1 * 1024 + 1 * j.val = j.val; rw [idx1_0]; show 0 * 1024 + 1 * j.val = _; omega

/-- Column `b` of the right block at point `t` is column `C` of the right matrix. -/
theorem right1 (c : Dev nD) (t : Fin cfg1.N) (b : Fin 512) (C : Fin 2048) (hC : C.val = t.val % 4 * 512 + b.val) (j : Fin 1024) :
    (iblk1 V c 1 t : Vec Ideal S1024x512 .bf16) (ix2 j b) = (V c main_v5 : Vec Ideal S1024x2048 .bf16) (ix2 j C) := by
  unfold iblk1
  rw [View.read_apply]
  show V c main_v5 _ = V c main_v5 _
  congr 1
  funext d
  apply Fin.ext
  match d with
  | ⟨0, _⟩ => show win1_1.index t 0 * 1024 + 1 * j.val = j.val; rw [idx1_1]; show 0 * 1024 + 1 * j.val = _; omega
  | ⟨1, _⟩ => show win1_1.index t 1 * 512 + 1 * b.val = C.val; rw [idx1_1]; show t.val % 4 * 512 + 1 * b.val = _; omega

/-- The region's output array after the run. -/
theorem final1 (c : Dev nD) : (dat1 V c).arrAt 2 cfg1.N = product1 (V c main_v7) (V c main_v5) := by
  refine (dat1 V c).arrAt_eq_of_covers 2 _ (by decide +kernel) fun t hf y => ?_
  blk_simp
  rw [after1_2]
  frame_out
  have hN : t.val < 128 := lt_of_lt_of_eq t.isLt (show cfg1.N = 128 from N_1)
  have hy0 : (y 0).val < 1024 := (y 0).isLt
  have hy1 : (y 1).val < 512 := (y 1).isLt
  have h0 : (((win1_2.blk t).view.emb y) 0).val = t.val / 4 * 1024 + (y 0).val := by
    show win1_2.index t 0 * 1024 + 1 * (y 0).val = _; rw [idx1_2]; show t.val / 4 * 1024 + 1 * (y 0).val = _; omega
  have h1 : (((win1_2.blk t).view.emb y) 1).val = t.val % 4 * 512 + (y 1).val := by
    show win1_2.index t 1 * 512 + 1 * (y 1).val = _; rw [idx1_2]; show t.val % 4 * 512 + 1 * (y 1).val = _; omega
  have hy : y = ix2 (y 0) (y 1) := by
    funext d
    match d with
    | ⟨0, _⟩ => rfl
    | ⟨1, _⟩ => rfl
  rw [hy]
  refine (pay1_apply _ _ (y 0) (y 1)).trans ?_
  unfold product1
  rw [← hy]
  refine Finset.sum_congr rfl fun j _ => ?_
  rw [left1 V c t (y 0) (((win1_2.blk t).view.emb y) 0) h0 j, right1 V c t (y 1) (((win1_2.blk t).view.emb y) 1) h1 j]

/-! ## Region 2: 32768×2048 times 2048×2048 -/

/-- The product of the two matrices. -/
def product2 (X : Vec Ideal S32768x2048 .bf16) (W : Vec Ideal S2048x2048 .bf16) : Vec Ideal S32768x2048 .f32 :=
  fun i => ∑ j : Fin 2048, X (ix2 (i 0) j) * W (ix2 j (i 1))

/-- The body's stored value, entry by entry. -/
theorem pay2_apply (x0 : Vec Ideal S1024x2048 .bf16) (x1 : Vec Ideal S2048x512 .bf16) (a : Fin 1024) (b : Fin 512) :
    k2_pay1 x0 x1 (ix2 a b) = ∑ j : Fin 2048, x0 (ix2 a j) * x1 (ix2 j b) := by
  pointwise [k2_pay1]

theorem idx2_0 : ∀ t : Fin cfg2.N, win2_0.index t = ![t.val / 4, 0] := (by decide +kernel : ∀ t : Fin grid2.N, _)
theorem idx2_1 : ∀ t : Fin cfg2.N, win2_1.index t = ![0, t.val % 4] := (by decide +kernel : ∀ t : Fin grid2.N, _)
theorem idx2_2 : ∀ t : Fin cfg2.N, win2_2.index t = ![t.val / 4, t.val % 4] := (by decide +kernel : ∀ t : Fin grid2.N, _)

/-- Row `a` of the left block at point `t` is row `R` of the left matrix. -/
theorem left2 (c : Dev nD) (t : Fin cfg2.N) (a : Fin 1024) (R : Fin 32768) (hR : R.val = t.val / 4 * 1024 + a.val) (j : Fin 2048) :
    (iblk2 V c 0 t : Vec Ideal S1024x2048 .bf16) (ix2 a j) = (V c main_v25 : Vec Ideal S32768x2048 .bf16) (ix2 R j) := by
  unfold iblk2
  rw [View.read_apply]
  show V c main_v25 _ = V c main_v25 _
  congr 1
  funext d
  apply Fin.ext
  match d with
  | ⟨0, _⟩ => show win2_0.index t 0 * 1024 + 1 * a.val = R.val; rw [idx2_0]; show t.val / 4 * 1024 + 1 * a.val = _; omega
  | ⟨1, _⟩ => show win2_0.index t 1 * 2048 + 1 * j.val = j.val; rw [idx2_0]; show 0 * 2048 + 1 * j.val = _; omega

/-- Column `b` of the right block at point `t` is column `C` of the right matrix. -/
theorem right2 (c : Dev nD) (t : Fin cfg2.N) (b : Fin 512) (C : Fin 2048) (hC : C.val = t.val % 4 * 512 + b.val) (j : Fin 2048) :
    (iblk2 V c 1 t : Vec Ideal S2048x512 .bf16) (ix2 j b) = (V c main_v23 : Vec Ideal S2048x2048 .bf16) (ix2 j C) := by
  unfold iblk2
  rw [View.read_apply]
  show V c main_v23 _ = V c main_v23 _
  congr 1
  funext d
  apply Fin.ext
  match d with
  | ⟨0, _⟩ => show win2_1.index t 0 * 2048 + 1 * j.val = j.val; rw [idx2_1]; show 0 * 2048 + 1 * j.val = _; omega
  | ⟨1, _⟩ => show win2_1.index t 1 * 512 + 1 * b.val = C.val; rw [idx2_1]; show t.val % 4 * 512 + 1 * b.val = _; omega

/-- The region's output array after the run. -/
theorem final2 (c : Dev nD) : (dat2 V c).arrAt 2 cfg2.N = product2 (V c main_v25) (V c main_v23) := by
  refine (dat2 V c).arrAt_eq_of_covers 2 _ (by decide +kernel) fun t hf y => ?_
  blk_simp
  rw [after2_2]
  frame_out
  have hN : t.val < 128 := lt_of_lt_of_eq t.isLt (show cfg2.N = 128 from N_2)
  have hy0 : (y 0).val < 1024 := (y 0).isLt
  have hy1 : (y 1).val < 512 := (y 1).isLt
  have h0 : (((win2_2.blk t).view.emb y) 0).val = t.val / 4 * 1024 + (y 0).val := by
    show win2_2.index t 0 * 1024 + 1 * (y 0).val = _; rw [idx2_2]; show t.val / 4 * 1024 + 1 * (y 0).val = _; omega
  have h1 : (((win2_2.blk t).view.emb y) 1).val = t.val % 4 * 512 + (y 1).val := by
    show win2_2.index t 1 * 512 + 1 * (y 1).val = _; rw [idx2_2]; show t.val % 4 * 512 + 1 * (y 1).val = _; omega
  have hy : y = ix2 (y 0) (y 1) := by
    funext d
    match d with
    | ⟨0, _⟩ => rfl
    | ⟨1, _⟩ => rfl
  rw [hy]
  refine (pay2_apply _ _ (y 0) (y 1)).trans ?_
  unfold product2
  rw [← hy]
  refine Finset.sum_congr rfl fun j _ => ?_
  rw [left2 V c t (y 0) (((win2_2.blk t).view.emb y) 0) h0 j, right2 V c t (y 1) (((win2_2.blk t).view.emb y) 1) h1 j]

end Cert.Kernel10Ideal.Mm

end
-- ==== Proof.SampleMerge.lean ====
/- The merge of the three branches: the host lines between its matrix products, named once, and the program's value as the
   function `Merge.layer` of its arguments. -/
module

public import proofs.«01_k».proof.Proof.Mm10
public import Idealize.ShloMosaic.Lib.StableHlo.Run

@[expose] public section

set_option maxRecDepth 16384

noncomputable section

namespace Cert.Kernel10Ideal.Merge

open Cert.Kernel10Ideal Cert.Kernel10Ideal.Gen Cert.Kernel10Ideal.Mm Idealize.ShloMosaic Idealize.ShloMosaic.TcCoe Idealize.SL.Sem Idealize.ShloMosaic.StableHlo

variable {F : FTy → Type} [FloatOps F]

/-- The gated sum of the long convolution's, the recurrence's and the attention's outputs. -/
def gated (g : FVec F S16x2048x3x2048 .f32) (hy rw ca : FVec F S16x2048x2048 .f32) : FVec F S16x2048x2048 .f32 :=
  addf (addf (mulf (shapeCast _ (extractStridedSlice S16x2048x1x2048 ![0, 0, 0, 0] g slices_S16x2048x3x2048_S16x2048x1x2048_0_0_0_0) shapeCasts_S16x2048x1x2048_S16x2048x2048) hy)
      (mulf (shapeCast _ (extractStridedSlice S16x2048x1x2048 ![0, 0, 1, 0] g slices_S16x2048x3x2048_S16x2048x1x2048_0_0_1_0) shapeCasts_S16x2048x1x2048_S16x2048x2048) rw))
    (mulf (shapeCast _ (extractStridedSlice S16x2048x1x2048 ![0, 0, 2, 0] g slices_S16x2048x3x2048_S16x2048x1x2048_0_0_2_0) shapeCasts_S16x2048x1x2048_S16x2048x2048) ca)

/-- The residual sum: the scaled input and the projection of the merged branches. -/
def residual (x p : FVec F S16x2048x2048 .f32) : FVec F S16x2048x2048 .f32 :=
  addf (mulf (broadcastInDim S16x2048x2048 ![] bcast_S_S16x2048x2048 (constant S_ .f32 0x3F9837F0#32)) x) p

/-- The mean over the columns. -/
def mean (x : FVec F S16x2048x2048 .f32) : FVec F S16x2048x1 .f32 :=
  Host.divf (broadcastInDim S16x2048x1 ![0, 1] bcast_S16x2048_S16x2048x1_0_1
      (Host.reduceAdd x (constant S_ .f32 0x00000000#32) reducesTo_S16x2048x2048_S16x2048_d2 h_S_))
    (broadcastInDim S16x2048x1 ![] bcast_S_S16x2048x1 (constant S_ .f32 0x45000000#32))

/-- The difference from the mean. -/
def centred (x : FVec F S16x2048x2048 .f32) : FVec F S16x2048x2048 .f32 :=
  subf x (broadcastInDim S16x2048x2048 ![0, 1, 2] bcast_S16x2048x1_S16x2048x2048_0_1_2 (mean x))

/-- The layer's norm with scale `g` and offset `b`. -/
def norm (x : FVec F S16x2048x2048 .f32) (g b : FVec F S2048 .f32) : FVec F S16x2048x2048 .f32 :=
  addf (mulf (mulf (centred x) (broadcastInDim S16x2048x2048 ![0, 1, 2] bcast_S16x2048x1_S16x2048x2048_0_1_2
        (Host.rsqrt (addf (mean (mulf (centred x) (centred x))) (broadcastInDim S16x2048x1 ![] bcast_S_S16x2048x1 (constant S_ .f32 0x3727C5AC#32))))))
      (broadcastInDim S16x2048x2048 ![0, 1, 2] bcast_S1x1x2048_S16x2048x2048_0_1_2 (broadcastInDim S1x1x2048 ![2] bcast_S2048_S1x1x2048_2 g)))
    (broadcastInDim S16x2048x2048 ![0, 1, 2] bcast_S1x1x2048_S16x2048x2048_0_1_2 (broadcastInDim S1x1x2048 ![2] bcast_S2048_S1x1x2048_2 b))

/-- The output projection of a recurrent branch. -/
def branch (a : FVec Ideal S16x2048x1024 .f32) (w : FVec Ideal S1024x2048 .f32) : FVec Ideal S16x2048x2048 .f32 :=
  fun i => ∑ j : Fin 1024, a (ix3 (i 0) (i 1) j) * w (ix2 j (i 2))

/-- The projection of the merged branches. -/
def project (a : FVec Ideal S16x2048x2048 .f32) (w : FVec Ideal S2048x2048 .f32) : FVec Ideal S16x2048x2048 .f32 :=
  fun i => ∑ j : Fin 2048, a (ix3 (i 0) (i 1) j) * w (ix2 j (i 2))

/-- What the program computes. -/
def layer (x : FVec Ideal S16x2048x2048 .f32) (hy rw : FVec Ideal S16x2048x1024 .f32) (ca : FVec Ideal S16x2048x2048 .f32)
    (g : FVec Ideal S16x2048x3x2048 .f32) (hyw rww : FVec Ideal S1024x2048 .f32) (w : FVec Ideal S2048x2048 .f32)
    (ln b : FVec Ideal S2048 .f32) : FVec Ideal S16x2048x2048 .f32 :=
  norm (residual x (project (gated g (branch hy hyw) (branch rw rww) ca) w)) ln b

/-! ## The kernel's products are these -/

theorem branch_eq0 (a : FVec Ideal S16x2048x1024 .f32) (w : FVec Ideal S1024x2048 .f32) :
    shapeCast (α := EReal) S16x2048x2048 (product0 (shapeCast (α := EReal) S32768x1024 a shapeCasts_S16x2048x1024_S32768x1024) w) shapeCasts_S32768x2048_S16x2048x2048 = branch a w := by
  funext i
  idx_vars i
  pointwise [product0, branch]
  done

theorem branch_eq1 (a : FVec Ideal S16x2048x1024 .f32) (w : FVec Ideal S1024x2048 .f32) :
    shapeCast (α := EReal) S16x2048x2048 (product1 (shapeCast (α := EReal) S32768x1024 a shapeCasts_S16x2048x1024_S32768x1024) w) shapeCasts_S32768x2048_S16x2048x2048 = branch a w := by
  funext i
  idx_vars i
  pointwise [product1, branch]
  done

theorem project_eq (a : FVec Ideal S16x2048x2048 .f32) (w : FVec Ideal S2048x2048 .f32) :
    shapeCast (α := EReal) S16x2048x2048 (product2 (shapeCast (α := EReal) S32768x2048 a shapeCasts_S16x2048x2048_S32768x2048) w) shapeCasts_S32768x2048_S16x2048x2048 = project a w := by
  funext i
  idx_vars i
  pointwise [product2, project]
  done

end Cert.Kernel10Ideal.Merge

end
-- ==== Proof.SampleMergeLaunch.lean ====
/- The merge program's launch: the segments of `main` run to the end with the result buffer at the value of the last
   boundary, the arguments unchanged. -/
module

public import proofs.«01_k».proof.Proof.Gen.Kernel10Ideal.Frame

@[expose] public section

set_option maxRecDepth 16384

noncomputable section

namespace Cert.Kernel10Ideal.Merge

open Cert.Kernel10Ideal Cert.Kernel10Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer as the last host stretch leaves it, and with the arguments as launched. -/
theorem run_kept : θ_run defs (onTc (τ := τ) (main (F := F))) ⟨m, fun _ => 0, ρ⟩ (fun r => (∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩), funext fun g => hz g (.inr (no_unscoped g.2))⟩)

end Cert.Kernel10Ideal.Merge

end
-- ==== Proof.SampleMergeRun.lean ====
/- The merge kernel's value: the boundaries of `main` read one after the other, from the launch to the result. -/
module

public import proofs.«01_k».proof.Proof.SampleMerge
public import proofs.«01_k».proof.Proof.SampleMergeLaunch

@[expose] public section

set_option maxRecDepth 16384

noncomputable section

namespace Cert.Kernel10Ideal.Merge

open Cert.Kernel10Ideal Cert.Kernel10Ideal.Gen Cert.Kernel10Ideal.Mm Idealize.ShloMosaic Idealize.ShloMosaic.TcCoe Idealize.SL.Sem Idealize.ShloMosaic.StableHlo

/-! ## The host stretches, from any contents -/

section Host
variable (W : Valuation τ sig (Elt Ideal))

theorem hy_weight : after hostOps0 W (Proc.devRef .tc main_v0) = ((W (Proc.devRef .tc main_arg5)) : FVec Ideal S1024x2048 .f32) := by
  simp only [hostOps0]; after_results_simp; rfl

theorem hy_rows : after hostOps0 W (Proc.devRef .tc main_v2)
    = shapeCast (α := EReal) S32768x1024 (W (Proc.devRef .tc main_arg1)) shapeCasts_S16x2048x1024_S32768x1024 := by
  simp only [hostOps0]; after_results_simp; rfl

theorem hy_out : after hostOps1 W (Proc.devRef .tc main_v4)
    = shapeCast (α := EReal) S16x2048x2048 (W (Proc.devRef .tc main_v3)) shapeCasts_S32768x2048_S16x2048x2048 := by
  simp only [hostOps1]; after_results_simp; rfl

theorem rw_weight : after hostOps1 W (Proc.devRef .tc main_v5) = ((W (Proc.devRef .tc main_arg6)) : FVec Ideal S1024x2048 .f32) := by
  simp only [hostOps1]; after_results_simp; rfl

theorem rw_rows : after hostOps1 W (Proc.devRef .tc main_v7)
    = shapeCast (α := EReal) S32768x1024 (W (Proc.devRef .tc main_arg2)) shapeCasts_S16x2048x1024_S32768x1024 := by
  simp only [hostOps1]; after_results_simp; rfl

theorem out_weight : after hostOps2 W (Proc.devRef .tc main_v23) = ((W (Proc.devRef .tc main_arg7)) : FVec Ideal S2048x2048 .f32) := by
  simp only [hostOps2]; after_results_simp; rfl

theorem out_rows : after hostOps2 W (Proc.devRef .tc main_v25)
    = shapeCast (α := EReal) S32768x2048 (gated (F := Ideal) (W (Proc.devRef .tc main_arg4)) (W (Proc.devRef .tc main_v4))
        (shapeCast (α := EReal) S16x2048x2048 (W (Proc.devRef .tc main_v8)) shapeCasts_S32768x2048_S16x2048x2048) (W (Proc.devRef .tc main_arg3))) shapeCasts_S16x2048x2048_S32768x2048 := by
  simp only [hostOps2]; after_results_simp; dsimp only [gated]; rfl

theorem scaled : after hostOps2 W (Proc.devRef .tc main_v22)
    = mulf (F := Ideal) (broadcastInDim S16x2048x2048 ![] bcast_S_S16x2048x2048 (constant S_ .f32 0x3F9837F0#32)) (W (Proc.devRef .tc main_arg0)) := by
  simp only [hostOps2]; after_results_simp

theorem tail_result : after hostOps3 W (Proc.devRef .tc main_v52)
    = norm (F := Ideal) (addf (F := Ideal) (W (Proc.devRef .tc main_v22))
        (shapeCast (α := EReal) S16x2048x2048 (W (Proc.devRef .tc main_v26)) shapeCasts_S32768x2048_S16x2048x2048)) (W (Proc.devRef .tc main_arg8)) (W (Proc.devRef .tc main_arg9)) := by
  simp only [hostOps3]; after_results_simp; dsimp only [norm, centred, mean]; rfl

end Host

/-! ## From the launch to the result -/

variable (m : (ℓ : Loc nD τ sig) → Buf (Elt Ideal) ℓ) (ρ : Dev nD → PrngReg)

/-- The first branch's output projection, in the first region's array. -/
theorem W2_product (c : Dev nD) : W2 m ρ c (Proc.devRef .tc main_v3)
    = product0 (shapeCast (α := EReal) S32768x1024 (m ((c.tc : Thread nD τ).loc main_arg1)) shapeCasts_S16x2048x1024_S32768x1024) (m ((c.tc : Thread nD τ).loc main_arg5)) := by
  refine (W2_arr m ρ c 2).trans ((final0 (V1 m ρ) c).trans ?_)
  exact congrArg₂ product0 (hy_rows (W0 m ρ c)) (hy_weight (W0 m ρ c))

/-- The second region keeps the first branch's array. -/
theorem W4_first (c : Dev nD) : W4 m ρ c (Proc.devRef .tc main_v4) = branch (m ((c.tc : Thread nD τ).loc main_arg1)) (m ((c.tc : Thread nD τ).loc main_arg5)) := by
  refine (W4_of_ne m ρ c main_v4 (by decide)).trans ((hy_out (W2 m ρ c)).trans ?_)
  rw [W2_product, branch_eq0]

/-- The second branch's output projection, in the second region's array. -/
theorem W4_product (c : Dev nD) : W4 m ρ c (Proc.devRef .tc main_v8)
    = product1 (shapeCast (α := EReal) S32768x1024 (m ((c.tc : Thread nD τ).loc main_arg2)) shapeCasts_S16x2048x1024_S32768x1024) (m ((c.tc : Thread nD τ).loc main_arg6)) := by
  refine (W4_arr m ρ c 2).trans ((final1 (V3 m ρ) c).trans ?_)
  refine congrArg₂ product1 ((rw_rows (W2 m ρ c)).trans ?_) ((rw_weight (W2 m ρ c)).trans (W2_args m ρ c main_arg6 (by decide)))
  exact congrArg (fun a => shapeCast (α := EReal) S32768x1024 a shapeCasts_S16x2048x1024_S32768x1024) (W2_args m ρ c main_arg2 (by decide))

/-- The rows the last region reads. -/
theorem W5_rows (c : Dev nD) : W5 m ρ c (Proc.devRef .tc main_v25)
    = shapeCast (α := EReal) S32768x2048 (gated (F := Ideal) (m ((c.tc : Thread nD τ).loc main_arg4)) (branch (m ((c.tc : Thread nD τ).loc main_arg1)) (m ((c.tc : Thread nD τ).loc main_arg5))) (branch (m ((c.tc : Thread nD τ).loc main_arg2)) (m ((c.tc : Thread nD τ).loc main_arg6))) (m ((c.tc : Thread nD τ).loc main_arg3))) shapeCasts_S16x2048x2048_S32768x2048 := by
  refine (out_rows (W4 m ρ c)).trans ?_
  rw [W4_product, branch_eq1, W4_first]
  have e3 := W4_args m ρ c main_arg3 (by decide)
  have e4 := W4_args m ρ c main_arg4 (by decide)
  rw [e3, e4]

/-- The last projection, in the last region's array. -/
theorem W6_product (c : Dev nD) : W6 m ρ c (Proc.devRef .tc main_v26)
    = product2 (shapeCast (α := EReal) S32768x2048 (gated (F := Ideal) (m ((c.tc : Thread nD τ).loc main_arg4)) (branch (m ((c.tc : Thread nD τ).loc main_arg1)) (m ((c.tc : Thread nD τ).loc main_arg5))) (branch (m ((c.tc : Thread nD τ).loc main_arg2)) (m ((c.tc : Thread nD τ).loc main_arg6))) (m ((c.tc : Thread nD τ).loc main_arg3))) shapeCasts_S16x2048x2048_S32768x2048) (m ((c.tc : Thread nD τ).loc main_arg7)) := by
  refine (W6_arr m ρ c 2).trans ((final2 (V5 m ρ) c).trans ?_)
  exact congrArg₂ product2 (W5_rows m ρ c) ((out_weight (W4 m ρ c)).trans (W4_args m ρ c main_arg7 (by decide)))

/-- The scaled input, which the last region keeps. -/
theorem W6_scaled (c : Dev nD) : W6 m ρ c (Proc.devRef .tc main_v22)
    = mulf (F := Ideal) (broadcastInDim S16x2048x2048 ![] bcast_S_S16x2048x2048 (constant S_ .f32 0x3F9837F0#32)) (m ((c.tc : Thread nD τ).loc main_arg0)) := by
  refine (W6_of_ne m ρ c main_v22 (by decide)).trans ((scaled (W4 m ρ c)).trans ?_)
  have e0 := W4_args m ρ c main_arg0 (by decide)
  rw [e0]

/-- The result at the end. -/
theorem W7_result (c : Dev nD) : W7 m ρ c (Proc.devRef .tc main_v52)
    = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (tail_result (W6 m ρ c)).trans ?_
  have e8 := W6_args m ρ c main_arg8 (by decide)
  have e9 := W6_args m ρ c main_arg9 (by decide)
  rw [W6_product, project_eq, W6_scaled, e8, e9]
  rfl

/-- The kernel ends with `Merge.layer` of its arguments, which it leaves unchanged. -/
theorem run_layer : θ_run defs (onTc (τ := τ) (main (F := Ideal))) ⟨m, fun _ => 0, ρ⟩ fun r => ∀ c : Dev nD,
      r.2.mem ((c.tc : Thread nD τ).loc main_v52)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h.1 c).1.trans (W7_result m ρ c), (h.1 c).2⟩) (run_kept m ρ)

end Cert.Kernel10Ideal.Merge

end
-- ==== Proof.SampleMergeReference.lean ====
/- The merge's reference: its run ends with the same function of the arguments as the kernel's. -/
module

public import proofs.«01_k».proof.Proof.SampleMerge
public import proofs.«01_k».proof.Proof.Gen.Reference10Ideal.Run

@[expose] public section

set_option maxRecDepth 16384

noncomputable section

namespace Cert.Reference10Ideal.Merge

open Cert.Reference10Ideal Cert.Reference10Ideal.Gen Cert.Reference10Ideal.Value Idealize.ShloMosaic Idealize.ShloMosaic.TcCoe Idealize.SL.Sem Idealize.ShloMosaic.StableHlo
open Cert.Kernel10Ideal.Merge (layer branch project)

theorem branch_eq (a : FVec Ideal S16x2048x1024 .f32) (w : FVec Ideal S1024x2048 .f32) :
    Host.dotGeneral dot_S16x2048x1024_S1024x2048_S16x2048x2048_2_0_01_1_n_n none a w = branch a w := by
  funext i
  idx_vars i
  pointwise [branch]
  done

theorem project_eq (a : FVec Ideal S16x2048x2048 .f32) (w : FVec Ideal S2048x2048 .f32) :
    Host.dotGeneral dot_S16x2048x2048_S2048x2048_S16x2048x2048_2_0_01_1_n_n none a w = project a w := by
  funext i
  idx_vars i
  pointwise [project]
  done

set_option maxHeartbeats 4000000 in
/-- The reference ends with `Merge.layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2⟩) (Value.run m ρ)
  unfold res_main_v40
  simp only [branch_eq, project_eq]
  rfl

end Cert.Reference10Ideal.Merge

end
-- ==== Proof.Mm11.lean ====
/- The matrix product of `Kernel11Ideal`: what its region leaves in the output array. A grid point takes 1024 rows of the
   left matrix and 512 columns of the right one whole along the contracted axis, so every block it writes back is that block
   of the product. -/
module

public import proofs.«01_k».proof.Proof.Gen.Kernel11Ideal.Frame
public import Idealize.ShloMosaic.Lib.Pipeline.ValueKit
public import Idealize.ShloMosaic.Lib.Pointwise

@[expose] public section

set_option maxRecDepth 16384

noncomputable section

namespace Cert.Kernel11Ideal.Mm

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-! ## Region 0: 32768×160 times 160×1024 -/

/-- The product of the two matrices. -/
def product0 (X : Vec Ideal S32768x160 .bf16) (W : Vec Ideal S160x1024 .bf16) : Vec Ideal S32768x1024 .f32 :=
  fun i => ∑ j : Fin 160, X (ix2 (i 0) j) * W (ix2 j (i 1))

/-- The body's stored value, entry by entry. -/
theorem pay0_apply (x0 : Vec Ideal S1024x160 .bf16) (x1 : Vec Ideal S160x512 .bf16) (a : Fin 1024) (b : Fin 512) :
    k0_pay1 x0 x1 (ix2 a b) = ∑ j : Fin 160, x0 (ix2 a j) * x1 (ix2 j b) := by
  pointwise [k0_pay1]

theorem idx0_0 : ∀ t : Fin cfg0.N, win0_0.index t = ![t.val / 2, 0] := (by decide +kernel : ∀ t : Fin grid0.N, _)
theorem idx0_1 : ∀ t : Fin cfg0.N, win0_1.index t = ![0, t.val % 2] := (by decide +kernel : ∀ t : Fin grid0.N, _)
theorem idx0_2 : ∀ t : Fin cfg0.N, win0_2.index t = ![t.val / 2, t.val % 2] := (by decide +kernel : ∀ t : Fin grid0.N, _)

/-- Row `a` of the left block at point `t` is row `R` of the left matrix. -/
theorem left0 (A : Vec Ideal S32768x160 .bf16) (t : Fin cfg0.N) (a : Fin 1024) (R : Fin 32768) (hR : R.val = t.val / 2 * 1024 + a.val) (j : Fin 160) :
    (((cfg0.win 0).blk t).view.read (Elt Ideal) A : Vec Ideal S1024x160 .bf16) (ix2 a j) = A (ix2 R j) := by
  rw [View.read_apply]
  show A _ = A _
  congr 1
  funext d
  apply Fin.ext
  match d with
  | ⟨0, _⟩ => show win0_0.index t 0 * 1024 + 1 * a.val = R.val; rw [idx0_0]; show t.val / 2 * 1024 + 1 * a.val = _; omega
  | ⟨1, _⟩ => show win0_0.index t 1 * 160 + 1 * j.val = j.val; rw [idx0_0]; show 0 * 160 + 1 * j.val = _; omega

/-- Column `b` of the right block at point `t` is column `C` of the right matrix. -/
theorem right0 (A : Vec Ideal S160x1024 .bf16) (t : Fin cfg0.N) (b : Fin 512) (C : Fin 1024) (hC : C.val = t.val % 2 * 512 + b.val) (j : Fin 160) :
    (((cfg0.win 1).blk t).view.read (Elt Ideal) A : Vec Ideal S160x512 .bf16) (ix2 j b) = A (ix2 j C) := by
  rw [View.read_apply]
  show A _ = A _
  congr 1
  funext d
  apply Fin.ext
  match d with
  | ⟨0, _⟩ => show win0_1.index t 0 * 160 + 1 * j.val = j.val; rw [idx0_1]; show 0 * 160 + 1 * j.val = _; omega
  | ⟨1, _⟩ => show win0_1.index t 1 * 512 + 1 * b.val = C.val; rw [idx0_1]; show t.val % 2 * 512 + 1 * b.val = _; omega

/-- The region's output array after the run. -/
theorem final0 (c : Dev nD) : (dats m 0 c).arrAt 2 cfg0.N = product0 (V m c main_v9) (V m c main_v7) := by
  refine (dats m 0 c).arrAt_eq_of_covers 2 _ (by decide +kernel) fun t hf y => ?_
  blk_simp
  rw [after0_2]
  frame_out
  have hN : t.val < 64 := lt_of_lt_of_eq t.isLt (show cfg0.N = 64 from N_0)
  have hy0 : (y 0).val < 1024 := (y 0).isLt
  have hy1 : (y 1).val < 512 := (y 1).isLt
  have h0 : (((win0_2.blk t).view.emb y) 0).val = t.val / 2 * 1024 + (y 0).val := by
    show win0_2.index t 0 * 1024 + 1 * (y 0).val = _; rw [idx0_2]; show t.val / 2 * 1024 + 1 * (y 0).val = _; omega
  have h1 : (((win0_2.blk t).view.emb y) 1).val = t.val % 2 * 512 + (y 1).val := by
    show win0_2.index t 1 * 512 + 1 * (y 1).val = _; rw [idx0_2]; show t.val % 2 * 512 + 1 * (y 1).val = _; omega
  have hy : y = ix2 (y 0) (y 1) := by
    funext d
    match d with
    | ⟨0, _⟩ => rfl
    | ⟨1, _⟩ => rfl
  rw [hy]
  refine (pay0_apply _ _ (y 0) (y 1)).trans ?_
  unfold product0
  rw [← hy]
  refine Finset.sum_congr rfl fun j _ => ?_
  exact congrArg₂ (· * ·) (left0 (V m c main_v9) t (y 0) (((win0_2.blk t).view.emb y) 0) h0 j) (right0 (V m c main_v7) t (y 1) (((win0_2.blk t).view.emb y) 1) h1 j)

end Cert.Kernel11Ideal.Mm

end
-- ==== Proof.SampleGate.lean ====
/- The recurrent branch's output gate: a sigmoid of the low-rank map's last 160 columns, a matrix product to the branch's width, and
   the product with the branch. -/
module

public import proofs.«01_k».proof.Proof.Mm11
public import Idealize.ShloMosaic.Lib.StableHlo.Run

@[expose] public section

set_option maxRecDepth 16384

noncomputable section

namespace Cert.Kernel11Ideal.Gate

open Cert.Kernel11Ideal Cert.Kernel11Ideal.Gen Cert.Kernel11Ideal.Mm Idealize.ShloMosaic Idealize.ShloMosaic.TcCoe Idealize.SL.Sem Idealize.ShloMosaic.StableHlo

/-! ## What the program computes -/

section Lines
variable {F : FTy → Type} [FloatOps F]

/-- The sigmoid of the low-rank map's last 160 columns. -/
def opened (lo : FVec F S16x2048x416 .f32) : FVec F S16x2048x160 .f32 :=
  Host.divf (broadcastInDim S16x2048x160 ![] bcast_S_S16x2048x160 (constant S_ .f32 0x3F800000#32 : FVec F S_ .f32))
    (addf (broadcastInDim S16x2048x160 ![] bcast_S_S16x2048x160 (constant S_ .f32 0x3F800000#32 : FVec F S_ .f32))
      (Host.exp (Host.negf (extractStridedSlice S16x2048x160 ![0, 0, 256] lo slices_S16x2048x416_S16x2048x160_0_0_256))))

end Lines

/-- The map of the opened columns to the branch's width. -/
def project (a : FVec Ideal S16x2048x160 .f32) (w : FVec Ideal S160x1024 .f32) : FVec Ideal S16x2048x1024 .f32 :=
  fun i => ∑ j : Fin 160, a (ix3 (i 0) (i 1) j) * w (ix2 j (i 2))

/-- The branch times its gate. -/
def layer (y : FVec Ideal S16x2048x1024 .f32) (lo : FVec Ideal S16x2048x416 .f32) (g2 : FVec Ideal S160x1024 .f32) : FVec Ideal S16x2048x1024 .f32 :=
  mulf (F := Ideal) y (project (opened (F := Ideal) lo) g2)

/-- The kernel's product of the rows is that map. -/
theorem project_eq (a : FVec Ideal S16x2048x160 .f32) (w : FVec Ideal S160x1024 .f32) :
    shapeCast (α := EReal) S16x2048x1024 (product0 (shapeCast (α := EReal) S32768x160 a shapeCasts_S16x2048x160_S32768x160) w) shapeCasts_S32768x1024_S16x2048x1024 = project a w := by
  funext i
  idx_vars i
  pointwise [product0, project]
  done

/-! ## The host stretches, from any contents -/

section Host
variable (W : Valuation τ sig (Elt Ideal))

theorem head_rows : after hostOps0 W (Proc.devRef .tc main_v9)
    = shapeCast (α := EReal) S32768x160 (opened (F := Ideal) (W (Proc.devRef .tc main_arg1))) shapeCasts_S16x2048x160_S32768x160 := by
  simp only [hostOps0]; after_results_simp; rfl

theorem head_weight : after hostOps0 W (Proc.devRef .tc main_v7) = W (Proc.devRef .tc main_arg2) := by
  simp only [hostOps0]; after_results_simp; rfl

theorem tail_result : after hostOps1 W (Proc.devRef .tc main_v12)
    = mulf (F := Ideal) (φ := .f32) (W (Proc.devRef .tc main_arg0)) (shapeCast (α := EReal) S16x2048x1024 (W (Proc.devRef .tc main_v10)) shapeCasts_S32768x1024_S16x2048x1024) := by
  simp only [hostOps1]; after_results_simp; rfl

end Host

/-! ## From the launch to the result -/

variable (m : (ℓ : Loc nD τ sig) → Buf (Elt Ideal) ℓ)

theorem V_rows (c : Dev nD) : V m c main_v9
    = shapeCast (α := EReal) S32768x160 (opened (F := Ideal) (m ((c.tc : Thread nD τ).loc main_arg1))) shapeCasts_S16x2048x160_S32768x160 := by
  unfold V V0
  simp only [List.flatten_cons, List.flatten_nil, List.append_nil]
  exact head_rows _

theorem V_weight (c : Dev nD) : V m c main_v7 = m ((c.tc : Thread nD τ).loc main_arg2) := by
  unfold V V0
  simp only [List.flatten_cons, List.flatten_nil, List.append_nil]
  exact head_weight _

/-- The result after the host lines. -/
theorem tail_layer (c : Dev nD) : Pipeline.afterTail₀ cfgs (dats m) 0 (V0 m) [hostOps1] c main_v12
    = layer (m ((c.tc : Thread nD τ).loc main_arg0)) (m ((c.tc : Thread nD τ).loc main_arg1)) (m ((c.tc : Thread nD τ).loc main_arg2)) := by
  have arr : Pipeline.withArrays spec0 c (V0 m c) (fun w => (dats m 0 c).arrAt w cfg0.N) (Proc.devRef .tc main_v10)
      = product0 (V m c main_v9) (V m c main_v7) :=
    (Pipeline.withArrays_arr spec0 (by decide) c (V0 m c) _ 2).trans (final0 m c)
  have kept : Pipeline.withArrays spec0 c (V0 m c) (fun w => (dats m 0 c).arrAt w cfg0.N) (Proc.devRef .tc main_arg0) = m ((c.tc : Thread nD τ).loc main_arg0) :=
    (Pipeline.withArrays_of_ne spec0 c (V0 m c) _ main_arg0 (by decide)).trans (V_main_arg0 m c)
  rw [V_rows m c, V_weight m c] at arr
  unfold Pipeline.afterTail₀
  simp only [List.flatten_cons, List.flatten_nil, List.append_nil]
  refine (tail_result _).trans ?_
  rw [arr, kept, project_eq]
  rfl

/-- The kernel ends with `layer` of its arguments, which it leaves unchanged. -/
theorem run_layer (ρ : Dev nD → PrngReg) :
    θ_run defs (onTc (τ := τ) (main (F := Ideal))) ⟨m, fun _ => 0, ρ⟩ fun r => ∀ c : Dev nD,
      r.2.mem ((c.tc : Thread nD τ).loc main_v12) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv := (θ_run defs _ _).mono (fun _ h (c : Dev nD) =>
    ((h c).2 main_v12 (Pipeline.mem_restRefs_of main_v12 (by decide) (by decide))).trans (tail_layer m c)) (run_main m ρ)
  exact (θ_run defs _ _).mono (fun _ h c => ⟨h.1 c, h.2 c⟩) (θ_run_and hv (unchanged m ρ))

end Cert.Kernel11Ideal.Gate

end
-- ==== Proof.SampleGateReference.lean ====
/- The gate's reference: its run ends with the same function of the arguments as the kernel's. -/
module

public import proofs.«01_k».proof.Proof.SampleGate
public import proofs.«01_k».proof.Proof.Gen.Reference11Ideal.Run

@[expose] public section

set_option maxRecDepth 16384

noncomputable section

namespace Cert.Reference11Ideal.Gate

open Cert.Reference11Ideal Cert.Reference11Ideal.Gen Idealize.ShloMosaic Idealize.ShloMosaic.TcCoe Idealize.SL.Sem Idealize.ShloMosaic.StableHlo
open Cert.Kernel11Ideal.Gate (layer project)

theorem project_eq (a : FVec Ideal S16x2048x160 .f32) (w : FVec Ideal S160x1024 .f32) :
    Host.dotGeneral dot_S16x2048x160_S160x1024_S16x2048x1024_2_0_01_1_n_n none a w = project a w := by
  funext i
  idx_vars i
  pointwise [project]
  done

/-- The reference ends with `layer` of its arguments, which it leaves unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  rw [project_eq]
  rfl

end Cert.Reference11Ideal.Gate

end
-- ==== Proof.lean ====
/- The certificate: every program's frame, the idealised kernels' texts as the kernels' own, and the value claims, each by the
   function that both the kernel's run and the reference's run end with. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Pre_finite
public import proofs.«01_k».proof.Proof.MoeRun
public import proofs.«01_k».proof.Proof.MoeReference
public import proofs.«01_k».proof.Proof.StartRun
public import proofs.«01_k».proof.Proof.StartReference
public import proofs.«01_k».proof.Proof.AttentionRun
public import proofs.«01_k».proof.Proof.AttentionReference
public import proofs.«01_k».proof.Proof.MergeRun
public import proofs.«01_k».proof.Proof.MergeReference
public import proofs.«01_k».proof.Proof.WkvRun
public import proofs.«01_k».proof.Proof.WkvReference
public import proofs.«01_k».proof.Proof.WkvFinite
public import proofs.«01_k».proof.Proof.GateReference
public import proofs.«01_k».proof.Proof.SampleMoeRun
public import proofs.«01_k».proof.Proof.SampleMoeReference
public import proofs.«01_k».proof.Proof.SampleStartRun
public import proofs.«01_k».proof.Proof.SampleStartReference
public import proofs.«01_k».proof.Proof.SampleAttentionRun
public import proofs.«01_k».proof.Proof.SampleAttentionReference
public import proofs.«01_k».proof.Proof.SampleMergeRun
public import proofs.«01_k».proof.Proof.SampleMergeReference
public import proofs.«01_k».proof.Proof.SampleGateReference
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- `ReferenceIdeal` ends with its arguments unchanged and no counter raised: it is one sequence of host operations. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- `KernelIdeal` and `ReferenceIdeal` end with the same function of their arguments. -/
theorem algebraic : Cert.algebraic_KernelIdeal_ReferenceIdeal := by
  intro m g m' g' _ hm
  refine ⟨_, Cert.KernelIdeal.Moe.run_layer m g, (θ_run Cert.ReferenceIdeal.defs _ _).mono (fun r h c => ⟨(h c).1.trans ?_, (h c).2⟩)
    (Cert.ReferenceIdeal.Moe.run_layer m' g')⟩
  obtain ⟨h0, h1, h2, h3, h4, h5, h6⟩ := hm c
  rw [h0, h1, h2, h3, h4, h5, h6]

/-- `Reference2Ideal` ends with its arguments unchanged and no counter raised: it is one sequence of host operations. -/
theorem frame_reference2 : Cert.quiescent_Reference2Ideal := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run m ρ)

/-- `Kernel2Ideal` and `Reference2Ideal` end with the same functions of their arguments. -/
theorem algebraic2 : Cert.algebraic_Kernel2Ideal_Reference2Ideal := by
  intro m g m' g' _ hm
  refine ⟨_, _, _, _, _, Cert.Kernel2Ideal.Start.run_layer m g, (θ_run Cert.Reference2Ideal.defs _ _).mono
    (fun r h c => ⟨(h c).1.trans ?_, (h c).2.1.trans ?_, (h c).2.2.1.trans ?_, (h c).2.2.2.1.trans ?_, (h c).2.2.2.2.1.trans ?_, (h c).2.2.2.2.2⟩)
    (Cert.Reference2Ideal.Start.run_layer m' g')⟩ <;>
  · obtain ⟨h0, h1, h2⟩ := hm c
    simp only [h0, h1, h2]
    try rfl

/-- `Reference3Ideal` ends with its arguments unchanged and no counter raised: it is one sequence of host operations. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- `Kernel3Ideal` and `Reference3Ideal` end with the same function of their arguments. -/
theorem algebraic3 : Cert.algebraic_Kernel3Ideal_Reference3Ideal := by
  intro m g m' g' _ hm
  refine ⟨_, Cert.Kernel3Ideal.Attn.run_layer m g, (θ_run Cert.Reference3Ideal.defs _ _).mono (fun r h c => ⟨(h c).1.trans ?_, (h c).2⟩)
    (Cert.Reference3Ideal.Attn.run_layer m' g')⟩
  obtain ⟨h0, h1, h2, h3⟩ := hm c
  rw [h0, h1, h2, h3]

/-- `Reference4Ideal` ends with its arguments unchanged and no counter raised: it is one sequence of host operations. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- `Kernel4Ideal` and `Reference4Ideal` end with the same function of their arguments. -/
theorem algebraic4 : Cert.algebraic_Kernel4Ideal_Reference4Ideal := by
  intro m g m' g' _ hm
  refine ⟨_, Cert.Kernel4Ideal.Merge.run_layer m g, (θ_run Cert.Reference4Ideal.defs _ _).mono (fun r h c => ⟨(h c).1.trans ?_, (h c).2⟩)
    (Cert.Reference4Ideal.Merge.run_layer m' g')⟩
  obtain ⟨h0, h1, h2, h3, h4, h5, h6, h7, h8, h9⟩ := hm c
  rw [h0, h1, h2, h3, h4, h5, h6, h7, h8, h9]

/-- `Reference5Ideal` ends with its arguments unchanged and no counter raised. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Wkv.run m ρ)

/-- On arguments whose receptances, keys, values and scales are real, `Kernel5Ideal` and `Reference5Ideal` end with the same function. -/
theorem algebraic5 : Cert.algebraic_Kernel5Ideal_Reference5Ideal_pre_finite := by
  intro m g m' g' hp hm
  have hk : ∀ c, Cert.Kernel5Ideal.Val.AllReal m c := fun c => by
    obtain ⟨h0, h7⟩ := Cert.Pre_finite.real_args _ _ _ _ _ _ _ _ _ _ _ (hp c).1 (hp c).2
    exact Cert.Kernel5Ideal.Val.all_real m c h0 h7
  have hr : ∀ c, Cert.Reference5Ideal.Wkv.AllReal m' c := fun c => by
    obtain ⟨h0, h1, h2, h3, h4, h5, h6, h7, h8, h9, h10⟩ := hm c
    obtain ⟨k0, k7⟩ := Cert.Pre_finite.real_args _ _ _ _ _ _ _ _ _ _ _ (hp c).1 (hp c).2
    exact ⟨h0 ▸ k0, h7 ▸ k7⟩
  refine ⟨_, Cert.Kernel5Ideal.Val.run_layer m g hk, (θ_run Cert.Reference5Ideal.defs _ _).mono (fun r h c => ⟨(h c).1.trans ?_, (h c).2⟩)
    (Cert.Reference5Ideal.Wkv.run_layer m' g' hr)⟩
  obtain ⟨h0, h1, h2, h3, h4, h5, h6, h7, h8, h9, h10⟩ := hm c
  rw [h0, h1, h2, h3, h4, h5, h6, h7, h8, h9, h10]

/-- `Reference6Ideal` ends with its arguments unchanged and no counter raised: it is one sequence of host operations. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- `Kernel6Ideal` and `Reference6Ideal` end with the same function of their arguments. -/
theorem algebraic6 : Cert.algebraic_Kernel6Ideal_Reference6Ideal := by
  intro m g m' g' _ hm
  refine ⟨_, Cert.Kernel6Ideal.Gate.run_layer m g, (θ_run Cert.Reference6Ideal.defs _ _).mono (fun r h c => ⟨(h c).1.trans ?_, (h c).2⟩)
    (Cert.Reference6Ideal.Gate.run_layer m' g')⟩
  obtain ⟨h0, h1, h2⟩ := hm c
  rw [h0, h1, h2]

/-- `Reference7Ideal` ends with its arguments unchanged and no counter raised: it is one sequence of host operations. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- `Kernel7Ideal` and `Reference7Ideal` end with the same function of their arguments. -/
theorem algebraic7 : Cert.algebraic_Kernel7Ideal_Reference7Ideal := by
  intro m g m' g' _ hm
  refine ⟨_, Cert.Kernel7Ideal.Moe.run_layer m g, (θ_run Cert.Reference7Ideal.defs _ _).mono (fun r h c => ⟨(h c).1.trans ?_, (h c).2⟩)
    (Cert.Reference7Ideal.Moe.run_layer m' g')⟩
  obtain ⟨h0, h1, h2, h3, h4, h5, h6⟩ := hm c
  rw [h0, h1, h2, h3, h4, h5, h6]

/-- `Reference8Ideal` ends with its arguments unchanged and no counter raised: it is one sequence of host operations. -/
theorem frame_reference8 : Cert.quiescent_Reference8Ideal := fun m ρ _ =>
  (θ_run Cert.Reference8Ideal.defs _ _).mono (fun r h => ⟨fun c => (h c).2.2.2.2.2, Idealize.ShloMosaic.sem_eq_zero_of_no_sems (by decide) r.2⟩)
    (Cert.Reference8Ideal.Value.run m ρ)

/-- `Kernel8Ideal` and `Reference8Ideal` end with the same functions of their arguments. -/
theorem algebraic8 : Cert.algebraic_Kernel8Ideal_Reference8Ideal := by
  intro m g m' g' _ hm
  refine ⟨_, _, _, _, _, Cert.Kernel8Ideal.Start.run_layer m g, (θ_run Cert.Reference8Ideal.defs _ _).mono
    (fun r h c => ⟨(h c).1.trans ?_, (h c).2.1.trans ?_, (h c).2.2.1.trans ?_, (h c).2.2.2.1.trans ?_, (h c).2.2.2.2.1.trans ?_, (h c).2.2.2.2.2⟩)
    (Cert.Reference8Ideal.Start.run_layer m' g')⟩ <;>
  · obtain ⟨h0, h1, h2⟩ := hm c
    simp only [h0, h1, h2]
    try rfl

/-- `Reference9Ideal` ends with its arguments unchanged and no counter raised: it is one sequence of host operations. -/
theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run m ρ)

/-- `Kernel9Ideal` and `Reference9Ideal` end with the same function of their arguments. -/
theorem algebraic9 : Cert.algebraic_Kernel9Ideal_Reference9Ideal := by
  intro m g m' g' _ hm
  refine ⟨_, Cert.Kernel9Ideal.Attn.run_layer m g, (θ_run Cert.Reference9Ideal.defs _ _).mono (fun r h c => ⟨(h c).1.trans ?_, (h c).2⟩)
    (Cert.Reference9Ideal.Attn.run_layer m' g')⟩
  obtain ⟨h0, h1, h2, h3⟩ := hm c
  rw [h0, h1, h2, h3]

/-- `Reference10Ideal` ends with its arguments unchanged and no counter raised: it is one sequence of host operations. -/
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

/-- `Kernel10Ideal` and `Reference10Ideal` end with the same function of their arguments. -/
theorem algebraic10 : Cert.algebraic_Kernel10Ideal_Reference10Ideal := by
  intro m g m' g' _ hm
  refine ⟨_, Cert.Kernel10Ideal.Merge.run_layer m g, (θ_run Cert.Reference10Ideal.defs _ _).mono (fun r h c => ⟨(h c).1.trans ?_, (h c).2⟩)
    (Cert.Reference10Ideal.Merge.run_layer m' g')⟩
  obtain ⟨h0, h1, h2, h3, h4, h5, h6, h7, h8, h9⟩ := hm c
  rw [h0, h1, h2, h3, h4, h5, h6, h7, h8, h9]

/-- `Reference11Ideal` ends with its arguments unchanged and no counter raised: it is one sequence of host operations. -/
theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run m ρ)

/-- `Kernel11Ideal` and `Reference11Ideal` end with the same function of their arguments. -/
theorem algebraic11 : Cert.algebraic_Kernel11Ideal_Reference11Ideal := by
  intro m g m' g' _ hm
  refine ⟨_, Cert.Kernel11Ideal.Gate.run_layer m g, (θ_run Cert.Reference11Ideal.defs _ _).mono (fun r h c => ⟨(h c).1.trans ?_, (h c).2⟩)
    (Cert.Reference11Ideal.Gate.run_layer m' g')⟩
  obtain ⟨h0, h1, h2⟩ := hm c
  rw [h0, h1, h2]

/-- The claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  trivial, algebraic, trivial, algebraic2, trivial, algebraic3, trivial, algebraic4, trivial, algebraic5, trivial, algebraic6,
  trivial, algebraic7, trivial, algebraic8, trivial, algebraic9, trivial, algebraic10, trivial, algebraic11⟩

end Cert.Proof

end
